-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15)
      ∧ r.2.mem ((c.tc : Thread Cert.Kernel18.nD Cert.Kernel18.τ).loc Cert.Kernel18.main_arg16) = m ((c.tc : Thread Cert.Kernel18.nD Cert.Kernel18.τ).loc Cert.Kernel18.main_arg16)
      ∧ r.2.mem ((c.tc : Thread Cert.Kernel18.nD Cert.Kernel18.τ).loc Cert.Kernel18.main_arg17) = m ((c.tc : Thread Cert.Kernel18.nD Cert.Kernel18.τ).loc Cert.Kernel18.main_arg17)
      ∧ r.2.mem ((c.tc : Thread Cert.Kernel18.nD Cert.Kernel18.τ).loc Cert.Kernel18.main_arg18) = m ((c.tc : Thread Cert.Kernel18.nD Cert.Kernel18.τ).loc Cert.Kernel18.main_arg18)
      ∧ r.2.mem ((c.tc : Thread Cert.Kernel18.nD Cert.Kernel18.τ).loc Cert.Kernel18.main_arg19) = m ((c.tc : Thread Cert.Kernel18.nD Cert.Kernel18.τ).loc Cert.Kernel18.main_arg19)
      ∧ r.2.mem ((c.tc : Thread Cert.Kernel18.nD Cert.Kernel18.τ).loc Cert.Kernel18.main_arg20) = m ((c.tc : Thread Cert.Kernel18.nD Cert.Kernel18.τ).loc Cert.Kernel18.main_arg20)
      ∧ r.2.mem ((c.tc : Thread Cert.Kernel18.nD Cert.Kernel18.τ).loc Cert.Kernel18.main_arg21) = m ((c.tc : Thread Cert.Kernel18.nD Cert.Kernel18.τ).loc Cert.Kernel18.main_arg21)
      ∧ r.2.mem ((c.tc : Thread Cert.Kernel18.nD Cert.Kernel18.τ).loc Cert.Kernel18.main_arg22) = m ((c.tc : Thread Cert.Kernel18.nD Cert.Kernel18.τ).loc Cert.Kernel18.main_arg22)
      ∧ r.2.mem ((c.tc : Thread Cert.Kernel18.nD Cert.Kernel18.τ).loc Cert.Kernel18.main_arg23) = m ((c.tc : Thread Cert.Kernel18.nD Cert.Kernel18.τ).loc Cert.Kernel18.main_arg23)
      ∧ r.2.mem ((c.tc : Thread Cert.Kernel18.nD Cert.Kernel18.τ).loc Cert.Kernel18.main_arg24) = m ((c.tc : Thread Cert.Kernel18.nD Cert.Kernel18.τ).loc Cert.Kernel18.main_arg24))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
      ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
      ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
      ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
      ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
      ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
      ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
      ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
      ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
      ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15)
      ∧ r.2.mem ((c.tc : Thread Cert.Reference18Ideal.nD Cert.Reference18Ideal.τ).loc Cert.Reference18Ideal.main_arg16) = m ((c.tc : Thread Cert.Reference18Ideal.nD Cert.Reference18Ideal.τ).loc Cert.Reference18Ideal.main_arg16)
      ∧ r.2.mem ((c.tc : Thread Cert.Reference18Ideal.nD Cert.Reference18Ideal.τ).loc Cert.Reference18Ideal.main_arg17) = m ((c.tc : Thread Cert.Reference18Ideal.nD Cert.Reference18Ideal.τ).loc Cert.Reference18Ideal.main_arg17)
      ∧ r.2.mem ((c.tc : Thread Cert.Reference18Ideal.nD Cert.Reference18Ideal.τ).loc Cert.Reference18Ideal.main_arg18) = m ((c.tc : Thread Cert.Reference18Ideal.nD Cert.Reference18Ideal.τ).loc Cert.Reference18Ideal.main_arg18)
      ∧ r.2.mem ((c.tc : Thread Cert.Reference18Ideal.nD Cert.Reference18Ideal.τ).loc Cert.Reference18Ideal.main_arg19) = m ((c.tc : Thread Cert.Reference18Ideal.nD Cert.Reference18Ideal.τ).loc Cert.Reference18Ideal.main_arg19)
      ∧ r.2.mem ((c.tc : Thread Cert.Reference18Ideal.nD Cert.Reference18Ideal.τ).loc Cert.Reference18Ideal.main_arg20) = m ((c.tc : Thread Cert.Reference18Ideal.nD Cert.Reference18Ideal.τ).loc Cert.Reference18Ideal.main_arg20)
      ∧ r.2.mem ((c.tc : Thread Cert.Reference18Ideal.nD Cert.Reference18Ideal.τ).loc Cert.Reference18Ideal.main_arg21) = m ((c.tc : Thread Cert.Reference18Ideal.nD Cert.Reference18Ideal.τ).loc Cert.Reference18Ideal.main_arg21)
      ∧ r.2.mem ((c.tc : Thread Cert.Reference18Ideal.nD Cert.Reference18Ideal.τ).loc Cert.Reference18Ideal.main_arg22) = m ((c.tc : Thread Cert.Reference18Ideal.nD Cert.Reference18Ideal.τ).loc Cert.Reference18Ideal.main_arg22)
      ∧ r.2.mem ((c.tc : Thread Cert.Reference18Ideal.nD Cert.Reference18Ideal.τ).loc Cert.Reference18Ideal.main_arg23) = m ((c.tc : Thread Cert.Reference18Ideal.nD Cert.Reference18Ideal.τ).loc Cert.Reference18Ideal.main_arg23)
      ∧ r.2.mem ((c.tc : Thread Cert.Reference18Ideal.nD Cert.Reference18Ideal.τ).loc Cert.Reference18Ideal.main_arg24) = m ((c.tc : Thread Cert.Reference18Ideal.nD Cert.Reference18Ideal.τ).loc Cert.Reference18Ideal.main_arg24))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_v15) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)
      ∧ m' ((c.tc : Thread Cert.Reference18Ideal.nD Cert.Reference18Ideal.τ).loc Cert.Reference18Ideal.main_arg16) = m ((c.tc : Thread Cert.Kernel18Ideal.nD Cert.Kernel18Ideal.τ).loc Cert.Kernel18Ideal.main_arg16)
      ∧ m' ((c.tc : Thread Cert.Reference18Ideal.nD Cert.Reference18Ideal.τ).loc Cert.Reference18Ideal.main_arg17) = m ((c.tc : Thread Cert.Kernel18Ideal.nD Cert.Kernel18Ideal.τ).loc Cert.Kernel18Ideal.main_arg17)
      ∧ m' ((c.tc : Thread Cert.Reference18Ideal.nD Cert.Reference18Ideal.τ).loc Cert.Reference18Ideal.main_arg18) = m ((c.tc : Thread Cert.Kernel18Ideal.nD Cert.Kernel18Ideal.τ).loc Cert.Kernel18Ideal.main_arg18)
      ∧ m' ((c.tc : Thread Cert.Reference18Ideal.nD Cert.Reference18Ideal.τ).loc Cert.Reference18Ideal.main_arg19) = m ((c.tc : Thread Cert.Kernel18Ideal.nD Cert.Kernel18Ideal.τ).loc Cert.Kernel18Ideal.main_arg19)
      ∧ m' ((c.tc : Thread Cert.Reference18Ideal.nD Cert.Reference18Ideal.τ).loc Cert.Reference18Ideal.main_arg20) = m ((c.tc : Thread Cert.Kernel18Ideal.nD Cert.Kernel18Ideal.τ).loc Cert.Kernel18Ideal.main_arg20)
      ∧ m' ((c.tc : Thread Cert.Reference18Ideal.nD Cert.Reference18Ideal.τ).loc Cert.Reference18Ideal.main_arg21) = m ((c.tc : Thread Cert.Kernel18Ideal.nD Cert.Kernel18Ideal.τ).loc Cert.Kernel18Ideal.main_arg21)
      ∧ m' ((c.tc : Thread Cert.Reference18Ideal.nD Cert.Reference18Ideal.τ).loc Cert.Reference18Ideal.main_arg22) = m ((c.tc : Thread Cert.Kernel18Ideal.nD Cert.Kernel18Ideal.τ).loc Cert.Kernel18Ideal.main_arg22)
      ∧ m' ((c.tc : Thread Cert.Reference18Ideal.nD Cert.Reference18Ideal.τ).loc Cert.Reference18Ideal.main_arg23) = m ((c.tc : Thread Cert.Kernel18Ideal.nD Cert.Kernel18Ideal.τ).loc Cert.Kernel18Ideal.main_arg23)
      ∧ m' ((c.tc : Thread Cert.Reference18Ideal.nD Cert.Reference18Ideal.τ).loc Cert.Reference18Ideal.main_arg24) = m ((c.tc : Thread Cert.Kernel18Ideal.nD Cert.Kernel18Ideal.τ).loc Cert.Kernel18Ideal.main_arg24)) →
    ∃ (v0 : (c : Dev Cert.Kernel18Ideal.nD) → Buf (Elt Ideal) ((c.tc : Thread Cert.Kernel18Ideal.nD Cert.Kernel18Ideal.τ).loc Cert.Kernel18Ideal.main_v3)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)) (v8 : (c : Dev Cert.Kernel18Ideal.nD) → Buf (Elt Ideal) ((c.tc : Thread Cert.Kernel18Ideal.nD Cert.Kernel18Ideal.τ).loc Cert.Kernel18Ideal.main_v0_8)) (v9 : (c : Dev Cert.Kernel18Ideal.nD) → Buf (Elt Ideal) ((c.tc : Thread Cert.Kernel18Ideal.nD Cert.Kernel18Ideal.τ).loc Cert.Kernel18Ideal.main_v0_9)) (v10 : (c : Dev Cert.Kernel18Ideal.nD) → Buf (Elt Ideal) ((c.tc : Thread Cert.Kernel18Ideal.nD Cert.Kernel18Ideal.τ).loc Cert.Kernel18Ideal.main_v0_10)) (v11 : (c : Dev Cert.Kernel18Ideal.nD) → Buf (Elt Ideal) ((c.tc : Thread Cert.Kernel18Ideal.nD Cert.Kernel18Ideal.τ).loc Cert.Kernel18Ideal.main_v0_11)) (v12 : (c : Dev Cert.Kernel18Ideal.nD) → Buf (Elt Ideal) ((c.tc : Thread Cert.Kernel18Ideal.nD Cert.Kernel18Ideal.τ).loc Cert.Kernel18Ideal.main_v0_12)) (v13 : (c : Dev Cert.Kernel18Ideal.nD) → Buf (Elt Ideal) ((c.tc : Thread Cert.Kernel18Ideal.nD Cert.Kernel18Ideal.τ).loc Cert.Kernel18Ideal.main_v0_13)) (v14 : (c : Dev Cert.Kernel18Ideal.nD) → Buf (Elt Ideal) ((c.tc : Thread Cert.Kernel18Ideal.nD Cert.Kernel18Ideal.τ).loc Cert.Kernel18Ideal.main_v0_14)) (v15 : (c : Dev Cert.Kernel18Ideal.nD) → Buf (Elt Ideal) ((c.tc : Thread Cert.Kernel18Ideal.nD Cert.Kernel18Ideal.τ).loc Cert.Kernel18Ideal.main_v0_15)) (v16 : (c : Dev Cert.Kernel18Ideal.nD) → Buf (Elt Ideal) ((c.tc : Thread Cert.Kernel18Ideal.nD Cert.Kernel18Ideal.τ).loc Cert.Kernel18Ideal.main_v0_16)) (v17 : (c : Dev Cert.Kernel18Ideal.nD) → Buf (Elt Ideal) ((c.tc : Thread Cert.Kernel18Ideal.nD Cert.Kernel18Ideal.τ).loc Cert.Kernel18Ideal.main_v0_17)) (v18 : (c : Dev Cert.Kernel18Ideal.nD) → Buf (Elt Ideal) ((c.tc : Thread Cert.Kernel18Ideal.nD Cert.Kernel18Ideal.τ).loc Cert.Kernel18Ideal.main_v0_18)) (v19 : (c : Dev Cert.Kernel18Ideal.nD) → Buf (Elt Ideal) ((c.tc : Thread Cert.Kernel18Ideal.nD Cert.Kernel18Ideal.τ).loc Cert.Kernel18Ideal.main_v0_19)) (v20 : (c : Dev Cert.Kernel18Ideal.nD) → Buf (Elt Ideal) ((c.tc : Thread Cert.Kernel18Ideal.nD Cert.Kernel18Ideal.τ).loc Cert.Kernel18Ideal.main_v0_20)) (v21 : (c : Dev Cert.Kernel18Ideal.nD) → Buf (Elt Ideal) ((c.tc : Thread Cert.Kernel18Ideal.nD Cert.Kernel18Ideal.τ).loc Cert.Kernel18Ideal.main_v0_21)) (v22 : (c : Dev Cert.Kernel18Ideal.nD) → Buf (Elt Ideal) ((c.tc : Thread Cert.Kernel18Ideal.nD Cert.Kernel18Ideal.τ).loc Cert.Kernel18Ideal.main_v0_22)) (v23 : (c : Dev Cert.Kernel18Ideal.nD) → Buf (Elt Ideal) ((c.tc : Thread Cert.Kernel18Ideal.nD Cert.Kernel18Ideal.τ).loc Cert.Kernel18Ideal.main_v0_23)) (v24 : (c : Dev Cert.Kernel18Ideal.nD) → Buf (Elt Ideal) ((c.tc : Thread Cert.Kernel18Ideal.nD Cert.Kernel18Ideal.τ).loc Cert.Kernel18Ideal.main_v0_24)) (v25 : (c : Dev Cert.Kernel18Ideal.nD) → Buf (Elt Ideal) ((c.tc : Thread Cert.Kernel18Ideal.nD Cert.Kernel18Ideal.τ).loc Cert.Kernel18Ideal.main_v0_25)) (v26 : (c : Dev Cert.Kernel18Ideal.nD) → Buf (Elt Ideal) ((c.tc : Thread Cert.Kernel18Ideal.nD Cert.Kernel18Ideal.τ).loc Cert.Kernel18Ideal.main_v0_26)) (v27 : (c : Dev Cert.Kernel18Ideal.nD) → Buf (Elt Ideal) ((c.tc : Thread Cert.Kernel18Ideal.nD Cert.Kernel18Ideal.τ).loc Cert.Kernel18Ideal.main_v0_27)) (v28 : (c : Dev Cert.Kernel18Ideal.nD) → Buf (Elt Ideal) ((c.tc : Thread Cert.Kernel18Ideal.nD Cert.Kernel18Ideal.τ).loc Cert.Kernel18Ideal.main_v0_28)) (v29 : (c : Dev Cert.Kernel18Ideal.nD) → Buf (Elt Ideal) ((c.tc : Thread Cert.Kernel18Ideal.nD Cert.Kernel18Ideal.τ).loc Cert.Kernel18Ideal.main_v0_29)) (v30 : (c : Dev Cert.Kernel18Ideal.nD) → Buf (Elt Ideal) ((c.tc : Thread Cert.Kernel18Ideal.nD Cert.Kernel18Ideal.τ).loc Cert.Kernel18Ideal.main_v0_30)) (v31 : (c : Dev Cert.Kernel18Ideal.nD) → Buf (Elt Ideal) ((c.tc : Thread Cert.Kernel18Ideal.nD Cert.Kernel18Ideal.τ).loc Cert.Kernel18Ideal.main_v0_31)) (v32 : (c : Dev Cert.Kernel18Ideal.nD) → Buf (Elt Ideal) ((c.tc : Thread Cert.Kernel18Ideal.nD Cert.Kernel18Ideal.τ).loc Cert.Kernel18Ideal.main_v0_32)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_v0_8) = v8 c
          ∧ r.2.mem ((c.tc : Thread Cert.Kernel18Ideal.nD Cert.Kernel18Ideal.τ).loc Cert.Kernel18Ideal.main_v0_9) = v9 c
          ∧ r.2.mem ((c.tc : Thread Cert.Kernel18Ideal.nD Cert.Kernel18Ideal.τ).loc Cert.Kernel18Ideal.main_v0_10) = v10 c
          ∧ r.2.mem ((c.tc : Thread Cert.Kernel18Ideal.nD Cert.Kernel18Ideal.τ).loc Cert.Kernel18Ideal.main_v0_11) = v11 c
          ∧ r.2.mem ((c.tc : Thread Cert.Kernel18Ideal.nD Cert.Kernel18Ideal.τ).loc Cert.Kernel18Ideal.main_v0_12) = v12 c
          ∧ r.2.mem ((c.tc : Thread Cert.Kernel18Ideal.nD Cert.Kernel18Ideal.τ).loc Cert.Kernel18Ideal.main_v0_13) = v13 c
          ∧ r.2.mem ((c.tc : Thread Cert.Kernel18Ideal.nD Cert.Kernel18Ideal.τ).loc Cert.Kernel18Ideal.main_v0_14) = v14 c
          ∧ r.2.mem ((c.tc : Thread Cert.Kernel18Ideal.nD Cert.Kernel18Ideal.τ).loc Cert.Kernel18Ideal.main_v0_15) = v15 c
          ∧ r.2.mem ((c.tc : Thread Cert.Kernel18Ideal.nD Cert.Kernel18Ideal.τ).loc Cert.Kernel18Ideal.main_v0_16) = v16 c
          ∧ r.2.mem ((c.tc : Thread Cert.Kernel18Ideal.nD Cert.Kernel18Ideal.τ).loc Cert.Kernel18Ideal.main_v0_17) = v17 c
          ∧ r.2.mem ((c.tc : Thread Cert.Kernel18Ideal.nD Cert.Kernel18Ideal.τ).loc Cert.Kernel18Ideal.main_v0_18) = v18 c
          ∧ r.2.mem ((c.tc : Thread Cert.Kernel18Ideal.nD Cert.Kernel18Ideal.τ).loc Cert.Kernel18Ideal.main_v0_19) = v19 c
          ∧ r.2.mem ((c.tc : Thread Cert.Kernel18Ideal.nD Cert.Kernel18Ideal.τ).loc Cert.Kernel18Ideal.main_v0_20) = v20 c
          ∧ r.2.mem ((c.tc : Thread Cert.Kernel18Ideal.nD Cert.Kernel18Ideal.τ).loc Cert.Kernel18Ideal.main_v0_21) = v21 c
          ∧ r.2.mem ((c.tc : Thread Cert.Kernel18Ideal.nD Cert.Kernel18Ideal.τ).loc Cert.Kernel18Ideal.main_v0_22) = v22 c
          ∧ r.2.mem ((c.tc : Thread Cert.Kernel18Ideal.nD Cert.Kernel18Ideal.τ).loc Cert.Kernel18Ideal.main_v0_23) = v23 c
          ∧ r.2.mem ((c.tc : Thread Cert.Kernel18Ideal.nD Cert.Kernel18Ideal.τ).loc Cert.Kernel18Ideal.main_v0_24) = v24 c
          ∧ r.2.mem ((c.tc : Thread Cert.Kernel18Ideal.nD Cert.Kernel18Ideal.τ).loc Cert.Kernel18Ideal.main_v0_25) = v25 c
          ∧ r.2.mem ((c.tc : Thread Cert.Kernel18Ideal.nD Cert.Kernel18Ideal.τ).loc Cert.Kernel18Ideal.main_v0_26) = v26 c
          ∧ r.2.mem ((c.tc : Thread Cert.Kernel18Ideal.nD Cert.Kernel18Ideal.τ).loc Cert.Kernel18Ideal.main_v0_27) = v27 c
          ∧ r.2.mem ((c.tc : Thread Cert.Kernel18Ideal.nD Cert.Kernel18Ideal.τ).loc Cert.Kernel18Ideal.main_v0_28) = v28 c
          ∧ r.2.mem ((c.tc : Thread Cert.Kernel18Ideal.nD Cert.Kernel18Ideal.τ).loc Cert.Kernel18Ideal.main_v0_29) = v29 c
          ∧ r.2.mem ((c.tc : Thread Cert.Kernel18Ideal.nD Cert.Kernel18Ideal.τ).loc Cert.Kernel18Ideal.main_v0_30) = v30 c
          ∧ r.2.mem ((c.tc : Thread Cert.Kernel18Ideal.nD Cert.Kernel18Ideal.τ).loc Cert.Kernel18Ideal.main_v0_31) = v31 c
          ∧ r.2.mem ((c.tc : Thread Cert.Kernel18Ideal.nD Cert.Kernel18Ideal.τ).loc Cert.Kernel18Ideal.main_v0_32) = v32 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
          ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
          ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
          ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
          ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
          ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
          ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
          ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
          ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
          ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v5) = v1 c
          ∧ r.2.mem ((c.tc : Thread Cert.Reference18Ideal.nD Cert.Reference18Ideal.τ).loc Cert.Reference18Ideal.main_v29) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_v16) = v4 c
          ∧ r.2.mem ((c.tc : Thread Cert.Reference18Ideal.nD Cert.Reference18Ideal.τ).loc Cert.Reference18Ideal.main_v30) = v5 c
          ∧ r.2.mem ((c.tc : Thread Cert.Reference18Ideal.nD Cert.Reference18Ideal.τ).loc Cert.Reference18Ideal.main_v54) = v6 c
          ∧ r.2.mem ((c.tc : Thread Cert.Reference18Ideal.nD Cert.Reference18Ideal.τ).loc Cert.Reference18Ideal.main_v35) = v7 c
          ∧ r.2.mem ((c.tc : Thread Cert.Reference18Ideal.nD Cert.Reference18Ideal.τ).loc Cert.Reference18Ideal.main_v41) = v8 c
          ∧ r.2.mem ((c.tc : Thread Cert.Reference18Ideal.nD Cert.Reference18Ideal.τ).loc Cert.Reference18Ideal.main_v55) = v9 c
          ∧ r.2.mem ((c.tc : Thread Cert.Reference18Ideal.nD Cert.Reference18Ideal.τ).loc Cert.Reference18Ideal.main_v79) = v10 c
          ∧ r.2.mem ((c.tc : Thread Cert.Reference18Ideal.nD Cert.Reference18Ideal.τ).loc Cert.Reference18Ideal.main_v60) = v11 c
          ∧ r.2.mem ((c.tc : Thread Cert.Reference18Ideal.nD Cert.Reference18Ideal.τ).loc Cert.Reference18Ideal.main_v66) = v12 c
          ∧ r.2.mem ((c.tc : Thread Cert.Reference18Ideal.nD Cert.Reference18Ideal.τ).loc Cert.Reference18Ideal.main_v80) = v13 c
          ∧ r.2.mem ((c.tc : Thread Cert.Reference18Ideal.nD Cert.Reference18Ideal.τ).loc Cert.Reference18Ideal.main_v104) = v14 c
          ∧ r.2.mem ((c.tc : Thread Cert.Reference18Ideal.nD Cert.Reference18Ideal.τ).loc Cert.Reference18Ideal.main_v85) = v15 c
          ∧ r.2.mem ((c.tc : Thread Cert.Reference18Ideal.nD Cert.Reference18Ideal.τ).loc Cert.Reference18Ideal.main_v91) = v16 c
          ∧ r.2.mem ((c.tc : Thread Cert.Reference18Ideal.nD Cert.Reference18Ideal.τ).loc Cert.Reference18Ideal.main_v105) = v17 c
          ∧ r.2.mem ((c.tc : Thread Cert.Reference18Ideal.nD Cert.Reference18Ideal.τ).loc Cert.Reference18Ideal.main_v129) = v18 c
          ∧ r.2.mem ((c.tc : Thread Cert.Reference18Ideal.nD Cert.Reference18Ideal.τ).loc Cert.Reference18Ideal.main_v110) = v19 c
          ∧ r.2.mem ((c.tc : Thread Cert.Reference18Ideal.nD Cert.Reference18Ideal.τ).loc Cert.Reference18Ideal.main_v116) = v20 c
          ∧ r.2.mem ((c.tc : Thread Cert.Reference18Ideal.nD Cert.Reference18Ideal.τ).loc Cert.Reference18Ideal.main_v130) = v21 c
          ∧ r.2.mem ((c.tc : Thread Cert.Reference18Ideal.nD Cert.Reference18Ideal.τ).loc Cert.Reference18Ideal.main_v154) = v22 c
          ∧ r.2.mem ((c.tc : Thread Cert.Reference18Ideal.nD Cert.Reference18Ideal.τ).loc Cert.Reference18Ideal.main_v135) = v23 c
          ∧ r.2.mem ((c.tc : Thread Cert.Reference18Ideal.nD Cert.Reference18Ideal.τ).loc Cert.Reference18Ideal.main_v141) = v24 c
          ∧ r.2.mem ((c.tc : Thread Cert.Reference18Ideal.nD Cert.Reference18Ideal.τ).loc Cert.Reference18Ideal.main_v155) = v25 c
          ∧ r.2.mem ((c.tc : Thread Cert.Reference18Ideal.nD Cert.Reference18Ideal.τ).loc Cert.Reference18Ideal.main_v179) = v26 c
          ∧ r.2.mem ((c.tc : Thread Cert.Reference18Ideal.nD Cert.Reference18Ideal.τ).loc Cert.Reference18Ideal.main_v160) = v27 c
          ∧ r.2.mem ((c.tc : Thread Cert.Reference18Ideal.nD Cert.Reference18Ideal.τ).loc Cert.Reference18Ideal.main_v166) = v28 c
          ∧ r.2.mem ((c.tc : Thread Cert.Reference18Ideal.nD Cert.Reference18Ideal.τ).loc Cert.Reference18Ideal.main_v180) = v29 c
          ∧ r.2.mem ((c.tc : Thread Cert.Reference18Ideal.nD Cert.Reference18Ideal.τ).loc Cert.Reference18Ideal.main_v204) = v30 c
          ∧ r.2.mem ((c.tc : Thread Cert.Reference18Ideal.nD Cert.Reference18Ideal.τ).loc Cert.Reference18Ideal.main_v185) = v31 c
          ∧ r.2.mem ((c.tc : Thread Cert.Reference18Ideal.nD Cert.Reference18Ideal.τ).loc Cert.Reference18Ideal.main_v191) = v32 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15)
          ∧ r.2.mem ((c.tc : Thread Cert.Reference18Ideal.nD Cert.Reference18Ideal.τ).loc Cert.Reference18Ideal.main_arg16) = m' ((c.tc : Thread Cert.Reference18Ideal.nD Cert.Reference18Ideal.τ).loc Cert.Reference18Ideal.main_arg16)
          ∧ r.2.mem ((c.tc : Thread Cert.Reference18Ideal.nD Cert.Reference18Ideal.τ).loc Cert.Reference18Ideal.main_arg17) = m' ((c.tc : Thread Cert.Reference18Ideal.nD Cert.Reference18Ideal.τ).loc Cert.Reference18Ideal.main_arg17)
          ∧ r.2.mem ((c.tc : Thread Cert.Reference18Ideal.nD Cert.Reference18Ideal.τ).loc Cert.Reference18Ideal.main_arg18) = m' ((c.tc : Thread Cert.Reference18Ideal.nD Cert.Reference18Ideal.τ).loc Cert.Reference18Ideal.main_arg18)
          ∧ r.2.mem ((c.tc : Thread Cert.Reference18Ideal.nD Cert.Reference18Ideal.τ).loc Cert.Reference18Ideal.main_arg19) = m' ((c.tc : Thread Cert.Reference18Ideal.nD Cert.Reference18Ideal.τ).loc Cert.Reference18Ideal.main_arg19)
          ∧ r.2.mem ((c.tc : Thread Cert.Reference18Ideal.nD Cert.Reference18Ideal.τ).loc Cert.Reference18Ideal.main_arg20) = m' ((c.tc : Thread Cert.Reference18Ideal.nD Cert.Reference18Ideal.τ).loc Cert.Reference18Ideal.main_arg20)
          ∧ r.2.mem ((c.tc : Thread Cert.Reference18Ideal.nD Cert.Reference18Ideal.τ).loc Cert.Reference18Ideal.main_arg21) = m' ((c.tc : Thread Cert.Reference18Ideal.nD Cert.Reference18Ideal.τ).loc Cert.Reference18Ideal.main_arg21)
          ∧ r.2.mem ((c.tc : Thread Cert.Reference18Ideal.nD Cert.Reference18Ideal.τ).loc Cert.Reference18Ideal.main_arg22) = m' ((c.tc : Thread Cert.Reference18Ideal.nD Cert.Reference18Ideal.τ).loc Cert.Reference18Ideal.main_arg22)
          ∧ r.2.mem ((c.tc : Thread Cert.Reference18Ideal.nD Cert.Reference18Ideal.τ).loc Cert.Reference18Ideal.main_arg23) = m' ((c.tc : Thread Cert.Reference18Ideal.nD Cert.Reference18Ideal.τ).loc Cert.Reference18Ideal.main_arg23)
          ∧ r.2.mem ((c.tc : Thread Cert.Reference18Ideal.nD Cert.Reference18Ideal.τ).loc Cert.Reference18Ideal.main_arg24) = m' ((c.tc : Thread Cert.Reference18Ideal.nD Cert.Reference18Ideal.τ).loc Cert.Reference18Ideal.main_arg24))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v32) = v0 c
          ∧ r.2.mem ((c.tc : Thread Cert.Reference19Ideal.nD Cert.Reference19Ideal.τ).loc Cert.Reference19Ideal.main_v34) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_v51) = v1 c
          ∧ r.2.mem ((c.tc : Thread Cert.Reference22Ideal.nD Cert.Reference22Ideal.τ).loc Cert.Reference22Ideal.main_v50) = v2 c
          ∧ r.2.mem ((c.tc : Thread Cert.Reference22Ideal.nD Cert.Reference22Ideal.τ).loc Cert.Reference22Ideal.main_v53) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_v64) = v1 c
          ∧ r.2.mem ((c.tc : Thread Cert.Reference23Ideal.nD Cert.Reference23Ideal.τ).loc Cert.Reference23Ideal.main_v66) = v2 c
          ∧ r.2.mem ((c.tc : Thread Cert.Reference23Ideal.nD Cert.Reference23Ideal.τ).loc Cert.Reference23Ideal.main_v68) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Kernel.lean ====
abbrev S2048x6144 : Shape := ⟨2, ![2048, 6144]⟩
abbrev S2048x2048 : Shape := ⟨2, ![2048, 2048]⟩
abbrev S3x2048 : Shape := ⟨2, ![3, 2048]⟩
abbrev S2048x256 : Shape := ⟨2, ![2048, 256]⟩
abbrev S3x256 : Shape := ⟨2, ![3, 256]⟩
abbrev S2080x256 : Shape := ⟨2, ![2080, 256]⟩
abbrev S24x256 : Shape := ⟨2, ![24, 256]⟩
abbrev S3x2048x256 : Shape := ⟨3, ![3, 2048, 256]⟩
abbrev S3 : Shape := ⟨1, ![3]⟩
abbrev S32x256 : Shape := ⟨2, ![32, 256]⟩
abbrev S64x256 : Shape := ⟨2, ![64, 256]⟩
abbrev S1 : Shape := ⟨1, ![1]⟩
abbrev S_ : Shape := ⟨0, ![]⟩
abbrev S1x2048x256 : Shape := ⟨3, ![1, 2048, 256]⟩
abbrev S96x256 : Shape := ⟨2, ![96, 256]⟩
abbrev S8x256 : Shape := ⟨2, ![8, 256]⟩
abbrev S8x8x256 : Shape := ⟨3, ![8, 8, 256]⟩
abbrev S1x256 : Shape := ⟨2, ![1, 256]⟩
abbrev S1x64x256 : Shape := ⟨3, ![1, 64, 256]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S3x2048, .f32⟩
  | .hbm, ⟨3, _⟩ => ⟨S2048x6144, .bf16⟩
  | .hbm, ⟨4, _⟩ => ⟨S3x2048, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S2080x256, .f32⟩
  | .local _ .vmem, ⟨13, _⟩ => ⟨S2080x256, .f32⟩
  | .local _ .vmem, ⟨14, _⟩ => ⟨S24x256, .f32⟩
  | .local _ .vmem, ⟨15, _⟩ => ⟨S3x2048x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_8 : BitVec 32 := 0#32
  let c32_i32 : BitVec 32 := 32#32
  let v18 : BitVec 32 := Scalar.addi c0_i32_8 c32_i32
  let c1_i32 : BitVec 32 := 1#32
  ⟨c0_i32_8, v18, c1_i32⟩
def k0_mult1 (k0_t1 : Fin k0_t1_loop.trips) : BitVec 32 :=
  let c0_i32_8 : BitVec 32 := 0#32
  let c1_i32 : BitVec 32 := 1#32
  let arg13 : BitVec 32 := Scf.iv c0_i32_8 c1_i32 k0_t1
  let c64_i32 : BitVec 32 := 64#32
  let v53 : BitVec 32 := Scalar.muli arg13 c64_i32
  v53
def k0_off1 (k0_t1 : Fin k0_t1_loop.trips) : Fin 2 → Nat :=
  let c0_i32_8 : BitVec 32 := 0#32
  let c1_i32 : BitVec 32 := 1#32
  let arg13 : BitVec 32 := Scf.iv c0_i32_8 c1_i32 k0_t1
  let c64_i32 : BitVec 32 := 64#32
  let v53 : BitVec 32 := Scalar.muli arg13 c64_i32
  let v54 : BitVec 32 := v53
  let v55 : Index := Scalar.indexCast v54
  let c0_57 : Index := 0#32
  ![v55.toNat, 0]
def k0_off2 (k0_t1 : Fin k0_t1_loop.trips) : Fin 2 → Nat :=
  let c32_i32_59 : BitVec 32 := 32#32
  let c0_i32_8 : BitVec 32 := 0#32
  let c1_i32 : BitVec 32 := 1#32
  let arg13 : BitVec 32 := Scf.iv c0_i32_8 c1_i32 k0_t1
  let c64_i32 : BitVec 32 := 64#32
  let v53 : BitVec 32 := Scalar.muli arg13 c64_i32
  let v54 : BitVec 32 := v53
  let v62 : BitVec 32 := Scalar.addi c32_i32_59 v54
  let v63 : Index := Scalar.indexCast v62
  let c0_60 : Index := 0#32
  ![v63.toNat, 0]
def k0_off3 (k0_t1 : Fin k0_t1_loop.trips) : Fin 2 → Nat :=
  let c0_i32_8 : BitVec 32 := 0#32
  let c1_i32 : BitVec 32 := 1#32
  let arg13 : BitVec 32 := Scf.iv c0_i32_8 c1_i32 k0_t1
  let c64_i32 : BitVec 32 := 64#32
  let v53 : BitVec 32 := Scalar.muli arg13 c64_i32
  let v54 : BitVec 32 := v53
  let v74 : Index := Scalar.indexCast v54
  let c0_63 : Index := 0#32
  ![v74.toNat, 0]
def k0_cond1 (i : grid0.Coords) : BitVec 1 :=
  let arg0 : BitVec 32 := BitVec.ofNat 32 (i 0).val
  let c0_i32_10 : BitVec 32 := 0#32
  let v19 : BitVec 1 := Scalar.cmpi .sgt arg0 c0_i32_10
  let v20 : BitVec 32 := Scalar.extui v19
  let c0_i32_16 : BitVec 32 := 0#32
  let v21 : BitVec 1 := Scalar.cmpi .ne v20 c0_i32_16
  v21

def k0_off4 (i : grid0.Coords) (c0_i32 : BitVec 32) : Fin 2 → Nat :=
  let c0_i32_57 : BitVec 32 := 0#32
  let arg0 : BitVec 32 := BitVec.ofNat 32 (i 0).val
  let v0 : BitVec 32 := Scalar.addi c0_i32 arg0
  let c256_i32 : BitVec 32 := 256#32
  let v1 : BitVec 32 := Scalar.muli v0 c256_i32
  ![0, v1.toNat]
@[reducible] def k0_t2_loop : Scf.Loop 32 :=
  let c0_i32_20 : BitVec 32 := 0#32
  let c32_i32_21 : BitVec 32 := 32#32
  let v22 : BitVec 32 := Scalar.addi c0_i32_20 c32_i32_21
  let c1_i32_22 : BitVec 32 := 1#32
  ⟨c0_i32_20, v22, c1_i32_22⟩
def k0_mult2 (k0_t2 : Fin k0_t2_loop.trips) : BitVec 32 :=
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  v53
def k0_off5 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v55 : Index := Scalar.indexCast v54
  let c0_57 : Index := 0#32
  ![v55.toNat, 0]
def k0_off6 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v57 : Index := Scalar.indexCast v54
  let c0_58 : Index := 0#32
  ![v57.toNat, 0]
def k0_off7 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v99 : Index := Scalar.indexCast v54
  let c0_80 : Index := 0#32
  ![v99.toNat, 0]
def k0_off8 (k0_t2 : Fin k0_t2_loop.trips) : Fin 3 → Nat :=
  let c0_i32_17 : BitVec 32 := 0#32
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v106 : Index := Scalar.indexCast v54
  let c0_i32_82 : BitVec 32 := 0#32
  ![0, v106.toNat, 0]
def k0_off9 (k0_t2 : Fin k0_t2_loop.trips) : Fin 3 → Nat :=
  let c1_i32_18 : BitVec 32 := 1#32
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v135 : Index := Scalar.indexCast v54
  let c0_i32_93 : BitVec 32 := 0#32
  ![1, v135.toNat, 0]
def k0_off10 (k0_t2 : Fin k0_t2_loop.trips) : Fin 3 → Nat :=
  let c2_i32_19 : BitVec 32 := 2#32
  let c0_i32_20 : BitVec 32 := 0#32
  let c1_i32_22 : BitVec 32 := 1#32
  let arg13 : BitVec 32 := Scf.iv c0_i32_20 c1_i32_22 k0_t2
  let c64_i32 : BitVec 32 := 64#32
  let v53 : BitVec 32 := Scalar.muli arg13 c64_i32
  let v54 : BitVec 32 := v53
  let v146 : Index := Scalar.indexCast v54
  let c0_i32_97 : BitVec 32 := 0#32
  ![2, v146.toNat, 0]
def k0_off11 (i : grid0.Coords) (c0_i32 : BitVec 32) : Fin 2 → Nat :=
  let c0_i32_26 : BitVec 32 := 0#32
  let arg0 : BitVec 32 := BitVec.ofNat 32 (i 0).val
  let v0 : BitVec 32 := Scalar.addi c0_i32 arg0
  let c256_i32 : BitVec 32 := 256#32
  let v1 : BitVec 32 := Scalar.muli v0 c256_i32
  ![0, v1.toNat]
def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_45 : BitVec 32 := 0#32
  let v40 : BitVec 1 := Scalar.cmpi .ne v39 c0_i32_45
  v40

def k0_off12 (i : grid0.Coords) (c0_i32 : BitVec 32) : Fin 2 → Nat :=
  let c0_i32_57 : BitVec 32 := 0#32
  let arg0 : BitVec 32 := BitVec.ofNat 32 (i 0).val
  let v0 : BitVec 32 := Scalar.addi c0_i32 arg0
  let c256_i32 : BitVec 32 := 256#32
  let v1 : BitVec 32 := Scalar.muli v0 c256_i32
  ![0, v1.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x6144 : Shape := ⟨2, ![2048, 6144]⟩
abbrev S2048x2048 : Shape := ⟨2, ![2048, 2048]⟩
abbrev S3x2048 : Shape := ⟨2, ![3, 2048]⟩
abbrev S_ : Shape := ⟨0, ![]⟩
abbrev S2x2048 : Shape := ⟨2, ![2, 2048]⟩
abbrev S2050x2048 : Shape := ⟨2, ![2050, 2048]⟩
abbrev S1x2048 : Shape := ⟨2, ![1, 2048]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S3x2048, .f32⟩
  | .hbm, ⟨3, _⟩ => ⟨S2048x6144, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2x2048, .f32⟩
  | .hbm, ⟨10, _⟩ => ⟨S2050x2048, .f32⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2050x2048, .f32⟩
  | .hbm, ⟨50, _⟩ => ⟨S1x2048, .f32⟩
  | .hbm, ⟨51, _⟩ => ⟨S_, .f32⟩
  | .hbm, ⟨52, _⟩ => ⟨S3x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S2050x2048, .f32⟩
  | .hbm, ⟨63, _⟩ => ⟨S2050x2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S_, .f32⟩
  | .hbm, ⟨77, _⟩ => ⟨S2050x2048, .f32⟩
  | .hbm, ⟨78, _⟩ => ⟨S2050x2048, .f32⟩
  | .hbm, ⟨79, _⟩ => ⟨S1x2048, .f32⟩
  | .hbm, ⟨80, _⟩ => ⟨S_, .f32⟩
  | .hbm, ⟨81, _⟩ => ⟨S3x2048, .f32⟩
  | .hbm, ⟨82, _⟩ => ⟨S3x2048, .f32⟩
  | .hbm, ⟨83, _⟩ => ⟨S2x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S_, .f32⟩
  | .hbm, ⟨88, _⟩ => ⟨S2048x6144, .f32⟩
  | .hbm, ⟨89, _⟩ => ⟨S_, .f32⟩
  | .hbm, ⟨90, _⟩ => ⟨S2048x6144, .f32⟩
  | .hbm, ⟨91, _⟩ => ⟨S2048x6144, .f32⟩
  | .hbm, ⟨92, _⟩ => ⟨S_, .f32⟩
  | .hbm, ⟨93, _⟩ => ⟨S2048x6144, .f32⟩
  | .hbm, ⟨94, _⟩ => ⟨S2048x6144, .f32⟩
  | .hbm, ⟨95, _⟩ => ⟨S2048x6144, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Kernel2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .hbm, ⟨8, _⟩ => ⟨S8192x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S8192x2048, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | .hbm, ⟨25, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel3.lean ====
abbrev S2048x2048 : Shape := ⟨2, ![2048, 2048]⟩
abbrev S8x2048x1024 : Shape := ⟨3, ![8, 2048, 1024]⟩
abbrev S2048x8192 : Shape := ⟨2, ![2048, 8192]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x2048, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32_9 : BitVec 32 := 7#32
  let v15 : BitVec 1 := Scalar.cmpi .eq arg1 c7_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2048x2048 : Shape := ⟨2, ![2048, 2048]⟩
abbrev S8x2048x1024 : Shape := ⟨3, ![8, 2048, 1024]⟩
abbrev S2048x8192 : Shape := ⟨2, ![2048, 8192]⟩
abbrev S2048x8x1024 : Shape := ⟨3, ![2048, 8, 1024]⟩
abbrev S8x1024x2048 : Shape := ⟨3, ![8, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S2048x8192, .f32⟩
  | .hbm, ⟨8, _⟩ => ⟨S2048x8x1024, .f32⟩
  | .hbm, ⟨9, _⟩ => ⟨S8x1024x2048, .f32⟩
  | .hbm, ⟨10, _⟩ => ⟨S8x2048x1024, .f32⟩
  | .hbm, ⟨11, _⟩ => ⟨S2048x2048, .f32⟩
  | .hbm, ⟨12, _⟩ => ⟨S2048x2048, .bf16⟩
  | .hbm, ⟨13, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2048x8192 : Shape := ⟨2, ![2048, 8192]⟩
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x8192, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S8x2048x768 : Shape := ⟨3, ![8, 2048, 768]⟩
abbrev S2048x6144 : Shape := ⟨2, ![2048, 6144]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .hbm, ⟨3, _⟩ => ⟨S2048x2048, .bf16⟩
  | .hbm, ⟨4, _⟩ => ⟨S8x2048x768, .bf16⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024x768, .bf16⟩
  | .local _ .vmem, ⟨9, _⟩ => ⟨S1x1024x768, .bf16⟩
  | .local _ .vmem, ⟨10, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32_9 : BitVec 32 := 7#32
  let v15 : BitVec 1 := Scalar.cmpi .eq arg1 c7_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2048x2048 : Shape := ⟨2, ![2048, 2048]⟩
abbrev S8x2048x768 : Shape := ⟨3, ![8, 2048, 768]⟩
abbrev S2048x6144 : Shape := ⟨2, ![2048, 6144]⟩
abbrev S2048x8x768 : Shape := ⟨3, ![2048, 8, 768]⟩
abbrev S8x768x2048 : Shape := ⟨3, ![8, 768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .hbm, ⟨3, _⟩ => ⟨S2048x2048, .f32⟩
  | .hbm, ⟨4, _⟩ => ⟨S8x2048x768, .f32⟩
  | .hbm, ⟨5, _⟩ => ⟨S2048x8x768, .f32⟩
  | .hbm, ⟨6, _⟩ => ⟨S2048x6144, .f32⟩
  | .hbm, ⟨7, _⟩ => ⟨S2048x6144, .f32⟩
  | .hbm, ⟨8, _⟩ => ⟨S2048x8x768, .f32⟩
  | .hbm, ⟨9, _⟩ => ⟨S8x768x2048, .f32⟩
  | .hbm, ⟨10, _⟩ => ⟨S8x2048x768, .f32⟩
  | .hbm, ⟨11, _⟩ => ⟨S2048x2048, .f32⟩
  | .hbm, ⟨12, _⟩ => ⟨S2048x2048, .bf16⟩
  | .hbm, ⟨13, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S2048x2048 : Shape := ⟨2, ![2048, 2048]⟩
abbrev S8x2048x384 : Shape := ⟨3, ![8, 2048, 384]⟩
abbrev S2048x3072 : Shape := ⟨2, ![2048, 3072]⟩
abbrev S2048x384 : Shape := ⟨2, ![2048, 384]⟩
abbrev S1x1024x384 : Shape := ⟨3, ![1, 1024, 384]⟩
abbrev S2048x1024 : Shape := ⟨2, ![2048, 1024]⟩
abbrev S1024x384 : Shape := ⟨2, ![1024, 384]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x3072, .bf16⟩
  | .hbm, ⟨3, _⟩ => ⟨S2048x2048, .bf16⟩
  | .hbm, ⟨4, _⟩ => ⟨S8x2048x384, .bf16⟩
  | .local _ .vmem, ⟨0, _⟩ => ⟨S2048x384, .bf16⟩
  | .local _ .vmem, ⟨1, _⟩ => ⟨S2048x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024x384, .bf16⟩
  | .local _ .vmem, ⟨9, _⟩ => ⟨S1x1024x384, .bf16⟩
  | .local _ .vmem, ⟨10, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32_9 : BitVec 32 := 7#32
  let v15 : BitVec 1 := Scalar.cmpi .eq arg1 c7_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S2048x2048 : Shape := ⟨2, ![2048, 2048]⟩
abbrev S8x2048x384 : Shape := ⟨3, ![8, 2048, 384]⟩
abbrev S2048x3072 : Shape := ⟨2, ![2048, 3072]⟩
abbrev S2048x8x384 : Shape := ⟨3, ![2048, 8, 384]⟩
abbrev S8x384x2048 : Shape := ⟨3, ![8, 384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x3072, .bf16⟩
  | .hbm, ⟨3, _⟩ => ⟨S2048x2048, .f32⟩
  | .hbm, ⟨4, _⟩ => ⟨S8x2048x384, .f32⟩
  | .hbm, ⟨5, _⟩ => ⟨S2048x8x384, .f32⟩
  | .hbm, ⟨6, _⟩ => ⟨S2048x3072, .f32⟩
  | .hbm, ⟨7, _⟩ => ⟨S2048x3072, .f32⟩
  | .hbm, ⟨8, _⟩ => ⟨S2048x8x384, .f32⟩
  | .hbm, ⟨9, _⟩ => ⟨S8x384x2048, .f32⟩
  | .hbm, ⟨10, _⟩ => ⟨S8x2048x384, .f32⟩
  | .hbm, ⟨11, _⟩ => ⟨S2048x2048, .f32⟩
  | .hbm, ⟨12, _⟩ => ⟨S2048x2048, .bf16⟩
  | .hbm, ⟨13, _⟩ => ⟨S8x2048x384, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S2048x2048 : Shape := ⟨2, ![2048, 2048]⟩
abbrev S8x2048x768 : Shape := ⟨3, ![8, 2048, 768]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S8x2048x768 : Shape := ⟨3, ![8, 2048, 768]⟩
abbrev S2048x8x768 : Shape := ⟨3, ![2048, 8, 768]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x2048, .f32⟩
  | .hbm, ⟨3, _⟩ => ⟨S8x2048x768, .f32⟩
  | .hbm, ⟨4, _⟩ => ⟨S2048x8x768, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x2048 : Shape := ⟨2, ![2048, 2048]⟩
abbrev S8x2048x384 : Shape := ⟨3, ![8, 2048, 384]⟩
abbrev S2048x3072 : Shape := ⟨2, ![2048, 3072]⟩
abbrev S1x2048x384 : Shape := ⟨3, ![1, 2048, 384]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x3072, .bf16⟩
  | .local _ .vmem, ⟨0, _⟩ => ⟨S2048x2048, .bf16⟩
  | .local _ .vmem, ⟨1, _⟩ => ⟨S1x2048x384, .bf16⟩
  | .local _ .vmem, ⟨2, _⟩ => ⟨S1x2048x384, .bf16⟩
  | .local _ .vmem, ⟨3, _⟩ => ⟨S2048x384, .bf16⟩
  | .local _ .vmem, ⟨4, _⟩ => ⟨S2048x384, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S8x2048x384 : Shape := ⟨3, ![8, 2048, 384]⟩
abbrev S2048x8x384 : Shape := ⟨3, ![2048, 8, 384]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x2048, .f32⟩
  | .hbm, ⟨3, _⟩ => ⟨S8x2048x384, .f32⟩
  | .hbm, ⟨4, _⟩ => ⟨S2048x8x384, .f32⟩
  | .hbm, ⟨5, _⟩ => ⟨S2048x3072, .f32⟩
  | .hbm, ⟨6, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x2048 : Shape := ⟨2, ![2048, 2048]⟩
abbrev S8x2048x1024 : Shape := ⟨3, ![8, 2048, 1024]⟩
abbrev S2048x8192 : Shape := ⟨2, ![2048, 8192]⟩
abbrev S1x2048x512 : Shape := ⟨3, ![1, 2048, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S2048x512, .bf16⟩
  | .local _ .vmem, ⟨9, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg2.toNat, v27.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference11Ideal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S4x2048x1024 : Shape := ⟨3, ![4, 2048, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x2048x1024, .bf16⟩
  | .hbm, ⟨4, _⟩ => ⟨S4x2048x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S4096x1024 : Shape := ⟨2, ![4096, 1024]⟩
abbrev S4x2048x1024 : Shape := ⟨3, ![4, 2048, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x2048x1024, .bf16⟩
  | .hbm, ⟨4, _⟩ => ⟨S4x2048x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x2048x1024, .bf16⟩
  | .hbm, ⟨4, _⟩ => ⟨S4x2048x1024, .bf16⟩
  | .hbm, ⟨5, _⟩ => ⟨S4x2048x1024, .f32⟩
  | .hbm, ⟨6, _⟩ => ⟨S_, .f32⟩
  | .hbm, ⟨7, _⟩ => ⟨S2048x1024, .f32⟩
  | .hbm, ⟨8, _⟩ => ⟨S4x2048x1024, .f32⟩
  | .hbm, ⟨9, _⟩ => ⟨S_, .f32⟩
  | .hbm, ⟨10, _⟩ => ⟨S2048x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel13.lean ====
abbrev S2048x2048 : Shape := ⟨2, ![2048, 2048]⟩
abbrev S4x1024x2048 : Shape := ⟨3, ![4, 1024, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x1024x2048, .bf16⟩
  | .hbm, ⟨4, _⟩ => ⟨S4x1024x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S2048x2048 : Shape := ⟨2, ![2048, 2048]⟩
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x1024x2048, .bf16⟩
  | .hbm, ⟨4, _⟩ => ⟨S4x1024x2048, .bf16⟩
  | .hbm, ⟨5, _⟩ => ⟨S4x1024x2048, .f32⟩
  | .hbm, ⟨6, _⟩ => ⟨S_, .f32⟩
  | .hbm, ⟨7, _⟩ => ⟨S1024x2048, .f32⟩
  | .hbm, ⟨8, _⟩ => ⟨S4x1024x2048, .f32⟩
  | .hbm, ⟨9, _⟩ => ⟨S_, .f32⟩
  | .hbm, ⟨10, _⟩ => ⟨S1024x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel14.lean ====
abbrev S2048x768 : Shape := ⟨2, ![2048, 768]⟩
abbrev S4x2048x768 : Shape := ⟨3, ![4, 2048, 768]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S2048x768 : Shape := ⟨2, ![2048, 768]⟩
abbrev S4x2048x768 : Shape := ⟨3, ![4, 2048, 768]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x768 : Shape := ⟨2, ![2048, 768]⟩
abbrev S4x2048x768 : Shape := ⟨3, ![4, 2048, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .f32⟩
  | .hbm, ⟨5, _⟩ => ⟨S_, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S_, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S_, .f32⟩
  | .hbm, ⟨15, _⟩ => ⟨S2048x768, .f32⟩
  | .hbm, ⟨16, _⟩ => ⟨S2048x768, .f32⟩
  | .hbm, ⟨17, _⟩ => ⟨S2048x768, .f32⟩
  | .hbm, ⟨18, _⟩ => ⟨S_, .f32⟩
  | .hbm, ⟨19, _⟩ => ⟨S2048x768, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S2048x768, .f32⟩
  | .hbm, ⟨31, _⟩ => ⟨S2048x768, .f32⟩
  | .hbm, ⟨32, _⟩ => ⟨S2048x768, .f32⟩
  | .hbm, ⟨33, _⟩ => ⟨S_, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S_, .f32⟩
  | .hbm, ⟨38, _⟩ => ⟨S2048x768, .f32⟩
  | .hbm, ⟨39, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S2048x384 : Shape := ⟨2, ![2048, 384]⟩
abbrev S4x2048x384 : Shape := ⟨3, ![4, 2048, 384]⟩
abbrev S256x384 : Shape := ⟨2, ![256, 384]⟩
abbrev S4x256x384 : Shape := ⟨3, ![4, 256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S4x2048x384, .bf16⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S4x256x384, .bf16⟩
  | .local _ .vmem, ⟨7, _⟩ => ⟨S4x256x384, .bf16⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
abbrev S2048x384 : Shape := ⟨2, ![2048, 384]⟩
abbrev S4x2048x384 : Shape := ⟨3, ![4, 2048, 384]⟩
abbrev S256x384 : Shape := ⟨2, ![256, 384]⟩
abbrev S4x256x384 : Shape := ⟨3, ![4, 256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S4x2048x384, .bf16⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S4x256x384, .bf16⟩
  | .local _ .vmem, ⟨7, _⟩ => ⟨S4x256x384, .bf16⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x384 : Shape := ⟨2, ![2048, 384]⟩
abbrev S4x2048x384 : Shape := ⟨3, ![4, 2048, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S4x2048x384, .bf16⟩
  | .hbm, ⟨4, _⟩ => ⟨S4x2048x384, .f32⟩
  | .hbm, ⟨5, _⟩ => ⟨S_, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S_, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S296x128 : Shape := ⟨2, ![296, 128]⟩
abbrev S4x296x128 : Shape := ⟨3, ![4, 296, 128]⟩
abbrev S1x296x128 : Shape := ⟨3, ![1, 296, 128]⟩

abbrev nBuf : Space → Nat
  | .hbm => 8
  | .vmem => 8
  | .smem => 0
  | _ => 0

abbrev bufTy : (tb : Table) → Fin (tcTables nBuf tb) → BufTy
  | .hbm, ⟨0, _⟩ => ⟨S296x128, .f32⟩
  | .hbm, ⟨1, _⟩ => ⟨S296x128, .f32⟩
  | .hbm, ⟨2, _⟩ => ⟨S296x128, .f32⟩
  | .hbm, ⟨3, _⟩ => ⟨S4x296x128, .f32⟩
  | .hbm, ⟨4, _⟩ => ⟨S296x128, .f32⟩
  | .hbm, ⟨5, _⟩ => ⟨S296x128, .f32⟩
  | .hbm, ⟨6, _⟩ => ⟨S296x128, .f32⟩
  | .hbm, ⟨7, _⟩ => ⟨S296x128, .f32⟩
  | .local _ .vmem, ⟨0, _⟩ => ⟨S296x128, .f32⟩
  | .local _ .vmem, ⟨1, _⟩ => ⟨S296x128, .f32⟩
  | .local _ .vmem, ⟨2, _⟩ => ⟨S296x128, .f32⟩
  | .local _ .vmem, ⟨3, _⟩ => ⟨S4x296x128, .f32⟩
  | .local _ .vmem, ⟨4, _⟩ => ⟨S296x128, .f32⟩
  | .local _ .vmem, ⟨5, _⟩ => ⟨S296x128, .f32⟩
  | .local _ .vmem, ⟨6, _⟩ => ⟨S296x128, .f32⟩
  | .local _ .vmem, ⟨7, _⟩ => ⟨S296x128, .f32⟩
  | _, _ => ⟨S296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S296x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x296x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S296x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S296x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S296x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S296x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S296x128 : Shape := ⟨2, ![296, 128]⟩
abbrev S4x296x128 : Shape := ⟨3, ![4, 296, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S296x128, .f32⟩
  | .hbm, ⟨1, _⟩ => ⟨S296x128, .f32⟩
  | .hbm, ⟨2, _⟩ => ⟨S296x128, .f32⟩
  | .hbm, ⟨3, _⟩ => ⟨S4x296x128, .f32⟩
  | .hbm, ⟨4, _⟩ => ⟨S_, .f32⟩
  | .hbm, ⟨5, _⟩ => ⟨S296x128, .f32⟩
  | .hbm, ⟨6, _⟩ => ⟨S_, .f32⟩
  | .hbm, ⟨7, _⟩ => ⟨S296x128, .f32⟩
  | .hbm, ⟨8, _⟩ => ⟨S296x128, .f32⟩
  | .hbm, ⟨9, _⟩ => ⟨S_, .f32⟩
  | .hbm, ⟨10, _⟩ => ⟨S296x128, .f32⟩
  | .hbm, ⟨11, _⟩ => ⟨S296x128, .f32⟩
  | .hbm, ⟨12, _⟩ => ⟨S296x128, .f32⟩
  | .hbm, ⟨13, _⟩ => ⟨S_, .f32⟩
  | .hbm, ⟨14, _⟩ => ⟨S296x128, .f32⟩
  | .hbm, ⟨15, _⟩ => ⟨S296x128, .f32⟩
  | .hbm, ⟨16, _⟩ => ⟨S296x128, .f32⟩
  | .hbm, ⟨17, _⟩ => ⟨S_, .f32⟩
  | .hbm, ⟨18, _⟩ => ⟨S296x128, .f32⟩
  | .hbm, ⟨19, _⟩ => ⟨S296x128, .f32⟩
  | .hbm, ⟨20, _⟩ => ⟨S296x128, .f32⟩
  | .hbm, ⟨21, _⟩ => ⟨S_, .f32⟩
  | .hbm, ⟨22, _⟩ => ⟨S296x128, .f32⟩
  | .hbm, ⟨23, _⟩ => ⟨S296x128, .f32⟩
  | .hbm, ⟨24, _⟩ => ⟨S_, .f32⟩
  | .hbm, ⟨25, _⟩ => ⟨S296x128, .f32⟩
  | .hbm, ⟨26, _⟩ => ⟨S296x128, .f32⟩
  | .hbm, ⟨27, _⟩ => ⟨S296x128, .f32⟩
  | .hbm, ⟨28, _⟩ => ⟨S_, .f32⟩
  | .hbm, ⟨29, _⟩ => ⟨S296x128, .f32⟩
  | .hbm, ⟨30, _⟩ => ⟨S296x128, .f32⟩
  | .hbm, ⟨31, _⟩ => ⟨S296x128, .f32⟩
  | .hbm, ⟨32, _⟩ => ⟨S_, .f32⟩
  | .hbm, ⟨33, _⟩ => ⟨S296x128, .f32⟩
  | .hbm, ⟨34, _⟩ => ⟨S296x128, .f32⟩
  | .hbm, ⟨35, _⟩ => ⟨S296x128, .f32⟩
  | .hbm, ⟨36, _⟩ => ⟨S_, .f32⟩
  | .hbm, ⟨37, _⟩ => ⟨S296x128, .f32⟩
  | .hbm, ⟨38, _⟩ => ⟨S296x128, .f32⟩
  | _, _ => ⟨S296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S2x2048 : Shape := ⟨2, ![2, 2048]⟩
abbrev S1x1024 : Shape := ⟨2, ![1, 1024]⟩
abbrev S8x16x2048 : Shape := ⟨3, ![8, 16, 2048]⟩
abbrev S1x128 : Shape := ⟨2, ![1, 128]⟩
abbrev S1x1x128 : Shape := ⟨3, ![1, 1, 128]⟩
abbrev S1x2x2048 : Shape := ⟨3, ![1, 2, 2048]⟩
abbrev S1x1x1024 : Shape := ⟨3, ![1, 1, 1024]⟩
abbrev S1x1 : Shape := ⟨2, ![1, 1]⟩
abbrev S_ : Shape := ⟨0, ![]⟩

abbrev nBuf : Space → Nat
  | .hbm => 62
  | .vmem => 58
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S2x2048, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8x16x2048, .f32⟩
  | .hbm, ⟨25, _⟩ => ⟨S1x128, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S2x2048, .f32⟩
  | .hbm, ⟨35, _⟩ => ⟨S2x2048, .f32⟩
  | .hbm, ⟨36, _⟩ => ⟨S2x2048, .f32⟩
  | .hbm, ⟨37, _⟩ => ⟨S2x2048, .f32⟩
  | .hbm, ⟨38, _⟩ => ⟨S2x2048, .f32⟩
  | .hbm, ⟨39, _⟩ => ⟨S2x2048, .f32⟩
  | .hbm, ⟨40, _⟩ => ⟨S2x2048, .f32⟩
  | .hbm, ⟨41, _⟩ => ⟨S2x2048, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2x2048, .f32⟩
  | .local _ .vmem, ⟨9, _⟩ => ⟨S2x2048, .f32⟩
  | .local _ .vmem, ⟨10, _⟩ => ⟨S2x2048, .f32⟩
  | .local _ .vmem, ⟨11, _⟩ => ⟨S2x2048, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S2x2048, .f32⟩
  | .local _ .vmem, ⟨17, _⟩ => ⟨S2x2048, .f32⟩
  | .local _ .vmem, ⟨18, _⟩ => ⟨S2x2048, .f32⟩
  | .local _ .vmem, ⟨19, _⟩ => ⟨S2x2048, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S8x16x2048, .f32⟩
  | .local _ .vmem, ⟨25, _⟩ => ⟨S1x128, .f32⟩
  | .local _ .vmem, ⟨26, _⟩ => ⟨S2x2048, .f32⟩
  | .local _ .vmem, ⟨27, _⟩ => ⟨S2x2048, .f32⟩
  | .local _ .vmem, ⟨28, _⟩ => ⟨S2x2048, .f32⟩
  | .local _ .vmem, ⟨29, _⟩ => ⟨S2x2048, .f32⟩
  | .local _ .vmem, ⟨30, _⟩ => ⟨S2x2048, .f32⟩
  | .local _ .vmem, ⟨31, _⟩ => ⟨S2x2048, .f32⟩
  | .local _ .vmem, ⟨32, _⟩ => ⟨S2x2048, .f32⟩
  | .local _ .vmem, ⟨33, _⟩ => ⟨S2x2048, .f32⟩
  | .local _ .vmem, ⟨34, _⟩ => ⟨S2x2048, .f32⟩
  | .local _ .vmem, ⟨35, _⟩ => ⟨S2x2048, .f32⟩
  | .local _ .vmem, ⟨36, _⟩ => ⟨S2x2048, .f32⟩
  | .local _ .vmem, ⟨37, _⟩ => ⟨S2x2048, .f32⟩
  | .local _ .vmem, ⟨38, _⟩ => ⟨S2x2048, .f32⟩
  | .local _ .vmem, ⟨39, _⟩ => ⟨S2x2048, .f32⟩
  | .local _ .vmem, ⟨40, _⟩ => ⟨S2x2048, .f32⟩
  | .local _ .vmem, ⟨41, _⟩ => ⟨S2x2048, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev main_v0_25 : Ref sig .tc := ⟨.hbm, 50, rfl⟩
abbrev main_v0_26 : Ref sig .tc := ⟨.hbm, 51, rfl⟩
abbrev main_v0_27 : Ref sig .tc := ⟨.hbm, 52, rfl⟩
abbrev main_v0_28 : Ref sig .tc := ⟨.hbm, 53, rfl⟩
abbrev main_v0_29 : Ref sig .tc := ⟨.hbm, 54, rfl⟩
abbrev main_v0_30 : Ref sig .tc := ⟨.hbm, 55, rfl⟩
abbrev main_v0_31 : Ref sig .tc := ⟨.hbm, 56, rfl⟩
abbrev main_v0_32 : Ref sig .tc := ⟨.hbm, 57, rfl⟩
abbrev main_v1 : Ref sig .tc := ⟨.hbm, 58, rfl⟩
abbrev main_v2 : Ref sig .tc := ⟨.hbm, 59, rfl⟩
abbrev main_cst : Ref sig .tc := ⟨.hbm, 60, rfl⟩
abbrev main_v3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x16x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x2048 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x2048 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x2048 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x2048 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== Reference18Ideal.lean ====
abbrev S2x2048 : Shape := ⟨2, ![2, 2048]⟩
abbrev S1x1024 : Shape := ⟨2, ![1, 1024]⟩
abbrev S8x16x2048 : Shape := ⟨3, ![8, 16, 2048]⟩
abbrev S_ : Shape := ⟨0, ![]⟩
abbrev S16x2048 : Shape := ⟨2, ![16, 2048]⟩
abbrev S1x1 : Shape := ⟨2, ![1, 1]⟩

abbrev nBuf : Space → Nat
  | .hbm => 305
  | .vmem => 0
  | .smem => 0
  | _ => 0

abbrev hbmTy0_0 (i : Nat) : BufTy := match i % 128 with
  | 0 => ⟨S2x2048, .f32⟩
  | 1 => ⟨S2x2048, .f32⟩
  | 2 => ⟨S2x2048, .f32⟩
  | 3 => ⟨S2x2048, .f32⟩
  | 4 => ⟨S1x1024, .f32⟩
  | 5 => ⟨S1x1024, .f32⟩
  | 6 => ⟨S1x1024, .f32⟩
  | 7 => ⟨S1x1024, .f32⟩
  | 8 => ⟨S2x2048, .f32⟩
  | 9 => ⟨S2x2048, .f32⟩
  | 10 => ⟨S2x2048, .f32⟩
  | 11 => ⟨S2x2048, .f32⟩
  | 12 => ⟨S1x1024, .f32⟩
  | 13 => ⟨S1x1024, .f32⟩
  | 14 => ⟨S1x1024, .f32⟩
  | 15 => ⟨S1x1024, .f32⟩
  | 16 => ⟨S2x2048, .f32⟩
  | 17 => ⟨S2x2048, .f32⟩
  | 18 => ⟨S2x2048, .f32⟩
  | 19 => ⟨S2x2048, .f32⟩
  | 20 => ⟨S1x1024, .f32⟩
  | 21 => ⟨S1x1024, .f32⟩
  | 22 => ⟨S1x1024, .f32⟩
  | 23 => ⟨S1x1024, .f32⟩
  | 24 => ⟨S8x16x2048, .f32⟩
  | 25 => ⟨S_, .f32⟩
  | 26 => ⟨S16x2048, .f32⟩
  | 27 => ⟨S1x1, .f32⟩
  | 28 => ⟨S_, .f32⟩
  | 29 => ⟨S_, .f32⟩
  | 30 => ⟨S_, .f32⟩
  | 31 => ⟨S_, .f32⟩
  | 32 => ⟨S_, .f32⟩
  | 33 => ⟨S2x2048, .f32⟩
  | 34 => ⟨S_, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S_, .f32⟩
  | 53 => ⟨S2x2048, .f32⟩
  | 54 => ⟨S2x2048, .f32⟩
  | 55 => ⟨S2x2048, .f32⟩
  | 56 => ⟨S_, .f32⟩
  | 57 => ⟨S2x2048, .f32⟩
  | 58 => ⟨S2x2048, .f32⟩
  | 59 => ⟨S2x2048, .f32⟩
  | 60 => ⟨S_, .f32⟩
  | 61 => ⟨S2x2048, .f32⟩
  | 62 => ⟨S2x2048, .f32⟩
  | 63 => ⟨S2x2048, .f32⟩
  | 64 => ⟨S_, .f32⟩
  | 65 => ⟨S2x2048, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .f32⟩
  | 94 => ⟨S_, .f32⟩
  | 95 => ⟨S2x2048, .f32⟩
  | 96 => ⟨S2x2048, .f32⟩
  | 97 => ⟨S2x2048, .f32⟩
  | 98 => ⟨S_, .f32⟩
  | 99 => ⟨S2x2048, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S2x2048, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S2x2048, .f32⟩

abbrev hbmTy0_1 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S_, .f32⟩
  | 12 => ⟨S2x2048, .f32⟩
  | 13 => ⟨S2x2048, .f32⟩
  | 14 => ⟨S2x2048, .f32⟩
  | 15 => ⟨S_, .f32⟩
  | 16 => ⟨S2x2048, .f32⟩
  | 17 => ⟨S2x2048, .f32⟩
  | 18 => ⟨S2x2048, .f32⟩
  | 19 => ⟨S_, .f32⟩
  | 20 => ⟨S2x2048, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x2048, .f32⟩
  | 30 => ⟨S_, .f32⟩
  | 31 => ⟨S2x2048, .f32⟩
  | 32 => ⟨S2x2048, .f32⟩
  | 33 => ⟨S2x2048, .f32⟩
  | 34 => ⟨S_, .f32⟩
  | 35 => ⟨S2x2048, .f32⟩
  | 36 => ⟨S2x2048, .f32⟩
  | 37 => ⟨S2x2048, .f32⟩
  | 38 => ⟨S_, .f32⟩
  | 39 => ⟨S2x2048, .f32⟩
  | 40 => ⟨S2x2048, .f32⟩
  | 41 => ⟨S1x1024, .f32⟩
  | 42 => ⟨S_, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S2x2048, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_cst_3 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_5 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_6 : Ref sig .tc := ⟨.hbm, 49, rfl⟩
abbrev main_v17 : Ref sig .tc := ⟨.hbm, 50, rfl⟩
abbrev main_v18 : Ref sig .tc := ⟨.hbm, 51, rfl⟩
abbrev main_cst_7 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_8 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_9 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_10 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_11 : Ref sig .tc := ⟨.hbm, 68, rfl⟩
abbrev main_v31 : Ref sig .tc := ⟨.hbm, 69, rfl⟩
abbrev main_v32 : Ref sig .tc := ⟨.hbm, 70, rfl⟩
abbrev main_cst_12 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_13 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_14 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_15 : Ref sig .tc := ⟨.hbm, 83, rfl⟩
abbrev main_v42 : Ref sig .tc := ⟨.hbm, 84, rfl⟩
abbrev main_v43 : Ref sig .tc := ⟨.hbm, 85, rfl⟩
abbrev main_cst_16 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_17 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_19 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_20 : Ref sig .tc := ⟨.hbm, 102, rfl⟩
abbrev main_v56 : Ref sig .tc := ⟨.hbm, 103, rfl⟩
abbrev main_v57 : Ref sig .tc := ⟨.hbm, 104, rfl⟩
abbrev main_cst_21 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_22 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_23 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_24 : Ref sig .tc := ⟨.hbm, 117, rfl⟩
abbrev main_v67 : Ref sig .tc := ⟨.hbm, 118, rfl⟩
abbrev main_v68 : Ref sig .tc := ⟨.hbm, 119, rfl⟩
abbrev main_cst_25 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_26 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_27 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_28 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_29 : Ref sig .tc := ⟨.hbm, 136, rfl⟩
abbrev main_v81 : Ref sig .tc := ⟨.hbm, 137, rfl⟩
abbrev main_v82 : Ref sig .tc := ⟨.hbm, 138, rfl⟩
abbrev main_cst_30 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_31 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_32 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_33 : Ref sig .tc := ⟨.hbm, 151, rfl⟩
abbrev main_v92 : Ref sig .tc := ⟨.hbm, 152, rfl⟩
abbrev main_v93 : Ref sig .tc := ⟨.hbm, 153, rfl⟩
abbrev main_cst_34 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_35 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_36 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_37 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_38 : Ref sig .tc := ⟨.hbm, 170, rfl⟩
abbrev main_v106 : Ref sig .tc := ⟨.hbm, 171, rfl⟩
abbrev main_v107 : Ref sig .tc := ⟨.hbm, 172, rfl⟩
abbrev main_cst_39 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_cst_40 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_41 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_42 : Ref sig .tc := ⟨.hbm, 185, rfl⟩
abbrev main_v117 : Ref sig .tc := ⟨.hbm, 186, rfl⟩
abbrev main_v118 : Ref sig .tc := ⟨.hbm, 187, rfl⟩
abbrev main_cst_43 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_cst_44 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_45 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_46 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_47 : Ref sig .tc := ⟨.hbm, 204, rfl⟩
abbrev main_v131 : Ref sig .tc := ⟨.hbm, 205, rfl⟩
abbrev main_v132 : Ref sig .tc := ⟨.hbm, 206, rfl⟩
abbrev main_cst_48 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_49 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_50 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_51 : Ref sig .tc := ⟨.hbm, 219, rfl⟩
abbrev main_v142 : Ref sig .tc := ⟨.hbm, 220, rfl⟩
abbrev main_v143 : Ref sig .tc := ⟨.hbm, 221, rfl⟩
abbrev main_cst_52 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_53 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_54 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_55 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_56 : Ref sig .tc := ⟨.hbm, 238, rfl⟩
abbrev main_v156 : Ref sig .tc := ⟨.hbm, 239, rfl⟩
abbrev main_v157 : Ref sig .tc := ⟨.hbm, 240, rfl⟩
abbrev main_cst_57 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_cst_58 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_cst_59 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_cst_60 : Ref sig .tc := ⟨.hbm, 253, rfl⟩
abbrev main_v167 : Ref sig .tc := ⟨.hbm, 254, rfl⟩
abbrev main_v168 : Ref sig .tc := ⟨.hbm, 255, rfl⟩
abbrev main_cst_61 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_cst_62 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_cst_63 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_cst_64 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_65 : Ref sig .tc := ⟨.hbm, 272, rfl⟩
abbrev main_v181 : Ref sig .tc := ⟨.hbm, 273, rfl⟩
abbrev main_v182 : Ref sig .tc := ⟨.hbm, 274, rfl⟩
abbrev main_cst_66 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_cst_67 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_cst_68 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_cst_69 : Ref sig .tc := ⟨.hbm, 287, rfl⟩
abbrev main_v192 : Ref sig .tc := ⟨.hbm, 288, rfl⟩
abbrev main_v193 : Ref sig .tc := ⟨.hbm, 289, rfl⟩
abbrev main_cst_70 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_71 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_cst_72 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_cst_73 : Ref sig .tc := ⟨.hbm, 302, rfl⟩
abbrev main_v203 : Ref sig .tc := ⟨.hbm, 303, rfl⟩
abbrev main_v204 : Ref sig .tc := ⟨.hbm, 304, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x8x2048 : Shape := ⟨3, ![256, 8, 2048]⟩
abbrev S8x2048 : Shape := ⟨2, ![8, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S256x8x2048, .f32⟩
  | .hbm, ⟨45, _⟩ => ⟨S_, .f32⟩
  | .hbm, ⟨46, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel22.lean ====
abbrev S2048x2048 : Shape := ⟨2, ![2048, 2048]⟩
abbrev S1x2048 : Shape := ⟨2, ![1, 2048]⟩
abbrev S8x128 : Shape := ⟨2, ![8, 128]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S32x8x128 : Shape := ⟨3, ![32, 8, 128]⟩
abbrev S32x8x2048 : Shape := ⟨3, ![32, 8, 2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S8x128, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x128, .f32⟩
  | .local _ .vmem, ⟨12, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_20 : BitVec 32 := 0#32
  let v82 : BitVec 1 := Scalar.cmpi .ne v81 c0_i32_20
  v82

def k0_cond2 (i : grid0.Coords) : BitVec 1 :=
  let arg0 : BitVec 32 := BitVec.ofNat 32 (i 0).val
  let c0_i32_21 : BitVec 32 := 0#32
  let v83 : BitVec 1 := Scalar.cmpi .sgt arg0 c0_i32_21
  let v84 : BitVec 32 := Scalar.extui v83
  let c0_i32_22 : BitVec 32 := 0#32
  let v85 : BitVec 1 := Scalar.cmpi .ne v84 c0_i32_22
  v85

def k0_cond3 (i : grid0.Coords) : BitVec 1 :=
  let arg0 : BitVec 32 := BitVec.ofNat 32 (i 0).val
  let c0_i32_24 : BitVec 32 := 0#32
  let v88 : BitVec 1 := Scalar.cmpi .eq arg0 c0_i32_24
  let v89 : BitVec 32 := Scalar.extui v88
  let c0_i32_25 : BitVec 32 := 0#32
  let v90 : BitVec 1 := Scalar.cmpi .ne v89 c0_i32_25
  v90

def k0_cond4 (i : grid0.Coords) : BitVec 1 :=
  let arg0 : BitVec 32 := BitVec.ofNat 32 (i 0).val
  let c0_i32_26 : BitVec 32 := 0#32
  let v91 : BitVec 1 := Scalar.cmpi .sgt arg0 c0_i32_26
  let v92 : BitVec 32 := Scalar.extui v91
  let c0_i32_27 : BitVec 32 := 0#32
  let v93 : BitVec 1 := Scalar.cmpi .ne v92 c0_i32_27
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference22Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x8x16x128 : Shape := ⟨4, ![256, 8, 16, 128]⟩
abbrev S256x8x128 : Shape := ⟨3, ![256, 8, 128]⟩
abbrev S8x128 : Shape := ⟨2, ![8, 128]⟩
abbrev S256x8x2048 : Shape := ⟨3, ![256, 8, 2048]⟩
abbrev S8x2048 : Shape := ⟨2, ![8, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S256x8x16x128, .f32⟩
  | .hbm, ⟨64, _⟩ => ⟨S_, .f32⟩
  | .hbm, ⟨65, _⟩ => ⟨S256x8x128, .f32⟩
  | .hbm, ⟨66, _⟩ => ⟨S_, .f32⟩
  | .hbm, ⟨67, _⟩ => ⟨S8x128, .f32⟩
  | .hbm, ⟨68, _⟩ => ⟨S2048x2048, .bf16⟩
  | .hbm, ⟨69, _⟩ => ⟨S256x8x2048, .f32⟩
  | .hbm, ⟨70, _⟩ => ⟨S_, .f32⟩
  | .hbm, ⟨71, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S8x2048, .f32⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S8x2048, .f32⟩
  | .local _ .vmem, ⟨15, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_25 : BitVec 32 := 0#32
  let v61 : BitVec 1 := Scalar.cmpi .ne v60 c0_i32_25
  v61

def k0_cond2 (i : grid0.Coords) : BitVec 1 :=
  let arg0 : BitVec 32 := BitVec.ofNat 32 (i 0).val
  let c0_i32_26 : BitVec 32 := 0#32
  let v62 : BitVec 1 := Scalar.cmpi .sgt arg0 c0_i32_26
  let v63 : BitVec 32 := Scalar.extui v62
  let c0_i32_27 : BitVec 32 := 0#32
  let v64 : BitVec 1 := Scalar.cmpi .ne v63 c0_i32_27
  v64

def k0_cond3 (i : grid0.Coords) : BitVec 1 :=
  let arg0 : BitVec 32 := BitVec.ofNat 32 (i 0).val
  let c0_i32_29 : BitVec 32 := 0#32
  let v67 : BitVec 1 := Scalar.cmpi .eq arg0 c0_i32_29
  let v68 : BitVec 32 := Scalar.extui v67
  let c0_i32_30 : BitVec 32 := 0#32
  let v69 : BitVec 1 := Scalar.cmpi .ne v68 c0_i32_30
  v69

def k0_cond4 (i : grid0.Coords) : BitVec 1 :=
  let arg0 : BitVec 32 := BitVec.ofNat 32 (i 0).val
  let c0_i32_31 : BitVec 32 := 0#32
  let v70 : BitVec 1 := Scalar.cmpi .sgt arg0 c0_i32_31
  let v71 : BitVec 32 := Scalar.extui v70
  let c0_i32_32 : BitVec 32 := 0#32
  let v72 : BitVec 1 := Scalar.cmpi .ne v71 c0_i32_32
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference23Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x8x2048 : Shape := ⟨3, ![256, 8, 2048]⟩
abbrev S8x2048 : Shape := ⟨2, ![8, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .bf16⟩
  | .hbm, ⟨85, _⟩ => ⟨S256x8x2048, .f32⟩
  | .hbm, ⟨86, _⟩ => ⟨S_, .f32⟩
  | .hbm, ⟨87, _⟩ => ⟨S8x2048, .f32⟩
  | .hbm, ⟨88, _⟩ => ⟨S256x8x2048, .f32⟩
  | .hbm, ⟨89, _⟩ => ⟨S_, .f32⟩
  | .hbm, ⟨90, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Proof.Forms.lean ====
module

public import proofs.«01_k».proof.Proof.Gen.KernelIdeal
public import proofs.«01_k».proof.Proof.Gen.KernelIdeal.Skeleton
public import Idealize.ShloMosaic.Lib.ValueIdxCore

@[expose] public section

/-!
# What one grid point of the short-convolution backward kernel computes, in closed form

One grid point handles 256 channels at all 2048 tokens. With `b`, `c`, `u` the three gates' blocks, `dy` the incoming
gradient's block and `w` the three filter rows, the kernel

* fills a padded buffer with `q = c * u`, below 32 zero rows (`padQ`),
* fills a padded buffer with `dcq = dy * b`, above 32 zero rows (`padD`),
* walks both in chunks of 64 tokens, adding each chunk's share to three accumulators of 8 rows (`acc0`, `acc1`, `acc2`)
  and writing the gradients' chunk to three slabs (`tiles`),
* sums the accumulators' rows into the filter's gradient (`dwBlock`).

Everything here is stated over any float values `F`, through the kernel's own payload functions.
-/

noncomputable section

namespace Cert.ShortBwd

open Cert.KernelIdeal Cert.KernelIdeal.Gen
open Idealize.ShloMosaic Idealize.ShloMosaic.ValueIdx

variable {F : FTy → Type} [FloatOps F]

/-! ## Parts of arrays -/

/-- Rows `64 k … 64 k + 63` of a block of 2048 rows. -/
def rows64 {α : Type} (X : S2048x256.Idx → α) (k : Fin 32) : S64x256.Idx → α :=
  fun y => X (ix2 ⟨64 * k.val + (y 0).val, by have : (y 0).val < 64 := (y 0).isLt; have := k.isLt; omega⟩ (y 1))

/-- Rows `64 k … 64 k + 63` of a padded block of 2080 rows. -/
def pad64 {α : Type} (X : S2080x256.Idx → α) (k : Fin 32) : S64x256.Idx → α :=
  fun y => X (ix2 ⟨64 * k.val + (y 0).val, by have : (y 0).val < 64 := (y 0).isLt; have := k.isLt; omega⟩ (y 1))

/-- Rows `64 k … 64 k + 95` of a padded block of 2080 rows. -/
def pad96 {α : Type} (X : S2080x256.Idx → α) (k : Fin 32) : S96x256.Idx → α :=
  fun y => X (ix2 ⟨64 * k.val + (y 0).val, by have : (y 0).val < 96 := (y 0).isLt; have := k.isLt; omega⟩ (y 1))

/-- Row `p` of the filter block. -/
def wrow {α : Type} (W : S3x256.Idx → α) (p : Fin 3) : S1x256.Idx → α := fun y => W (ix2 p (y 1))

/-! ## The padded buffers -/

/-- The padded product of the two gates `c` and `u`: 32 zero rows, then `c * u`. -/
def padQ (C U : Vec F S2048x256 .bf16) : Vec F S2080x256 .f32 := fun y =>
  if h : (y 0).val < 32 then (k0_pay13 (F := F)) (ix2 ⟨(y 0).val, h⟩ (y 1))
  else
    k0_pay16 (rows64 C ⟨((y 0).val - 32) / 64, by have : (y 0).val < 2080 := (y 0).isLt; omega⟩)
      (rows64 U ⟨((y 0).val - 32) / 64, by have : (y 0).val < 2080 := (y 0).isLt; omega⟩)
      (ix2 ⟨((y 0).val - 32) % 64, Nat.mod_lt _ (by decide)⟩ (y 1))

/-- The padded product of the incoming gradient and the gate `b`: `dy * b`, then 32 zero rows. -/
def padD (DY B : Vec F S2048x256 .bf16) : Vec F S2080x256 .f32 := fun y =>
  if h : (y 0).val < 2048 then
    k0_pay17 (rows64 DY ⟨(y 0).val / 64, by omega⟩) (rows64 B ⟨(y 0).val / 64, by omega⟩)
      (ix2 ⟨(y 0).val % 64, Nat.mod_lt _ (by decide)⟩ (y 1))
  else (k0_pay14 (F := F)) (ix2 ⟨(y 0).val - 2048, by have : (y 0).val < 2080 := (y 0).isLt; omega⟩ (y 1))

/-! ## The accumulators -/

/-- Rows `8 p … 8 p + 7` of the accumulator's starting value. -/
def accZero (p : Fin 3) : Vec F S8x256 .f32 := fun y =>
  (k0_pay15 (F := F)) (ix2 ⟨8 * p.val + (y 0).val, by have : (y 0).val < 8 := (y 0).isLt; have := p.isLt; omega⟩ (y 1))

/-- One chunk's step of accumulator `p`. -/
def accStep (p : Fin 3) (q : Vec F S96x256 .f32) (d : Vec F S64x256 .f32) (a : Vec F S8x256 .f32) : Vec F S8x256 .f32 :=
  match p with
  | ⟨0, _⟩ => k0_pay4 q d a
  | ⟨1, _⟩ => k0_pay6 q d a
  | ⟨2, _⟩ => k0_pay10 a (k0_pay9 q d)

/-- Accumulator `p` after the first `k` chunks. -/
def acc (p : Fin 3) (Q D : Vec F S2080x256 .f32) : ℕ → Vec F S8x256 .f32
  | 0 => accZero p
  | k + 1 => if h : k < 32 then accStep p (pad96 Q ⟨k, h⟩) (pad64 D ⟨k, h⟩) (acc p Q D k) else acc p Q D k

theorem acc_succ (p : Fin 3) (Q D : Vec F S2080x256 .f32) (k : Fin 32) :
    acc p Q D (k.val + 1) = accStep p (pad96 Q k) (pad64 D k) (acc p Q D k.val) := by
  rw [acc, dif_pos k.isLt]

/-- The filter's gradient: one row per accumulator, its eight rows summed. -/
def dwBlock (Q D : Vec F S2080x256 .f32) : Vec F S3x256 .f32 := fun y =>
  match (show Fin 3 from y 0) with
  | ⟨0, _⟩ => k0_pay20 (acc 0 Q D 32) (ix2 (0 : Fin 1) (y 1))
  | ⟨1, _⟩ => k0_pay1 (acc 1 Q D 32) (ix2 (0 : Fin 1) (y 1))
  | ⟨2, _⟩ => k0_pay2 (acc 2 Q D 32) (ix2 (0 : Fin 1) (y 1))

/-! ## The three slabs -/

/-- Chunk `k` of slab `p`: the gradients of `b`, `c` and `u` at its 64 tokens. -/
def tileChunk (p : Fin 3) (C U DY : Vec F S2048x256 .bf16) (W : Vec F S3x256 .f32) (Q D : Vec F S2080x256 .f32) (k : Fin 32) :
    Vec F S1x64x256 .bf16 :=
  match p with
  | ⟨0, _⟩ => k0_pay11 (k0_pay7 (pad96 Q k) (wrow W 0) (wrow W 1)) (k0_pay8 (pad96 Q k)) (wrow W 2) (rows64 DY k)
  | ⟨1, _⟩ => k0_pay18 (k0_pay12 (pad96 D k) (wrow W 2) (wrow W 1) (wrow W 0)) (rows64 U k)
  | ⟨2, _⟩ => k0_pay19 (k0_pay12 (pad96 D k) (wrow W 2) (wrow W 1) (wrow W 0)) (rows64 C k)

/-- The three slabs. -/
def tiles (C U DY : Vec F S2048x256 .bf16) (W : Vec F S3x256 .f32) (Q D : Vec F S2080x256 .f32) : Vec F S3x2048x256 .bf16 := fun y =>
  tileChunk (y 0) C U DY W Q D ⟨(y 1).val / 64, by have : (y 1).val < 2048 := (y 1).isLt; omega⟩
    (ix3 (0 : Fin 1) ⟨(y 1).val % 64, Nat.mod_lt _ (by decide)⟩ (y 2))

/-! ## What loads read -/

section Reads

variable {sp : Space}

/-- A load of chunk `k` of a block reads its rows. -/
theorem readAt_rows64 {e : EltTy} (v : View sig .tc sp S2048x256 e) (f : v.ty.Contents (Elt F)) {off : Fin 2 → ℕ} (k : Fin 32)
    (h : off = ![64 * k.val, 0]) (inb : ∀ a, off a + S64x256.size a ≤ S2048x256.size a) :
    v.readAt (Elt F) (Rect.unit (s := S2048x256) off S64x256.size inb).toLoadRect f = rows64 (v.read (Elt F) f) k := by
  subst h
  funext y
  exact congrArg (v.read (Elt F) f) (funext fun a => Fin.ext (by
    match a with
    | ⟨0, _⟩ => show 64 * k.val + 1 * (y 0).val = _; rw [Nat.one_mul]
    | ⟨1, _⟩ => show 0 + 1 * (y 1).val = (y 1).val; omega))

/-- A load of 64 rows of a padded block. -/
theorem readAt_pad64 {e : EltTy} (v : View sig .tc sp S2080x256 e) (f : v.ty.Contents (Elt F)) {off : Fin 2 → ℕ} (k : Fin 32)
    (h : off = ![64 * k.val, 0]) (inb : ∀ a, off a + S64x256.size a ≤ S2080x256.size a) :
    v.readAt (Elt F) (Rect.unit (s := S2080x256) off S64x256.size inb).toLoadRect f = pad64 (v.read (Elt F) f) k := by
  subst h
  funext y
  exact congrArg (v.read (Elt F) f) (funext fun a => Fin.ext (by
    match a with
    | ⟨0, _⟩ => show 64 * k.val + 1 * (y 0).val = _; rw [Nat.one_mul]
    | ⟨1, _⟩ => show 0 + 1 * (y 1).val = (y 1).val; omega))

/-- A load of 96 rows of a padded block. -/
theorem readAt_pad96 {e : EltTy} (v : View sig .tc sp S2080x256 e) (f : v.ty.Contents (Elt F)) {off : Fin 2 → ℕ} (k : Fin 32)
    (h : off = ![64 * k.val, 0]) (inb : ∀ a, off a + S96x256.size a ≤ S2080x256.size a) :
    v.readAt (Elt F) (Rect.unit (s := S2080x256) off S96x256.size inb).toLoadRect f = pad96 (v.read (Elt F) f) k := by
  subst h
  funext y
  exact congrArg (v.read (Elt F) f) (funext fun a => Fin.ext (by
    match a with
    | ⟨0, _⟩ => show 64 * k.val + 1 * (y 0).val = _; rw [Nat.one_mul]
    | ⟨1, _⟩ => show 0 + 1 * (y 1).val = (y 1).val; omega))

/-- A load of row `p` of the filter block. -/
theorem readAt_wrow {e : EltTy} (v : View sig .tc sp S3x256 e) (f : v.ty.Contents (Elt F)) {off : Fin 2 → ℕ} (p : Fin 3)
    (h : off = ![p.val, 0]) (inb : ∀ a, off a + S1x256.size a ≤ S3x256.size a) :
    v.readAt (Elt F) (Rect.unit (s := S3x256) off S1x256.size inb).toLoadRect f = wrow (v.read (Elt F) f) p := by
  subst h
  funext y
  exact congrArg (v.read (Elt F) f) (funext fun a => Fin.ext (by
    match a with
    | ⟨0, _⟩ => show p.val + 1 * (y 0).val = p.val; have : (y 0).val < 1 := (y 0).isLt; omega
    | ⟨1, _⟩ => show 0 + 1 * (y 1).val = (y 1).val; omega))

/-- Rows `8 p … 8 p + 7` of the accumulator buffer. -/
def arows {α : Type} (X : S24x256.Idx → α) (p : Fin 3) : S8x256.Idx → α :=
  fun y => X (ix2 ⟨8 * p.val + (y 0).val, by have : (y 0).val < 8 := (y 0).isLt; have := p.isLt; omega⟩ (y 1))

/-- A load of accumulator `p`. -/
theorem readAt_arows {e : EltTy} (v : View sig .tc sp S24x256 e) (f : v.ty.Contents (Elt F)) {off : Fin 2 → ℕ} (p : Fin 3)
    (h : off = ![8 * p.val, 0]) (inb : ∀ a, off a + S8x256.size a ≤ S24x256.size a) :
    v.readAt (Elt F) (Rect.unit (s := S24x256) off S8x256.size inb).toLoadRect f = arows (v.read (Elt F) f) p := by
  subst h
  funext y
  exact congrArg (v.read (Elt F) f) (funext fun a => Fin.ext (by
    match a with
    | ⟨0, _⟩ => show 8 * p.val + 1 * (y 0).val = _; rw [Nat.one_mul]
    | ⟨1, _⟩ => show 0 + 1 * (y 1).val = (y 1).val; omega))

end Reads

end Cert.ShortBwd

end
-- ==== Proof.Loops.lean ====
module

public import proofs.«01_k».proof.Proof.Forms
public import proofs.«01_k».proof.Proof.Gen.KernelIdeal.Loops
public import proofs.«01_k».proof.Proof.Gen.KernelIdeal.Points
public import Idealize.ShloMosaic.Lib.Tactic
public import Idealize.ShloMosaic.Lib.WritesUnit
public import Idealize.ShloMosaic.Lib.Pipeline.FrameValue

@[expose] public section

noncomputable section

namespace Cert.ShortBwd

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × Counters

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev scQ : Memref sig .tc .vmem S2080x256 .f32 := Memref.whole cc0_scratch0
abbrev scD : Memref sig .tc .vmem S2080x256 .f32 := Memref.whole cc0_scratch1
abbrev scA : Memref sig .tc .vmem S24x256 .f32 := Memref.whole cc0_scratch2
abbrev scT : Memref sig .tc .vmem S3x2048x256 .bf16 := Memref.whole cc0_scratch3
abbrev dzM : Memref sig .tc .hbm S2048x6144 .bf16 := Memref.whole main_v0_0

/-! ## What the loops' stores leave -/

/-- After one trip of the filling loop the first `32 + 64 (k + 1)` rows of the padded `c * u` are in place. -/
theorem fillQ_step (C U : Vec F S2048x256 .bf16) (g : scQ.view.ty.Contents (Elt F)) (k : Fin 32) {off : Fin 2 → ℕ}
    (hoff : off = ![64 * k.val + 32, 0]) (inb : ∀ a, off a + S64x256.size a ≤ S2080x256.size a)
    (w : S64x256.Idx → F .f32) (hw : w = k0_pay16 (rows64 C k) (rows64 U k))
    (hg : ∀ y : S2080x256.Idx, (y 0).val < 32 + 64 * k.val → scQ.view.read (Elt F) g y = padQ C U y) :
    ∀ y : S2080x256.Idx, (y 0).val < 32 + 64 * (k.val + 1) →
      scQ.view.read (Elt F) (scQ.view.writes (Elt F) g [⟨Rect.unit (s := S2080x256) off S64x256.size inb, w⟩]) y = padQ C U y := by
  intro y hy
  rw [View.read_writes_cons_rows (d := S2080x256.size) scQ.view g inb w [] y hoff (W := 64) rfl rfl]
  split
  · rename_i h
    have hk := k.isLt
    rw [padQ, dif_neg (by omega), hw]
    have e : (⟨((y 0).val - 32) / 64, by omega⟩ : Fin 32) = k := Fin.ext (by show ((y 0).val - 32) / 64 = k.val; omega)
    rw [e]
    refine congrArg _ (funext fun a => Fin.ext ?_)
    match a with
    | ⟨0, _⟩ => show (y 0).val - (64 * k.val + 32) = ((y 0).val - 32) % 64; omega
    | ⟨1, _⟩ => show (y 1).val - 0 = (y 1).val; omega
  · rename_i h
    exact hg y (by omega)

/-- After one trip of the filling loop the first `64 (k + 1)` rows of the padded `dy * b` are in place. -/
theorem fillD_step (DY B : Vec F S2048x256 .bf16) (g : scD.view.ty.Contents (Elt F)) (k : Fin 32) {off : Fin 2 → ℕ}
    (hoff : off = ![64 * k.val, 0]) (inb : ∀ a, off a + S64x256.size a ≤ S2080x256.size a)
    (w : S64x256.Idx → F .f32) (hw : w = k0_pay17 (rows64 DY k) (rows64 B k))
    (hg : ∀ y : S2080x256.Idx, ((y 0).val < 64 * k.val ∨ 2048 ≤ (y 0).val) → scD.view.read (Elt F) g y = padD DY B y) :
    ∀ y : S2080x256.Idx, ((y 0).val < 64 * (k.val + 1) ∨ 2048 ≤ (y 0).val) →
      scD.view.read (Elt F) (scD.view.writes (Elt F) g [⟨Rect.unit (s := S2080x256) off S64x256.size inb, w⟩]) y = padD DY B y := by
  intro y hy
  rw [View.read_writes_cons_rows (d := S2080x256.size) scD.view g inb w [] y hoff (W := 64) rfl rfl]
  split
  · rename_i h
    have hk := k.isLt
    rw [padD, dif_pos (by omega), hw]
    have e : (⟨(y 0).val / 64, by omega⟩ : Fin 32) = k := Fin.ext (by show (y 0).val / 64 = k.val; omega)
    rw [e]
    refine congrArg _ (funext fun a => Fin.ext ?_)
    match a with
    | ⟨0, _⟩ => show (y 0).val - 64 * k.val = (y 0).val % 64; omega
    | ⟨1, _⟩ => show (y 1).val - 0 = (y 1).val; omega
  · rename_i h
    exact hg y (by omega)

/-- The zero rows above the padded `c * u`. -/
theorem fillQ_zero (C U : Vec F S2048x256 .bf16) (g : scQ.view.ty.Contents (Elt F))
    (inb : ∀ a, (![0, 0] : Fin 2 → ℕ) a + S32x256.size a ≤ S2080x256.size a) :
    ∀ y : S2080x256.Idx, (y 0).val < 32 + 64 * 0 →
      scQ.view.read (Elt F) (scQ.view.writes (Elt F) g [⟨Rect.unit (s := S2080x256) ![0, 0] S32x256.size inb, k0_pay13⟩]) y = padQ C U y := by
  intro y hy
  rw [View.read_writes_cons_rows_of_mem (d := S2080x256.size) scQ.view g inb _ [] y (ix2 ⟨(y 0).val, by omega⟩ (y 1)) (o := 0) rfl
    (by show (y 0).val = 0 + (y 0).val; omega) rfl, padQ, dif_pos (by omega)]

/-- The zero rows below the padded `dy * b`. -/
theorem fillD_zero (DY B : Vec F S2048x256 .bf16) (g : scD.view.ty.Contents (Elt F))
    (inb : ∀ a, (![2048, 0] : Fin 2 → ℕ) a + S32x256.size a ≤ S2080x256.size a) :
    ∀ y : S2080x256.Idx, ((y 0).val < 64 * 0 ∨ 2048 ≤ (y 0).val) →
      scD.view.read (Elt F) (scD.view.writes (Elt F) g [⟨Rect.unit (s := S2080x256) ![2048, 0] S32x256.size inb, k0_pay14⟩]) y = padD DY B y := by
  intro y hy
  have h2 : (y 0).val < 2080 := (y 0).isLt
  rw [View.read_writes_cons_rows_of_mem (d := S2080x256.size) scD.view g inb _ [] y
    (ix2 ⟨(y 0).val - 2048, by omega⟩ (y 1)) (o := 2048) rfl
    (by show (y 0).val = 2048 + ((y 0).val - 2048); omega) rfl, padD, dif_neg (by omega)]

/-- One chunk's three stores into the accumulators. -/
theorem acc_step (Q D : Vec F S2080x256 .f32) (g : scA.view.ty.Contents (Elt F)) (k : Fin 32)
    (i2 : ∀ a, (![16, 0] : Fin 2 → ℕ) a + S8x256.size a ≤ S24x256.size a)
    (i1 : ∀ a, (![8, 0] : Fin 2 → ℕ) a + S8x256.size a ≤ S24x256.size a)
    (i0 : ∀ a, (![0, 0] : Fin 2 → ℕ) a + S8x256.size a ≤ S24x256.size a)
    (w2 w1 w0 : S8x256.Idx → F .f32)
    (hw2 : w2 = accStep 2 (pad96 Q k) (pad64 D k) (arows (scA.view.read (Elt F) g) 2))
    (hw1 : w1 = accStep 1 (pad96 Q k) (pad64 D k) (arows (scA.view.read (Elt F) g) 1))
    (hw0 : w0 = accStep 0 (pad96 Q k) (pad64 D k) (arows (scA.view.read (Elt F) g) 0))
    (hg : ∀ p : Fin 3, arows (scA.view.read (Elt F) g) p = acc p Q D k.val) :
    ∀ p : Fin 3, arows (scA.view.read (Elt F) (scA.view.writes (Elt F) g
      [⟨Rect.unit (s := S24x256) ![16, 0] S8x256.size i2, w2⟩, ⟨Rect.unit (s := S24x256) ![8, 0] S8x256.size i1, w1⟩,
        ⟨Rect.unit (s := S24x256) ![0, 0] S8x256.size i0, w0⟩])) p = acc p Q D (k.val + 1) := by
  intro p
  rw [acc_succ, ← hg p]
  funext y
  have hy : (y 0).val < 8 := (y 0).isLt
  match p with
  | ⟨0, _⟩ =>
    rw [arows, View.read_writes_cons_rows_of_not_mem (d := S24x256.size) scA.view g i2 w2 _ _ (o := 16) rfl (W := 8) rfl
        (Or.inl (by show 8 * 0 + (y 0).val < 16; omega)),
      View.read_writes_cons_rows_of_not_mem (d := S24x256.size) scA.view g i1 w1 _ _ (o := 8) rfl (W := 8) rfl
        (Or.inl (by show 8 * 0 + (y 0).val < 8; omega)),
      View.read_writes_cons_rows_of_mem (d := S24x256.size) scA.view g i0 w0 _ _ y (o := 0) rfl
        (by show 8 * 0 + (y 0).val = 0 + (y 0).val; omega) rfl, hw0]
    rfl
  | ⟨1, _⟩ =>
    rw [arows, View.read_writes_cons_rows_of_not_mem (d := S24x256.size) scA.view g i2 w2 _ _ (o := 16) rfl (W := 8) rfl
        (Or.inl (by show 8 * 1 + (y 0).val < 16; omega)),
      View.read_writes_cons_rows_of_mem (d := S24x256.size) scA.view g i1 w1 _ _ y (o := 8) rfl
        (by show 8 * 1 + (y 0).val = 8 + (y 0).val; omega) rfl, hw1]
    rfl
  | ⟨2, _⟩ =>
    rw [arows, View.read_writes_cons_rows_of_mem (d := S24x256.size) scA.view g i2 w2 _ _ y (o := 16) rfl
        (by show 8 * 2 + (y 0).val = 16 + (y 0).val; omega) rfl, hw2]
    rfl

/-- The accumulators' starting value. -/
theorem acc_zero (Q D : Vec F S2080x256 .f32) (g : scA.view.ty.Contents (Elt F))
    (inb : ∀ a, (![0, 0] : Fin 2 → ℕ) a + S24x256.size a ≤ S24x256.size a) :
    ∀ p : Fin 3, arows (scA.view.read (Elt F) (scA.view.writes (Elt F) g
      [⟨Rect.unit (s := S24x256) ![0, 0] S24x256.size inb, k0_pay15⟩])) p = acc p Q D 0 := by
  intro p
  funext y
  rw [arows, View.read_writes_cons_rows_of_mem (d := S24x256.size) scA.view g inb _ [] _ _ (o := 0) rfl (Nat.zero_add _).symm rfl]
  rfl

/-- One chunk's three stores into the slabs. -/
theorem tiles_step (C U DY : Vec F S2048x256 .bf16) (W : Vec F S3x256 .f32) (Q D : Vec F S2080x256 .f32)
    (g : scT.view.ty.Contents (Elt F)) (k : Fin 32) {o2 o1 o0 : Fin 3 → ℕ}
    (h2 : o2 = ![2, 64 * k.val, 0]) (h1 : o1 = ![1, 64 * k.val, 0]) (h0 : o0 = ![0, 64 * k.val, 0])
    (i2 : ∀ a, o2 a + S1x64x256.size a ≤ S3x2048x256.size a) (i1 : ∀ a, o1 a + S1x64x256.size a ≤ S3x2048x256.size a)
    (i0 : ∀ a, o0 a + S1x64x256.size a ≤ S3x2048x256.size a)
    (w2 w1 w0 : S1x64x256.Idx → F .bf16)
    (hw2 : w2 = tileChunk 2 C U DY W Q D k) (hw1 : w1 = tileChunk 1 C U DY W Q D k) (hw0 : w0 = tileChunk 0 C U DY W Q D k)
    (hg : ∀ y : S3x2048x256.Idx, (y 1).val < 64 * k.val → scT.view.read (Elt F) g y = tiles C U DY W Q D y) :
    ∀ y : S3x2048x256.Idx, (y 1).val < 64 * (k.val + 1) →
      scT.view.read (Elt F) (scT.view.writes (Elt F) g
        [⟨Rect.unit (s := S3x2048x256) o2 S1x64x256.size i2, w2⟩, ⟨Rect.unit (s := S3x2048x256) o1 S1x64x256.size i1, w1⟩,
          ⟨Rect.unit (s := S3x2048x256) o0 S1x64x256.size i0, w0⟩]) y = tiles C U DY W Q D y := by
  intro y hy
  have hk := k.isLt
  have hy2 : (y 2).val < 256 := (y 2).isLt
  have hy0 : (y 0).val < 3 := (y 0).isLt
  by_cases hlt : (y 1).val < 64 * k.val
  · rw [View.read_writes_cons_unit_of_not_mem scT.view g i2 w2 _ y h2 1 (Or.inl hlt),
      View.read_writes_cons_unit_of_not_mem scT.view g i1 w1 _ y h1 1 (Or.inl hlt),
      View.read_writes_cons_unit_of_not_mem scT.view g i0 w0 _ y h0 1 (Or.inl hlt)]
    exact hg y hlt
  · have e : (⟨(y 1).val / 64, by omega⟩ : Fin 32) = k := Fin.ext (by show (y 1).val / 64 = k.val; omega)
    have key : ∀ (p : Fin 3), (y 0).val = p.val → ∀ (w : S1x64x256.Idx → F .bf16), w = tileChunk p C U DY W Q D k →
        w (ix3 (0 : Fin 1) ⟨(y 1).val - 64 * k.val, by omega⟩ (y 2)) = tiles C U DY W Q D y := by
      intro p hp w hw
      have hp' : (show Fin 3 from y 0) = p := Fin.ext hp
      subst hw
      rw [tiles, e, show y 0 = p from hp']
      refine congrArg _ (funext fun a => Fin.ext ?_)
      match a with
      | ⟨0, _⟩ => rfl
      | ⟨1, _⟩ => show (y 1).val - 64 * k.val = (y 1).val % 64; omega
      | ⟨2, _⟩ => rfl
    have pos : ∀ (p : Fin 3), (y 0).val = p.val → ∀ a : Fin 3, (y a).val = (![p.val, 64 * k.val, 0] : Fin 3 → ℕ) a
        + ((ix3 (0 : Fin 1) (⟨(y 1).val - 64 * k.val, by omega⟩ : Fin 64) (y 2) : S1x64x256.Idx) a).val := by
      intro p hp a
      match a with
      | ⟨0, _⟩ => show (y 0).val = p.val + 0; omega
      | ⟨1, _⟩ => show (y 1).val = 64 * k.val + ((y 1).val - 64 * k.val); omega
      | ⟨2, _⟩ => show (y 2).val = 0 + (y 2).val; omega
    rcases (by omega : (y 0).val = 0 ∨ (y 0).val = 1 ∨ (y 0).val = 2) with hp | hp | hp
    · rw [View.read_writes_cons_unit_of_not_mem scT.view g i2 w2 _ y h2 0 (Or.inl (by show (y 0).val < 2; omega)),
        View.read_writes_cons_unit_of_not_mem scT.view g i1 w1 _ y h1 0 (Or.inl (by show (y 0).val < 1; omega)),
        View.read_writes_cons_unit_of_mem scT.view g i0 w0 _ y _ h0 (pos 0 hp)]
      exact key 0 hp w0 hw0
    · rw [View.read_writes_cons_unit_of_not_mem scT.view g i2 w2 _ y h2 0 (Or.inl (by show (y 0).val < 2; omega)),
        View.read_writes_cons_unit_of_mem scT.view g i1 w1 _ y _ h1 (pos 1 hp)]
      exact key 1 hp w1 hw1
    · rw [View.read_writes_cons_unit_of_mem scT.view g i2 w2 _ y _ h2 (pos 2 hp)]
      exact key 2 hp w2 hw2

/-! ## The loops' invariants -/

section Invariants

variable (c : Dev nD) (M1 M2 M3 M4 : Memref sig .tc .vmem S2048x256 .bf16) (M5 : Memref sig .tc .vmem S3x256 .f32)
  (f1 : Bf (F := F) c M1) (f2 : Bf (F := F) c M2) (f3 : Bf (F := F) c M3) (f4 : Bf (F := F) c M4) (f5 : Bf (F := F) c M5)

/-- Before trip `k` of the filling loop. -/
def fillInv (k : ℕ) : sProp 𝕄 :=
  iprop(pt c M1 f1 ∗ pt c M2 f2 ∗ pt c M3 f3 ∗ pt c M4 f4
    ∗ (∃ g, pt c scQ g ∗ ⌜∀ y : S2080x256.Idx, (y 0).val < 32 + 64 * k →
        scQ.view.read (Elt F) g y = padQ (M2.view.read (Elt F) f2) (M3.view.read (Elt F) f3) y⌝)
    ∗ (∃ g, pt c scD g ∗ ⌜∀ y : S2080x256.Idx, ((y 0).val < 64 * k ∨ 2048 ≤ (y 0).val) →
        scD.view.read (Elt F) g y = padD (M4.view.read (Elt F) f4) (M1.view.read (Elt F) f1) y⌝))

/-- Before trip `k` of the chunk loop. -/
def chunkInv (Q D : Vec F S2080x256 .f32) (k : ℕ) : sProp 𝕄 :=
  iprop(pt c M2 f2 ∗ pt c M3 f3 ∗ pt c M4 f4 ∗ pt c M5 f5
    ∗ (∃ g, pt c scQ g ∗ ⌜scQ.view.read (Elt F) g = Q⌝)
    ∗ (∃ g, pt c scD g ∗ ⌜scD.view.read (Elt F) g = D⌝)
    ∗ (∃ g, pt c scA g ∗ ⌜∀ p : Fin 3, arows (scA.view.read (Elt F) g) p = acc p Q D k⌝)
    ∗ (∃ g, pt c scT g ∗ ⌜∀ y : S3x2048x256.Idx, (y 1).val < 64 * k → scT.view.read (Elt F) g y
        = tiles (M2.view.read (Elt F) f2) (M3.view.read (Elt F) f3) (M4.view.read (Elt F) f4) (M5.view.read (Elt F) f5) Q D y⌝))

variable (i : grid0.Coords) (h1 : M1.IsWhole) (h2 : M2.IsWhole) (h3 : M3.IsWhole) (h4 : M4.IsWhole) (h5 : M5.IsWhole)
  (M7 : Memref sig .tc .vmem S3x256 .f32) (h7 : M7.IsWhole)

/-- One trip of the filling loop. -/
theorem fill_trip (k : Fin k0_t1_loop.trips) (E : Set ℕ) :
    fillInv c M1 M2 M3 M4 f1 f2 f3 f4 k.val
      ⊢ wp frame (wpE (defs₀ (F := F)) Variants.none (c : Thread nD τ) none) E
        (k0_t1_body (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4 k ())
        (fun _ => fillInv c M1 M2 M3 M4 f1 f2 f3 f4 (k.val + 1)) := by
  have hk : k.val < 32 := Nat.lt_of_lt_of_le k.isLt k0_t1_abs.2.1
  unfold k0_t1_body fillInv
  iintro ⟨H1, H2, H3, H4, ⟨%g8, H8, %e8⟩, ⟨%g9, H9, %e9⟩⟩
  sl_exec
  sl_step
  isplitl [H1]; · iexact H1
  isplitl [H2]; · iexact H2
  isplitl [H3]; · iexact H3
  isplitl [H4]; · iexact H4
  isplitl [H8]
  · iexists _; isplitl [H8]; · iexact H8
    ipureintro
    refine fillQ_step _ _ g8 ⟨k.val, hk⟩ (k0_off2_eq k) _ _ ?_ e8
    rw [readAt_rows64 M2.view f2 ⟨k.val, hk⟩ (k0_off1_eq k), readAt_rows64 M3.view f3 ⟨k.val, hk⟩ (k0_off1_eq k)]
  · iexists _; isplitl [H9]; · iexact H9
    ipureintro
    refine fillD_step _ _ g9 ⟨k.val, hk⟩ (k0_off3_eq k) _ _ ?_ e9
    rw [readAt_rows64 M4.view f4 ⟨k.val, hk⟩ (k0_off1_eq k), readAt_rows64 M1.view f1 ⟨k.val, hk⟩ (k0_off1_eq k)]

set_option sl_exec.squeezeSlice true in
/-- One trip of the chunk loop. -/
theorem chunk_trip (Q D : Vec F S2080x256 .f32) (a b d : BitVec 32) (k : Fin k0_t2_loop.trips) (E : Set ℕ) :
    chunkInv c M2 M3 M4 M5 f2 f3 f4 f5 Q D k.val
      ⊢ wp frame (wpE (defs₀ (F := F)) Variants.none (c : Thread nD τ) none) E
        (k0_t2_body (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4 a b d k ())
        (fun _ => chunkInv c M2 M3 M4 M5 f2 f3 f4 f5 Q D (k.val + 1)) := by
  have hk : k.val < 32 := Nat.lt_of_lt_of_le k.isLt k0_t2_abs.2.1
  unfold k0_t2_body chunkInv
  iintro ⟨H2, H3, H4, H5, ⟨%g8, H8, %e8⟩, ⟨%g9, H9, %e9⟩, ⟨%g10, H10, %e10⟩, ⟨%g11, H11, %e11⟩⟩
  sl_exec
  sl_step
  subst e8 e9
  isplitl [H2]; · iexact H2
  isplitl [H3]; · iexact H3
  isplitl [H4]; · iexact H4
  isplitl [H5]; · iexact H5
  isplitl [H8]
  · iexists _; isplitl [H8]; · iexact H8
    ipureintro; rfl
  isplitl [H9]
  · iexists _; isplitl [H9]; · iexact H9
    ipureintro; rfl
  isplitl [H10]
  · iexists _; isplitl [H10]; · iexact H10
    ipureintro
    refine acc_step _ _ g10 ⟨k.val, hk⟩ _ _ _ _ _ _ ?_ ?_ ?_ e10
    · unfold chunk_trip.sl.v87 chunk_trip.sl.r_2
      rw [readAt_pad96 scQ.view g8 ⟨k.val, hk⟩ (k0_off5_eq k), readAt_pad64 scD.view g9 ⟨k.val, hk⟩ (k0_off6_eq k),
        readAt_arows (off := ![16, 0]) scA.view g10 2 rfl]
      rfl
    · unfold chunk_trip.sl.v74
      rw [readAt_pad96 scQ.view g8 ⟨k.val, hk⟩ (k0_off5_eq k), readAt_pad64 scD.view g9 ⟨k.val, hk⟩ (k0_off6_eq k),
        readAt_arows (off := ![8, 0]) scA.view g10 1 rfl]
      rfl
    · rw [readAt_pad96 scQ.view g8 ⟨k.val, hk⟩ (k0_off5_eq k), readAt_pad64 scD.view g9 ⟨k.val, hk⟩ (k0_off6_eq k),
        readAt_arows (off := ![0, 0]) scA.view g10 0 rfl]
      rfl
  · iexists _; isplitl [H11]; · iexact H11
    ipureintro
    refine tiles_step _ _ _ _ _ _ g11 ⟨k.val, hk⟩ (k0_off10_eq k) (k0_off9_eq k) (k0_off8_eq k) _ _ _ _ _ _ ?_ ?_ ?_ e11
    · unfold chunk_trip.sl.r_3
      rw [readAt_pad96 scD.view g9 ⟨k.val, hk⟩ (k0_off5_eq k), readAt_rows64 M2.view f2 ⟨k.val, hk⟩ (k0_off7_eq k),
        readAt_wrow (off := ![2, 0]) M5.view f5 2 rfl, readAt_wrow (off := ![1, 0]) M5.view f5 1 rfl, readAt_wrow (off := ![0, 0]) M5.view f5 0 rfl]
      rfl
    · unfold chunk_trip.sl.r_3
      rw [readAt_pad96 scD.view g9 ⟨k.val, hk⟩ (k0_off5_eq k), readAt_rows64 M3.view f3 ⟨k.val, hk⟩ (k0_off7_eq k),
        readAt_wrow (off := ![2, 0]) M5.view f5 2 rfl, readAt_wrow (off := ![1, 0]) M5.view f5 1 rfl, readAt_wrow (off := ![0, 0]) M5.view f5 0 rfl]
      rfl
    · unfold chunk_trip.sl.r chunk_trip.sl.r_1
      rw [readAt_pad96 scQ.view g8 ⟨k.val, hk⟩ (k0_off5_eq k), readAt_rows64 M4.view f4 ⟨k.val, hk⟩ (k0_off7_eq k),
        readAt_wrow (off := ![2, 0]) M5.view f5 2 rfl, readAt_wrow (off := ![1, 0]) M5.view f5 1 rfl, readAt_wrow (off := ![0, 0]) M5.view f5 0 rfl]
      rfl

end Invariants

end Cert.ShortBwd

end
-- ==== Proof.Windows.lean ====
module

public import proofs.«01_k».proof.Proof.Loops

@[expose] public section

/-!
# The result array in column blocks, the slab buffer in slabs

Each grid point copies the three slabs out to three blocks of 256 columns of the result array: slab `p` of point `j` to
the columns `2048 p + 256 j …`. Here the array is taken apart into these three blocks and the rest, the slab buffer into
its three slabs, and both are put together again.
-/

noncomputable section

namespace Cert.ShortBwd

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The block of the result that slab 0 of point `i` goes to; -/
abbrev win0 (i : grid0.Coords) : Memref sig .tc .hbm S2048x256 .bf16 :=
  dzM.slice (Rect.unit (s := S2048x6144) (k0_off11 i 0#32) S2048x256.size (k0_off11_inb i 0)) (fun _ => rfl)
/-- slab 1; -/
abbrev win1 (i : grid0.Coords) : Memref sig .tc .hbm S2048x256 .bf16 :=
  dzM.slice (Rect.unit (s := S2048x6144) (k0_off11 i 8#32) S2048x256.size (k0_off11_inb i 1)) (fun _ => rfl)
/-- slab 2. -/
abbrev win2 (i : grid0.Coords) : Memref sig .tc .hbm S2048x256 .bf16 :=
  dzM.slice (Rect.unit (s := S2048x6144) (k0_off11 i 16#32) S2048x256.size (k0_off11_inb i 2)) (fun _ => rfl)

/-- Slab 0 of the slab buffer; -/
abbrev slab0 : Memref sig .tc .vmem S2048x256 .bf16 :=
  (scT.slice (Rect.unit (s := S3x2048x256) ![0, 0, 0] S1x2048x256.size inb_S3x2048x256_S1x2048x256_0_0_0) (fun _ => rfl)).squeeze S2048x256 squeezes_S1x2048x256_S2048x256
/-- slab 1; -/
abbrev slab1 : Memref sig .tc .vmem S2048x256 .bf16 :=
  (scT.slice (Rect.unit (s := S3x2048x256) ![1, 0, 0] S1x2048x256.size inb_S3x2048x256_S1x2048x256_1_0_0) (fun _ => rfl)).squeeze S2048x256 squeezes_S1x2048x256_S2048x256
/-- slab 2. -/
abbrev slab2 : Memref sig .tc .vmem S2048x256 .bf16 :=
  (scT.slice (Rect.unit (s := S3x2048x256) ![2, 0, 0] S1x2048x256.size inb_S3x2048x256_S1x2048x256_2_0_0) (fun _ => rfl)).squeeze S2048x256 squeezes_S1x2048x256_S2048x256

/-- The three cells the copies signal. -/
abbrev osem : Fin 3 → SemLoc sig := fun | 0 => .dma 12 | 1 => .dma 13 | 2 => .dma 14

/-- The three cells at zero. -/
abbrev sems0 (c : Dev nD) : sProp 𝕄 :=
  iprop(semVal ((c : Thread nD τ), osem 0) 0 ∗ semVal ((c : Thread nD τ), osem 1) 0 ∗ semVal ((c : Thread nD τ), osem 2) 0)

theorem mem_win {i : grid0.Coords} (x : S2048x6144.Idx) (p : Fin 3) {off : Fin 2 → ℕ}
    (h : off = ![0, 2048 * p.val + 256 * (i 0).val]) (inb : ∀ a, off a + S2048x256.size a ≤ S2048x6144.size a) :
    x ∈ ((dzM.slice (Rect.unit (s := S2048x6144) off S2048x256.size inb) (fun _ => rfl)).view.set : Finset S2048x6144.Idx)
      ↔ (x 1).val / 256 = 8 * p.val + (i 0).val := by
  have hx : (x 0).val < 2048 := (x 0).isLt
  subst h
  refine ((Eq.to_iff (congrArg (x ∈ ·) (View.set_slice_whole main_v0_0 _))).trans Rect.mem_set_unit).trans ?_
  rw [Fin.forall_fin_two]
  constructor
  · rintro ⟨-, h1, h2⟩
    have h1 : 2048 * p.val + 256 * (i 0).val ≤ (x 1).val := h1
    have h2 : (x 1).val < 2048 * p.val + 256 * (i 0).val + 256 := h2
    omega
  · intro h
    refine ⟨⟨Nat.zero_le _, by show (x 0).val < 0 + 2048; omega⟩, ?_, ?_⟩
    · show 2048 * p.val + 256 * (i 0).val ≤ (x 1).val; omega
    · show (x 1).val < 2048 * p.val + 256 * (i 0).val + 256; omega

theorem mem_slab (x : S3x2048x256.Idx) (p : Fin 3) (inb : ∀ a, (![p.val, 0, 0] : Fin 3 → ℕ) a + S1x2048x256.size a ≤ S3x2048x256.size a) :
    x ∈ (((scT.slice (Rect.unit (s := S3x2048x256) ![p.val, 0, 0] S1x2048x256.size inb) (fun _ => rfl)).squeeze S2048x256
      squeezes_S1x2048x256_S2048x256).view.set : Finset S3x2048x256.Idx) ↔ (x 0).val = p.val := by
  have h1 : (x 1).val < 2048 := (x 1).isLt
  have h2 : (x 2).val < 256 := (x 2).isLt
  rw [Memref.set_view_squeeze]
  refine ((Eq.to_iff (congrArg (x ∈ ·) (View.set_slice_whole cc0_scratch3 _))).trans Rect.mem_set_unit).trans ?_
  constructor
  · intro h
    have ha : p.val ≤ (x 0).val := (h 0).1
    have hb : (x 0).val < p.val + 1 := (h 0).2
    omega
  · intro h a
    match a with
    | ⟨0, _⟩ => exact ⟨by show p.val ≤ (x 0).val; omega, by show (x 0).val < p.val + 1; omega⟩
    | ⟨1, _⟩ => exact ⟨Nat.zero_le _, by show (x 1).val < 0 + 2048; omega⟩
    | ⟨2, _⟩ => exact ⟨Nat.zero_le _, by show (x 2).val < 0 + 256; omega⟩

variable (i : grid0.Coords)

/-- The elements of the result that point `i`'s copies do not reach. -/
abbrev offWins : Finset S2048x6144.Idx :=
  ((Finset.univ \ ((win0 i).view.set : Finset S2048x6144.Idx)) \ ((win1 i).view.set : Finset S2048x6144.Idx)) \ ((win2 i).view.set : Finset S2048x6144.Idx)

theorem mem_win0 (x : S2048x6144.Idx) : x ∈ ((win0 i).view.set : Finset S2048x6144.Idx) ↔ (x 1).val / 256 = (i 0).val :=
  (mem_win (i := i) x 0 (k0_off11_eq i 0) _).trans (by show _ = 8 * 0 + _ ↔ _; rw [Nat.mul_zero, Nat.zero_add])
theorem mem_win1 (x : S2048x6144.Idx) : x ∈ ((win1 i).view.set : Finset S2048x6144.Idx) ↔ (x 1).val / 256 = 8 + (i 0).val :=
  mem_win (i := i) x 1 (k0_off11_eq i 1) _
theorem mem_win2 (x : S2048x6144.Idx) : x ∈ ((win2 i).view.set : Finset S2048x6144.Idx) ↔ (x 1).val / 256 = 16 + (i 0).val :=
  mem_win (i := i) x 2 (k0_off11_eq i 2) _

theorem mem_slab0 (x : S3x2048x256.Idx) : x ∈ (slab0.view.set : Finset S3x2048x256.Idx) ↔ (x 0).val = 0 := mem_slab x 0 _
theorem mem_slab1 (x : S3x2048x256.Idx) : x ∈ (slab1.view.set : Finset S3x2048x256.Idx) ↔ (x 0).val = 1 := mem_slab x 1 _
theorem mem_slab2 (x : S3x2048x256.Idx) : x ∈ (slab2.view.set : Finset S3x2048x256.Idx) ↔ (x 0).val = 2 := mem_slab x 2 _

theorem win1_sub : ((win1 i).view.set : Finset S2048x6144.Idx) ⊆ Finset.univ \ ((win0 i).view.set : Finset S2048x6144.Idx) := fun x hx => by
  have hi : (i 0).val < 8 := (i 0).isLt
  rw [mem_win1] at hx
  rw [Finset.mem_sdiff, mem_win0]
  exact ⟨Finset.mem_univ _, by omega⟩

theorem win2_sub : ((win2 i).view.set : Finset S2048x6144.Idx)
    ⊆ (Finset.univ \ ((win0 i).view.set : Finset S2048x6144.Idx)) \ ((win1 i).view.set : Finset S2048x6144.Idx) := fun x hx => by
  have hi : (i 0).val < 8 := (i 0).isLt
  rw [mem_win2] at hx
  rw [Finset.mem_sdiff, Finset.mem_sdiff, mem_win0, mem_win1]
  exact ⟨⟨Finset.mem_univ _, by omega⟩, by omega⟩

theorem slab1_sub : (slab1.view.set : Finset S3x2048x256.Idx) ⊆ Finset.univ \ (slab0.view.set : Finset S3x2048x256.Idx) := fun x hx => by
  rw [mem_slab1] at hx
  rw [Finset.mem_sdiff, mem_slab0]
  exact ⟨Finset.mem_univ _, by omega⟩

theorem slab2_eq : (Finset.univ \ (slab0.view.set : Finset S3x2048x256.Idx)) \ (slab1.view.set : Finset S3x2048x256.Idx)
    = (slab2.view.set : Finset S3x2048x256.Idx) := by
  ext x
  have hx : (x 0).val < 3 := (x 0).isLt
  rw [mem_slab2, Finset.mem_sdiff, Finset.mem_sdiff, mem_slab0, mem_slab1]
  constructor
  · rintro ⟨⟨-, h0⟩, h1⟩; omega
  · intro h; exact ⟨⟨Finset.mem_univ _, by omega⟩, by omega⟩

variable (c : Dev nD)

/-- The result taken apart into point `i`'s three blocks and the rest. -/
theorem dz_split (G : Bf (F := F) c dzM) :
    (pt c dzM G : sProp 𝕄) ⊣⊢ iprop(((win0 i).view.loc (c : Thread nD τ) ↦[(win0 i).view.set]{fullShare} G)
      ∗ ((win1 i).view.loc (c : Thread nD τ) ↦[(win1 i).view.set]{fullShare} G)
      ∗ ((win2 i).view.loc (c : Thread nD τ) ↦[(win2 i).view.set]{fullShare} G)
      ∗ (dzM.view.loc (c : Thread nD τ) ↦[offWins i]{fullShare} G)) :=
  (pointsTo_split_subset (Finset.subset_univ _)).trans
    (sep_congr .rfl ((pointsTo_split_subset (win1_sub i)).trans (sep_congr .rfl (pointsTo_split_subset (win2_sub i)))))

/-- The slab buffer taken apart into its slabs. -/
theorem slabs_split (g : Bf (F := F) c scT) :
    (pt c scT g : sProp 𝕄) ⊣⊢ iprop((slab0.view.loc (c : Thread nD τ) ↦[slab0.view.set]{fullShare} g)
      ∗ (slab1.view.loc (c : Thread nD τ) ↦[slab1.view.set]{fullShare} g)
      ∗ (slab2.view.loc (c : Thread nD τ) ↦[slab2.view.set]{fullShare} g)) :=
  (pointsTo_split_subset (Finset.subset_univ _)).trans
    (sep_congr .rfl ((pointsTo_split_subset slab1_sub).trans (sep_congr .rfl (by rw [slab2_eq]))))

/-- The slabs put together again. -/
theorem slabs_join (s0 s1 s2 : Bf (F := F) c scT) :
    iprop((slab0.view.loc (c : Thread nD τ) ↦[slab0.view.set]{fullShare} s0)
      ∗ (slab1.view.loc (c : Thread nD τ) ↦[slab1.view.set]{fullShare} s1)
      ∗ (slab2.view.loc (c : Thread nD τ) ↦[slab2.view.set]{fullShare} s2)) ⊢ iprop(∃ g, (pt c scT g : sProp 𝕄)) := by
  have e : (slab2.view.loc (c : Thread nD τ) ↦[slab2.view.set]{fullShare} s2 : sProp 𝕄)
      = (slab1.view.loc (c : Thread nD τ) ↦[(Finset.univ \ (slab0.view.set : Finset S3x2048x256.Idx)) \ (slab1.view.set : Finset S3x2048x256.Idx)]{fullShare} s2) := by
    rw [slab2_eq]
  rw [e]
  refine (sep_mono .rfl (pointsTo_join_subset slab1_sub)).trans ?_
  refine (pointsTo_join_subset (Finset.subset_univ _)).trans ?_
  iintro H
  iexists _
  iexact H

end Cert.ShortBwd

end
-- ==== Proof.Body.lean ====
module

public import proofs.«01_k».proof.Proof.Windows
public import Idealize.ShloMosaic.Lib.Pipeline.Value

@[expose] public section

noncomputable section

namespace Cert.ShortBwd

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- The copies of point `i` under way: each holds its block of the result, to be found at `H`, and its slab; the rest of
the result is at `H`. -/
def inflight (i : grid0.Coords) (H : Bf (F := F) c dzM) : sProp 𝕄 :=
  iprop((∃ f, Transfers.Flight (countersEmb (U := UU)) (c : Thread nD τ) (osem 0) () ((win0 i).view.amount (osem 0))
        iprop(((win0 i).view.loc (c : Thread nD τ) ↦[(win0 i).view.set]{fullShare} H) ∗ (slab0.view.loc (c : Thread nD τ) ↦[slab0.view.set]{fullShare} f)))
    ∗ (∃ f, Transfers.Flight (countersEmb (U := UU)) (c : Thread nD τ) (osem 1) () ((win1 i).view.amount (osem 1))
        iprop(((win1 i).view.loc (c : Thread nD τ) ↦[(win1 i).view.set]{fullShare} H) ∗ (slab1.view.loc (c : Thread nD τ) ↦[slab1.view.set]{fullShare} f)))
    ∗ (∃ f, Transfers.Flight (countersEmb (U := UU)) (c : Thread nD τ) (osem 2) () ((win2 i).view.amount (osem 2))
        iprop(((win2 i).view.loc (c : Thread nD τ) ↦[(win2 i).view.set]{fullShare} H) ∗ (slab2.view.loc (c : Thread nD τ) ↦[slab2.view.set]{fullShare} f)))
    ∗ (dzM.view.loc (c : Thread nD τ) ↦[offWins i]{fullShare} H))

variable (M1 M2 M3 M4 : Memref sig .tc .vmem S2048x256 .bf16) (M5 M7 : Memref sig .tc .vmem S3x256 .f32)
  (f1 : Bf (F := F) c M1) (f2 : Bf (F := F) c M2) (f3 : Bf (F := F) c M3) (f4 : Bf (F := F) c M4) (f5 : Bf (F := F) c M5)

/-- The staged blocks, the last at something. -/
def staged : sProp 𝕄 :=
  iprop(pt c M1 f1 ∗ pt c M2 f2 ∗ pt c M3 f3 ∗ pt c M4 f4 ∗ pt c M5 f5 ∗ (∃ f, pt c M7 f))

/-- Between the two halves of the body: the padded products and the accumulators' start are in place, no copy is under
way. -/
def mid (G : Bf (F := F) c dzM) : sProp 𝕄 :=
  iprop(staged c M1 M2 M3 M4 M5 M7 f1 f2 f3 f4 f5
    ∗ (∃ g, pt c scQ g ∗ ⌜scQ.view.read (Elt F) g = padQ (M2.view.read (Elt F) f2) (M3.view.read (Elt F) f3)⌝)
    ∗ (∃ g, pt c scD g ∗ ⌜scD.view.read (Elt F) g = padD (M4.view.read (Elt F) f4) (M1.view.read (Elt F) f1)⌝)
    ∗ (∃ g, pt c scA g ∗ ⌜∀ p : Fin 3, arows (scA.view.read (Elt F) g) p = acc p (padQ (M2.view.read (Elt F) f2) (M3.view.read (Elt F) f3))
        (padD (M4.view.read (Elt F) f4) (M1.view.read (Elt F) f1)) 0⌝)
    ∗ (∃ g, pt c scT g) ∗ pt c dzM G ∗ sems0 c ∗ (∃ W, owes (c : Thread nD τ) (0 : CellTallies nD τ sig Unit) W))

variable (i : grid0.Coords) (h1 : M1.IsWhole) (h2 : M2.IsWhole) (h3 : M3.IsWhole) (h4 : M4.IsWhole) (h5 : M5.IsWhole) (h7 : M7.IsWhole)

theorem fill_doneQ (C U : Vec F S2048x256 .bf16) (q : S2080x256.Idx → F .f32)
    (e : ∀ y : S2080x256.Idx, (y 0).val < 32 + 64 * k0_t1_loop.trips → q y = padQ C U y) : q = padQ C U :=
  funext fun y => e y (by have h : (y 0).val < 2080 := (y 0).isLt; have : k0_t1_loop.trips = 32 := by decide
                          omega)

theorem fill_doneD (DY B : Vec F S2048x256 .bf16) (q : S2080x256.Idx → F .f32)
    (e : ∀ y : S2080x256.Idx, ((y 0).val < 64 * k0_t1_loop.trips ∨ 2048 ≤ (y 0).val) → q y = padD DY B y) : q = padD DY B :=
  funext fun y => e y (by have : k0_t1_loop.trips = 32 := by decide
                          omega)

/-- The first half of the body at the first point: no copy is under way. -/
theorem first_half (hc : ¬ k0_cond1 i = 1#1) (G : Bf (F := F) c dzM) :
    iprop(staged c M1 M2 M3 M4 M5 M7 f1 f2 f3 f4 f5 ∗ (∃ g, pt c scQ g) ∗ (∃ g, pt c scD g) ∗ (∃ g, pt c scA g) ∗ (∃ g, pt c scT g) ∗ pt c dzM G ∗ sems0 c
       ∗ (∃ W, owes (c : Thread nD τ) (0 : CellTallies nD τ sig Unit) W))
      ⊢ wp frame (wpE (defs₀ (F := F)) Variants.none (c : Thread nD τ) none) Set.univ
        (k0_part3 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4)
        (fun _ => mid c M1 M2 M3 M4 M5 M7 f1 f2 f3 f4 f5 G) := by
  rw [k0_part3_eq_skeleton]
  unfold k0_part3_skel staged
  iintro ⟨⟨H1, H2, H3, H4, H5, H7⟩, ⟨%g8, H8⟩, ⟨%g9, H9⟩, ⟨%g10, H10⟩, ⟨%g11, H11⟩, H6, ⟨Hs0, Hs1, Hs2⟩, ⟨%W, HO⟩⟩
  sl_exec
  sl_for (fun k _ => fillInv c M1 M2 M3 M4 f1 f2 f3 f4 k) $$ [H1 H2 H3 H4 H8 H9]
  case region => intro k acc; exact fill_trip (F := F) c M1 M2 M3 M4 M5 f1 f2 f3 f4 i h1 h2 h3 h4 h5 M7 h7 k _
  · unfold fillInv
    isplitl [H1]; · iexact H1
    isplitl [H2]; · iexact H2
    isplitl [H3]; · iexact H3
    isplitl [H4]; · iexact H4
    isplitl [H8]
    · iexists _; isplitl [H8]; · iexact H8
      ipureintro; exact fillQ_zero _ _ g8 _
    · iexists _; isplitl [H9]; · iexact H9
      ipureintro; exact fillD_zero _ _ g9 _
  iintro %acc HI
  unfold fillInv
  icases HI with ⟨H1, H2, H3, H4, ⟨%q, H8, %e8⟩, ⟨%d, H9, %e9⟩⟩
  sl_exec
  sl_step
  unfold mid staged
  isplitl [H1 H2 H3 H4 H5 H7]
  · isplitl [H1]; · iexact H1
    isplitl [H2]; · iexact H2
    isplitl [H3]; · iexact H3
    isplitl [H4]; · iexact H4
    isplitl [H5]; · iexact H5
    iexact H7
  isplitl [H8]
  · iexists _; isplitl [H8]; · iexact H8
    ipureintro; exact fill_doneQ _ _ _ e8
  isplitl [H9]
  · iexists _; isplitl [H9]; · iexact H9
    ipureintro; exact fill_doneD _ _ _ e9
  isplitl [H10]
  · iexists _; isplitl [H10]; · iexact H10
    ipureintro; unfold first_half.sl.H10_1; exact acc_zero _ _ _ _
  isplitl [H11]; · iexists _; iexact H11
  isplitl [H6]; · iexact H6
  isplitl [Hs0 Hs1 Hs2]
  · isplitl [Hs0]; · iexact Hs0
    isplitl [Hs1]; · iexact Hs1
    iexact Hs2
  iexists _; iexact HO
/-- The first half of the body at a later point: the copies of the point before are waited for. -/
theorem first_half_wait (j : grid0.Coords) (hc : k0_cond1 i = 1#1) (G : Bf (F := F) c dzM) :
    iprop(staged c M1 M2 M3 M4 M5 M7 f1 f2 f3 f4 f5 ∗ (∃ g, pt c scQ g) ∗ (∃ g, pt c scD g) ∗ (∃ g, pt c scA g) ∗ inflight c j G
       ∗ (∃ W, owes (c : Thread nD τ) (0 : CellTallies nD τ sig Unit) W))
      ⊢ wp frame (wpE (defs₀ (F := F)) Variants.none (c : Thread nD τ) none) Set.univ
        (k0_part3 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4)
        (fun _ => mid c M1 M2 M3 M4 M5 M7 f1 f2 f3 f4 f5 G) := by
  rw [k0_part3_eq_skeleton]
  unfold k0_part3_skel staged inflight
  iintro ⟨⟨H1, H2, H3, H4, H5, H7⟩, ⟨%g8, H8⟩, ⟨%g9, H9⟩, ⟨%g10, H10⟩, ⟨⟨%s0, Hs0⟩, ⟨%s1, Hs1⟩, ⟨%s2, Hs2⟩, H6⟩, ⟨%W, HO⟩⟩
  sl_exec
  sl_for (fun k _ => fillInv c M1 M2 M3 M4 f1 f2 f3 f4 k) $$ [H1 H2 H3 H4 H8 H9]
  case region => intro k acc; exact fill_trip (F := F) c M1 M2 M3 M4 M5 f1 f2 f3 f4 i h1 h2 h3 h4 h5 M7 h7 k _
  · unfold fillInv
    isplitl [H1]; · iexact H1
    isplitl [H2]; · iexact H2
    isplitl [H3]; · iexact H3
    isplitl [H4]; · iexact H4
    isplitl [H8]
    · iexists _; isplitl [H8]; · iexact H8
      ipureintro; exact fillQ_zero _ _ g8 _
    · iexists _; isplitl [H9]; · iexact H9
      ipureintro; exact fillD_zero _ _ g9 _
  iintro %acc HI
  unfold fillInv
  icases HI with ⟨H1, H2, H3, H4, ⟨%q, H8, %e8⟩, ⟨%d, H9, %e9⟩⟩
  sl_exec
  sl_step
  unfold mid staged
  ihave HT := (slabs_join c s0 s1 s2) $$ [Hs0_src Hs1_src Hs2_src]
  · isplitl [Hs0_src]; · iexact Hs0_src
    isplitl [Hs1_src]; · iexact Hs1_src
    iexact Hs2_src
  icases HT with ⟨%g11, H11⟩
  ihave H6 := (dz_split j c G).2 $$ [Hs0_dst Hs1_dst Hs2_dst H6]
  · isplitl [Hs0_dst]; · iexact Hs0_dst
    isplitl [Hs1_dst]; · iexact Hs1_dst
    isplitl [Hs2_dst]; · iexact Hs2_dst
    iexact H6
  isplitl [H1 H2 H3 H4 H5 H7]
  · isplitl [H1]; · iexact H1
    isplitl [H2]; · iexact H2
    isplitl [H3]; · iexact H3
    isplitl [H4]; · iexact H4
    isplitl [H5]; · iexact H5
    iexact H7
  isplitl [H8]
  · iexists _; isplitl [H8]; · iexact H8
    ipureintro; exact fill_doneQ _ _ _ e8
  isplitl [H9]
  · iexists _; isplitl [H9]; · iexact H9
    ipureintro; exact fill_doneD _ _ _ e9
  isplitl [H10]
  · iexists _; isplitl [H10]; · iexact H10
    ipureintro; unfold first_half_wait.sl.H10_1; exact acc_zero _ _ _ _
  isplitl [H11]; · iexists _; iexact H11
  isplitl [H6]; · iexact H6
  isplitl [Hs0 Hs1 Hs2]
  · isplitl [Hs0]; · iexact Hs0
    isplitl [Hs1]; · iexact Hs1
    iexact Hs2
  iexists _; iexact HO

/-- The part of the body's end that is the same whether the copies are waited for or not: `X` is what the copies leave. -/
def late (n : ℕ) (X : sProp 𝕄) : sProp 𝕄 :=
  iprop((pt c M1 f1 ∗ pt c M2 f2 ∗ pt c M3 f3 ∗ pt c M4 f4 ∗ pt c M5 f5
      ∗ (∃ f, pt c M7 f ∗ ⌜∀ y : S3x256.Idx, (y 0).val < n → M7.view.read (Elt F) f y
          = dwBlock (padQ (M2.view.read (Elt F) f2) (M3.view.read (Elt F) f3)) (padD (M4.view.read (Elt F) f4) (M1.view.read (Elt F) f1)) y⌝))
    ∗ (∃ g, pt c scQ g) ∗ (∃ g, pt c scD g)
    ∗ (∃ g, pt c scA g ∗ ⌜∀ p : Fin 3, arows (scA.view.read (Elt F) g) p = acc p (padQ (M2.view.read (Elt F) f2) (M3.view.read (Elt F) f3))
        (padD (M4.view.read (Elt F) f4) (M1.view.read (Elt F) f1)) 32⌝)
    ∗ X ∗ (∃ W, owes (c : Thread nD τ) (0 : CellTallies nD τ sig Unit) W))

/-- The result after point `i`'s copies of the slabs `T` into `G`. -/
def upd (i : grid0.Coords) (G : S2048x6144.Idx → Elt F .bf16) (T : S3x2048x256.Idx → Elt F .bf16) : S2048x6144.Idx → Elt F .bf16 := fun x =>
  if (x 1).val / 256 % 8 = (i 0).val then
    T (ix3 ⟨(x 1).val / 256 / 8, by have : (x 1).val < 6144 := (x 1).isLt; omega⟩ (x 0) ⟨(x 1).val % 256, Nat.mod_lt _ (by decide)⟩)
  else G x

/-- Under a view that a whole write went through, each element is what was written at its place. -/
theorem landed {sp : Space} {s : Shape} {e : EltTy} (v : View sig .tc sp s e) (f : v.ty.Contents (Elt F)) (w : s.Idx → Elt F e) {x : v.ty.Idx}
    (hx : x ∈ v.set) : ∃ y, v.emb y = x ∧ HEq (v.writes (Elt F) f [⟨Rect.whole s, w⟩] x) (w y) := by
  obtain ⟨y, -, e⟩ := Finset.mem_map.mp hx
  refine ⟨y, e, ?_⟩
  have h := congrFun (View.read_writes_whole v f w) y
  unfold View.read at h
  rw [← e]
  exact (cast_heq _ _).symm.trans (heq_of_eq h)

/-- Where the elements of a block of columns lie. -/
theorem win_emb {off : Fin 2 → ℕ} (inb : ∀ a, off a + S2048x256.size a ≤ S2048x6144.size a) (y : S2048x256.Idx) (a : Fin 2) :
    (((dzM.slice (Rect.unit (s := S2048x6144) off S2048x256.size inb) (fun _ => rfl)).view.emb y : S2048x6144.Idx) a).val
      = off a + 1 * (y a).val := rfl

theorem upd_at (p : Fin 3) (G : S2048x6144.Idx → Elt F .bf16) (T : S3x2048x256.Idx → Elt F .bf16) (x : S2048x6144.Idx) (y : S2048x256.Idx)
    (h0 : (x 0).val = (y 0).val) (h1 : (x 1).val = 2048 * p.val + 256 * (i 0).val + (y 1).val) : upd i G T x = T (ix3 p (y 0) (y 1)) := by
  have hy : (y 1).val < 256 := (y 1).isLt
  have hi : (i 0).val < 8 := (i 0).isLt
  rw [upd, if_pos (by omega)]
  refine congrArg T (funext fun a => Fin.ext ?_)
  match a with
  | ⟨0, _⟩ => show (x 1).val / 256 / 8 = p.val; omega
  | ⟨1, _⟩ => exact h0
  | ⟨2, _⟩ => show (x 1).val % 256 = (y 1).val; omega

/-- What a landed copy leaves in its block. -/
theorem land (p : Fin 3) {off : Fin 2 → ℕ} (h : off = ![0, 2048 * p.val + 256 * (i 0).val])
    (inb : ∀ a, off a + S2048x256.size a ≤ S2048x6144.size a) (G : S2048x6144.Idx → Elt F .bf16) (T : S3x2048x256.Idx → Elt F .bf16)
    (w : S2048x256.Idx → Elt F .bf16) (hw : ∀ y, w y = T (ix3 p (y 0) (y 1))) :
    ∀ x ∈ ((dzM.slice (Rect.unit (s := S2048x6144) off S2048x256.size inb) (fun _ => rfl)).view.set : Finset S2048x6144.Idx),
      (dzM.slice (Rect.unit (s := S2048x6144) off S2048x256.size inb) (fun _ => rfl)).view.writes (Elt F) G [⟨Rect.whole S2048x256, w⟩] x = upd i G T x := by
  intro x hx
  obtain ⟨y, hx, e⟩ := landed (dzM.slice (Rect.unit (s := S2048x6144) off S2048x256.size inb) (fun _ => rfl)).view G w hx
  have h0 := win_emb inb y 0
  have h1 := win_emb inb y 1
  have o0 : off 0 = 0 := congrFun h 0
  have o1 : off 1 = 2048 * p.val + 256 * (i 0).val := congrFun h 1
  rw [hx] at h0 h1
  have h0 : (x 0).val = (y 0).val := h0.trans (by rw [o0, Nat.zero_add, Nat.one_mul])
  have h1 : (x 1).val = 2048 * p.val + 256 * (i 0).val + (y 1).val := h1.trans (by rw [o1, Nat.one_mul])
  exact (eq_of_heq e).trans ((hw y).trans (upd_at i p G T x y h0 h1).symm)

theorem shapeCasts_S1x2048x256_S2048x256 : S1x2048x256.ShapeCasts S2048x256 := by decide

/-- What slab `p` reads. -/
theorem slab_read (p : Fin 3) (inb : ∀ a, (![p.val, 0, 0] : Fin 3 → ℕ) a + S1x2048x256.size a ≤ S3x2048x256.size a)
    (t : S3x2048x256.Idx → Elt F .bf16) (y : S2048x256.Idx) :
    ((scT.slice (Rect.unit (s := S3x2048x256) ![p.val, 0, 0] S1x2048x256.size inb) (fun _ => rfl)).squeeze S2048x256
      squeezes_S1x2048x256_S2048x256).view.read (Elt F) t y = t (ix3 p (y 0) (y 1)) := by
  refine (shapeCast_dropUnit_apply ![2048, 256] (scT.view.readAt (Elt F) (Rect.unit (s := S3x2048x256) ![p.val, 0, 0] S1x2048x256.size inb).toLoadRect t)
    shapeCasts_S1x2048x256_S2048x256 y).trans (congrArg t (funext fun a => Fin.ext ?_))
  match a with
  | ⟨0, _⟩ => rfl
  | ⟨1, _⟩ => show 0 + 1 * (y 0).val = (y 0).val; omega
  | ⟨2, _⟩ => show 0 + 1 * (y 1).val = (y 1).val; omega

/-- Off its blocks the result is untouched. -/
theorem upd_off (G : S2048x6144.Idx → Elt F .bf16) (T : S3x2048x256.Idx → Elt F .bf16) : ∀ x ∈ offWins i, G x = upd i G T x := by
  intro x hx
  have hi : (i 0).val < 8 := (i 0).isLt
  have h6 : (x 1).val < 6144 := (x 1).isLt
  rw [Finset.mem_sdiff, Finset.mem_sdiff, Finset.mem_sdiff, mem_win0, mem_win1, mem_win2] at hx
  rw [upd, if_neg (by omega)]

theorem chunks_done (C U DY : Vec F S2048x256 .bf16) (W : Vec F S3x256 .f32) (Q D : Vec F S2080x256 .f32) (t : S3x2048x256.Idx → F .bf16)
    (e : ∀ y : S3x2048x256.Idx, (y 1).val < 64 * k0_t2_loop.trips → t y = tiles C U DY W Q D y) (y : S3x2048x256.Idx) :
    t y = tiles C U DY W Q D y :=
  e y (by have h : (y 1).val < 2048 := (y 1).isLt; have : k0_t2_loop.trips = 32 := by decide
          omega)

theorem acc_done {P : ℕ → Prop} (h : P k0_t2_loop.trips) : P 32 := by
  rw [show (32 : ℕ) = k0_t2_loop.trips from by decide]; exact h

/-- The first row of the filter's gradient. -/
theorem dw_row0 (Q D : Vec F S2080x256 .f32) (g : Bf (F := F) c scA) (f : Bf (F := F) c M7)
    (e : ∀ p : Fin 3, arows (scA.view.read (Elt F) g) p = acc p Q D 32)
    (inb : ∀ a, (![0, 0] : Fin 2 → ℕ) a + S1x256.size a ≤ S3x256.size a) (ina : ∀ a, (![0, 0] : Fin 2 → ℕ) a + S8x256.size a ≤ S24x256.size a) :
    ∀ y : S3x256.Idx, (y 0).val < 1 → M7.view.read (Elt F) (M7.view.writes (Elt F) f [⟨Rect.unit (s := S3x256) ![0, 0] S1x256.size inb,
      k0_pay20 (scA.view.readAt (Elt F) (Rect.unit (s := S24x256) ![0, 0] S8x256.size ina).toLoadRect g)⟩]) y = dwBlock Q D y := by
  intro y hy
  have h0 : (show Fin 3 from y 0) = 0 := Fin.ext (by show (y 0).val = 0; omega)
  rw [View.read_writes_cons_rows_of_mem (d := S3x256.size) M7.view f inb _ [] y (ix2 (0 : Fin 1) (y 1)) (o := 0) rfl
    (by show (y 0).val = 0 + 0; omega) rfl, readAt_arows (off := ![0, 0]) scA.view g 0 rfl, e 0]
  unfold dwBlock
  rw [h0]

/-- The second half of the body at a point that leaves its copies under way. -/
theorem second_half (hc : ¬ k0_cond2 i = 1#1) (G : Bf (F := F) c dzM) (a b d : BitVec 32) :
    mid c M1 M2 M3 M4 M5 M7 f1 f2 f3 f4 f5 G
      ⊢ wp frame (wpE (defs₀ (F := F)) Variants.none (c : Thread nD τ) none) Set.univ
        (k0_part4 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4 a b d)
        (fun _ => late c M1 M2 M3 M4 M5 M7 f1 f2 f3 f4 f5 1 (inflight c i (upd i G (tiles (M2.view.read (Elt F) f2) (M3.view.read (Elt F) f3) (M4.view.read (Elt F) f4) (M5.view.read (Elt F) f5) (padQ (M2.view.read (Elt F) f2) (M3.view.read (Elt F) f3)) (padD (M4.view.read (Elt F) f4) (M1.view.read (Elt F) f1)))))) := by
  rw [k0_part4_eq_skeleton]
  unfold k0_part4_skel mid staged
  iintro ⟨⟨H1, H2, H3, H4, H5, ⟨%f7, H7⟩⟩, ⟨%g8, H8, %e8⟩, ⟨%g9, H9, %e9⟩, ⟨%g10, H10, %e10⟩, ⟨%g11, H11⟩, H6, ⟨Hs0, Hs1, Hs2⟩, ⟨%W, HO⟩⟩
  sl_for (fun k _ => chunkInv c M2 M3 M4 M5 f2 f3 f4 f5 (padQ (M2.view.read (Elt F) f2) (M3.view.read (Elt F) f3)) (padD (M4.view.read (Elt F) f4) (M1.view.read (Elt F) f1)) k) $$ [H2 H3 H4 H5 H8 H9 H10 H11]
  case region => intro k acc; exact chunk_trip (F := F) c M1 M2 M3 M4 M5 f2 f3 f4 f5 i h1 h2 h3 h4 h5 M7 h7 _ _ a b d k _
  · unfold chunkInv
    isplitl [H2]; · iexact H2
    isplitl [H3]; · iexact H3
    isplitl [H4]; · iexact H4
    isplitl [H5]; · iexact H5
    isplitl [H8]
    · iexists _; isplitl [H8]; · iexact H8
      ipureintro; exact e8
    isplitl [H9]
    · iexists _; isplitl [H9]; · iexact H9
      ipureintro; exact e9
    isplitl [H10]
    · iexists _; isplitl [H10]; · iexact H10
      ipureintro; exact e10
    · iexists _; isplitl [H11]; · iexact H11
      ipureintro; intro y hy; exact absurd hy (by omega)
  iintro %acc HI
  unfold chunkInv
  icases HI with ⟨H2, H3, H4, H5, ⟨%q, H8, %e8⟩, ⟨%d, H9, %e9⟩, ⟨%w, H10, %e10⟩, ⟨%t, H11, %e11⟩⟩
  ihave HT := (slabs_split c t).1 $$ H11
  icases HT with ⟨HT0, HT1, HT2⟩
  ihave HZ := (dz_split i c G).1 $$ H6
  icases HZ with ⟨HZ0, HZ1, HZ2, H6⟩
  sl_exec
  sl_step
  have et := chunks_done _ _ _ _ _ _ _ e11
  have e10 := acc_done (P := fun n => ∀ p : Fin 3, arows (scA.view.read (Elt F) w) p = ShortBwd.acc p _ _ n) e10
  unfold late
  isplitl [H1 H2 H3 H4 H5 H7]
  · isplitl [H1]; · iexact H1
    isplitl [H2]; · iexact H2
    isplitl [H3]; · iexact H3
    isplitl [H4]; · iexact H4
    isplitl [H5]; · iexact H5
    iexists _; isplitl [H7]; · iexact H7
    ipureintro; exact dw_row0 c M7 _ _ w f7 e10 _ _
  isplitl [H8]; · iexists _; iexact H8
  isplitl [H9]; · iexists _; iexact H9
  isplitl [H10]
  · iexists _; isplitl [H10]; · iexact H10
    ipureintro; exact e10
  isplitr [HO]
  · unfold inflight
    isplitl [Hs0]
    · iexists t
      iapply (Transfers.Flight_mono (countersEmb (U := UU)) (c : Thread nD τ) (sep_mono (Entails.of_eq (pointsTo_congr (land i 0 (k0_off11_eq i 0) _ G _ _ (fun y => (slab_read 0 _ t y).trans (et _))))) .rfl))
      iexact Hs0
    isplitl [Hs1]
    · iexists t
      iapply (Transfers.Flight_mono (countersEmb (U := UU)) (c : Thread nD τ) (sep_mono (Entails.of_eq (pointsTo_congr (land i 1 (k0_off11_eq i 1) _ G _ _ (fun y => (slab_read 1 _ t y).trans (et _))))) .rfl))
      iexact Hs1
    isplitl [Hs2]
    · iexists t
      iapply (Transfers.Flight_mono (countersEmb (U := UU)) (c : Thread nD τ) (sep_mono (Entails.of_eq (pointsTo_congr (land i 2 (k0_off11_eq i 2) _ G _ _ (fun y => (slab_read 2 _ t y).trans (et _))))) .rfl))
      iexact Hs2
    iapply (Entails.of_eq (pointsTo_congr (upd_off i G _)))
    iexact H6
  · iexists _; iexact HO

/-- The second half of the body at the last point: its copies are waited for. -/
theorem second_half_wait (hc : k0_cond2 i = 1#1) (G : Bf (F := F) c dzM) (a b d : BitVec 32) :
    mid c M1 M2 M3 M4 M5 M7 f1 f2 f3 f4 f5 G
      ⊢ wp frame (wpE (defs₀ (F := F)) Variants.none (c : Thread nD τ) none) Set.univ
        (k0_part4 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4 a b d)
        (fun _ => late c M1 M2 M3 M4 M5 M7 f1 f2 f3 f4 f5 1 (iprop((∃ g, pt c scT g) ∗ pt c dzM (upd i G (tiles (M2.view.read (Elt F) f2) (M3.view.read (Elt F) f3) (M4.view.read (Elt F) f4) (M5.view.read (Elt F) f5) (padQ (M2.view.read (Elt F) f2) (M3.view.read (Elt F) f3)) (padD (M4.view.read (Elt F) f4) (M1.view.read (Elt F) f1)))) ∗ sems0 c))) := by
  rw [k0_part4_eq_skeleton]
  unfold k0_part4_skel mid staged
  iintro ⟨⟨H1, H2, H3, H4, H5, ⟨%f7, H7⟩⟩, ⟨%g8, H8, %e8⟩, ⟨%g9, H9, %e9⟩, ⟨%g10, H10, %e10⟩, ⟨%g11, H11⟩, H6, ⟨Hs0, Hs1, Hs2⟩, ⟨%W, HO⟩⟩
  sl_for (fun k _ => chunkInv c M2 M3 M4 M5 f2 f3 f4 f5 (padQ (M2.view.read (Elt F) f2) (M3.view.read (Elt F) f3)) (padD (M4.view.read (Elt F) f4) (M1.view.read (Elt F) f1)) k) $$ [H2 H3 H4 H5 H8 H9 H10 H11]
  case region => intro k acc; exact chunk_trip (F := F) c M1 M2 M3 M4 M5 f2 f3 f4 f5 i h1 h2 h3 h4 h5 M7 h7 _ _ a b d k _
  · unfold chunkInv
    isplitl [H2]; · iexact H2
    isplitl [H3]; · iexact H3
    isplitl [H4]; · iexact H4
    isplitl [H5]; · iexact H5
    isplitl [H8]
    · iexists _; isplitl [H8]; · iexact H8
      ipureintro; exact e8
    isplitl [H9]
    · iexists _; isplitl [H9]; · iexact H9
      ipureintro; exact e9
    isplitl [H10]
    · iexists _; isplitl [H10]; · iexact H10
      ipureintro; exact e10
    · iexists _; isplitl [H11]; · iexact H11
      ipureintro; intro y hy; exact absurd hy (by omega)
  iintro %acc HI
  unfold chunkInv
  icases HI with ⟨H2, H3, H4, H5, ⟨%q, H8, %e8⟩, ⟨%d, H9, %e9⟩, ⟨%w, H10, %e10⟩, ⟨%t, H11, %e11⟩⟩
  ihave HT := (slabs_split c t).1 $$ H11
  icases HT with ⟨HT0, HT1, HT2⟩
  ihave HZ := (dz_split i c G).1 $$ H6
  icases HZ with ⟨HZ0, HZ1, HZ2, H6⟩
  sl_exec
  sl_step
  have et := chunks_done _ _ _ _ _ _ _ e11
  have e10 := acc_done (P := fun n => ∀ p : Fin 3, arows (scA.view.read (Elt F) w) p = ShortBwd.acc p _ _ n) e10
  unfold late
  isplitl [H1 H2 H3 H4 H5 H7]
  · isplitl [H1]; · iexact H1
    isplitl [H2]; · iexact H2
    isplitl [H3]; · iexact H3
    isplitl [H4]; · iexact H4
    isplitl [H5]; · iexact H5
    iexists _; isplitl [H7]; · iexact H7
    ipureintro; exact dw_row0 c M7 _ _ w f7 e10 _ _
  isplitl [H8]; · iexists _; iexact H8
  isplitl [H9]; · iexists _; iexact H9
  isplitl [H10]
  · iexists _; isplitl [H10]; · iexact H10
    ipureintro; exact e10
  isplitr [HO]
  · isplitl [HT0 HT1 HT2]
    · iexists t
      iapply (slabs_split c t).2
      isplitl [HT0]; · iexact HT0
      isplitl [HT1]; · iexact HT1
      iexact HT2
    isplitl [HZ0 HZ1 HZ2 H6]
    · iapply (dz_split i c _).2
      isplitl [HZ0]
      · iapply (Entails.of_eq (pointsTo_congr (land i 0 (k0_off11_eq i 0) _ G _ _ (fun y => (slab_read 0 _ t y).trans (et _))))); iexact HZ0
      isplitl [HZ1]
      · iapply (Entails.of_eq (pointsTo_congr (land i 1 (k0_off11_eq i 1) _ G _ _ (fun y => (slab_read 1 _ t y).trans (et _))))); iexact HZ1
      isplitl [HZ2]
      · iapply (Entails.of_eq (pointsTo_congr (land i 2 (k0_off11_eq i 2) _ G _ _ (fun y => (slab_read 2 _ t y).trans (et _))))); iexact HZ2
      iapply (Entails.of_eq (pointsTo_congr (upd_off i G _)))
      iexact H6
    isplitl [Hs0]; · iexact Hs0
    isplitl [Hs1]; · iexact Hs1
    iexact Hs2
  · iexists _; iexact HO

/-- The three rows of the filter's gradient. -/
theorem dw_rows (Q D : Vec F S2080x256 .f32) (g : Bf (F := F) c scA) (f : Bf (F := F) c M7)
    (e : ∀ p : Fin 3, arows (scA.view.read (Elt F) g) p = acc p Q D 32)
    (h : ∀ y : S3x256.Idx, (y 0).val < 1 → M7.view.read (Elt F) f y = dwBlock Q D y)
    (i1 : ∀ a, (![1, 0] : Fin 2 → ℕ) a + S1x256.size a ≤ S3x256.size a) (i2 : ∀ a, (![2, 0] : Fin 2 → ℕ) a + S1x256.size a ≤ S3x256.size a)
    (a1 : ∀ a, (![8, 0] : Fin 2 → ℕ) a + S8x256.size a ≤ S24x256.size a) (a2 : ∀ a, (![16, 0] : Fin 2 → ℕ) a + S8x256.size a ≤ S24x256.size a) :
    ∀ y : S3x256.Idx, (y 0).val < 3 → M7.view.read (Elt F) (M7.view.writes (Elt F) f
      [⟨Rect.unit (s := S3x256) ![2, 0] S1x256.size i2, k0_pay2 (scA.view.readAt (Elt F) (Rect.unit (s := S24x256) ![16, 0] S8x256.size a2).toLoadRect g)⟩,
        ⟨Rect.unit (s := S3x256) ![1, 0] S1x256.size i1, k0_pay1 (scA.view.readAt (Elt F) (Rect.unit (s := S24x256) ![8, 0] S8x256.size a1).toLoadRect g)⟩]) y
      = dwBlock Q D y := by
  intro y hy
  rcases (by omega : (y 0).val = 0 ∨ (y 0).val = 1 ∨ (y 0).val = 2) with hp | hp | hp
  · rw [View.read_writes_cons_rows_of_not_mem (d := S3x256.size) M7.view f i2 _ _ y (o := 2) rfl (W := 1) rfl (Or.inl (by omega)),
      View.read_writes_cons_rows_of_not_mem (d := S3x256.size) M7.view f i1 _ _ y (o := 1) rfl (W := 1) rfl (Or.inl (by omega))]
    exact h y (by omega)
  · have h0 : (show Fin 3 from y 0) = 1 := Fin.ext hp
    rw [View.read_writes_cons_rows_of_not_mem (d := S3x256.size) M7.view f i2 _ _ y (o := 2) rfl (W := 1) rfl (Or.inl (by omega)),
      View.read_writes_cons_rows_of_mem (d := S3x256.size) M7.view f i1 _ _ y (ix2 (0 : Fin 1) (y 1)) (o := 1) rfl
      (by show (y 0).val = 1 + 0; omega) rfl, readAt_arows (off := ![8, 0]) scA.view g 1 rfl, e 1]
    unfold dwBlock
    rw [h0]
  · have h0 : (show Fin 3 from y 0) = 2 := Fin.ext hp
    rw [View.read_writes_cons_rows_of_mem (d := S3x256.size) M7.view f i2 _ _ y (ix2 (0 : Fin 1) (y 1)) (o := 2) rfl
      (by show (y 0).val = 2 + 0; omega) rfl, readAt_arows (off := ![16, 0]) scA.view g 2 rfl, e 2]
    unfold dwBlock
    rw [h0]

/-- The whole body from its two halves. -/
theorem body_run (G : Bf (F := F) c dzM) (P X : sProp 𝕄)
    (hP : P ⊢ wp frame (wpE (defs₀ (F := F)) Variants.none (c : Thread nD τ) none) Set.univ
        (k0_part3 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4)
        (fun _ => mid c M1 M2 M3 M4 M5 M7 f1 f2 f3 f4 f5 G))
    (hX : ∀ a b d, mid c M1 M2 M3 M4 M5 M7 f1 f2 f3 f4 f5 G
      ⊢ wp frame (wpE (defs₀ (F := F)) Variants.none (c : Thread nD τ) none) Set.univ
        (k0_part4 (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4 a b d)
        (fun _ => late c M1 M2 M3 M4 M5 M7 f1 f2 f3 f4 f5 1 X)) :
    P ⊢ wp frame (wpE (defs₀ (F := F)) Variants.none (c : Thread nD τ) none) Set.univ
        (cc0_short_bwd (F := F) i M1 h1 M2 h2 M3 h3 M4 h4 M5 h5 dzM (Memref.isWhole_whole _) M7 h7 scQ (Memref.isWhole_whole _) scD (Memref.isWhole_whole _) scA (Memref.isWhole_whole _) scT (Memref.isWhole_whole _) cc0_scratch4)
        (fun _ => late c M1 M2 M3 M4 M5 M7 f1 f2 f3 f4 f5 3 X) := by
  rw [cc0_short_bwd_eq_skeleton]
  unfold cc0_short_bwd_skel
  rw [wp_bind]
  refine hP.trans (wp_mono _ _ _ fun ⟨a, b, d⟩ => ?_)
  dsimp only
  rw [wp_bind]
  refine (hX a b d).trans (wp_mono _ _ _ fun _ => ?_)
  unfold late
  iintro ⟨⟨H1, H2, H3, H4, H5, ⟨%f7, H7, %e7⟩⟩, H8, H9, ⟨%w, H10, %e10⟩, HX, ⟨%W, HO⟩⟩
  sl_exec
  sl_step
  isplitl [H1 H2 H3 H4 H5 H7]
  · isplitl [H1]; · iexact H1
    isplitl [H2]; · iexact H2
    isplitl [H3]; · iexact H3
    isplitl [H4]; · iexact H4
    isplitl [H5]; · iexact H5
    iexists _; isplitl [H7]; · iexact H7
    ipureintro; exact dw_rows c M7 _ _ w f7 e10 e7 _ _ _ _
  isplitl [H8]; · iexact H8
  isplitl [H9]; · iexact H9
  isplitl [H10]
  · iexists _; isplitl [H10]; · iexact H10
    ipureintro; exact e10
  isplitl [HX]; · iexact HX
  iexists _; iexact HO

end Cert.ShortBwd

end
-- ==== Proof.Run.lean ====
module

public import proofs.«01_k».proof.Proof.Body
public import proofs.«01_k».proof.Proof.Gen.KernelIdeal.Frame

@[expose] public section

/-!
# The run of the short-convolution backward call

Over any float values: the pipeline's account of the eight grid points. Before point `t` the result holds its first `t`
column blocks of each third (`mix`), those of the last point passed still on their way.
-/

noncomputable section

namespace Cert.ShortBwd

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the points compute -/

/-- The padded `c * u` at point `t`, -/
abbrev ptQ (t : Fin cfg0.N) : Vec F S2080x256 .f32 := padQ (iblk m c 1 t) (iblk m c 2 t)
/-- the padded `dy * b`, -/
abbrev ptD (t : Fin cfg0.N) : Vec F S2080x256 .f32 := padD (iblk m c 3 t) (iblk m c 0 t)
/-- the slabs, -/
abbrev ptT (t : Fin cfg0.N) : S3x2048x256.Idx → Elt F .bf16 :=
  tiles (iblk m c 1 t) (iblk m c 2 t) (iblk m c 3 t) (iblk m c 4 t) (ptQ m c t) (ptD m c t)
/-- and the filter's gradient. -/
abbrev ptW (t : Fin cfg0.N) : S3x256.Idx → Elt F .f32 := dwBlock (ptQ m c t) (ptD m c t)

/-- The grid's `n`-th point. -/
abbrev gpt (n : ℕ) (h : n < 8) : Fin cfg0.N := ⟨n, by show n < grid0.N; rw [N_0]; exact h⟩

/-- The result before point `n`. -/
def mix (n : ℕ) : S2048x6144.Idx → Elt F .bf16 := fun x =>
  if (x 1).val / 256 % 8 < n then
    ptT m c (gpt ((x 1).val / 256 % 8) (Nat.mod_lt _ (by decide)))
      (ix3 ⟨(x 1).val / 256 / 8, by have : (x 1).val < 6144 := (x 1).isLt; omega⟩ (x 0) ⟨(x 1).val % 256, Nat.mod_lt _ (by decide)⟩)
  else V m c main_v0_0 x

theorem coords_val : ∀ t : Fin grid0.N, (grid0.coords t 0).val = t.val := by decide

theorem upd_mix (t : Fin cfg0.N) : upd (grid0.coords t) (mix m c t.val) (ptT m c t) = mix m c (t.val + 1) := by
  funext x
  have ht := coords_val t
  unfold upd
  by_cases h : (x 1).val / 256 % 8 = (grid0.coords t 0).val
  · rw [if_pos h, mix, if_pos (by omega)]
    have e : gpt ((x 1).val / 256 % 8) (Nat.mod_lt _ (by decide)) = t := Fin.ext (by show (x 1).val / 256 % 8 = t.val; omega)
    rw [e]
  · rw [if_neg h, mix, mix]
    by_cases h' : (x 1).val / 256 % 8 < t.val
    · rw [if_pos h', if_pos (by omega)]
    · rw [if_neg h', if_neg (by omega)]

theorem mix_zero : mix m c 0 = V m c main_v0_0 := funext fun x => by rw [mix, if_neg (Nat.not_lt_zero _)]

/-! ## The invariant between the points -/

/-- The padded buffers and the accumulators, at something. -/
def pads : sProp 𝕄 := iprop((∃ g, pt c scQ g) ∗ (∃ g, pt c scD g) ∗ (∃ g, pt c scA g))

/-- No copy under way. -/
def idle (G : Bf (F := F) c dzM) : sProp 𝕄 := iprop((∃ g, pt c scT g) ∗ pt c dzM G ∗ sems0 c)

/-- The result before point `n`. -/
def between (n : ℕ) : sProp 𝕄 :=
  if h : 1 ≤ n ∧ n < 8 then inflight c (grid0.coords (gpt (n - 1) (by omega))) (mix m c n) else idle c (mix m c n)

def Φc (n : ℕ) : sProp 𝕄 := iprop(pads c ∗ between m c n ∗ ∃ r, prngReg c r)

variable (t : Fin cfg0.N)

theorem cond1_iff : ∀ t : Fin grid0.N, k0_cond1 (grid0.coords t) = 1#1 ↔ 0 < t.val := by decide
theorem cond2_iff : ∀ t : Fin grid0.N, k0_cond2 (grid0.coords t) = 1#1 ↔ t.val = 7 := by decide

/-- One point's run. -/
theorem point_run (f1 : Bf (F := F) c (st0_0 t)) (f2 : Bf (F := F) c (st0_1 t)) (f3 : Bf (F := F) c (st0_2 t)) (f4 : Bf (F := F) c (st0_3 t))
    (f5 : Bf (F := F) c (st0_4 t)) (e1 : (st0_0 t).view.read (Elt F) f1 = iblk m c 0 t) (e2 : (st0_1 t).view.read (Elt F) f2 = iblk m c 1 t)
    (e3 : (st0_2 t).view.read (Elt F) f3 = iblk m c 2 t) (e4 : (st0_3 t).view.read (Elt F) f4 = iblk m c 3 t)
    (e5 : (st0_4 t).view.read (Elt F) f5 = iblk m c 4 t) :
    iprop(staged c (st0_0 t) (st0_1 t) (st0_2 t) (st0_3 t) (st0_4 t) (st0_5 t) f1 f2 f3 f4 f5 ∗ pads c ∗ between m c t.val
        ∗ (∃ W, owes (c : Thread nD τ) (0 : CellTallies nD τ sig Unit) W))
      ⊢ wp frame (wpE (defs₀ (F := F)) Variants.none (c : Thread nD τ) none) Set.univ (bodyAt0 (F := F) t)
        (fun _ => late c (st0_0 t) (st0_1 t) (st0_2 t) (st0_3 t) (st0_4 t) (st0_5 t) f1 f2 f3 f4 f5 3 (between m c (t.val + 1))) := by
  have ht : t.val < 8 := lt_of_lt_of_eq t.isLt N_0
  refine body_run c (st0_0 t) (st0_1 t) (st0_2 t) (st0_3 t) (st0_4 t) (st0_5 t) f1 f2 f3 f4 f5 (grid0.coords t) _ _ _ _ _ _ (mix m c t.val) _ _ ?_ ?_
  · unfold between pads
    by_cases h0 : 0 < t.val
    · rw [dif_pos ⟨h0, ht⟩]
      refine BIBase.Entails.trans ?_ (first_half_wait c _ _ _ _ _ _ f1 f2 f3 f4 f5 (grid0.coords t) _ _ _ _ _ _
        (grid0.coords (gpt (t.val - 1) (by omega))) ((cond1_iff t).2 h0) _)
      iintro ⟨HS, ⟨HQ, HD, HA⟩, HX, HO⟩
      isplitl [HS]; · iexact HS
      isplitl [HQ]; · iexact HQ
      isplitl [HD]; · iexact HD
      isplitl [HA]; · iexact HA
      isplitl [HX]; · iexact HX
      iexact HO
    · rw [dif_neg (by omega)]
      refine BIBase.Entails.trans ?_ (first_half c _ _ _ _ _ _ f1 f2 f3 f4 f5 (grid0.coords t) _ _ _ _ _ _ (fun h => h0 ((cond1_iff t).1 h)) _)
      unfold idle
      iintro ⟨HS, ⟨HQ, HD, HA⟩, ⟨HT, HZ, HC⟩, HO⟩
      isplitl [HS]; · iexact HS
      isplitl [HQ]; · iexact HQ
      isplitl [HD]; · iexact HD
      isplitl [HA]; · iexact HA
      isplitl [HT]; · iexact HT
      isplitl [HZ]; · iexact HZ
      isplitl [HC]; · iexact HC
      iexact HO
  · intro a b d
    unfold between
    by_cases h7 : t.val = 7
    · rw [dif_neg (by omega), ← upd_mix]; unfold ptT ptQ ptD; rw [← e1, ← e2, ← e3, ← e4, ← e5]
      exact second_half_wait c _ _ _ _ _ _ f1 f2 f3 f4 f5 (grid0.coords t) _ _ _ _ _ _ ((cond2_iff t).2 h7) _ a b d
    · rw [dif_pos (by omega), ← upd_mix]; unfold ptT ptQ ptD; rw [← e1, ← e2, ← e3, ← e4, ← e5]
      exact second_half c _ _ _ _ _ _ f1 f2 f3 f4 f5 (grid0.coords t) _ _ _ _ _ _ (fun h => h7 ((cond2_iff t).1 h)) _ a b d

/-! ## The pipeline's proof data -/

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ptW m c t
  Φ n := Φc m c n.val
  q w := Pipeline.shareOf spec0 w
  owed _ := 0

theorem before_0 (d) : (dats m 0 c).before 0 t d = iblk m c 0 t := by unfold Dat.before; rw [if_pos (fetch0_0 t)]; rfl
theorem before_1 (d) : (dats m 0 c).before 1 t d = iblk m c 1 t := by unfold Dat.before; rw [if_pos (fetch0_1 t)]; rfl
theorem before_2 (d) : (dats m 0 c).before 2 t d = iblk m c 2 t := by unfold Dat.before; rw [if_pos (fetch0_2 t)]; rfl
theorem before_3 (d) : (dats m 0 c).before 3 t d = iblk m c 3 t := by unfold Dat.before; rw [if_pos (fetch0_3 t)]; rfl
theorem before_4 (d) : (dats m 0 c).before 4 t d = iblk m c 4 t := by unfold Dat.before; rw [if_pos (fetch0_4 t)]; rfl

/-- A whole buffer owned, through its contents. -/
theorem owns_pt {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

theorem body_obligation : BodyObligation (dats m 0 c) (defs₀ (F := F)) Variants.none () Set.univ := fun t => by
  rw [bigSep_W0, bigSep_W0]
  simp only []
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  have w0 := hstage0_0 ((cfg0.slots t 0).cast nbuf0_0)
  have w1 := hstage0_1 ((cfg0.slots t 1).cast nbuf0_1)
  have w2 := hstage0_2 ((cfg0.slots t 2).cast nbuf0_2)
  have w3 := hstage0_3 ((cfg0.slots t 3).cast nbuf0_3)
  have w4 := hstage0_4 ((cfg0.slots t 4).cast nbuf0_4)
  have w5 := hstage0_5 ((cfg0.slots t 5).cast nbuf0_5)
  iintro ⟨⟨HP, HB, HR⟩, ⟨%W, -, HO⟩, ⟨%d0, H0⟩, ⟨%d1, H1⟩, ⟨%d2, H2⟩, ⟨%d3, H3⟩, ⟨%d4, H4⟩, ⟨%d5, H5⟩⟩
  rw [before_0, before_1, before_2, before_3, before_4]
  ihave H0 := (Entails.of_eq (owns_pt c (st0_0 t) w0 _)) $$ H0
  ihave H1 := (Entails.of_eq (owns_pt c (st0_1 t) w1 _)) $$ H1
  ihave H2 := (Entails.of_eq (owns_pt c (st0_2 t) w2 _)) $$ H2
  ihave H3 := (Entails.of_eq (owns_pt c (st0_3 t) w3 _)) $$ H3
  ihave H4 := (Entails.of_eq (owns_pt c (st0_4 t) w4 _)) $$ H4
  ihave H5 := (Entails.of_eq (owns_pt c (st0_5 t) w5 _)) $$ H5
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, -, H5⟩
  iapply ((sep_mono (point_run m c t f0 f1 f2 f3 f4 e0 e1 e2 e3 e4) .rfl).trans
    ((wp_frame_r _ _ _ (R := iprop(∃ r, prngReg c r))).trans (wp_mono _ _ _ fun _ => ?_))) $$ [H0 H1 H2 H3 H4 H5 HP HB HO HR]
  · unfold late
    iintro ⟨⟨⟨H0, H1, H2, H3, H4, ⟨%f, H5, %hf⟩⟩, HQ, HD, ⟨%g, HA, -⟩, HX, ⟨%W', HO⟩⟩, HR⟩
    isplitl [HQ HD HA HX HR]
    · isplitl [HQ HD HA]
      · unfold pads
        isplitl [HQ]; · iexact HQ
        isplitl [HD]; · iexact HD
        iexists g; iexact HA
      isplitl [HX]; · iexact HX
      iexact HR
    isplitl [HO]
    · iexists W'; isplitr; · ipureintro; exact fun _ _ => Or.inl trivial
      iexact HO
    isplitl [H0]
    · iapply (Entails.of_eq (owns_pt c (st0_0 t) w0 _).symm) $$ [H0]
      iexists f0; isplitr; · ipureintro; exact e0
      iexact H0
    isplitl [H1]
    · iapply (Entails.of_eq (owns_pt c (st0_1 t) w1 _).symm) $$ [H1]
      iexists f1; isplitr; · ipureintro; exact e1
      iexact H1
    isplitl [H2]
    · iapply (Entails.of_eq (owns_pt c (st0_2 t) w2 _).symm) $$ [H2]
      iexists f2; isplitr; · ipureintro; exact e2
      iexact H2
    isplitl [H3]
    · iapply (Entails.of_eq (owns_pt c (st0_3 t) w3 _).symm) $$ [H3]
      iexists f3; isplitr; · ipureintro; exact e3
      iexact H3
    isplitl [H4]
    · iapply (Entails.of_eq (owns_pt c (st0_4 t) w4 _).symm) $$ [H4]
      iexists f4; isplitr; · ipureintro; exact e4
      iexact H4
    iapply (Entails.of_eq (owns_pt c (st0_5 t) w5 _).symm) $$ [H5]
    iexists f; isplitr
    · ipureintro
      rw [e0, e1, e2, e3] at hf
      exact funext fun y => hf y (y 0).isLt
    iexact H5
  isplitr [HR]
  · unfold staged
    isplitl [H0 H1 H2 H3 H4 H5]
    · isplitl [H0]; · iexact H0
      isplitl [H1]; · iexact H1
      isplitl [H2]; · iexact H2
      isplitl [H3]; · iexact H3
      isplitl [H4]; · iexact H4
      iexists f5; iexact H5
    isplitl [HP]; · iexact HP
    isplitl [HB]; · iexact HB
    iexists W; iexact HO
  iexact HR

/-! ## The launch -/

theorem ownSemFacts : Pipeline.OwnSemFacts spec0 osem := by decide

theorem ownSems0_eq :
    (Pipeline.ownSems0 (Ix := Unit) (Name := ℕ) (U := UU) (Lvl := ℕ) (Val := Elt F) (τ := τ) osem c : sProp 𝕄) = sems0 c :=
  Pipeline.ownSems0_eq_of_list c osem [0, 1, 2] (by decide) (by decide)

/-- The buffers beside the windows' arrays at the end: the result of the copies. -/
def G (c : Dev nD) : (b : Ref sig .tc) → Buf (Elt F) ((c.tc : Thread nD τ).loc b) :=
  Function.update (V m c) main_v0_0 (mix m c 8)

theorem G_result : G m c main_v0_0 = mix m c 8 := Function.update_self _ _ _

theorem hmain : Pipeline.HMain (Ix := Unit) (Name := ℕ) (U := UU) (Lvl := ℕ) cfgs 0 defs₀ Variants.none m (main (F := F)) (V m) :=
  Pipeline.hmain_region cfgs 0 defs₀ Variants.none m main fun c => (main_chain c).trans rfl

theorem hin : Pipeline.ΦDRG osem spec0 ∅ {main_v0_0} (V m) (V m) c ⊢ (dats m 0 c).Φ 0 := by
  rw [Pipeline.ΦDRG_eq, scopedRest0_eq, ownSems0_eq, Pipeline.routed_singleton, show (dats m 0 c).Φ 0 = Φc m c 0 from rfl]
  unfold Φc between pads
  rw [dif_neg (by omega), mix_zero]
  unfold idle
  iintro ⟨⟨HQ, HD, HA, HT⟩, HR, HS, -, HZ⟩
  isplitl [HQ HD HA]
  · isplitl [HQ]; · iexact HQ
    isplitl [HD]; · iexact HD
    iexact HA
  isplitl [HT HZ HS]
  · isplitl [HT]; · iexact HT
    isplitl [HZ]; · iexact HZ
    iexact HS
  iexact HR

theorem hout : (dats m 0 c).Φ (Fin.last cfg0.N) ⊢ Pipeline.ΦDRG osem spec0 ∅ {main_v0_0} (V m) (G m) c := by
  rw [Pipeline.ΦDRG_eq, scopedRest0_eq, ownSems0_eq, Pipeline.routed_singleton, G_result, BI.bigSep_empty,
    show (dats m 0 c).Φ (Fin.last cfg0.N) = Φc m c grid0.N from rfl, N_0]
  unfold Φc between pads
  rw [dif_neg (by omega)]
  unfold idle
  iintro ⟨⟨HQ, HD, HA⟩, ⟨HT, HZ, HS⟩, HR⟩
  isplitl [HQ HD HA HT]
  · isplitl [HQ]; · iexact HQ
    isplitl [HD]; · iexact HD
    isplitl [HA]; · iexact HA
    iexact HT
  isplitl [HR]; · iexact HR
  isplitl [HS]; · iexact HS
  isplitr; · iempintro
  iexact HZ

/-- What a run ends in. -/
def Post (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v0_0) = mix m c 8
      ∧ r.2.mem ((c.tc : Thread nD τ).loc main_v0_1) = (dats m 0 c).arrAt 5 cfg0.N)
    ∧ r.2.sem = fun _ => 0

set_option backward.isDefEq.respectTransparency.types false in
/-- Every run ends, with the arguments as launched, the results at their contents and every semaphore at zero. -/
theorem run_main : θ_run defs (onTc (τ := τ) (main (F := F))) (s₀ m ρ) (Post m) :=
  Pipeline.θ_run_frame_dmaRG_shared cfgs (dats m) 0 launch₀0 osem defs₀ Variants.none ownSemFacts ∅ {main_v0_0} (by decide) (by decide) m ρ main
    (fun c => (body_obligation m c).loose) (fun _ _ _ => rfl) (fun _ _ => rfl) (V m) (hmain m) (fun _ _ => rfl) (G m) (hin m) (hout m) (Post m)
    (fun r h => ⟨fun c => ⟨((h.1.1 c).1 2).trans (((dats m 0 c).arrAt_in 2 rfl _).trans (V_main_arg0 m c)),
      ((h.1.1 c).1 3).trans (((dats m 0 c).arrAt_in 3 rfl _).trans (V_main_arg1 m c)),
      ((h.1.1 c).1 4).trans (((dats m 0 c).arrAt_in 4 rfl _).trans (V_main_arg2 m c)),
      (h.1.2 c main_v0_0 (by decide)).trans (G_result m c), (h.1.1 c).1 5⟩, h.2⟩)

end Cert.ShortBwd

end
-- ==== Proof.Value.lean ====
module

public import proofs.«01_k».proof.Proof.Forms
public import Idealize.ShloMosaic.Lib.Pointwise

@[expose] public section

/-!
# One grid point's results at the extended reals

The padded products, the three slabs and the filter's gradient, element by element.
-/

noncomputable section

namespace Cert.ShortBwd.Ideals

open Cert.KernelIdeal Cert.KernelIdeal.Gen Cert.ShortBwd
open Idealize.ShloMosaic

/-! ## The payloads at an index -/

variable (r : Fin 64) (l : Fin 256)

/-- An array read at two equal rows. -/
theorem at_row {α : Type} {n k : ℕ} {x : (⟨2, ![n, k]⟩ : Shape).Idx → α} {a b : Fin n} (h : a.val = b.val) (l : Fin k) :
    x (ix2 a l) = x (ix2 b l) := by
  rw [Fin.ext h]

theorem pay3 (x : Vec Ideal S96x256 .f32) : k0_pay3 x (ix2 r l) = x (ix2 ⟨r.val + 30, by omega⟩ l) := by
  pointwise [k0_pay3]
  exact at_row (by show (24 + r.val + 96 - 90) % 96 = r.val + 30; omega) l
theorem pay5 (x : Vec Ideal S96x256 .f32) : k0_pay5 x (ix2 r l) = x (ix2 ⟨r.val + 31, by omega⟩ l) := by
  pointwise [k0_pay5]
  exact at_row (by show (24 + r.val + 96 - 89) % 96 = r.val + 31; omega) l
theorem pay8 (x : Vec Ideal S96x256 .f32) : k0_pay8 x (ix2 r l) = x (ix2 ⟨r.val + 32, by omega⟩ l) := by
  pointwise [k0_pay8]
  exact at_row (by show 32 + r.val = r.val + 32; omega) l
theorem pay7 (x : Vec Ideal S96x256 .f32) (a b : Vec Ideal S1x256 .f32) :
    k0_pay7 x a b (ix2 r l) = a (ix2 0 l) * x (ix2 ⟨r.val + 30, by omega⟩ l) + b (ix2 0 l) * x (ix2 ⟨r.val + 31, by omega⟩ l) := by
  pointwise [k0_pay7]
  rw [pay3, pay5]
theorem pay12 (x : Vec Ideal S96x256 .f32) (a b d : Vec Ideal S1x256 .f32) :
    k0_pay12 x a b d (ix2 r l) = a (ix2 0 l) * x (ix2 ⟨r.val, by omega⟩ l) + b (ix2 0 l) * x (ix2 ⟨r.val + 1, by omega⟩ l)
      + d (ix2 0 l) * x (ix2 ⟨r.val + 2, by omega⟩ l) := by
  pointwise [k0_pay12]
  rw [at_row (x := x) (a := ⟨(r.val + 96 - 95) % 96, _⟩) (b := ⟨r.val + 1, by omega⟩) (by show (r.val + 96 - 95) % 96 = r.val + 1; omega) l,
    at_row (x := x) (a := ⟨(r.val + 96 - 94) % 96, _⟩) (b := ⟨r.val + 2, by omega⟩) (by show (r.val + 96 - 94) % 96 = r.val + 2; omega) l]
theorem pay11 (x y : FVec Ideal S64x256 .f32) (a : Vec Ideal S1x256 .f32) (g : Vec Ideal S64x256 .bf16) :
    k0_pay11 x y a g (ix3 0 r l) = g (ix2 r l) * (x (ix2 r l) + a (ix2 0 l) * y (ix2 r l)) := by
  pointwise [k0_pay11]
theorem pay18 (x : FVec Ideal S64x256 .f32) (g : Vec Ideal S64x256 .bf16) : k0_pay18 x g (ix3 0 r l) = x (ix2 r l) * g (ix2 r l) := by
  pointwise [k0_pay18]
theorem pay19 (x : FVec Ideal S64x256 .f32) (g : Vec Ideal S64x256 .bf16) : k0_pay19 x g (ix3 0 r l) = x (ix2 r l) * g (ix2 r l) := by
  pointwise [k0_pay19]
theorem pay16 (x g : Vec Ideal S64x256 .bf16) : k0_pay16 x g (ix2 r l) = x (ix2 r l) * g (ix2 r l) := by
  pointwise [k0_pay16]
theorem pay17 (x g : Vec Ideal S64x256 .bf16) : k0_pay17 x g (ix2 r l) = x (ix2 r l) * g (ix2 r l) := by
  pointwise [k0_pay17]
theorem pay13 (j : S32x256.Idx) : k0_pay13 (F := Ideal) j = 0 := by
  pointwise [k0_pay13]
theorem pay14 (j : S32x256.Idx) : k0_pay14 (F := Ideal) j = 0 := by
  pointwise [k0_pay14]
theorem pay15 (j : S24x256.Idx) : k0_pay15 (F := Ideal) j = 0 := by
  pointwise [k0_pay15]

variable (s : Fin 8)

theorem pay4 (q : Vec Ideal S96x256 .f32) (d : Vec Ideal S64x256 .f32) (a : Vec Ideal S8x256 .f32) :
    k0_pay4 q d a (ix2 s l) = a (ix2 s l)
      + ∑ g : Fin 8, d (ix2 ⟨g.val * 8 + s.val, by omega⟩ l) * q (ix2 ⟨g.val * 8 + s.val + 30, by omega⟩ l) := by
  pointwise [k0_pay4, pay3]
theorem pay6 (q : Vec Ideal S96x256 .f32) (d : Vec Ideal S64x256 .f32) (a : Vec Ideal S8x256 .f32) :
    k0_pay6 q d a (ix2 s l) = a (ix2 s l)
      + ∑ g : Fin 8, d (ix2 ⟨g.val * 8 + s.val, by omega⟩ l) * q (ix2 ⟨g.val * 8 + s.val + 31, by omega⟩ l) := by
  pointwise [k0_pay6, pay5]
theorem pay9 (q : Vec Ideal S96x256 .f32) (d : Vec Ideal S64x256 .f32) :
    k0_pay9 q d (ix2 r l) = d (ix2 r l) * q (ix2 ⟨r.val + 32, by omega⟩ l) := by
  pointwise [k0_pay9, pay8]
theorem pay10 (d : FVec Ideal S64x256 .f32) (a : Vec Ideal S8x256 .f32) :
    k0_pay10 a d (ix2 s l) = a (ix2 s l) + ∑ g : Fin 8, d (ix2 ⟨g.val * 8 + s.val, by omega⟩ l) := by
  pointwise [k0_pay10]
theorem pay20 (a : Vec Ideal S8x256 .f32) : k0_pay20 a (ix2 0 l) = ∑ s : Fin 8, a (ix2 s l) := by
  pointwise [k0_pay20]
theorem pay1 (a : Vec Ideal S8x256 .f32) : k0_pay1 a (ix2 0 l) = ∑ s : Fin 8, a (ix2 s l) := by
  pointwise [k0_pay1]
theorem pay2 (a : Vec Ideal S8x256 .f32) : k0_pay2 a (ix2 0 l) = ∑ s : Fin 8, a (ix2 s l) := by
  pointwise [k0_pay2]

/-! ## Rows numbered by natural numbers -/

/-- Row `n` of a block, and zero past its end. -/
def row (X : S2048x256.Idx → EReal) (n : ℕ) (l : Fin 256) : EReal := if h : n < 2048 then X (ix2 ⟨n, h⟩ l) else 0

/-- Row `n` of the padded product of the gates `c` and `u`. -/
def qrow (C U : S2048x256.Idx → EReal) (n : ℕ) (l : Fin 256) : EReal := if n < 32 then 0 else row C (n - 32) l * row U (n - 32) l

theorem padQ_at (C U : Vec Ideal S2048x256 .bf16) (n : Fin 2080) : padQ C U (ix2 n l) = qrow C U n.val l := by
  have hn := n.isLt
  unfold padQ qrow
  by_cases h : n.val < 32
  · rw [dif_pos (show ((ix2 n l : S2080x256.Idx) 0).val < 32 from h), if_pos h]
    exact pay13 _
  · rw [dif_neg (show ¬ ((ix2 n l : S2080x256.Idx) 0).val < 32 from h), if_neg h]
    refine (pay16 ⟨(n.val - 32) % 64, Nat.mod_lt _ (by decide)⟩ l _ _).trans ?_
    have e : n.val - 32 < 2048 := by omega
    have e' : 64 * ((n.val - 32) / 64) + (n.val - 32) % 64 = n.val - 32 := Nat.div_add_mod _ _
    unfold row
    rw [dif_pos e, dif_pos e]
    exact congrArg₂ (· * ·) (at_row (x := C) e' l) (at_row (x := U) e' l)

theorem padD_at (DY B : Vec Ideal S2048x256 .bf16) (n : Fin 2080) : padD DY B (ix2 n l) = row DY n.val l * row B n.val l := by
  have hn := n.isLt
  unfold padD row
  by_cases h : n.val < 2048
  · rw [dif_pos (show ((ix2 n l : S2080x256.Idx) 0).val < 2048 from h), dif_pos h, dif_pos h]
    refine (pay17 ⟨n.val % 64, Nat.mod_lt _ (by decide)⟩ l _ _).trans ?_
    have e' : 64 * (n.val / 64) + n.val % 64 = n.val := Nat.div_add_mod _ _
    exact congrArg₂ (· * ·) (at_row (x := DY) e' l) (at_row (x := B) e' l)
  · rw [dif_neg (show ¬ ((ix2 n l : S2080x256.Idx) 0).val < 2048 from h), dif_neg h, dif_neg h, mul_zero]
    exact pay14 _

/-! ## The three slabs -/

variable (C U DY B : Vec Ideal S2048x256 .bf16) (W : Vec Ideal S3x256 .f32) (t : Fin 2048)

/-- The gradient of the gate `b`: the incoming gradient times the convolution. -/
theorem tiles0_at (Q D : Vec Ideal S2080x256 .f32) :
    tiles C U DY W Q D (ix3 0 t l) = DY (ix2 t l)
      * ((W (ix2 0 l) * Q (ix2 ⟨t.val + 30, by omega⟩ l) + W (ix2 1 l) * Q (ix2 ⟨t.val + 31, by omega⟩ l))
        + W (ix2 2 l) * Q (ix2 ⟨t.val + 32, by omega⟩ l)) := by
  have e : 64 * (t.val / 64) + t.val % 64 = t.val := Nat.div_add_mod _ _
  have ht := t.isLt
  refine (pay11 ⟨t.val % 64, Nat.mod_lt _ (by decide)⟩ l _ _ _ _).trans ?_
  rw [pay7, pay8]
  refine congrArg₂ (· * ·) (at_row (x := DY) e l) (congrArg₂ (· + ·) (congrArg₂ (· + ·)
    (congrArg₂ (· * ·) rfl (at_row (x := Q) ?_ l)) (congrArg₂ (· * ·) rfl (at_row (x := Q) ?_ l)))
    (congrArg₂ (· * ·) rfl (at_row (x := Q) ?_ l)))
  · show 64 * (t.val / 64) + (t.val % 64 + 30) = t.val + 30; omega
  · show 64 * (t.val / 64) + (t.val % 64 + 31) = t.val + 31; omega
  · show 64 * (t.val / 64) + (t.val % 64 + 32) = t.val + 32; omega

/-- The gradient of the convolution's argument at token `t`. -/
def dq (W : Vec Ideal S3x256 .f32) (D : Vec Ideal S2080x256 .f32) : EReal :=
  W (ix2 2 l) * D (ix2 ⟨t.val, by omega⟩ l) + W (ix2 1 l) * D (ix2 ⟨t.val + 1, by omega⟩ l) + W (ix2 0 l) * D (ix2 ⟨t.val + 2, by omega⟩ l)

theorem pay12_at (D : Vec Ideal S2080x256 .f32) :
    k0_pay12 (pad96 D ⟨t.val / 64, by omega⟩) (wrow W 2) (wrow W 1) (wrow W 0) (ix2 ⟨t.val % 64, Nat.mod_lt _ (by decide)⟩ l)
      = dq l t W D := by
  have e : 64 * (t.val / 64) + t.val % 64 = t.val := Nat.div_add_mod _ _
  rw [pay12]
  refine congrArg₂ (· + ·) (congrArg₂ (· + ·)
    (congrArg₂ (· * ·) rfl (at_row (x := D) ?_ l)) (congrArg₂ (· * ·) rfl (at_row (x := D) ?_ l)))
    (congrArg₂ (· * ·) rfl (at_row (x := D) ?_ l))
  · exact e
  · show 64 * (t.val / 64) + (t.val % 64 + 1) = t.val + 1; omega
  · show 64 * (t.val / 64) + (t.val % 64 + 2) = t.val + 2; omega

theorem tiles1_at (Q D : Vec Ideal S2080x256 .f32) : tiles C U DY W Q D (ix3 1 t l) = dq l t W D * U (ix2 t l) := by
  have e : 64 * (t.val / 64) + t.val % 64 = t.val := Nat.div_add_mod _ _
  refine (pay18 ⟨t.val % 64, Nat.mod_lt _ (by decide)⟩ l _ _).trans ?_
  exact congrArg₂ (· * ·) (pay12_at l W t D) (at_row (x := U) e l)

theorem tiles2_at (Q D : Vec Ideal S2080x256 .f32) : tiles C U DY W Q D (ix3 2 t l) = dq l t W D * C (ix2 t l) := by
  have e : 64 * (t.val / 64) + t.val % 64 = t.val := Nat.div_add_mod _ _
  refine (pay19 ⟨t.val % 64, Nat.mod_lt _ (by decide)⟩ l _ _).trans ?_
  exact congrArg₂ (· * ·) (pay12_at l W t D) (at_row (x := C) e l)

/-! ## The filter's gradient -/

/-- Term `n` of the sum for filter row `p`, and zero past the end. -/
def term (p : Fin 3) (Q D : Vec Ideal S2080x256 .f32) (n : ℕ) : EReal :=
  if h : n < 2048 then D (ix2 ⟨n, by omega⟩ l) * Q (ix2 ⟨n + 30 + p.val, by omega⟩ l) else 0

theorem accStep_at (p : Fin 3) (Q D : Vec Ideal S2080x256 .f32) (k : Fin 32) (a : Vec Ideal S8x256 .f32) :
    accStep p (pad96 Q k) (pad64 D k) a (ix2 s l) = a (ix2 s l) + ∑ g : Fin 8, term l p Q D (64 * k.val + (g.val * 8 + s.val)) := by
  have hk := k.isLt
  have key : ∀ (p : Fin 3) (g : Fin 8) (o : ℕ) (ho : o = 30 + p.val), pad64 D k (ix2 ⟨g.val * 8 + s.val, by omega⟩ l)
      * pad96 Q k (ix2 ⟨g.val * 8 + s.val + o, by omega⟩ l) = term l p Q D (64 * k.val + (g.val * 8 + s.val)) := by
    intro p g o ho
    unfold term
    rw [dif_pos (by omega)]
    exact congrArg₂ (· * ·) rfl (at_row (x := Q) (by
      show 64 * k.val + (g.val * 8 + s.val + o) = 64 * k.val + (g.val * 8 + s.val) + 30 + p.val; omega) l)
  match p with
  | ⟨0, _⟩ =>
    refine (pay4 l s _ _ _).trans (congrArg₂ (· + ·) rfl (Finset.sum_congr rfl fun g _ => ?_))
    exact key 0 g 30 rfl
  | ⟨1, _⟩ =>
    refine (pay6 l s _ _ _).trans (congrArg₂ (· + ·) rfl (Finset.sum_congr rfl fun g _ => ?_))
    exact key 1 g 31 rfl
  | ⟨2, _⟩ =>
    refine (pay10 l s _ _).trans (congrArg₂ (· + ·) rfl (Finset.sum_congr rfl fun g _ => ?_))
    refine (pay9 _ l _ _).trans ?_
    exact key 2 g 32 rfl

theorem acc_at (p : Fin 3) (Q D : Vec Ideal S2080x256 .f32) (n : ℕ) (hn : n ≤ 32) :
    acc p Q D n (ix2 s l) = ∑ k : Fin n, ∑ g : Fin 8, term l p Q D (64 * k.val + (g.val * 8 + s.val)) := by
  induction n with
  | zero => exact (pay15 (ix2 ⟨8 * p.val + s.val, by omega⟩ l)).trans (Fin.sum_univ_zero _).symm
  | succ n ih =>
    rw [Fin.sum_univ_castSucc]
    refine (congrFun (acc_succ p Q D ⟨n, by omega⟩) _).trans ?_
    rw [accStep_at]
    exact congrArg₂ (· + ·) (ih (by omega)) rfl

theorem dwBlock_at (p : Fin 3) (Q D : Vec Ideal S2080x256 .f32) :
    dwBlock Q D (ix2 p l) = ∑ n : Fin 2048, D (ix2 ⟨n.val, by omega⟩ l) * Q (ix2 ⟨n.val + 30 + p.val, by omega⟩ l) := by
  have hs : dwBlock Q D (ix2 p l) = ∑ s : Fin 8, acc p Q D 32 (ix2 s l) := by
    match p with
    | ⟨0, _⟩ => exact pay20 l _
    | ⟨1, _⟩ => exact pay1 l _
    | ⟨2, _⟩ => exact pay2 l _
  have ht : (∑ n : Fin 2048, D (ix2 ⟨n.val, by omega⟩ l) * Q (ix2 ⟨n.val + 30 + p.val, by omega⟩ l))
      = ∑ n : Fin 2048, term l p Q D n.val :=
    Finset.sum_congr rfl fun n _ => by unfold term; rw [dif_pos n.isLt]
  rw [hs, ht, Fin.sum_univ_tiles 32 64 (by norm_num) (fun n : Fin 2048 => term l p Q D n.val)]
  simp only [acc_at l _ p Q D 32 le_rfl]
  rw [Finset.sum_comm]
  refine Finset.sum_congr rfl fun k _ => ?_
  rw [Fin.sum_univ_tiles (N := 64) 8 8 (by norm_num), Finset.sum_comm]
  refine Finset.sum_congr rfl fun g _ => Finset.sum_congr rfl fun s _ => ?_
  exact congrArg (term l p Q D) (by show 64 * k.val + (g.val * 8 + s.val) = k.val * 64 + (g.val * 8 + s.val); omega)

end Cert.ShortBwd.Ideals

end
-- ==== Proof.Reference.lean ====
module

public import proofs.«01_k».proof.Proof.Gen.ReferenceIdeal.Run
public import Idealize.ShloMosaic.Lib.Pointwise

@[expose] public section

/-!
# The reference's gradients, element by element

The gates are `b`, `c`, `u` in the columns of `z`, 2048 each. At channel `j`, with `q = c * u` two rows below its place and
`d = b * dy`, the reference's gradients are

* of `b`: `dy[t] * (w[0] q[t] + w[1] q[t + 1] + w[2] q[t + 2])`,
* of the product `c * u`: `w[2] d[t] + w[1] d[t + 1] + w[0] d[t + 2]`, times `u` for the gate `c` and times `c` for `u`,
* of the filter's row `p`: the sum over the tokens of `d[t] * q[t + p]`.
-/

noncomputable section

namespace Cert.ShortBwd.Ref

open Cert.ReferenceIdeal Cert.ReferenceIdeal.Gen Cert.ReferenceIdeal.Value
open Idealize.ShloMosaic Idealize.ShloMosaic.TcCoe

/-! ## The formulas -/

section Formulas

variable (z : S2048x6144.Idx → EReal) (dy : S2048x2048.Idx → EReal) (w : S3x2048.Idx → EReal) (j : Fin 2048)

/-- `d` at row `n`: zero past the last token. -/
def dAt (n : ℕ) : EReal := if h : n < 2048 then z (ix2 ⟨n, h⟩ ⟨j.val, by omega⟩) * dy (ix2 ⟨n, h⟩ j) else 0

/-- `q` at row `n`, shifted down by two: zero in the first two rows. -/
def qAt (n : ℕ) : EReal :=
  if h : 2 ≤ n ∧ n - 2 < 2048 then z (ix2 ⟨n - 2, h.2⟩ ⟨2048 + j.val, by omega⟩) * z (ix2 ⟨n - 2, h.2⟩ ⟨4096 + j.val, by omega⟩) else 0

/-- The gradient of `b`, -/
def dbAt (t : Fin 2048) : EReal :=
  dy (ix2 t j) * ((w (ix2 0 j) * qAt z j t.val + w (ix2 1 j) * qAt z j (t.val + 1)) + w (ix2 2 j) * qAt z j (t.val + 2))

/-- of `c * u`, -/
def dqAt (t : Fin 2048) : EReal :=
  (w (ix2 2 j) * dAt z dy j t.val + w (ix2 1 j) * dAt z dy j (t.val + 1)) + w (ix2 0 j) * dAt z dy j (t.val + 2)

/-- and of the filter's row `p`. -/
def dwAt (p : ℕ) : EReal := ∑ t : Fin 2048, dAt z dy j t.val * qAt z j (t.val + p)

variable {z dy w j}

/-- A row read through the shift. -/
theorem qAt_of {n : ℕ} (i : Fin 2048) (h : n = i.val + 2) :
    qAt z j n = z (ix2 i ⟨2048 + j.val, by omega⟩) * z (ix2 i ⟨4096 + j.val, by omega⟩) := by
  subst h
  unfold qAt
  rw [dif_pos ⟨by omega, by have := i.isLt; omega⟩]
  have e : ∀ h', (⟨i.val + 2 - 2, h'⟩ : Fin 2048) = i := fun _ => Fin.ext (by show i.val + 2 - 2 = i.val; omega)
  rw [e]

theorem qAt_lt {n : ℕ} (h : n < 2) : qAt z j n = 0 := by
  unfold qAt
  rw [dif_neg (by omega)]

theorem dAt_of {n : ℕ} (i : Fin 2048) (h : n = i.val) : dAt z dy j n = z (ix2 i ⟨j.val, by omega⟩) * dy (ix2 i j) := by
  subst h
  unfold dAt
  rw [dif_pos i.isLt]

theorem dAt_ge {n : ℕ} (h : 2048 ≤ n) : dAt z dy j n = 0 := by
  unfold dAt
  rw [dif_neg (by omega)]

end Formulas

/-! ## The gradient of the gates -/

variable (m : (ℓ : Loc nD τ sig) → Buf (Elt Ideal) ℓ) (c : Dev nD) (t j : Fin 2048)

/-- The arguments. -/
abbrev zOf : S2048x6144.Idx → EReal := m ((c.tc : Thread nD τ).loc main_arg0)
abbrev dyOf : S2048x2048.Idx → EReal := m ((c.tc : Thread nD τ).loc main_arg1)
abbrev wOf : S3x2048.Idx → EReal := m ((c.tc : Thread nD τ).loc main_arg2)

section Gates

variable (z : FVec Ideal S2048x6144 .bf16) (dy : FVec Ideal S2048x2048 .bf16) (w : FVec Ideal S3x2048 .f32)

/-- The gates. -/
def bOf : FVec Ideal S2048x2048 .f32 := extractStridedSlice S2048x2048 ![0, 0] (extf .f32 z bitsLt_bf16_f32) slices_S2048x6144_S2048x2048_0_0
def cOf : FVec Ideal S2048x2048 .f32 := extractStridedSlice S2048x2048 ![0, 2048] (extf .f32 z bitsLt_bf16_f32) slices_S2048x6144_S2048x2048_0_2048
def uOf : FVec Ideal S2048x2048 .f32 := extractStridedSlice S2048x2048 ![0, 4096] (extf .f32 z bitsLt_bf16_f32) slices_S2048x6144_S2048x2048_0_4096

/-- `d`. -/
def dOf : FVec Ideal S2048x2048 .f32 := mulf (bOf z) (extf .f32 dy bitsLt_bf16_f32)

/-- `c * u` below two zero rows. -/
def cuPad : FVec Ideal S2050x2048 .f32 :=
  concatenate S2050x2048 0 [⟨S2x2048, (broadcastInDim S2x2048 ![] bcast_S_S2x2048 (constant S_ .f32 0x00000000#32) : FVec Ideal S2x2048 .f32)⟩,
    ⟨S2048x2048, (mulf (cOf z) (uOf z) : FVec Ideal S2048x2048 .f32)⟩] concatenates_S2x2048_S2048x2048_S2050x2048_d0

def sh0 : FVec Ideal S2048x2048 .f32 := extractStridedSlice S2048x2048 ![0, 0] (cuPad z) slices_S2050x2048_S2048x2048_0_0
def sh1 : FVec Ideal S2048x2048 .f32 := extractStridedSlice S2048x2048 ![1, 0] (cuPad z) slices_S2050x2048_S2048x2048_1_0
def sh2 : FVec Ideal S2048x2048 .f32 := extractStridedSlice S2048x2048 ![2, 0] (cuPad z) slices_S2050x2048_S2048x2048_2_0

/-- The filter's rows, each repeated over the tokens. -/
def tap0 : FVec Ideal S2048x2048 .f32 := broadcastInDim S2048x2048 ![0, 1] bcast_S1x2048_S2048x2048_0_1
  (broadcastInDim S1x2048 ![1] bcast_S2048_S1x2048_1 (shapeCast _ (extractStridedSlice S1x2048 ![0, 0] w slices_S3x2048_S1x2048_0_0) shapeCasts_S1x2048_S2048))
def tap1 : FVec Ideal S2048x2048 .f32 := broadcastInDim S2048x2048 ![0, 1] bcast_S1x2048_S2048x2048_0_1
  (broadcastInDim S1x2048 ![1] bcast_S2048_S1x2048_1 (shapeCast _ (extractStridedSlice S1x2048 ![1, 0] w slices_S3x2048_S1x2048_1_0) shapeCasts_S1x2048_S2048))
def tap2 : FVec Ideal S2048x2048 .f32 := broadcastInDim S2048x2048 ![0, 1] bcast_S1x2048_S2048x2048_0_1
  (broadcastInDim S1x2048 ![1] bcast_S2048_S1x2048_1 (shapeCast _ (extractStridedSlice S1x2048 ![2, 0] w slices_S3x2048_S1x2048_2_0) shapeCasts_S1x2048_S2048))

/-- The convolution of `c * u`. -/
def convOf : FVec Ideal S2048x2048 .f32 :=
  addf (addf (addf (broadcastInDim S2048x2048 ![] bcast_S_S2048x2048 (constant S_ .f32 0x00000000#32)) (mulf (tap0 w) (sh0 z)))
    (mulf (tap1 w) (sh1 z))) (mulf (tap2 w) (sh2 z))

/-- The gradient of `c * u`. -/
def dqOf : FVec Ideal S2048x2048 .f32 :=
  extractStridedSlice S2048x2048 ![2, 0] (addf (addf
    (pad S2050x2048 ![2, 0] ![0, 0] ![0, 0] (mulf (tap2 w) (dOf z dy)) (constant S_ .f32 0x00000000#32) pads_S2048x2048_S2050x2048_200_000 h_S_)
    (pad S2050x2048 ![1, 0] ![1, 0] ![0, 0] (mulf (tap1 w) (dOf z dy)) (constant S_ .f32 0x00000000#32) pads_S2048x2048_S2050x2048_110_000 h_S_))
    (pad S2050x2048 ![0, 0] ![2, 0] ![0, 0] (mulf (tap0 w) (dOf z dy)) (constant S_ .f32 0x00000000#32) pads_S2048x2048_S2050x2048_020_000 h_S_))
    slices_S2050x2048_S2048x2048_2_0

/-- The gradient of `z`: the three gates' gradients, each put in its columns among zeros. -/
def gateGrad : FVec Ideal S2048x6144 .bf16 :=
  truncf .bf16 (addf (addf
    (pad S2048x6144 ![0, 4096] ![0, 0] ![0, 0] (mulf (cOf z) (dqOf z dy w)) (constant S_ .f32 0x00000000#32) pads_S2048x2048_S2048x6144_000_409600 h_S_)
    (pad S2048x6144 ![0, 2048] ![0, 2048] ![0, 0] (mulf (dqOf z dy w) (uOf z)) (constant S_ .f32 0x00000000#32) pads_S2048x2048_S2048x6144_000_204820480 h_S_))
    (pad S2048x6144 ![0, 0] ![0, 4096] ![0, 0] (mulf (extf .f32 dy bitsLt_bf16_f32) (convOf z w)) (constant S_ .f32 0x00000000#32) pads_S2048x2048_S2048x6144_000_040960 h_S_))
    bitsLt_bf16_f32

theorem b_at : bOf z (ix2 t j) = z (ix2 t ⟨j.val, by omega⟩) := by pointwise [bOf]
theorem c_at : cOf z (ix2 t j) = z (ix2 t ⟨2048 + j.val, by omega⟩) := by pointwise [cOf]
theorem u_at : uOf z (ix2 t j) = z (ix2 t ⟨4096 + j.val, by omega⟩) := by pointwise [uOf]
theorem d_at : dOf z dy (ix2 t j) = dAt z dy j t.val := by
  rw [dAt_of t rfl]
  pointwise [dOf, b_at]
theorem cuPad_at (n : Fin 2050) : cuPad z (ix2 n j) = qAt z j n.val := by
  pointwise [cuPad, c_at, u_at]
  split
  · rename_i h; exact (qAt_lt h).symm
  · exact (qAt_of ⟨n.val - 2, by omega⟩ (by show n.val = n.val - 2 + 2; omega)).symm
theorem sh0_at : sh0 z (ix2 t j) = qAt z j t.val := by pointwise [sh0, cuPad_at]
theorem sh1_at : sh1 z (ix2 t j) = qAt z j (t.val + 1) := by
  pointwise [sh1, cuPad_at]
  rw [Nat.add_comm]
theorem sh2_at : sh2 z (ix2 t j) = qAt z j (t.val + 2) := by
  pointwise [sh2, cuPad_at]
  rw [Nat.add_comm]
theorem tap0_at : tap0 w (ix2 t j) = w (ix2 0 j) := by pointwise [tap0]
theorem tap1_at : tap1 w (ix2 t j) = w (ix2 1 j) := by pointwise [tap1]
theorem tap2_at : tap2 w (ix2 t j) = w (ix2 2 j) := by pointwise [tap2]

theorem conv_at : dy (ix2 t j) * convOf z w (ix2 t j) = dbAt z dy w j t := by
  unfold dbAt
  pointwise [convOf, sh0_at, sh1_at, sh2_at, tap0_at, tap1_at, tap2_at]

theorem dq_at : dqOf z dy w (ix2 t j) = dqAt z dy w j t := by
  pointwise [dqOf, d_at, tap0_at, tap1_at, tap2_at]
  unfold dqAt
  refine congrArg₂ (· + ·) (congrArg₂ (· + ·) rfl ?_) ?_
  · split
    · rename_i h; exact congrArg₂ (· * ·) rfl (congrArg (dAt z dy j) (by omega))
    · rw [dAt_ge (by omega), mul_zero]
  · split
    · rename_i h; exact congrArg₂ (· * ·) rfl (congrArg (dAt z dy j) (by omega))
    · rw [dAt_ge (by omega), mul_zero]

theorem gateGrad_b : gateGrad z dy w (ix2 t ⟨j.val, by omega⟩) = dbAt z dy w j t := by
  have hj := j.isLt
  rw [← conv_at]
  pointwise [gateGrad]
  rw [dif_neg (by omega), dif_neg (fun h => h.1), zero_add, zero_add]
theorem gateGrad_c : gateGrad z dy w (ix2 t ⟨2048 + j.val, by omega⟩) = dqAt z dy w j t * z (ix2 t ⟨4096 + j.val, by omega⟩) := by
  have hj := j.isLt
  pointwise [gateGrad, dq_at, u_at]
  rw [dif_neg (by omega), zero_add]
theorem gateGrad_u : gateGrad z dy w (ix2 t ⟨4096 + j.val, by omega⟩) = dqAt z dy w j t * z (ix2 t ⟨2048 + j.val, by omega⟩) := by
  have hj := j.isLt
  pointwise [gateGrad, dq_at, c_at]
  rw [dif_neg (show ¬ (2048 ≤ 4096 + j.val ∧ 4096 + j.val - 2048 < 2048) by omega), dif_neg (by omega), add_zero, add_zero, mul_comm]

end Gates

/-! ## The filter's gradient -/

section Filter

variable (z : FVec Ideal S2048x6144 .bf16) (dy : FVec Ideal S2048x2048 .bf16)

/-- The sum over the tokens of `d` times an array. -/
def colSum (S : FVec Ideal S2048x2048 .f32) : FVec Ideal S1x2048 .f32 :=
  broadcastInDim S1x2048 ![1] bcast_S2048_S1x2048_1 (Host.reduceAdd (shapeCast _ (Host.reduceAdd (mulf (dOf z dy) S)
    (constant S_ .f32 0x00000000#32) reducesTo_S2048x2048_S2048_d0 h_S_) shapeCasts_S2048_S1x2048) (constant S_ .f32 0x00000000#32) reducesTo_S1x2048_S2048_d0 h_S_)

/-- The filter's gradient as the reference builds it: one row per tap, each put in its place among zeros. -/
def filterGrad : FVec Ideal S3x2048 .f32 :=
  addf (addf
    (pad S3x2048 ![2, 0] ![0, 0] ![0, 0] (colSum z dy (sh2 z)) (constant S_ .f32 0x00000000#32) pads_S1x2048_S3x2048_200_000 h_S_)
    (pad S3x2048 ![1, 0] ![1, 0] ![0, 0] (colSum z dy (sh1 z)) (constant S_ .f32 0x00000000#32) pads_S1x2048_S3x2048_110_000 h_S_))
    (pad S3x2048 ![0, 0] ![2, 0] ![0, 0] (colSum z dy (sh0 z)) (constant S_ .f32 0x00000000#32) pads_S1x2048_S3x2048_020_000 h_S_)

theorem colSum_at (S : FVec Ideal S2048x2048 .f32) : colSum z dy S (ix2 0 j) = ∑ t : Fin 2048, dAt z dy j t.val * S (ix2 t j) := by
  pointwise [colSum, d_at]
  exact Fin.sum_univ_one _

theorem filterGrad_at (p : Fin 3) : filterGrad z dy (ix2 p j) = dwAt z dy j p.val := by
  match p with
  | ⟨0, _⟩ => pointwise [filterGrad, colSum_at, sh0_at]; rfl
  | ⟨1, _⟩ => pointwise [filterGrad, colSum_at, sh1_at]; rfl
  | ⟨2, _⟩ => pointwise [filterGrad, colSum_at, sh2_at]; rfl

end Filter

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v74) = gateGrad (zOf m c) (dyOf m c) (wOf m c)
      ∧ r.2.mem ((c.tc : Thread nD τ).loc main_v64) = filterGrad (zOf m c) (dyOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold res_main_v74; rfl), (h c).2.1.trans rfl, (h c).2.2⟩) (Cert.ReferenceIdeal.Value.run m ρ)

end Cert.ShortBwd.Ref

end
-- ==== Proof.KernelValue.lean ====
module

public import proofs.«01_k».proof.Proof.Run
public import proofs.«01_k».proof.Proof.Value
public import proofs.«01_k».proof.Proof.Reference
public import Idealize.ShloMosaic.Lib.Pipeline.ValueKit

@[expose] public section

/-!
# The kernel's results, element by element

The blocks the grid points read, the two results after the run, and that they are the reference's.
-/

noncomputable section

namespace Cert.ShortBwd.Ideals

open Cert.KernelIdeal Cert.KernelIdeal.Gen Cert.ShortBwd Cert.ShortBwd.Ref
open Idealize.ShloMosaic Idealize.ShloMosaic.TcCoe

variable (m : (ℓ : Loc nD τ sig) → Buf (Elt Ideal) ℓ) (c : Dev nD) (t : Fin cfg0.N) (r : Fin 2048) (l : Fin 256)

/-- The arguments. -/
abbrev zK : S2048x6144.Idx → EReal := m ((c.tc : Thread nD τ).loc main_arg0)
abbrev dyK : S2048x2048.Idx → EReal := m ((c.tc : Thread nD τ).loc main_arg1)
abbrev wK : S3x2048.Idx → EReal := m ((c.tc : Thread nD τ).loc main_arg2)

/-- Channel `l` of point `t`. -/
def chan : Fin 2048 := ⟨256 * t.val + l.val, by have h : t.val < 8 := lt_of_lt_of_eq t.isLt N_0; have := l.isLt; omega⟩

theorem index0 : ∀ t : Fin grid0.N, cc0_transform_0 (grid0.coords t) = ![0, t.val] := by decide
theorem index1 : ∀ t : Fin grid0.N, cc0_transform_1 (grid0.coords t) = ![0, 8 + t.val] := by decide
theorem index2 : ∀ t : Fin grid0.N, cc0_transform_2 (grid0.coords t) = ![0, 16 + t.val] := by decide
theorem index3 : ∀ t : Fin grid0.N, cc0_transform_3 (grid0.coords t) = ![0, t.val] := by decide
theorem index4 : ∀ t : Fin grid0.N, cc0_transform_4 (grid0.coords t) = ![0, t.val] := by decide
theorem index5 : ∀ t : Fin grid0.N, cc0_transform_6 (grid0.coords t) = ![0, t.val] := by decide

/-! ## The blocks -/

theorem blk0 : iblk m c 0 t (ix2 r l) = zK m c (ix2 r ⟨(chan t l).val, by have := (chan t l).isLt; omega⟩) := by
  unfold iblk
  refine congrArg (zK m c) (funext fun a => Fin.ext ?_)
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 256 + 1 * l.val = (256 * t.val + l.val)
    rw [index0]; show t.val * 256 + 1 * l.val = (256 * t.val + l.val); omega

theorem blk1 : iblk m c 1 t (ix2 r l) = zK m c (ix2 r ⟨2048 + (chan t l).val, by have := (chan t l).isLt; omega⟩) := by
  unfold iblk
  refine congrArg (zK m c) (funext fun a => Fin.ext ?_)
  match a with
  | ⟨0, _⟩ =>
    show cc0_transform_1 (grid0.coords t) 0 * 2048 + 1 * r.val = r.val
    rw [index1]; show 0 * 2048 + 1 * r.val = r.val; omega
  | ⟨1, _⟩ =>
    show cc0_transform_1 (grid0.coords t) 1 * 256 + 1 * l.val = 2048 + (256 * t.val + l.val)
    rw [index1]; show (8 + t.val) * 256 + 1 * l.val = 2048 + (256 * t.val + l.val); omega

theorem blk2 : iblk m c 2 t (ix2 r l) = zK m c (ix2 r ⟨4096 + (chan t l).val, by have := (chan t l).isLt; omega⟩) := by
  unfold iblk
  refine congrArg (zK m c) (funext fun a => Fin.ext ?_)
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 256 + 1 * l.val = 4096 + (256 * t.val + l.val)
    rw [index2]; show (16 + t.val) * 256 + 1 * l.val = 4096 + (256 * t.val + l.val); omega

theorem blk3 : iblk m c 3 t (ix2 r l) = dyK m c (ix2 r (chan t l)) := by
  unfold iblk
  refine congrArg (dyK m c) (funext fun a => Fin.ext ?_)
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 256 + 1 * l.val = (256 * t.val + l.val)
    rw [index3]; show t.val * 256 + 1 * l.val = (256 * t.val + l.val); omega

theorem blk4 (p : Fin 3) : iblk m c 4 t (ix2 p l) = wK m c (ix2 p (chan t l)) := by
  unfold iblk
  refine congrArg (wK m c) (funext fun a => Fin.ext ?_)
  match a with
  | ⟨0, _⟩ =>
    show cc0_transform_4 (grid0.coords t) 0 * 3 + 1 * p.val = p.val
    rw [index4]; show 0 * 3 + 1 * p.val = p.val; omega
  | ⟨1, _⟩ =>
    show cc0_transform_4 (grid0.coords t) 1 * 256 + 1 * l.val = (256 * t.val + l.val)
    rw [index4]; show t.val * 256 + 1 * l.val = (256 * t.val + l.val); omega

/-! ## One point -/

theorem ptQ_at (n : ℕ) (k : Fin 2080) (h : k.val = n + 30) : ptQ m c t (ix2 k l) = qAt (zK m c) (chan t l) n := by
  refine (padQ_at l _ _ k).trans ?_
  unfold qrow
  by_cases h2 : n < 2
  · rw [if_pos (by omega), qAt_lt h2]
  · rw [if_neg (by omega)]
    have e : k.val - 32 < 2048 := by have := k.isLt; omega
    unfold row
    rw [dif_pos e, dif_pos e, blk1, blk2]
    exact (qAt_of ⟨k.val - 32, e⟩ (by show n = k.val - 32 + 2; omega)).symm

theorem ptD_at (n : ℕ) (k : Fin 2080) (h : k.val = n) : ptD m c t (ix2 k l) = dAt (zK m c) (dyK m c) (chan t l) n := by
  refine (padD_at l _ _ k).trans ?_
  subst h
  unfold row
  by_cases h2 : k.val < 2048
  · rw [dif_pos h2, dif_pos h2, blk3, blk0, mul_comm]
    exact (dAt_of ⟨k.val, h2⟩ rfl).symm
  · rw [dif_neg h2, dif_neg h2, mul_zero, dAt_ge (by omega)]

theorem ptW_at (p : Fin 3) : ptW m c t (ix2 p l) = dwAt (zK m c) (dyK m c) (chan t l) p.val := by
  refine (dwBlock_at l p _ _).trans (Finset.sum_congr rfl fun n _ => ?_)
  rw [ptD_at m c t l n.val _ rfl, ptQ_at m c t l (n.val + p.val) _ (by show n.val + 30 + p.val = n.val + p.val + 30; omega)]

theorem ptT0_at : ptT m c t (ix3 0 r l) = dbAt (zK m c) (dyK m c) (wK m c) (chan t l) r := by
  refine (tiles0_at l _ _ _ _ r _ _).trans ?_
  rw [ptQ_at m c t l r.val _ rfl, ptQ_at m c t l (r.val + 1) _ rfl, ptQ_at m c t l (r.val + 2) _ rfl, blk3, blk4, blk4, blk4]
  rfl

theorem dq_eq : dq l r (iblk m c 4 t) (ptD m c t) = dqAt (zK m c) (dyK m c) (wK m c) (chan t l) r := by
  unfold dq
  rw [ptD_at m c t l r.val _ rfl, ptD_at m c t l (r.val + 1) _ rfl, ptD_at m c t l (r.val + 2) _ rfl, blk4, blk4, blk4]
  rfl

theorem ptT1_at (j : Fin 2048) (h : chan t l = j) :
    ptT m c t (ix3 1 r l) = dqAt (zK m c) (dyK m c) (wK m c) j r * zK m c (ix2 r ⟨4096 + j.val, by omega⟩) := by
  subst h
  refine (tiles1_at l _ _ _ _ r _ _).trans ?_
  rw [dq_eq, blk2]

theorem ptT2_at (j : Fin 2048) (h : chan t l = j) :
    ptT m c t (ix3 2 r l) = dqAt (zK m c) (dyK m c) (wK m c) j r * zK m c (ix2 r ⟨2048 + j.val, by omega⟩) := by
  subst h
  refine (tiles2_at l _ _ _ _ r _ _).trans ?_
  rw [dq_eq, blk1]

/-! ## The whole results -/

/-- The copied result at channel `j` of third `w`: the slab of its point. -/
theorem mix_at (w : Fin 3) (j : Fin 2048) (k : Fin 6144) (h : k.val = 2048 * w.val + j.val) :
    mix m c 8 (ix2 r k) = ptT m c (gpt (j.val / 256) (by have := j.isLt; omega)) (ix3 w r ⟨j.val % 256, Nat.mod_lt _ (by decide)⟩) := by
  have hj := j.isLt
  have hw := w.isLt
  unfold mix
  refine (if_pos (show k.val / 256 % 8 < 8 by omega)).trans ?_
  have e : gpt (k.val / 256 % 8) (Nat.mod_lt _ (by decide)) = gpt (j.val / 256) (by omega) :=
    Fin.ext (by show k.val / 256 % 8 = j.val / 256; omega)
  refine (congrArg (fun t => ptT m c t _) e).trans (congrArg (ptT m c _) (funext fun a => Fin.ext ?_))
  match a with
  | ⟨0, _⟩ => show k.val / 256 / 8 = w.val; omega
  | ⟨1, _⟩ => rfl
  | ⟨2, _⟩ => show k.val % 256 = j.val % 256; omega

theorem chan_eq (j : Fin 2048) (h : j.val / 256 < 8) : chan (gpt (j.val / 256) h) ⟨j.val % 256, Nat.mod_lt _ (by decide)⟩ = j :=
  Fin.ext (Nat.div_add_mod _ _)

theorem at_col {α : Type} {n k : ℕ} {x : (⟨2, ![n, k]⟩ : Shape).Idx → α} (r : Fin n) {a b : Fin k} (h : a.val = b.val) :
    x (ix2 r a) = x (ix2 r b) := by
  rw [Fin.ext h]

/-- The gradient of `z` is the reference's. -/
theorem gates : mix m c 8 = gateGrad (zK m c) (dyK m c) (wK m c) := by
  funext i
  obtain ⟨r, k, rfl⟩ : ∃ (r : Fin 2048) (k : Fin 6144), i = ix2 r k := ⟨i 0, i 1, eq_ix2 i⟩
  have hk := k.isLt
  by_cases h0 : k.val < 2048
  · obtain ⟨j, hj⟩ : ∃ j : Fin 2048, k.val = j.val := ⟨⟨k.val, h0⟩, rfl⟩
    refine (mix_at m c r 0 j k (hj.trans (Nat.zero_add _).symm)).trans ((ptT0_at m c _ r _).trans ?_)
    rw [chan_eq j]
    exact (gateGrad_b r j (zK m c) (dyK m c) (wK m c)).symm.trans (at_col (x := gateGrad (zK m c) (dyK m c) (wK m c)) r hj.symm)
  by_cases h1 : k.val < 4096
  · obtain ⟨j, hj⟩ : ∃ j : Fin 2048, k.val = 2048 + j.val := ⟨⟨k.val - 2048, by omega⟩, (Nat.add_sub_cancel' (by omega)).symm⟩
    refine (mix_at m c r 1 j k hj).trans ((ptT1_at m c _ r _ j (chan_eq j _)).trans ?_)
    exact (gateGrad_c r j (zK m c) (dyK m c) (wK m c)).symm.trans (at_col (x := gateGrad (zK m c) (dyK m c) (wK m c)) r hj.symm)
  · obtain ⟨j, hj⟩ : ∃ j : Fin 2048, k.val = 4096 + j.val := ⟨⟨k.val - 4096, by omega⟩, (Nat.add_sub_cancel' (by omega)).symm⟩
    refine (mix_at m c r 2 j k hj).trans ((ptT2_at m c _ r _ j (chan_eq j _)).trans ?_)
    exact (gateGrad_u r j (zK m c) (dyK m c) (wK m c)).symm.trans (at_col (x := gateGrad (zK m c) (dyK m c) (wK m c)) r hj.symm)

/-- The filter's gradient is the reference's. -/
theorem filter : (dats m 0 c).arrAt 5 cfg0.N = filterGrad (zK m c) (dyK m c) := by
  refine (dats m 0 c).arrAt_eq_of_covers 5 _ (by decide +kernel) fun t hf y => ?_
  blk_simp
  obtain ⟨p, l, rfl⟩ : ∃ (p : Fin 3) (l : Fin 256), y = ix2 p l := ⟨y 0, y 1, eq_ix2 y⟩
  refine (ptW_at m c t l p).trans ((filterGrad_at (chan t l) (zK m c) (dyK m c) p).symm.trans ?_)
  refine congrArg (filterGrad (zK m c) (dyK m c)) (funext fun a => Fin.ext ?_)
  match a with
  | ⟨0, _⟩ =>
    show p.val = cc0_transform_6 (grid0.coords t) 0 * 3 + 1 * p.val
    rw [index5]; show p.val = 0 * 3 + 1 * p.val; omega
  | ⟨1, _⟩ =>
    show 256 * t.val + l.val = cc0_transform_6 (grid0.coords t) 1 * 256 + 1 * l.val
    rw [index5]; show 256 * t.val + l.val = t.val * 256 + 1 * l.val; omega

end Cert.ShortBwd.Ideals

end
-- ==== Proof.HiddenReference.lean ====
module

public import proofs.«01_k».proof.Proof.Gen.Reference2Ideal.Run
public import Idealize.ShloMosaic.Lib.Pointwise

@[expose] public section

/-!
# The gradients of `relu(pre)² · w2`, element by element

With `a = max pre 0` and `r = df · w2ᵀ`, the reference's gradients are, of `pre`, `a * r + r * a` where `pre` is positive and
zero elsewhere, and, of `w2`, the sum over the tokens of `df * (a * a)`.
-/

noncomputable section

namespace Cert.Hidden.Ref

open Cert.Reference2Ideal Cert.Reference2Ideal.Gen Cert.Reference2Ideal.Value
open Idealize.ShloMosaic Idealize.ShloMosaic.TcCoe

/-- Twice an extended real is the real added to itself. -/
theorem two_mul_eq (x : EReal) : 2 * x = x + x := by
  rw [← two_nsmul, EReal.nsmul_eq_mul, Nat.cast_ofNat]

section Terms

variable (pre : FVec Ideal S2048x8192 .f32) (w2 : FVec Ideal S8192x2048 .bf16) (df : FVec Ideal S2048x2048 .bf16)
variable (t : Fin 2048) (j : Fin 8192) (n : Fin 2048)

/-- The activation before its square. -/
def act : FVec Ideal S2048x8192 .f32 := maximumf pre (broadcastInDim S2048x8192 ![] bcast_S_S2048x8192 (constant S_ .f32 0x00000000#32))

/-- The gradient of the squared activation. -/
def sqGrad : FVec Ideal S2048x8192 .f32 :=
  Host.dotGeneral dot_S2048x2048_S8192x2048_S2048x8192_1_1_0_0_n_n none (extf .f32 df bitsLt_bf16_f32) (extf .f32 w2 bitsLt_bf16_f32)

/-- The gradient of `pre`. -/
def preGrad : FVec Ideal S2048x8192 .bf16 :=
  truncf .bf16 (select (cmpf .ogt pre (broadcastInDim S2048x8192 ![] bcast_S_S2048x8192 (constant S_ .f32 0x00000000#32)))
    (addf (mulf (act pre) (sqGrad w2 df)) (mulf (sqGrad w2 df) (act pre)))
    (broadcastInDim S2048x8192 ![] bcast_S_S2048x8192 (constant S_ .f32 0x00000000#32))) bitsLt_bf16_f32

/-- The gradient of `w2`. -/
def weightGrad : FVec Ideal S8192x2048 .bf16 :=
  truncf .bf16 (transpose S8192x2048 [1, 0] (Host.dotGeneral dot_S2048x2048_S2048x8192_S2048x8192_0_0_1_1_n_n none
    (extf .f32 df bitsLt_bf16_f32) (mulf (act pre) (act pre))) transposes_S2048x8192_S8192x2048_1_0) bitsLt_bf16_f32

theorem act_at : act pre (ix2 t j) = max (pre (ix2 t j)) 0 := by pointwise [act]

theorem sqGrad_at : sqGrad w2 df (ix2 t j) = ∑ k : Fin 2048, df (ix2 t k) * w2 (ix2 j k) := by pointwise [sqGrad]

theorem preGrad_at : preGrad pre w2 df (ix2 t j) = sqGrad w2 df (ix2 t j) * (2 * max (pre (ix2 t j)) 0) := by
  pointwise [preGrad, act_at]
  generalize sqGrad w2 df (ix2 t j) = r
  split
  · rw [mul_comm r (max _ _), ← two_mul_eq, mul_left_comm r 2, mul_comm r]
  · rename_i h
    rw [max_eq_right (not_lt.mp h), mul_zero, mul_zero]

theorem weightGrad_at : weightGrad pre df (ix2 j n) = ∑ t : Fin 2048, df (ix2 t n) * (max (pre (ix2 t j)) 0 * max (pre (ix2 t j)) 0) := by
  pointwise [weightGrad, act_at]

end Terms

variable (m : (ℓ : Loc nD τ sig) → Buf (Elt Ideal) ℓ) (c : Dev nD)

/-- The arguments. -/
abbrev preOf : S2048x8192.Idx → EReal := m ((c.tc : Thread nD τ).loc main_arg0)
abbrev w2Of : S8192x2048.Idx → EReal := m ((c.tc : Thread nD τ).loc main_arg1)
abbrev dfOf : S2048x2048.Idx → EReal := m ((c.tc : Thread nD τ).loc main_arg2)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v16) = preGrad (preOf m c) (w2Of m c) (dfOf m c)
      ∧ r.2.mem ((c.tc : Thread nD τ).loc main_v17) = weightGrad (preOf m c) (dfOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference2Ideal.Value.run m ρ)

end Cert.Hidden.Ref

end
-- ==== Proof.Hidden.lean ====
module

public import proofs.«01_k».proof.Proof.Gen.Kernel2Ideal.Value
public import proofs.«01_k».proof.Proof.HiddenReference
public import Idealize.ShloMosaic.Lib.Pipeline.ValueKit

@[expose] public section

/-!
# The gradients of `relu(pre)² · w2` as the kernel computes them

Grid point `t` takes 512 of the 8192 hidden channels: its block of `pre`'s gradient, 2048 tokens by 512 channels, and its
block of `w2`'s gradient, 512 channels by 2048. Every sum is over a whole axis, so no sum is re-blocked.
-/

noncomputable section

namespace Cert.Hidden

open Cert.Kernel2Ideal Cert.Kernel2Ideal.Gen Cert.Hidden.Ref
open Idealize.ShloMosaic Idealize.ShloMosaic.TcCoe

section Blocks

variable (a : Vec Ideal S2048x512 .bf16) (df : Vec Ideal S2048x2048 .bf16) (w : Vec Ideal S512x2048 .bf16)
variable (r : Fin 2048) (l : Fin 512) (n : Fin 2048)

theorem ofBits_two : Ideal.ofBits .f32 0x40000000#32 = 2 := by
  simp [Ideal.ofBits, Ideal.ieee, -EReal.coe_mul]
  norm_num
  rfl

theorem pay2_at : k0_pay2 a df w (ix2 r l) = (∑ k : Fin 2048, df (ix2 r k) * w (ix2 l k)) * (2 * a (ix2 r l)) := by
  rw [← ofBits_two]
  pointwise [k0_pay2, k0_pay1]

theorem out3_eq : out0_3 df w a = k0_pay2 a df w := by frame_out
theorem out4_eq : out0_4 df w a = k0_pay3 a df := by frame_out

theorem pay3_at : k0_pay3 a df (ix2 l n) = ∑ r : Fin 2048, (a (ix2 r l) * a (ix2 r l)) * df (ix2 r n) := by
  pointwise [k0_pay3, k0_pay1]

end Blocks

variable (m : (ℓ : Loc nD τ sig) → Buf (Elt Ideal) ℓ) (c : Dev nD) (t : Fin cfg0.N) (r : Fin 2048) (l : Fin 512) (n : Fin 2048)

/-- The arguments. -/
abbrev preK : S2048x8192.Idx → EReal := m ((c.tc : Thread nD τ).loc main_arg0)
abbrev w2K : S8192x2048.Idx → EReal := m ((c.tc : Thread nD τ).loc main_arg1)
abbrev dfK : S2048x2048.Idx → EReal := m ((c.tc : Thread nD τ).loc main_arg2)

/-- Hidden channel `l` of point `t`. -/
def chan : Fin 8192 := ⟨512 * t.val + l.val, by have h : t.val < 16 := lt_of_lt_of_eq t.isLt N_0; have := l.isLt; omega⟩

theorem index0 : ∀ t : Fin grid0.N, cc0_transform_0 (grid0.coords t) = ![0, 0] := by decide
theorem index1 : ∀ t : Fin grid0.N, cc0_transform_1 (grid0.coords t) = ![t.val, 0] := by decide
theorem index2 : ∀ t : Fin grid0.N, cc0_transform_2 (grid0.coords t) = ![0, t.val] := by decide
theorem index3 : ∀ t : Fin grid0.N, cc0_transform_3 (grid0.coords t) = ![0, t.val] := by decide
theorem index4 : ∀ t : Fin grid0.N, cc0_transform_4 (grid0.coords t) = ![t.val, 0] := by decide

/-- The activation that the host computes before the call. -/
theorem act_eq : V m c main_v1 = act (preK m c) := by
  unfold V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem blk0 : iblk m c 0 t (ix2 r n) = dfK m c (ix2 r n) := by
  unfold iblk
  refine (congrFun (V_main_arg2 m c) _).trans (congrArg (dfK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * n.val = n.val
    rw [index0]; show 0 * 2048 + 1 * n.val = n.val; omega

theorem blk1 : iblk m c 1 t (ix2 l n) = w2K m c (ix2 (chan t l) n) := by
  unfold iblk
  refine (congrFun (V_main_arg1 m c) _).trans (congrArg (w2K m c) (funext fun a => Fin.ext ?_))
  match a with
  | ⟨0, _⟩ =>
    show cc0_transform_1 (grid0.coords t) 0 * 512 + 1 * l.val = 512 * t.val + l.val
    rw [index1]; show t.val * 512 + 1 * l.val = 512 * t.val + l.val; omega
  | ⟨1, _⟩ =>
    show cc0_transform_1 (grid0.coords t) 1 * 2048 + 1 * n.val = n.val
    rw [index1]; show 0 * 2048 + 1 * n.val = n.val; omega

theorem blk2 : iblk m c 2 t (ix2 r l) = max (preK m c (ix2 r (chan t l))) 0 := by
  unfold iblk
  refine (congrFun (act_eq m c) _).trans (Eq.trans ?_ (act_at (preK m c) r (chan t l)))
  refine congrArg (act (preK m c)) (funext fun a => Fin.ext ?_)
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 512 + 1 * l.val = 512 * t.val + l.val
    rw [index2]; show t.val * 512 + 1 * l.val = 512 * t.val + l.val; omega

theorem chan_emb3 : (win0_3.blk t).view.emb (ix2 r l) = (ix2 r (chan t l) : S2048x8192.Idx) := by
  refine funext fun a => Fin.ext ?_
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 512 + 1 * l.val = 512 * t.val + l.val
    rw [index3]; show t.val * 512 + 1 * l.val = 512 * t.val + l.val; omega

theorem chan_emb4 : (win0_4.blk t).view.emb (ix2 l n) = (ix2 (chan t l) n : S8192x2048.Idx) := by
  refine funext fun a => Fin.ext ?_
  match a with
  | ⟨0, _⟩ =>
    show cc0_transform_4 (grid0.coords t) 0 * 512 + 1 * l.val = 512 * t.val + l.val
    rw [index4]; show t.val * 512 + 1 * l.val = 512 * t.val + l.val; omega
  | ⟨1, _⟩ =>
    show cc0_transform_4 (grid0.coords t) 1 * 2048 + 1 * n.val = n.val
    rw [index4]; show 0 * 2048 + 1 * n.val = n.val; omega

/-- The gradient of `pre` is the reference's. -/
theorem pre_grad : (dats m 0 c).arrAt 3 cfg0.N = preGrad (preK m c) (w2K m c) (dfK m c) := by
  refine (dats m 0 c).arrAt_eq_of_covers 3 _ (by decide +kernel) fun t hf y => ?_
  blk_simp
  obtain ⟨r, l, rfl⟩ : ∃ (r : Fin 2048) (l : Fin 512), y = ix2 r l := ⟨y 0, y 1, eq_ix2 y⟩
  rw [chan_emb3, preGrad_at, sqGrad_at, after0_3, out3_eq, pay2_at, blk2]
  refine congrArg₂ (· * ·) (Finset.sum_congr rfl fun k _ => ?_) rfl
  rw [blk0, blk1]

/-- The gradient of `w2` is the reference's. -/
theorem weight_grad : (dats m 0 c).arrAt 4 cfg0.N = weightGrad (preK m c) (dfK m c) := by
  refine (dats m 0 c).arrAt_eq_of_covers 4 _ (by decide +kernel) fun t hf y => ?_
  blk_simp
  obtain ⟨l, n, rfl⟩ : ∃ (l : Fin 512) (n : Fin 2048), y = ix2 l n := ⟨y 0, y 1, eq_ix2 y⟩
  rw [chan_emb4, weightGrad_at, after0_4, out4_eq, pay3_at]
  refine Fin.sum_fin_congr fun r => ?_
  rw [blk0, blk2]
  exact mul_comm (_ : EReal) _

end Cert.Hidden

end
-- ==== Proof.InputReference.lean ====
module

public import proofs.«01_k».proof.Proof.Gen.Reference3Ideal.Run
public import Idealize.ShloMosaic.Lib.Pointwise

@[expose] public section

/-! # The gradients of the blocked product `h · w1`, element by element -/

noncomputable section

namespace Cert.Input.Ref

open Cert.Reference3Ideal Cert.Reference3Ideal.Gen Cert.Reference3Ideal.Value
open Idealize.ShloMosaic Idealize.ShloMosaic.TcCoe

section Terms

variable (h : FVec Ideal S2048x2048 .bf16) (w : FVec Ideal S8x2048x1024 .bf16) (dz : FVec Ideal S2048x8192 .bf16)
variable (r k : Fin 2048) (b : Fin 8) (l : Fin 1024)

/-- The output's gradient, its columns by block. -/
def split : FVec Ideal S2048x8x1024 .f32 := shapeCast _ (extf .f32 dz bitsLt_bf16_f32) shapeCasts_S2048x8192_S2048x8x1024

/-- The gradient of `h`. -/
def inputGrad : FVec Ideal S2048x2048 .bf16 :=
  truncf .bf16 (Host.dotGeneral dot_S2048x8x1024_S8x2048x1024_S2048x2048_12_02_0_1_n_n none (split dz) (extf .f32 w bitsLt_bf16_f32))
    bitsLt_bf16_f32

/-- The gradient of `w1`. -/
def weightGrad : FVec Ideal S8x2048x1024 .bf16 :=
  truncf .bf16 (transpose S8x2048x1024 [0, 2, 1] (Host.dotGeneral dot_S2048x8x1024_S2048x2048_S8x1024x2048_0_0_12_1_n_n none
    (split dz) (extf .f32 h bitsLt_bf16_f32)) transposes_S8x1024x2048_S8x2048x1024_0_2_1) bitsLt_bf16_f32

/-- Column `l` of block `b`. -/
def col (b : Fin 8) (l : Fin 1024) : Fin 8192 := ⟨b.val * 1024 + l.val, by omega⟩

theorem split_at : split dz (ix3 r b l) = dz (ix2 r (col b l)) := by pointwise [split, col]

theorem inputGrad_at : inputGrad w dz (ix2 r k) = ∑ b : Fin 8, ∑ l : Fin 1024, dz (ix2 r (col b l)) * w (ix3 b k l) := by
  pointwise [inputGrad, split_at]

theorem weightGrad_at : weightGrad h dz (ix3 b k l) = ∑ r : Fin 2048, dz (ix2 r (col b l)) * h (ix2 r k) := by
  pointwise [weightGrad, split_at]

end Terms

variable (m : (ℓ : Loc nD τ sig) → Buf (Elt Ideal) ℓ) (c : Dev nD)

/-- The arguments. -/
abbrev hOf : S2048x2048.Idx → EReal := m ((c.tc : Thread nD τ).loc main_arg0)
abbrev wOf : S8x2048x1024.Idx → EReal := m ((c.tc : Thread nD τ).loc main_arg1)
abbrev dzOf : S2048x8192.Idx → EReal := m ((c.tc : Thread nD τ).loc main_arg2)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v9) = inputGrad (wOf m c) (dzOf m c)
      ∧ r.2.mem ((c.tc : Thread nD τ).loc main_v10) = weightGrad (hOf m c) (dzOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference3Ideal.Value.run m ρ)

end Cert.Input.Ref

end
-- ==== Proof.Accumulate.lean ====
module

public import Mathlib.Algebra.BigOperators.Fin
public import Mathlib.Data.EReal.Operations

@[expose] public section

/-!
# A sum accumulated over a run of grid points

The grid is walked in runs of `J` points. The first point of a run stores its part, the points between add theirs, and the last
adds its part to what the point before left and writes the block out. The block is then the sum of the run's `J` parts.
-/

namespace Cert.Accumulate

variable {N J : ℕ} (hJ : 2 ≤ J) (f : (n : ℕ) → n < N → EReal) (b : ℕ) (part : Fin J → EReal)

/-- Before the last point of run `b` the accumulator holds the parts so far. -/
theorem partial_sum
    (first : ∀ t : Fin N, t.val / J = b → t.val % J = 0 → f t.val t.isLt = part ⟨t.val % J, Nat.mod_lt _ (by omega)⟩)
    (between : ∀ t : Fin N, t.val / J = b → ¬t.val % J = 0 → ¬t.val % J = J - 1 → f t.val t.isLt
      = f (t.val - 1) (Nat.lt_of_le_of_lt (Nat.sub_le _ _) t.isLt) + part ⟨t.val % J, Nat.mod_lt _ (by omega)⟩) :
    ∀ (s : ℕ) (hs : s < J - 1) (h : J * b + s < N), f (J * b + s) h = ∑ i : Fin (s + 1), part ⟨i.val, by omega⟩ := by
  intro s
  induction s with
  | zero =>
    intro hs h
    have hm : (J * b + 0) % J = 0 := by rw [Nat.mul_add_mod]; exact Nat.zero_mod J
    have hd : (J * b + 0) / J = b := by rw [Nat.add_zero, Nat.mul_div_cancel_left _ (by omega)]
    rw [first ⟨J * b + 0, h⟩ hd hm, Fin.sum_univ_one]
    exact congrArg part (Fin.ext hm)
  | succ s ih =>
    intro hs h
    have hm : (J * b + (s + 1)) % J = s + 1 := by rw [Nat.mul_add_mod, Nat.mod_eq_of_lt (by omega)]
    have hd : (J * b + (s + 1)) / J = b := by
      rw [Nat.mul_add_div (by omega), Nat.div_eq_of_lt (show s + 1 < J by omega), Nat.add_zero]
    rw [between ⟨J * b + (s + 1), h⟩ hd (by show ¬(J * b + (s + 1)) % J = 0; omega)
      (by show ¬(J * b + (s + 1)) % J = J - 1; omega), Fin.sum_univ_castSucc]
    exact congrArg₂ (· + ·) (ih (by omega) (by omega)) (congrArg part (Fin.ext hm))

/-- The block written out at the last point of run `b` is the sum of the run's parts. -/
theorem run_sum
    (first : ∀ t : Fin N, t.val / J = b → t.val % J = 0 → f t.val t.isLt = part ⟨t.val % J, Nat.mod_lt _ (by omega)⟩)
    (between : ∀ t : Fin N, t.val / J = b → ¬t.val % J = 0 → ¬t.val % J = J - 1 → f t.val t.isLt
      = f (t.val - 1) (Nat.lt_of_le_of_lt (Nat.sub_le _ _) t.isLt) + part ⟨t.val % J, Nat.mod_lt _ (by omega)⟩)
    (t : Fin N) (hb : t.val / J = b) (ht : t.val % J = J - 1) :
    f (t.val - 1) (Nat.lt_of_le_of_lt (Nat.sub_le _ _) t.isLt) + part ⟨t.val % J, Nat.mod_lt _ (by omega)⟩
      = ∑ i : Fin J, part i := by
  obtain ⟨K, rfl⟩ : ∃ K, J = K + 1 := ⟨J - 1, by omega⟩
  obtain ⟨s, rfl⟩ : ∃ s, K = s + 1 := ⟨K - 1, by omega⟩
  have hd := Nat.div_add_mod t.val (s + 1 + 1)
  rw [hb] at hd
  have e : t.val - 1 = (s + 1 + 1) * b + s := by omega
  rw [Fin.sum_univ_castSucc]
  refine congrArg₂ (· + ·) ?_ (congrArg part (Fin.ext ht))
  refine Eq.trans ?_ (partial_sum hJ f b part first between s (by omega) (by have := t.isLt; omega))
  congr 1

end Cert.Accumulate
-- ==== Proof.Input.lean ====
module

public import proofs.«01_k».proof.Proof.Gen.Kernel3Ideal.Value
public import proofs.«01_k».proof.Proof.InputReference
public import proofs.«01_k».proof.Proof.Accumulate
public import Idealize.ShloMosaic.Lib.Pipeline.ValueKit

@[expose] public section

/-!
# The gradients of the blocked product `h · w1` as the kernel computes them

The grid has 16 points: two tiles of 1024 of `h`'s columns, and for each the eight column blocks of `w1`. A point writes its
block of `w1`'s gradient, a sum over all the tokens; `h`'s gradient is accumulated over the eight points of a tile.
-/

noncomputable section

namespace Cert.Input

open Cert.Kernel3Ideal Cert.Kernel3Ideal.Gen Cert.Input.Ref
open Idealize.ShloMosaic Idealize.ShloMosaic.TcCoe

section Blocks

variable (acc : Vec Ideal S2048x1024 .f32) (z : Vec Ideal S2048x1024 .bf16) (w : Vec Ideal S1x1024x1024 .bf16)
variable (x : Vec Ideal S2048x1024 .bf16) (r : Fin 2048) (k : Fin 1024) (l : Fin 1024)

/-- A block's part of the gradient of `h`. -/
def tile : EReal := ∑ l : Fin 1024, z (ix2 r l) * w (ix3 0 k l)

theorem pay1_at : k0_pay1 x z (ix3 0 k l) = ∑ r : Fin 2048, x (ix2 r k) * z (ix2 r l) := by pointwise [k0_pay1]
theorem pay2_at : k0_pay2 z w (ix2 r k) = tile z w r k := by pointwise [k0_pay2, tile]
theorem pay3_at : k0_pay3 acc z w (ix2 r k) = acc (ix2 r k) + tile z w r k := by pointwise [k0_pay3, tile]
theorem pay4_at : k0_pay4 acc z w (ix2 r k) = acc (ix2 r k) + tile z w r k := by pointwise [k0_pay4, tile]

end Blocks

variable (m : (ℓ : Loc nD τ sig) → Buf (Elt Ideal) ℓ) (c : Dev nD) (t : Fin cfg0.N) (r : Fin 2048) (k : Fin 1024) (l : Fin 1024)

/-- The arguments. -/
abbrev hK : S2048x2048.Idx → EReal := m ((c.tc : Thread nD τ).loc main_arg0)
abbrev wK : S8x2048x1024.Idx → EReal := m ((c.tc : Thread nD τ).loc main_arg1)
abbrev dzK : S2048x8192.Idx → EReal := m ((c.tc : Thread nD τ).loc main_arg2)

/-- The tile and the block of point `t`. -/
def tileOf : Fin 2 := ⟨t.val / 8, by have h : t.val < 16 := lt_of_lt_of_eq t.isLt N_0; omega⟩
def blockOf : Fin 8 := ⟨t.val % 8, Nat.mod_lt _ (by decide)⟩
/-- Column `k` of tile `i`. -/
def chan (i : Fin 2) (k : Fin 1024) : Fin 2048 := ⟨1024 * i.val + k.val, by omega⟩

theorem index0 : ∀ t : Fin grid0.N, cc0_transform_0 (grid0.coords t) = ![0, t.val % 8] := by decide
theorem index1 : ∀ t : Fin grid0.N, cc0_transform_1 (grid0.coords t) = ![t.val % 8, t.val / 8, 0] := by decide
theorem index2 : ∀ t : Fin grid0.N, cc0_transform_2 (grid0.coords t) = ![0, t.val / 8] := by decide
theorem index3 : ∀ t : Fin grid0.N, cc0_transform_3 (grid0.coords t) = ![0, t.val / 8] := by decide
theorem index4 : ∀ t : Fin grid0.N, cc0_transform_4 (grid0.coords t) = ![t.val % 8, t.val / 8, 0] := by decide

theorem blk0 : iblk m c 0 t (ix2 r l) = dzK m c (ix2 r (col (blockOf t) l)) := by
  unfold iblk
  refine (congrFun (V_main_arg2 m c) _).trans (congrArg (dzK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 1024 + 1 * l.val = t.val % 8 * 1024 + l.val
    rw [index0]; show t.val % 8 * 1024 + 1 * l.val = t.val % 8 * 1024 + l.val; omega

theorem blk1 : iblk m c 1 t (ix3 0 k l) = wK m c (ix3 (blockOf t) (chan (tileOf t) k) l) := by
  unfold iblk
  refine (congrFun (V_main_arg1 m c) _).trans (congrArg (wK m c) (funext fun a => Fin.ext ?_))
  match a with
  | ⟨0, _⟩ =>
    show cc0_transform_1 (grid0.coords t) 0 * 1 + 1 * 0 = t.val % 8
    rw [index1]; show t.val % 8 * 1 + 1 * 0 = t.val % 8; omega
  | ⟨1, _⟩ =>
    show cc0_transform_1 (grid0.coords t) 1 * 1024 + 1 * k.val = 1024 * (t.val / 8) + k.val
    rw [index1]; show t.val / 8 * 1024 + 1 * k.val = 1024 * (t.val / 8) + k.val; omega
  | ⟨2, _⟩ =>
    show cc0_transform_1 (grid0.coords t) 2 * 1024 + 1 * l.val = l.val
    rw [index1]; show 0 * 1024 + 1 * l.val = l.val; omega

theorem blk2 : iblk m c 2 t (ix2 r k) = hK m c (ix2 r (chan (tileOf t) k)) := by
  unfold iblk
  refine (congrFun (V_main_arg0 m c) _).trans (congrArg (hK m c) (funext fun a => Fin.ext ?_))
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 1024 + 1 * k.val = 1024 * (t.val / 8) + k.val
    rw [index2]; show t.val / 8 * 1024 + 1 * k.val = 1024 * (t.val / 8) + k.val; omega

theorem out_emb3 : (win0_3.blk t).view.emb (ix2 r k) = (ix2 r (chan (tileOf t) k) : S2048x2048.Idx) := by
  refine funext fun a => Fin.ext ?_
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 1024 + 1 * k.val = 1024 * (t.val / 8) + k.val
    rw [index3]; show t.val / 8 * 1024 + 1 * k.val = 1024 * (t.val / 8) + k.val; omega

theorem out_emb4 : (win0_4.blk t).view.emb (ix3 0 k l) = (ix3 (blockOf t) (chan (tileOf t) k) l : S8x2048x1024.Idx) := by
  refine funext fun a => Fin.ext ?_
  match a with
  | ⟨0, _⟩ =>
    show cc0_transform_4 (grid0.coords t) 0 * 1 + 1 * 0 = t.val % 8
    rw [index4]; show t.val % 8 * 1 + 1 * 0 = t.val % 8; omega
  | ⟨1, _⟩ =>
    show cc0_transform_4 (grid0.coords t) 1 * 1024 + 1 * k.val = 1024 * (t.val / 8) + k.val
    rw [index4]; show t.val / 8 * 1024 + 1 * k.val = 1024 * (t.val / 8) + k.val; omega
  | ⟨2, _⟩ =>
    show cc0_transform_4 (grid0.coords t) 2 * 1024 + 1 * l.val = l.val
    rw [index4]; show 0 * 1024 + 1 * l.val = l.val; omega

/-- The part that block `b` has in the gradient of `h` at row `r` and column `n`. -/
def part (n : Fin 2048) (b : Fin 8) : EReal := ∑ l : Fin 1024, dzK m c (ix2 r (col b l)) * wK m c (ix3 b n l)

theorem tile_eq : tile (iblk m c 0 t) (iblk m c 1 t) r k = part m c r (chan (tileOf t) k) (blockOf t) := by
  unfold tile part
  refine Fin.sum_fin_congr fun l => ?_
  rw [blk0, blk1]

/-- What the accumulator holds after point `n`, at row `r` and column `k` of the tile. -/
abbrev acc (n : ℕ) (h : n < cfg0.N) : EReal := (outsAt0 m c n h).2.2 (ix2 r k)

theorem acc_first (h : t.val % 8 = 0) : acc m c r k t.val t.isLt = part m c r (chan (tileOf t) k) (blockOf t) := by
  unfold acc
  rw [outsAt0_A m c t h (by omega) (by omega)]
  frame_out
  rw [pay2_at, tile_eq]

theorem acc_between (h : ¬t.val % 8 = 0) (h' : ¬t.val % 8 = 7) : acc m c r k t.val t.isLt
    = acc m c r k (t.val - 1) (Nat.lt_of_le_of_lt (Nat.sub_le _ _) t.isLt) + part m c r (chan (tileOf t) k) (blockOf t) := by
  unfold acc
  rw [outsAt0_B m c t h (by omega) h']
  frame_out
  rw [pay3_at, tile_eq]
  exact congrArg (· + part m c r (chan (tileOf t) k) (blockOf t))
    (congrFun (Memref.IsWhole.read_unread (m := scM0_0) (Memref.isWhole_whole _) _) _)

theorem out_last (h : t.val % 8 = 7) : (outsAt0 m c t.val t.isLt).1 (ix2 r k)
    = acc m c r k (t.val - 1) (Nat.lt_of_le_of_lt (Nat.sub_le _ _) t.isLt) + part m c r (chan (tileOf t) k) (blockOf t) := by
  unfold acc
  rw [outsAt0_C m c t (by omega) (by omega) h]
  frame_out
  rw [pay4_at, tile_eq]
  exact congrArg (· + part m c r (chan (tileOf t) k) (blockOf t))
    (congrFun (Memref.IsWhole.read_unread (m := scM0_0) (Memref.isWhole_whole _) _) _)

/-- The tile that a run writes out holds the sum over the blocks. -/
theorem out_eq (h : t.val % 8 = 7) : (outsAt0 m c t.val t.isLt).1 (ix2 r k) = ∑ b : Fin 8, part m c r (chan (tileOf t) k) b := by
  have run : ∀ t' : Fin cfg0.N, t'.val / 8 = t.val / 8 → tileOf t' = tileOf t := fun t' e => Fin.ext e
  refine (out_last m c t r k h).trans (Accumulate.run_sum (by decide) (acc m c r k) (t.val / 8) (part m c r (chan (tileOf t) k))
    (fun t' e h => ?_) (fun t' e h h' => ?_) t rfl h)
  · rw [acc_first m c t' r k h, run t' e]; rfl
  · rw [acc_between m c t' r k h h', run t' e]; rfl

/-- Whatever the point's place in its run, it writes its block of `w1`'s gradient. -/
theorem weight_out : (outsAt0 m c t.val t.isLt).2.1 (ix3 0 k l) = k0_pay1 (iblk m c 2 t) (iblk m c 0 t) (ix3 0 k l) := by
  by_cases h0 : t.val % 8 = 0
  · rw [outsAt0_A m c t h0 (by omega) (by omega)]
    frame_out
  · by_cases h7 : t.val % 8 = 7
    · rw [outsAt0_C m c t h0 (by omega) h7]
      frame_out
    · rw [outsAt0_B m c t h0 (by omega) h7]
      frame_out

/-- The gradient of `h` is the reference's. -/
theorem input_grad : (dats m 0 c).arrAt 3 cfg0.N = inputGrad (wK m c) (dzK m c) := by
  refine (dats m 0 c).arrAt_eq_of_covers 3 _ (by decide +kernel) fun t hf y => ?_
  blk_simp
  obtain ⟨r, k, rfl⟩ : ∃ (r : Fin 2048) (k : Fin 1024), y = ix2 r k := ⟨y 0, y 1, eq_ix2 y⟩
  rw [out_emb3, inputGrad_at, after0_3, out_eq m c t r k ((flush0_3 t).mp hf)]
  rfl

/-- The gradient of `w1` is the reference's. -/
theorem weight_grad : (dats m 0 c).arrAt 4 cfg0.N = weightGrad (hK m c) (dzK m c) := by
  refine (dats m 0 c).arrAt_eq_of_covers 4 _ (by decide +kernel) fun t hf y => ?_
  blk_simp
  obtain ⟨u, k, l, rfl⟩ : ∃ (u : Fin 1) (k : Fin 1024) (l : Fin 1024), y = ix3 u k l := ⟨y 0, y 1, y 2, eq_ix3 y⟩
  obtain rfl : u = 0 := Subsingleton.elim _ _
  rw [out_emb4, weightGrad_at, after0_4, weight_out, pay1_at]
  refine Fin.sum_fin_congr fun r => ?_
  rw [blk0, blk2]
  exact mul_comm (_ : EReal) _

end Cert.Input

end
-- ==== Proof.DownReference.lean ====
module

public import proofs.«01_k».proof.Proof.Gen.Reference4Ideal.Run
public import Idealize.ShloMosaic.Lib.Pointwise

@[expose] public section

/-! # The product of the squared activation with the second weight, element by element -/

noncomputable section

namespace Cert.Down.Ref

open Cert.Reference4Ideal Cert.Reference4Ideal.Gen Cert.Reference4Ideal.Value
open Idealize.ShloMosaic Idealize.ShloMosaic.TcCoe

section Terms

variable (a : FVec Ideal S2048x8192 .bf16) (w : FVec Ideal S8192x2048 .bf16) (r n : Fin 2048)

/-- The product. -/
def product : FVec Ideal S2048x2048 .f32 :=
  Host.dotGeneral dot_S2048x8192_S8192x2048_S2048x2048_1_0_0_1_n_n none
    (mulf (extf .f32 a bitsLt_bf16_f32) (extf .f32 a bitsLt_bf16_f32)) (extf .f32 w bitsLt_bf16_f32)

theorem product_at : product a w (ix2 r n) = ∑ k : Fin 8192, (a (ix2 r k) * a (ix2 r k)) * w (ix2 k n) := by pointwise [product]

end Terms

variable (m : (ℓ : Loc nD τ sig) → Buf (Elt Ideal) ℓ) (c : Dev nD)

/-- The arguments. -/
abbrev actOf : S2048x8192.Idx → EReal := m ((c.tc : Thread nD τ).loc main_arg0)
abbrev w2Of : S8192x2048.Idx → EReal := m ((c.tc : Thread nD τ).loc main_arg1)

/-- The reference's run: its result, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v3) = product (actOf m c) (w2Of m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference4Ideal.Value.run m ρ)

end Cert.Down.Ref

end
-- ==== Proof.Down.lean ====
module

public import proofs.«01_k».proof.Proof.Gen.Kernel4Ideal.Value
public import proofs.«01_k».proof.Proof.DownReference
public import proofs.«01_k».proof.Proof.Accumulate
public import Idealize.ShloMosaic.Lib.Pipeline.ValueKit

@[expose] public section

/-!
# The product of the squared activation with the second weight as the kernel computes it

The grid has 16 points: four blocks of 512 columns, and for each the four tiles of 2048 hidden channels that its sum runs over.
-/

noncomputable section

namespace Cert.Down

open Cert.Kernel4Ideal Cert.Kernel4Ideal.Gen Cert.Down.Ref
open Idealize.ShloMosaic Idealize.ShloMosaic.TcCoe

section Blocks

variable (acc : Vec Ideal S2048x512 .f32) (x : Vec Ideal S2048x2048 .bf16) (w : Vec Ideal S2048x512 .bf16)
variable (r : Fin 2048) (l : Fin 512)

/-- A tile's part of the sum. -/
def tile : EReal := ∑ k : Fin 2048, (x (ix2 r k) * x (ix2 r k)) * w (ix2 k l)

theorem pay1_at : k0_pay1 x w (ix2 r l) = tile x w r l := by pointwise [k0_pay1, tile]
theorem pay2_at : k0_pay2 acc x w (ix2 r l) = acc (ix2 r l) + tile x w r l := by pointwise [k0_pay2, tile]
theorem pay3_at : k0_pay3 acc x w (ix2 r l) = acc (ix2 r l) + tile x w r l := by pointwise [k0_pay3, tile]

end Blocks

variable (m : (ℓ : Loc nD τ sig) → Buf (Elt Ideal) ℓ) (c : Dev nD) (t : Fin cfg0.N) (r : Fin 2048) (k : Fin 2048) (l : Fin 512)

/-- The arguments. -/
abbrev actK : S2048x8192.Idx → EReal := m ((c.tc : Thread nD τ).loc main_arg0)
abbrev w2K : S8192x2048.Idx → EReal := m ((c.tc : Thread nD τ).loc main_arg1)

/-- Column `l` of run `b`'s block. -/
def col (b : Fin 4) (l : Fin 512) : Fin 2048 := ⟨512 * b.val + l.val, by omega⟩
/-- Hidden channel `k` of tile `s`. -/
def chan (s : Fin 4) (k : Fin 2048) : Fin 8192 := ⟨s.val * 2048 + k.val, by omega⟩
/-- The run and the tile of point `t`. -/
def runOf : Fin 4 := ⟨t.val / 4, by have h : t.val < 16 := lt_of_lt_of_eq t.isLt N_0; omega⟩
def tileOf : Fin 4 := ⟨t.val % 4, Nat.mod_lt _ (by decide)⟩

theorem index0 : ∀ t : Fin grid0.N, cc0_transform_0 (grid0.coords t) = ![0, t.val % 4] := by decide
theorem index1 : ∀ t : Fin grid0.N, cc0_transform_1 (grid0.coords t) = ![t.val % 4, t.val / 4] := by decide
theorem index2 : ∀ t : Fin grid0.N, cc0_transform_2 (grid0.coords t) = ![0, t.val / 4] := by decide

theorem blk0 : iblk m c 0 t (ix2 r k) = actK m c (ix2 r (chan (tileOf t) k)) := by
  unfold iblk
  refine (congrFun (V_main_arg0 m c) _).trans (congrArg (actK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * k.val = t.val % 4 * 2048 + k.val
    rw [index0]; show t.val % 4 * 2048 + 1 * k.val = t.val % 4 * 2048 + k.val; omega

theorem blk1 : iblk m c 1 t (ix2 k l) = w2K m c (ix2 (chan (tileOf t) k) (col (runOf t) l)) := by
  unfold iblk
  refine (congrFun (V_main_arg1 m c) _).trans (congrArg (w2K m c) (funext fun a => Fin.ext ?_))
  match a with
  | ⟨0, _⟩ =>
    show cc0_transform_1 (grid0.coords t) 0 * 2048 + 1 * k.val = t.val % 4 * 2048 + k.val
    rw [index1]; show t.val % 4 * 2048 + 1 * k.val = t.val % 4 * 2048 + k.val; omega
  | ⟨1, _⟩ =>
    show cc0_transform_1 (grid0.coords t) 1 * 512 + 1 * l.val = 512 * (t.val / 4) + l.val
    rw [index1]; show t.val / 4 * 512 + 1 * l.val = 512 * (t.val / 4) + l.val; omega

theorem out_emb : (win0_2.blk t).view.emb (ix2 r l) = (ix2 r (col (runOf t) l) : S2048x2048.Idx) := by
  refine funext fun a => Fin.ext ?_
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 512 + 1 * l.val = 512 * (t.val / 4) + l.val
    rw [index2]; show t.val / 4 * 512 + 1 * l.val = 512 * (t.val / 4) + l.val; omega

/-- The part that tile `s` has in the sum for row `r` and column `n`. -/
def part (n : Fin 2048) (s : Fin 4) : EReal :=
  ∑ k : Fin 2048, (actK m c (ix2 r (chan s k)) * actK m c (ix2 r (chan s k))) * w2K m c (ix2 (chan s k) n)

theorem tile_eq : tile (iblk m c 0 t) (iblk m c 1 t) r l = part m c r (col (runOf t) l) (tileOf t) := by
  unfold tile part
  refine Fin.sum_fin_congr fun k => ?_
  rw [blk0, blk1]

/-- What the accumulator holds after point `n`, at row `r` and column `l` of the block. -/
abbrev acc (n : ℕ) (h : n < cfg0.N) : EReal := (outsAt0 m c n h).2 (ix2 r l)

theorem acc_first (h : t.val % 4 = 0) : acc m c r l t.val t.isLt = part m c r (col (runOf t) l) (tileOf t) := by
  unfold acc
  rw [outsAt0_A m c t h (by omega) (by omega)]
  frame_out
  rw [pay1_at, tile_eq]

theorem acc_between (h : ¬t.val % 4 = 0) (h' : ¬t.val % 4 = 3) : acc m c r l t.val t.isLt
    = acc m c r l (t.val - 1) (Nat.lt_of_le_of_lt (Nat.sub_le _ _) t.isLt) + part m c r (col (runOf t) l) (tileOf t) := by
  unfold acc
  rw [outsAt0_B m c t h (by omega) h']
  frame_out
  rw [pay2_at, tile_eq]
  exact congrArg (· + part m c r (col (runOf t) l) (tileOf t)) (congrFun (Memref.IsWhole.read_unread (m := scM0_0) (Memref.isWhole_whole _) _) _)

theorem out_last (h : t.val % 4 = 3) : (outsAt0 m c t.val t.isLt).1 (ix2 r l)
    = acc m c r l (t.val - 1) (Nat.lt_of_le_of_lt (Nat.sub_le _ _) t.isLt) + part m c r (col (runOf t) l) (tileOf t) := by
  unfold acc
  rw [outsAt0_C m c t (by omega) (by omega) h]
  frame_out
  rw [pay3_at, tile_eq]
  exact congrArg (· + part m c r (col (runOf t) l) (tileOf t)) (congrFun (Memref.IsWhole.read_unread (m := scM0_0) (Memref.isWhole_whole _) _) _)

/-- The block that a run writes out holds the sum over the run's tiles. -/
theorem out_eq (h : t.val % 4 = 3) : (outsAt0 m c t.val t.isLt).1 (ix2 r l) = ∑ s : Fin 4, part m c r (col (runOf t) l) s := by
  have run : ∀ t' : Fin cfg0.N, t'.val / 4 = t.val / 4 → runOf t' = runOf t := fun t' e => Fin.ext e
  refine (out_last m c t r l h).trans (Accumulate.run_sum (by decide) (acc m c r l) (t.val / 4) (part m c r (col (runOf t) l))
    (fun t' e h => ?_) (fun t' e h h' => ?_) t rfl h)
  · rw [acc_first m c t' r l h, run t' e]; rfl
  · rw [acc_between m c t' r l h h', run t' e]; rfl

/-- The product is the reference's. -/
theorem product_eq : (dats m 0 c).arrAt 2 cfg0.N = product (actK m c) (w2K m c) := by
  refine (dats m 0 c).arrAt_eq_of_covers 2 _ (by decide +kernel) fun t hf y => ?_
  blk_simp
  obtain ⟨r, l, rfl⟩ : ∃ (r : Fin 2048) (l : Fin 512), y = ix2 r l := ⟨y 0, y 1, eq_ix2 y⟩
  rw [out_emb, product_at, after0_2, out_eq m c t r l ((flush0_2 t).mp hf)]
  exact (Fin.sum_univ_tiles (N := 8192) 4 2048 (by decide) fun k : Fin 8192 =>
    (actK m c (ix2 r k) * actK m c (ix2 r k)) * w2K m c (ix2 k (col (runOf t) l))).symm

end Cert.Down

end
-- ==== Proof.OutputGradReference.lean ====
module

public import proofs.«01_k».proof.Proof.Gen.Reference5Ideal.Run
public import Idealize.ShloMosaic.Lib.Pointwise

@[expose] public section

/-! # The gradients of a mixer's output projection `y · w`, element by element -/

noncomputable section

namespace Cert.OutputGrad.Ref

open Cert.Reference5Ideal Cert.Reference5Ideal.Gen Cert.Reference5Ideal.Value
open Idealize.ShloMosaic Idealize.ShloMosaic.TcCoe

section Terms

variable (y w dm : FVec Ideal S2048x2048 .bf16) (t j n : Fin 2048)

/-- The gradient of `y`. -/
def inputGrad : FVec Ideal S2048x2048 .bf16 :=
  truncf .bf16 (Host.dotGeneral dot_S2048x2048_S2048x2048_S2048x2048_1_1_0_0_n_n none (extf .f32 dm bitsLt_bf16_f32)
    (extf .f32 w bitsLt_bf16_f32)) bitsLt_bf16_f32

/-- The gradient of `w`. -/
def weightGrad : FVec Ideal S2048x2048 .bf16 :=
  truncf .bf16 (transpose S2048x2048 [1, 0] (Host.dotGeneral dot_S2048x2048_S2048x2048_S2048x2048_0_0_1_1_n_n none
    (extf .f32 dm bitsLt_bf16_f32) (extf .f32 y bitsLt_bf16_f32)) transposes_S2048x2048_S2048x2048_1_0) bitsLt_bf16_f32

theorem inputGrad_at : inputGrad w dm (ix2 t j) = ∑ k : Fin 2048, dm (ix2 t k) * w (ix2 j k) := by pointwise [inputGrad]

theorem weightGrad_at : weightGrad y dm (ix2 j n) = ∑ t : Fin 2048, dm (ix2 t n) * y (ix2 t j) := by pointwise [weightGrad]

end Terms

variable (m : (ℓ : Loc nD τ sig) → Buf (Elt Ideal) ℓ) (c : Dev nD)

/-- The arguments. -/
abbrev yOf : S2048x2048.Idx → EReal := m ((c.tc : Thread nD τ).loc main_arg0)
abbrev wOf : S2048x2048.Idx → EReal := m ((c.tc : Thread nD τ).loc main_arg1)
abbrev dmOf : S2048x2048.Idx → EReal := m ((c.tc : Thread nD τ).loc main_arg2)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v7) = inputGrad (wOf m c) (dmOf m c)
      ∧ r.2.mem ((c.tc : Thread nD τ).loc main_v8) = weightGrad (yOf m c) (dmOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference5Ideal.Value.run m ρ)

end Cert.OutputGrad.Ref

end
-- ==== Proof.OutputGrad.lean ====
module

public import proofs.«01_k».proof.Proof.Gen.Kernel5Ideal.Value
public import proofs.«01_k».proof.Proof.OutputGradReference
public import Idealize.ShloMosaic.Lib.Pipeline.ValueKit

@[expose] public section

/-!
# The gradients of a mixer's output projection `y · w` as the kernel computes them

Grid point `t` takes 512 of the 2048 channels that the mixer's output `y` has: its block of `y`'s gradient, 2048 tokens by 512
channels, and its block of `w`'s gradient, 512 channels by 2048. Every sum is over a whole axis, so no sum is re-blocked.
-/

noncomputable section

namespace Cert.OutputGrad

open Cert.Kernel5Ideal Cert.Kernel5Ideal.Gen Cert.OutputGrad.Ref
open Idealize.ShloMosaic Idealize.ShloMosaic.TcCoe

section Blocks

variable (a : Vec Ideal S2048x512 .bf16) (dm : Vec Ideal S2048x2048 .bf16) (w : Vec Ideal S512x2048 .bf16)
variable (r : Fin 2048) (l : Fin 512) (n : Fin 2048)

theorem pay1_at : k0_pay1 dm w (ix2 r l) = ∑ k : Fin 2048, dm (ix2 r k) * w (ix2 l k) := by pointwise [k0_pay1]
theorem pay2_at : k0_pay2 a dm (ix2 l n) = ∑ r : Fin 2048, a (ix2 r l) * dm (ix2 r n) := by pointwise [k0_pay2]

theorem out3_eq : out0_3 dm w a = k0_pay1 dm w := by frame_out
theorem out4_eq : out0_4 dm w a = k0_pay2 a dm := by frame_out

end Blocks

variable (m : (ℓ : Loc nD τ sig) → Buf (Elt Ideal) ℓ) (c : Dev nD) (t : Fin cfg0.N) (r : Fin 2048) (l : Fin 512) (n : Fin 2048)

/-- The arguments. -/
abbrev yK : S2048x2048.Idx → EReal := m ((c.tc : Thread nD τ).loc main_arg0)
abbrev wK : S2048x2048.Idx → EReal := m ((c.tc : Thread nD τ).loc main_arg1)
abbrev dmK : S2048x2048.Idx → EReal := m ((c.tc : Thread nD τ).loc main_arg2)

/-- Channel `l` of point `t`. -/
def chan : Fin 2048 := ⟨512 * t.val + l.val, by have h : t.val < 4 := lt_of_lt_of_eq t.isLt N_0; have := l.isLt; omega⟩

theorem index0 : ∀ t : Fin grid0.N, cc0_transform_0 (grid0.coords t) = ![0, 0] := by decide
theorem index1 : ∀ t : Fin grid0.N, cc0_transform_1 (grid0.coords t) = ![t.val, 0] := by decide
theorem index2 : ∀ t : Fin grid0.N, cc0_transform_2 (grid0.coords t) = ![0, t.val] := by decide
theorem index3 : ∀ t : Fin grid0.N, cc0_transform_3 (grid0.coords t) = ![0, t.val] := by decide
theorem index4 : ∀ t : Fin grid0.N, cc0_transform_4 (grid0.coords t) = ![t.val, 0] := by decide

theorem blk0 : iblk m c 0 t (ix2 r n) = dmK m c (ix2 r n) := by
  unfold iblk
  refine (congrFun (V_main_arg2 m c) _).trans (congrArg (dmK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * n.val = n.val
    rw [index0]; show 0 * 2048 + 1 * n.val = n.val; omega

theorem blk1 : iblk m c 1 t (ix2 l n) = wK m c (ix2 (chan t l) n) := by
  unfold iblk
  refine (congrFun (V_main_arg1 m c) _).trans (congrArg (wK m c) (funext fun a => Fin.ext ?_))
  match a with
  | ⟨0, _⟩ =>
    show cc0_transform_1 (grid0.coords t) 0 * 512 + 1 * l.val = 512 * t.val + l.val
    rw [index1]; show t.val * 512 + 1 * l.val = 512 * t.val + l.val; omega
  | ⟨1, _⟩ =>
    show cc0_transform_1 (grid0.coords t) 1 * 2048 + 1 * n.val = n.val
    rw [index1]; show 0 * 2048 + 1 * n.val = n.val; omega

theorem blk2 : iblk m c 2 t (ix2 r l) = yK m c (ix2 r (chan t l)) := by
  unfold iblk
  refine (congrFun (V_main_arg0 m c) _).trans (congrArg (yK m c) (funext fun a => Fin.ext ?_))
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 512 + 1 * l.val = 512 * t.val + l.val
    rw [index2]; show t.val * 512 + 1 * l.val = 512 * t.val + l.val; omega

theorem out_emb3 : (win0_3.blk t).view.emb (ix2 r l) = (ix2 r (chan t l) : S2048x2048.Idx) := by
  refine funext fun a => Fin.ext ?_
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 512 + 1 * l.val = 512 * t.val + l.val
    rw [index3]; show t.val * 512 + 1 * l.val = 512 * t.val + l.val; omega

theorem out_emb4 : (win0_4.blk t).view.emb (ix2 l n) = (ix2 (chan t l) n : S2048x2048.Idx) := by
  refine funext fun a => Fin.ext ?_
  match a with
  | ⟨0, _⟩ =>
    show cc0_transform_4 (grid0.coords t) 0 * 512 + 1 * l.val = 512 * t.val + l.val
    rw [index4]; show t.val * 512 + 1 * l.val = 512 * t.val + l.val; omega
  | ⟨1, _⟩ =>
    show cc0_transform_4 (grid0.coords t) 1 * 2048 + 1 * n.val = n.val
    rw [index4]; show 0 * 2048 + 1 * n.val = n.val; omega

/-- The gradient of `y` is the reference's. -/
theorem input_grad : (dats m 0 c).arrAt 3 cfg0.N = inputGrad (wK m c) (dmK m c) := by
  refine (dats m 0 c).arrAt_eq_of_covers 3 _ (by decide +kernel) fun t hf y => ?_
  blk_simp
  obtain ⟨r, l, rfl⟩ : ∃ (r : Fin 2048) (l : Fin 512), y = ix2 r l := ⟨y 0, y 1, eq_ix2 y⟩
  rw [out_emb3, inputGrad_at, after0_3, out3_eq, pay1_at]
  refine Fin.sum_fin_congr fun k => ?_
  rw [blk0, blk1]

/-- The gradient of `w` is the reference's. -/
theorem weight_grad : (dats m 0 c).arrAt 4 cfg0.N = weightGrad (yK m c) (dmK m c) := by
  refine (dats m 0 c).arrAt_eq_of_covers 4 _ (by decide +kernel) fun t hf y => ?_
  blk_simp
  obtain ⟨l, n, rfl⟩ : ∃ (l : Fin 512) (n : Fin 2048), y = ix2 l n := ⟨y 0, y 1, eq_ix2 y⟩
  rw [out_emb4, weightGrad_at, after0_4, out4_eq, pay2_at]
  refine Fin.sum_fin_congr fun r => ?_
  rw [blk0, blk2]
  exact mul_comm (_ : EReal) _

end Cert.OutputGrad

end
-- ==== Proof.ShortInputReference.lean ====
module

public import proofs.«01_k».proof.Proof.Gen.Reference6Ideal.Run
public import Idealize.ShloMosaic.Lib.Pointwise

@[expose] public section

/-! # The gradients of the blocked product `h · w` of the short convolution's input projection, element by element -/

noncomputable section

namespace Cert.ShortInput.Ref

open Cert.Reference6Ideal Cert.Reference6Ideal.Gen Cert.Reference6Ideal.Value
open Idealize.ShloMosaic Idealize.ShloMosaic.TcCoe

section Terms

variable (h : FVec Ideal S2048x2048 .bf16) (w : FVec Ideal S8x2048x768 .bf16) (dz : FVec Ideal S2048x6144 .bf16)
variable (r k : Fin 2048) (b : Fin 8) (l : Fin 768)

/-- The output's gradient, its columns by block. -/
def split : FVec Ideal S2048x8x768 .f32 := shapeCast _ (extf .f32 dz bitsLt_bf16_f32) shapeCasts_S2048x6144_S2048x8x768

/-- The gradient of `h`. -/
def inputGrad : FVec Ideal S2048x2048 .bf16 :=
  truncf .bf16 (Host.dotGeneral dot_S2048x8x768_S8x2048x768_S2048x2048_12_02_0_1_n_n none (split dz) (extf .f32 w bitsLt_bf16_f32))
    bitsLt_bf16_f32

/-- The gradient of `w`. -/
def weightGrad : FVec Ideal S8x2048x768 .bf16 :=
  truncf .bf16 (transpose S8x2048x768 [0, 2, 1] (Host.dotGeneral dot_S2048x8x768_S2048x2048_S8x768x2048_0_0_12_1_n_n none
    (split dz) (extf .f32 h bitsLt_bf16_f32)) transposes_S8x768x2048_S8x2048x768_0_2_1) bitsLt_bf16_f32

/-- Column `l` of block `b`. -/
def col (b : Fin 8) (l : Fin 768) : Fin 6144 := ⟨b.val * 768 + l.val, by omega⟩

theorem split_at : split dz (ix3 r b l) = dz (ix2 r (col b l)) := by pointwise [split, col]

theorem inputGrad_at : inputGrad w dz (ix2 r k) = ∑ b : Fin 8, ∑ l : Fin 768, dz (ix2 r (col b l)) * w (ix3 b k l) := by
  pointwise [inputGrad, split_at]

theorem weightGrad_at : weightGrad h dz (ix3 b k l) = ∑ r : Fin 2048, dz (ix2 r (col b l)) * h (ix2 r k) := by
  pointwise [weightGrad, split_at]

end Terms

variable (m : (ℓ : Loc nD τ sig) → Buf (Elt Ideal) ℓ) (c : Dev nD)

/-- The arguments. -/
abbrev hOf : S2048x2048.Idx → EReal := m ((c.tc : Thread nD τ).loc main_arg0)
abbrev wOf : S8x2048x768.Idx → EReal := m ((c.tc : Thread nD τ).loc main_arg1)
abbrev dzOf : S2048x6144.Idx → EReal := m ((c.tc : Thread nD τ).loc main_arg2)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v9) = inputGrad (wOf m c) (dzOf m c)
      ∧ r.2.mem ((c.tc : Thread nD τ).loc main_v10) = weightGrad (hOf m c) (dzOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference6Ideal.Value.run m ρ)

end Cert.ShortInput.Ref

end
-- ==== Proof.ShortInput.lean ====
module

public import proofs.«01_k».proof.Proof.Gen.Kernel6Ideal.Value
public import proofs.«01_k».proof.Proof.ShortInputReference
public import proofs.«01_k».proof.Proof.Accumulate
public import Idealize.ShloMosaic.Lib.Pipeline.ValueKit

@[expose] public section

/-!
# The gradients of the blocked product `h · w` of the short convolution's input projection as the kernel computes them

The grid has 16 points: two tiles of 1024 of `h`'s columns, and for each the eight column blocks of `w`. A point writes its
block of `w`'s gradient, a sum over all the tokens; `h`'s gradient is accumulated over the eight points of a tile.
-/

noncomputable section

namespace Cert.ShortInput

open Cert.Kernel6Ideal Cert.Kernel6Ideal.Gen Cert.ShortInput.Ref
open Idealize.ShloMosaic Idealize.ShloMosaic.TcCoe

section Blocks

variable (acc : Vec Ideal S2048x1024 .f32) (z : Vec Ideal S2048x768 .bf16) (w : Vec Ideal S1x1024x768 .bf16)
variable (x : Vec Ideal S2048x1024 .bf16) (r : Fin 2048) (k : Fin 1024) (l : Fin 768)

/-- A block's part of the gradient of `h`. -/
def tile : EReal := ∑ l : Fin 768, z (ix2 r l) * w (ix3 0 k l)

theorem pay1_at : k0_pay1 x z (ix3 0 k l) = ∑ r : Fin 2048, x (ix2 r k) * z (ix2 r l) := by pointwise [k0_pay1]
theorem pay2_at : k0_pay2 z w (ix2 r k) = tile z w r k := by pointwise [k0_pay2, tile]
theorem pay3_at : k0_pay3 acc z w (ix2 r k) = acc (ix2 r k) + tile z w r k := by pointwise [k0_pay3, tile]
theorem pay4_at : k0_pay4 acc z w (ix2 r k) = acc (ix2 r k) + tile z w r k := by pointwise [k0_pay4, tile]

end Blocks

variable (m : (ℓ : Loc nD τ sig) → Buf (Elt Ideal) ℓ) (c : Dev nD) (t : Fin cfg0.N) (r : Fin 2048) (k : Fin 1024) (l : Fin 768)

/-- The arguments. -/
abbrev hK : S2048x2048.Idx → EReal := m ((c.tc : Thread nD τ).loc main_arg0)
abbrev wK : S8x2048x768.Idx → EReal := m ((c.tc : Thread nD τ).loc main_arg1)
abbrev dzK : S2048x6144.Idx → EReal := m ((c.tc : Thread nD τ).loc main_arg2)

/-- The tile and the block of point `t`. -/
def tileOf : Fin 2 := ⟨t.val / 8, by have h : t.val < 16 := lt_of_lt_of_eq t.isLt N_0; omega⟩
def blockOf : Fin 8 := ⟨t.val % 8, Nat.mod_lt _ (by decide)⟩
/-- Column `k` of tile `i`. -/
def chan (i : Fin 2) (k : Fin 1024) : Fin 2048 := ⟨1024 * i.val + k.val, by omega⟩

theorem index0 : ∀ t : Fin grid0.N, cc0_transform_0 (grid0.coords t) = ![0, t.val % 8] := by decide
theorem index1 : ∀ t : Fin grid0.N, cc0_transform_1 (grid0.coords t) = ![t.val % 8, t.val / 8, 0] := by decide
theorem index2 : ∀ t : Fin grid0.N, cc0_transform_2 (grid0.coords t) = ![0, t.val / 8] := by decide
theorem index3 : ∀ t : Fin grid0.N, cc0_transform_3 (grid0.coords t) = ![0, t.val / 8] := by decide
theorem index4 : ∀ t : Fin grid0.N, cc0_transform_4 (grid0.coords t) = ![t.val % 8, t.val / 8, 0] := by decide

theorem blk0 : iblk m c 0 t (ix2 r l) = dzK m c (ix2 r (col (blockOf t) l)) := by
  unfold iblk
  refine (congrFun (V_main_arg2 m c) _).trans (congrArg (dzK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 768 + 1 * l.val = t.val % 8 * 768 + l.val
    rw [index0]; show t.val % 8 * 768 + 1 * l.val = t.val % 8 * 768 + l.val; omega

theorem blk1 : iblk m c 1 t (ix3 0 k l) = wK m c (ix3 (blockOf t) (chan (tileOf t) k) l) := by
  unfold iblk
  refine (congrFun (V_main_arg1 m c) _).trans (congrArg (wK m c) (funext fun a => Fin.ext ?_))
  match a with
  | ⟨0, _⟩ =>
    show cc0_transform_1 (grid0.coords t) 0 * 1 + 1 * 0 = t.val % 8
    rw [index1]; show t.val % 8 * 1 + 1 * 0 = t.val % 8; omega
  | ⟨1, _⟩ =>
    show cc0_transform_1 (grid0.coords t) 1 * 1024 + 1 * k.val = 1024 * (t.val / 8) + k.val
    rw [index1]; show t.val / 8 * 1024 + 1 * k.val = 1024 * (t.val / 8) + k.val; omega
  | ⟨2, _⟩ =>
    show cc0_transform_1 (grid0.coords t) 2 * 768 + 1 * l.val = l.val
    rw [index1]; show 0 * 768 + 1 * l.val = l.val; omega

theorem blk2 : iblk m c 2 t (ix2 r k) = hK m c (ix2 r (chan (tileOf t) k)) := by
  unfold iblk
  refine (congrFun (V_main_arg0 m c) _).trans (congrArg (hK m c) (funext fun a => Fin.ext ?_))
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 1024 + 1 * k.val = 1024 * (t.val / 8) + k.val
    rw [index2]; show t.val / 8 * 1024 + 1 * k.val = 1024 * (t.val / 8) + k.val; omega

theorem out_emb3 : (win0_3.blk t).view.emb (ix2 r k) = (ix2 r (chan (tileOf t) k) : S2048x2048.Idx) := by
  refine funext fun a => Fin.ext ?_
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 1024 + 1 * k.val = 1024 * (t.val / 8) + k.val
    rw [index3]; show t.val / 8 * 1024 + 1 * k.val = 1024 * (t.val / 8) + k.val; omega

theorem out_emb4 : (win0_4.blk t).view.emb (ix3 0 k l) = (ix3 (blockOf t) (chan (tileOf t) k) l : S8x2048x768.Idx) := by
  refine funext fun a => Fin.ext ?_
  match a with
  | ⟨0, _⟩ =>
    show cc0_transform_4 (grid0.coords t) 0 * 1 + 1 * 0 = t.val % 8
    rw [index4]; show t.val % 8 * 1 + 1 * 0 = t.val % 8; omega
  | ⟨1, _⟩ =>
    show cc0_transform_4 (grid0.coords t) 1 * 1024 + 1 * k.val = 1024 * (t.val / 8) + k.val
    rw [index4]; show t.val / 8 * 1024 + 1 * k.val = 1024 * (t.val / 8) + k.val; omega
  | ⟨2, _⟩ =>
    show cc0_transform_4 (grid0.coords t) 2 * 768 + 1 * l.val = l.val
    rw [index4]; show 0 * 768 + 1 * l.val = l.val; omega

/-- The part that block `b` has in the gradient of `h` at row `r` and column `n`. -/
def part (n : Fin 2048) (b : Fin 8) : EReal := ∑ l : Fin 768, dzK m c (ix2 r (col b l)) * wK m c (ix3 b n l)

theorem tile_eq : tile (iblk m c 0 t) (iblk m c 1 t) r k = part m c r (chan (tileOf t) k) (blockOf t) := by
  unfold tile part
  refine Fin.sum_fin_congr fun l => ?_
  rw [blk0, blk1]

/-- What the accumulator holds after point `n`, at row `r` and column `k` of the tile. -/
abbrev acc (n : ℕ) (h : n < cfg0.N) : EReal := (outsAt0 m c n h).2.2 (ix2 r k)

theorem acc_first (h : t.val % 8 = 0) : acc m c r k t.val t.isLt = part m c r (chan (tileOf t) k) (blockOf t) := by
  unfold acc
  rw [outsAt0_A m c t h (by omega) (by omega)]
  frame_out
  rw [pay2_at, tile_eq]

theorem acc_between (h : ¬t.val % 8 = 0) (h' : ¬t.val % 8 = 7) : acc m c r k t.val t.isLt
    = acc m c r k (t.val - 1) (Nat.lt_of_le_of_lt (Nat.sub_le _ _) t.isLt) + part m c r (chan (tileOf t) k) (blockOf t) := by
  unfold acc
  rw [outsAt0_B m c t h (by omega) h']
  frame_out
  rw [pay3_at, tile_eq]
  exact congrArg (· + part m c r (chan (tileOf t) k) (blockOf t))
    (congrFun (Memref.IsWhole.read_unread (m := scM0_0) (Memref.isWhole_whole _) _) _)

theorem out_last (h : t.val % 8 = 7) : (outsAt0 m c t.val t.isLt).1 (ix2 r k)
    = acc m c r k (t.val - 1) (Nat.lt_of_le_of_lt (Nat.sub_le _ _) t.isLt) + part m c r (chan (tileOf t) k) (blockOf t) := by
  unfold acc
  rw [outsAt0_C m c t (by omega) (by omega) h]
  frame_out
  rw [pay4_at, tile_eq]
  exact congrArg (· + part m c r (chan (tileOf t) k) (blockOf t))
    (congrFun (Memref.IsWhole.read_unread (m := scM0_0) (Memref.isWhole_whole _) _) _)

/-- The tile that a run writes out holds the sum over the blocks. -/
theorem out_eq (h : t.val % 8 = 7) : (outsAt0 m c t.val t.isLt).1 (ix2 r k) = ∑ b : Fin 8, part m c r (chan (tileOf t) k) b := by
  have run : ∀ t' : Fin cfg0.N, t'.val / 8 = t.val / 8 → tileOf t' = tileOf t := fun t' e => Fin.ext e
  refine (out_last m c t r k h).trans (Accumulate.run_sum (by decide) (acc m c r k) (t.val / 8) (part m c r (chan (tileOf t) k))
    (fun t' e h => ?_) (fun t' e h h' => ?_) t rfl h)
  · rw [acc_first m c t' r k h, run t' e]; rfl
  · rw [acc_between m c t' r k h h', run t' e]; rfl

/-- Whatever the point's place in its run, it writes its block of `w`'s gradient. -/
theorem weight_out : (outsAt0 m c t.val t.isLt).2.1 (ix3 0 k l) = k0_pay1 (iblk m c 2 t) (iblk m c 0 t) (ix3 0 k l) := by
  by_cases h0 : t.val % 8 = 0
  · rw [outsAt0_A m c t h0 (by omega) (by omega)]
    frame_out
  · by_cases h7 : t.val % 8 = 7
    · rw [outsAt0_C m c t h0 (by omega) h7]
      frame_out
    · rw [outsAt0_B m c t h0 (by omega) h7]
      frame_out

/-- The gradient of `h` is the reference's. -/
theorem input_grad : (dats m 0 c).arrAt 3 cfg0.N = inputGrad (wK m c) (dzK m c) := by
  refine (dats m 0 c).arrAt_eq_of_covers 3 _ (by decide +kernel) fun t hf y => ?_
  blk_simp
  obtain ⟨r, k, rfl⟩ : ∃ (r : Fin 2048) (k : Fin 1024), y = ix2 r k := ⟨y 0, y 1, eq_ix2 y⟩
  rw [out_emb3, inputGrad_at, after0_3, out_eq m c t r k ((flush0_3 t).mp hf)]
  rfl

/-- The gradient of `w` is the reference's. -/
theorem weight_grad : (dats m 0 c).arrAt 4 cfg0.N = weightGrad (hK m c) (dzK m c) := by
  refine (dats m 0 c).arrAt_eq_of_covers 4 _ (by decide +kernel) fun t hf y => ?_
  blk_simp
  obtain ⟨u, k, l, rfl⟩ : ∃ (u : Fin 1) (k : Fin 1024) (l : Fin 768), y = ix3 u k l := ⟨y 0, y 1, y 2, eq_ix3 y⟩
  obtain rfl : u = 0 := Subsingleton.elim _ _
  rw [out_emb4, weightGrad_at, after0_4, weight_out, pay1_at]
  refine Fin.sum_fin_congr fun r => ?_
  rw [blk0, blk2]
  exact mul_comm (_ : EReal) _

end Cert.ShortInput

end
-- ==== Proof.BranchInputReference.lean ====
module

public import proofs.«01_k».proof.Proof.Gen.Reference7Ideal.Run
public import Idealize.ShloMosaic.Lib.Pointwise

@[expose] public section

/-! # The gradients of the blocked product `h · w` of the two branches' input projection, element by element -/

noncomputable section

namespace Cert.BranchInput.Ref

open Cert.Reference7Ideal Cert.Reference7Ideal.Gen Cert.Reference7Ideal.Value
open Idealize.ShloMosaic Idealize.ShloMosaic.TcCoe

section Terms

variable (h : FVec Ideal S2048x2048 .bf16) (w : FVec Ideal S8x2048x384 .bf16) (dz : FVec Ideal S2048x3072 .bf16)
variable (r k : Fin 2048) (b : Fin 8) (l : Fin 384)

/-- The output's gradient, its columns by block. -/
def split : FVec Ideal S2048x8x384 .f32 := shapeCast _ (extf .f32 dz bitsLt_bf16_f32) shapeCasts_S2048x3072_S2048x8x384

/-- The gradient of `h`. -/
def inputGrad : FVec Ideal S2048x2048 .bf16 :=
  truncf .bf16 (Host.dotGeneral dot_S2048x8x384_S8x2048x384_S2048x2048_12_02_0_1_n_n none (split dz) (extf .f32 w bitsLt_bf16_f32))
    bitsLt_bf16_f32

/-- The gradient of `w`. -/
def weightGrad : FVec Ideal S8x2048x384 .bf16 :=
  truncf .bf16 (transpose S8x2048x384 [0, 2, 1] (Host.dotGeneral dot_S2048x8x384_S2048x2048_S8x384x2048_0_0_12_1_n_n none
    (split dz) (extf .f32 h bitsLt_bf16_f32)) transposes_S8x384x2048_S8x2048x384_0_2_1) bitsLt_bf16_f32

/-- Column `l` of block `b`. -/
def col (b : Fin 8) (l : Fin 384) : Fin 3072 := ⟨b.val * 384 + l.val, by omega⟩

theorem split_at : split dz (ix3 r b l) = dz (ix2 r (col b l)) := by pointwise [split, col]

theorem inputGrad_at : inputGrad w dz (ix2 r k) = ∑ b : Fin 8, ∑ l : Fin 384, dz (ix2 r (col b l)) * w (ix3 b k l) := by
  pointwise [inputGrad, split_at]

theorem weightGrad_at : weightGrad h dz (ix3 b k l) = ∑ r : Fin 2048, dz (ix2 r (col b l)) * h (ix2 r k) := by
  pointwise [weightGrad, split_at]

end Terms

variable (m : (ℓ : Loc nD τ sig) → Buf (Elt Ideal) ℓ) (c : Dev nD)

/-- The arguments. -/
abbrev hOf : S2048x2048.Idx → EReal := m ((c.tc : Thread nD τ).loc main_arg0)
abbrev wOf : S8x2048x384.Idx → EReal := m ((c.tc : Thread nD τ).loc main_arg1)
abbrev dzOf : S2048x3072.Idx → EReal := m ((c.tc : Thread nD τ).loc main_arg2)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v9) = inputGrad (wOf m c) (dzOf m c)
      ∧ r.2.mem ((c.tc : Thread nD τ).loc main_v10) = weightGrad (hOf m c) (dzOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference7Ideal.Value.run m ρ)

end Cert.BranchInput.Ref

end
-- ==== Proof.BranchInput.lean ====
module

public import proofs.«01_k».proof.Proof.Gen.Kernel7Ideal.Value
public import proofs.«01_k».proof.Proof.BranchInputReference
public import proofs.«01_k».proof.Proof.Accumulate
public import Idealize.ShloMosaic.Lib.Pipeline.ValueKit

@[expose] public section

/-!
# The gradients of the blocked product `h · w` of the two branches' input projection as the kernel computes them

The grid has 16 points: two tiles of 1024 of `h`'s columns, and for each the eight column blocks of `w`. A point writes its
block of `w`'s gradient, a sum over all the tokens; `h`'s gradient is accumulated over the eight points of a tile.
-/

noncomputable section

namespace Cert.BranchInput

open Cert.Kernel7Ideal Cert.Kernel7Ideal.Gen Cert.BranchInput.Ref
open Idealize.ShloMosaic Idealize.ShloMosaic.TcCoe

section Blocks

variable (acc : Vec Ideal S2048x1024 .f32) (z : Vec Ideal S2048x384 .bf16) (w : Vec Ideal S1x1024x384 .bf16)
variable (x : Vec Ideal S2048x1024 .bf16) (r : Fin 2048) (k : Fin 1024) (l : Fin 384)

/-- A block's part of the gradient of `h`. -/
def tile : EReal := ∑ l : Fin 384, z (ix2 r l) * w (ix3 0 k l)

theorem pay1_at : k0_pay1 x z (ix3 0 k l) = ∑ r : Fin 2048, x (ix2 r k) * z (ix2 r l) := by pointwise [k0_pay1]
theorem pay2_at : k0_pay2 z w (ix2 r k) = tile z w r k := by pointwise [k0_pay2, tile]
theorem pay3_at : k0_pay3 acc z w (ix2 r k) = acc (ix2 r k) + tile z w r k := by pointwise [k0_pay3, tile]
theorem pay4_at : k0_pay4 acc z w (ix2 r k) = acc (ix2 r k) + tile z w r k := by pointwise [k0_pay4, tile]

end Blocks

variable (m : (ℓ : Loc nD τ sig) → Buf (Elt Ideal) ℓ) (c : Dev nD) (t : Fin cfg0.N) (r : Fin 2048) (k : Fin 1024) (l : Fin 384)

/-- The arguments. -/
abbrev hK : S2048x2048.Idx → EReal := m ((c.tc : Thread nD τ).loc main_arg0)
abbrev wK : S8x2048x384.Idx → EReal := m ((c.tc : Thread nD τ).loc main_arg1)
abbrev dzK : S2048x3072.Idx → EReal := m ((c.tc : Thread nD τ).loc main_arg2)

/-- The tile and the block of point `t`. -/
def tileOf : Fin 2 := ⟨t.val / 8, by have h : t.val < 16 := lt_of_lt_of_eq t.isLt N_0; omega⟩
def blockOf : Fin 8 := ⟨t.val % 8, Nat.mod_lt _ (by decide)⟩
/-- Column `k` of tile `i`. -/
def chan (i : Fin 2) (k : Fin 1024) : Fin 2048 := ⟨1024 * i.val + k.val, by omega⟩

theorem index0 : ∀ t : Fin grid0.N, cc0_transform_0 (grid0.coords t) = ![0, t.val % 8] := by decide
theorem index1 : ∀ t : Fin grid0.N, cc0_transform_1 (grid0.coords t) = ![t.val % 8, t.val / 8, 0] := by decide
theorem index2 : ∀ t : Fin grid0.N, cc0_transform_2 (grid0.coords t) = ![0, t.val / 8] := by decide
theorem index3 : ∀ t : Fin grid0.N, cc0_transform_3 (grid0.coords t) = ![0, t.val / 8] := by decide
theorem index4 : ∀ t : Fin grid0.N, cc0_transform_4 (grid0.coords t) = ![t.val % 8, t.val / 8, 0] := by decide

theorem blk0 : iblk m c 0 t (ix2 r l) = dzK m c (ix2 r (col (blockOf t) l)) := by
  unfold iblk
  refine (congrFun (V_main_arg2 m c) _).trans (congrArg (dzK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 384 + 1 * l.val = t.val % 8 * 384 + l.val
    rw [index0]; show t.val % 8 * 384 + 1 * l.val = t.val % 8 * 384 + l.val; omega

theorem blk1 : iblk m c 1 t (ix3 0 k l) = wK m c (ix3 (blockOf t) (chan (tileOf t) k) l) := by
  unfold iblk
  refine (congrFun (V_main_arg1 m c) _).trans (congrArg (wK m c) (funext fun a => Fin.ext ?_))
  match a with
  | ⟨0, _⟩ =>
    show cc0_transform_1 (grid0.coords t) 0 * 1 + 1 * 0 = t.val % 8
    rw [index1]; show t.val % 8 * 1 + 1 * 0 = t.val % 8; omega
  | ⟨1, _⟩ =>
    show cc0_transform_1 (grid0.coords t) 1 * 1024 + 1 * k.val = 1024 * (t.val / 8) + k.val
    rw [index1]; show t.val / 8 * 1024 + 1 * k.val = 1024 * (t.val / 8) + k.val; omega
  | ⟨2, _⟩ =>
    show cc0_transform_1 (grid0.coords t) 2 * 384 + 1 * l.val = l.val
    rw [index1]; show 0 * 384 + 1 * l.val = l.val; omega

theorem blk2 : iblk m c 2 t (ix2 r k) = hK m c (ix2 r (chan (tileOf t) k)) := by
  unfold iblk
  refine (congrFun (V_main_arg0 m c) _).trans (congrArg (hK m c) (funext fun a => Fin.ext ?_))
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 1024 + 1 * k.val = 1024 * (t.val / 8) + k.val
    rw [index2]; show t.val / 8 * 1024 + 1 * k.val = 1024 * (t.val / 8) + k.val; omega

theorem out_emb3 : (win0_3.blk t).view.emb (ix2 r k) = (ix2 r (chan (tileOf t) k) : S2048x2048.Idx) := by
  refine funext fun a => Fin.ext ?_
  match a with
  | ⟨0, _⟩ =>
    show cc0_transform_3 (grid0.coords t) 0 * 2048 + 1 * r.val = r.val
    rw [index3]; show 0 * 2048 + 1 * r.val = r.val; omega
  | ⟨1, _⟩ =>
    show cc0_transform_3 (grid0.coords t) 1 * 1024 + 1 * k.val = 1024 * (t.val / 8) + k.val
    rw [index3]; show t.val / 8 * 1024 + 1 * k.val = 1024 * (t.val / 8) + k.val; omega

theorem out_emb4 : (win0_4.blk t).view.emb (ix3 0 k l) = (ix3 (blockOf t) (chan (tileOf t) k) l : S8x2048x384.Idx) := by
  refine funext fun a => Fin.ext ?_
  match a with
  | ⟨0, _⟩ =>
    show cc0_transform_4 (grid0.coords t) 0 * 1 + 1 * 0 = t.val % 8
    rw [index4]; show t.val % 8 * 1 + 1 * 0 = t.val % 8; omega
  | ⟨1, _⟩ =>
    show cc0_transform_4 (grid0.coords t) 1 * 1024 + 1 * k.val = 1024 * (t.val / 8) + k.val
    rw [index4]; show t.val / 8 * 1024 + 1 * k.val = 1024 * (t.val / 8) + k.val; omega
  | ⟨2, _⟩ =>
    show cc0_transform_4 (grid0.coords t) 2 * 384 + 1 * l.val = l.val
    rw [index4]; show 0 * 384 + 1 * l.val = l.val; omega

/-- The part that block `b` has in the gradient of `h` at row `r` and column `n`. -/
def part (n : Fin 2048) (b : Fin 8) : EReal := ∑ l : Fin 384, dzK m c (ix2 r (col b l)) * wK m c (ix3 b n l)

theorem tile_eq : tile (iblk m c 0 t) (iblk m c 1 t) r k = part m c r (chan (tileOf t) k) (blockOf t) := by
  unfold tile part
  refine Fin.sum_fin_congr fun l => ?_
  rw [blk0, blk1]

/-- What the accumulator holds after point `n`, at row `r` and column `k` of the tile. -/
abbrev acc (n : ℕ) (h : n < cfg0.N) : EReal := (outsAt0 m c n h).2.2 (ix2 r k)

theorem acc_first (h : t.val % 8 = 0) : acc m c r k t.val t.isLt = part m c r (chan (tileOf t) k) (blockOf t) := by
  unfold acc
  rw [outsAt0_A m c t h (by omega) (by omega)]
  frame_out
  rw [pay2_at, tile_eq]

theorem acc_between (h : ¬t.val % 8 = 0) (h' : ¬t.val % 8 = 7) : acc m c r k t.val t.isLt
    = acc m c r k (t.val - 1) (Nat.lt_of_le_of_lt (Nat.sub_le _ _) t.isLt) + part m c r (chan (tileOf t) k) (blockOf t) := by
  unfold acc
  rw [outsAt0_B m c t h (by omega) h']
  frame_out
  rw [pay3_at, tile_eq]
  exact congrArg (· + part m c r (chan (tileOf t) k) (blockOf t))
    (congrFun (Memref.IsWhole.read_unread (m := scM0_0) (Memref.isWhole_whole _) _) _)

theorem out_last (h : t.val % 8 = 7) : (outsAt0 m c t.val t.isLt).1 (ix2 r k)
    = acc m c r k (t.val - 1) (Nat.lt_of_le_of_lt (Nat.sub_le _ _) t.isLt) + part m c r (chan (tileOf t) k) (blockOf t) := by
  unfold acc
  rw [outsAt0_C m c t (by omega) (by omega) h]
  frame_out
  rw [pay4_at, tile_eq]
  exact congrArg (· + part m c r (chan (tileOf t) k) (blockOf t))
    (congrFun (Memref.IsWhole.read_unread (m := scM0_0) (Memref.isWhole_whole _) _) _)

/-- The tile that a run writes out holds the sum over the blocks. -/
theorem out_eq (h : t.val % 8 = 7) : (outsAt0 m c t.val t.isLt).1 (ix2 r k) = ∑ b : Fin 8, part m c r (chan (tileOf t) k) b := by
  have run : ∀ t' : Fin cfg0.N, t'.val / 8 = t.val / 8 → tileOf t' = tileOf t := fun t' e => Fin.ext e
  refine (out_last m c t r k h).trans (Accumulate.run_sum (by decide) (acc m c r k) (t.val / 8) (part m c r (chan (tileOf t) k))
    (fun t' e h => ?_) (fun t' e h h' => ?_) t rfl h)
  · rw [acc_first m c t' r k h, run t' e]; rfl
  · rw [acc_between m c t' r k h h', run t' e]; rfl

/-- Whatever the point's place in its run, it writes its block of `w`'s gradient. -/
theorem weight_out : (outsAt0 m c t.val t.isLt).2.1 (ix3 0 k l) = k0_pay1 (iblk m c 2 t) (iblk m c 0 t) (ix3 0 k l) := by
  by_cases h0 : t.val % 8 = 0
  · rw [outsAt0_A m c t h0 (by omega) (by omega)]
    frame_out
  · by_cases h7 : t.val % 8 = 7
    · rw [outsAt0_C m c t h0 (by omega) h7]
      frame_out
    · rw [outsAt0_B m c t h0 (by omega) h7]
      frame_out

/-- The gradient of `h` is the reference's. -/
theorem input_grad : (dats m 0 c).arrAt 3 cfg0.N = inputGrad (wK m c) (dzK m c) := by
  refine (dats m 0 c).arrAt_eq_of_covers 3 _ (by decide +kernel) fun t hf y => ?_
  blk_simp
  obtain ⟨r, k, rfl⟩ : ∃ (r : Fin 2048) (k : Fin 1024), y = ix2 r k := ⟨y 0, y 1, eq_ix2 y⟩
  rw [out_emb3, inputGrad_at, after0_3, out_eq m c t r k ((flush0_3 t).mp hf)]
  rfl

/-- The gradient of `w` is the reference's. -/
theorem weight_grad : (dats m 0 c).arrAt 4 cfg0.N = weightGrad (hK m c) (dzK m c) := by
  refine (dats m 0 c).arrAt_eq_of_covers 4 _ (by decide +kernel) fun t hf y => ?_
  blk_simp
  obtain ⟨u, k, l, rfl⟩ : ∃ (u : Fin 1) (k : Fin 1024) (l : Fin 384), y = ix3 u k l := ⟨y 0, y 1, y 2, eq_ix3 y⟩
  obtain rfl : u = 0 := Subsingleton.elim _ _
  rw [out_emb4, weightGrad_at, after0_4, weight_out, pay1_at]
  refine Fin.sum_fin_congr fun r => ?_
  rw [blk0, blk2]
  exact mul_comm (_ : EReal) _

end Cert.BranchInput

end
-- ==== Proof.ShortInReference.lean ====
module

public import proofs.«01_k».proof.Proof.Gen.Reference8Ideal.Run
public import Idealize.ShloMosaic.Lib.Pointwise

@[expose] public section

/-! # The blocked product of the short convolution's input projection, element by element -/

noncomputable section

namespace Cert.ShortIn.Ref

open Cert.Reference8Ideal Cert.Reference8Ideal.Gen Cert.Reference8Ideal.Value
open Idealize.ShloMosaic Idealize.ShloMosaic.TcCoe

section Terms

variable (h : FVec Ideal S2048x2048 .bf16) (w : FVec Ideal S8x2048x768 .bf16) (r : Fin 2048) (b : Fin 8) (l : Fin 768)

/-- The product, its columns by block. -/
def blocked : FVec Ideal S2048x8x768 .f32 :=
  Host.dotGeneral dot_S2048x2048_S8x2048x768_S2048x8x768_1_1_0_02_n_n none (extf .f32 h bitsLt_bf16_f32) (extf .f32 w bitsLt_bf16_f32)

/-- The product. -/
def product : FVec Ideal S2048x6144 .bf16 :=
  truncf .bf16 (shapeCast S2048x6144 (blocked h w) shapeCasts_S2048x8x768_S2048x6144) bitsLt_bf16_f32

/-- Column `l` of block `b`. -/
def col (b : Fin 8) (l : Fin 768) : Fin 6144 := ⟨b.val * 768 + l.val, by omega⟩

theorem blocked_at : blocked h w (ix3 r b l) = ∑ k : Fin 2048, h (ix2 r k) * w (ix3 b k l) := by pointwise [blocked]

theorem product_at : product h w (ix2 r (col b l)) = ∑ k : Fin 2048, h (ix2 r k) * w (ix3 b k l) := by
  pointwise [product, col, blocked_at]

end Terms

variable (m : (ℓ : Loc nD τ sig) → Buf (Elt Ideal) ℓ) (c : Dev nD)

/-- The arguments. -/
abbrev hOf : S2048x2048.Idx → EReal := m ((c.tc : Thread nD τ).loc main_arg0)
abbrev wOf : S8x2048x768.Idx → EReal := m ((c.tc : Thread nD τ).loc main_arg1)

/-- The reference's run: its result, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = product (hOf m c) (wOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference8Ideal.Value.run m ρ)

end Cert.ShortIn.Ref

end
-- ==== Proof.ShortIn.lean ====
module

public import proofs.«01_k».proof.Proof.Gen.Kernel8Ideal.Value
public import proofs.«01_k».proof.Proof.ShortInReference
public import Idealize.ShloMosaic.Lib.Pipeline.ValueKit

@[expose] public section

/-!
# The blocked product of the short convolution's input projection as the kernel computes it

Grid point `t` takes the weight's block `t`, 768 of its 6144 columns. Every sum is over a whole axis.
-/

noncomputable section

namespace Cert.ShortIn

open Cert.Kernel8Ideal Cert.Kernel8Ideal.Gen Cert.ShortIn.Ref
open Idealize.ShloMosaic Idealize.ShloMosaic.TcCoe

section Blocks

variable (x : Vec Ideal S2048x2048 .bf16) (w : Vec Ideal S1x2048x768 .bf16) (r : Fin 2048) (l : Fin 768)

theorem pay1_at : k0_pay1 x w (ix2 r l) = ∑ k : Fin 2048, x (ix2 r k) * w (ix3 0 k l) := by pointwise [k0_pay1]
theorem out2_eq : out0_2 x w = k0_pay1 x w := by frame_out

end Blocks

variable (m : (ℓ : Loc nD τ sig) → Buf (Elt Ideal) ℓ) (c : Dev nD) (t : Fin cfg0.N) (r k : Fin 2048) (l : Fin 768)

/-- The arguments. -/
abbrev hK : S2048x2048.Idx → EReal := m ((c.tc : Thread nD τ).loc main_arg0)
abbrev wK : S8x2048x768.Idx → EReal := m ((c.tc : Thread nD τ).loc main_arg1)

/-- The block of point `t`. -/
def blockOf : Fin 8 := ⟨t.val, lt_of_lt_of_eq t.isLt N_0⟩

theorem index0 : ∀ t : Fin grid0.N, cc0_transform_0 (grid0.coords t) = ![0, 0] := by decide
theorem index1 : ∀ t : Fin grid0.N, cc0_transform_1 (grid0.coords t) = ![t.val, 0, 0] := by decide
theorem index2 : ∀ t : Fin grid0.N, cc0_transform_2 (grid0.coords t) = ![0, t.val] := by decide

theorem blk0 : iblk m c 0 t (ix2 r k) = hK m c (ix2 r k) := by
  unfold iblk
  refine (congrFun (V_main_arg0 m c) _).trans (congrArg (hK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * k.val = k.val
    rw [index0]; show 0 * 2048 + 1 * k.val = k.val; omega

theorem blk1 : iblk m c 1 t (ix3 0 k l) = wK m c (ix3 (blockOf t) k l) := by
  unfold iblk
  refine (congrFun (V_main_arg1 m c) _).trans (congrArg (wK m c) (funext fun a => Fin.ext ?_))
  match a with
  | ⟨0, _⟩ =>
    show cc0_transform_1 (grid0.coords t) 0 * 1 + 1 * 0 = t.val
    rw [index1]; show t.val * 1 + 1 * 0 = t.val; omega
  | ⟨1, _⟩ =>
    show cc0_transform_1 (grid0.coords t) 1 * 2048 + 1 * k.val = k.val
    rw [index1]; show 0 * 2048 + 1 * k.val = k.val; omega
  | ⟨2, _⟩ =>
    show cc0_transform_1 (grid0.coords t) 2 * 768 + 1 * l.val = l.val
    rw [index1]; show 0 * 768 + 1 * l.val = l.val; omega

theorem out_emb : (win0_2.blk t).view.emb (ix2 r l) = (ix2 r (col (blockOf t) l) : S2048x6144.Idx) := by
  refine funext fun a => Fin.ext ?_
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 768 + 1 * l.val = t.val * 768 + l.val
    rw [index2]; show t.val * 768 + 1 * l.val = t.val * 768 + l.val; omega

/-- The product is the reference's. -/
theorem product_eq : (dats m 0 c).arrAt 2 cfg0.N = product (hK m c) (wK m c) := by
  refine (dats m 0 c).arrAt_eq_of_covers 2 _ (by decide +kernel) fun t hf y => ?_
  blk_simp
  obtain ⟨r, l, rfl⟩ : ∃ (r : Fin 2048) (l : Fin 768), y = ix2 r l := ⟨y 0, y 1, eq_ix2 y⟩
  rw [out_emb, product_at, after0_2, out2_eq, pay1_at]
  refine Fin.sum_fin_congr fun k => ?_
  rw [blk0, blk1]

end Cert.ShortIn

end
-- ==== Proof.BranchInReference.lean ====
module

public import proofs.«01_k».proof.Proof.Gen.Reference9Ideal.Run
public import Idealize.ShloMosaic.Lib.Pointwise

@[expose] public section

/-! # The blocked product of the two branches' input projection, element by element -/

noncomputable section

namespace Cert.BranchIn.Ref

open Cert.Reference9Ideal Cert.Reference9Ideal.Gen Cert.Reference9Ideal.Value
open Idealize.ShloMosaic Idealize.ShloMosaic.TcCoe

section Terms

variable (h : FVec Ideal S2048x2048 .bf16) (w : FVec Ideal S8x2048x384 .bf16) (r : Fin 2048) (b : Fin 8) (l : Fin 384)

/-- The product, its columns by block. -/
def blocked : FVec Ideal S2048x8x384 .f32 :=
  Host.dotGeneral dot_S2048x2048_S8x2048x384_S2048x8x384_1_1_0_02_n_n none (extf .f32 h bitsLt_bf16_f32) (extf .f32 w bitsLt_bf16_f32)

/-- The product. -/
def product : FVec Ideal S2048x3072 .bf16 :=
  truncf .bf16 (shapeCast S2048x3072 (blocked h w) shapeCasts_S2048x8x384_S2048x3072) bitsLt_bf16_f32

/-- Column `l` of block `b`. -/
def col (b : Fin 8) (l : Fin 384) : Fin 3072 := ⟨b.val * 384 + l.val, by omega⟩

theorem blocked_at : blocked h w (ix3 r b l) = ∑ k : Fin 2048, h (ix2 r k) * w (ix3 b k l) := by pointwise [blocked]

theorem product_at : product h w (ix2 r (col b l)) = ∑ k : Fin 2048, h (ix2 r k) * w (ix3 b k l) := by
  pointwise [product, col, blocked_at]

end Terms

variable (m : (ℓ : Loc nD τ sig) → Buf (Elt Ideal) ℓ) (c : Dev nD)

/-- The arguments. -/
abbrev hOf : S2048x2048.Idx → EReal := m ((c.tc : Thread nD τ).loc main_arg0)
abbrev wOf : S8x2048x384.Idx → EReal := m ((c.tc : Thread nD τ).loc main_arg1)

/-- The reference's run: its result, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = product (hOf m c) (wOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference9Ideal.Value.run m ρ)

end Cert.BranchIn.Ref

end
-- ==== Proof.BranchIn.lean ====
module

public import proofs.«01_k».proof.Proof.Gen.Kernel9Ideal.Value
public import proofs.«01_k».proof.Proof.BranchInReference
public import Idealize.ShloMosaic.Lib.Pipeline.ValueKit

@[expose] public section

/-!
# The blocked product of the two branches' input projection as the kernel computes it

Grid point `t` takes the weight's block `t`, 384 of its 3072 columns. Every sum is over a whole axis.
-/

noncomputable section

namespace Cert.BranchIn

open Cert.Kernel9Ideal Cert.Kernel9Ideal.Gen Cert.BranchIn.Ref
open Idealize.ShloMosaic Idealize.ShloMosaic.TcCoe

section Blocks

variable (x : Vec Ideal S2048x2048 .bf16) (w : Vec Ideal S1x2048x384 .bf16) (r : Fin 2048) (l : Fin 384)

theorem pay1_at : k0_pay1 x w (ix2 r l) = ∑ k : Fin 2048, x (ix2 r k) * w (ix3 0 k l) := by pointwise [k0_pay1]
theorem out2_eq : out0_2 x w = k0_pay1 x w := by frame_out

end Blocks

variable (m : (ℓ : Loc nD τ sig) → Buf (Elt Ideal) ℓ) (c : Dev nD) (t : Fin cfg0.N) (r k : Fin 2048) (l : Fin 384)

/-- The arguments. -/
abbrev hK : S2048x2048.Idx → EReal := m ((c.tc : Thread nD τ).loc main_arg0)
abbrev wK : S8x2048x384.Idx → EReal := m ((c.tc : Thread nD τ).loc main_arg1)

/-- The block of point `t`. -/
def blockOf : Fin 8 := ⟨t.val, lt_of_lt_of_eq t.isLt N_0⟩

theorem index0 : ∀ t : Fin grid0.N, cc0_transform_0 (grid0.coords t) = ![0, 0] := by decide
theorem index1 : ∀ t : Fin grid0.N, cc0_transform_1 (grid0.coords t) = ![t.val, 0, 0] := by decide
theorem index2 : ∀ t : Fin grid0.N, cc0_transform_2 (grid0.coords t) = ![0, t.val] := by decide

theorem blk0 : iblk m c 0 t (ix2 r k) = hK m c (ix2 r k) := by
  unfold iblk
  refine (congrFun (V_main_arg0 m c) _).trans (congrArg (hK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * k.val = k.val
    rw [index0]; show 0 * 2048 + 1 * k.val = k.val; omega

theorem blk1 : iblk m c 1 t (ix3 0 k l) = wK m c (ix3 (blockOf t) k l) := by
  unfold iblk
  refine (congrFun (V_main_arg1 m c) _).trans (congrArg (wK m c) (funext fun a => Fin.ext ?_))
  match a with
  | ⟨0, _⟩ =>
    show cc0_transform_1 (grid0.coords t) 0 * 1 + 1 * 0 = t.val
    rw [index1]; show t.val * 1 + 1 * 0 = t.val; omega
  | ⟨1, _⟩ =>
    show cc0_transform_1 (grid0.coords t) 1 * 2048 + 1 * k.val = k.val
    rw [index1]; show 0 * 2048 + 1 * k.val = k.val; omega
  | ⟨2, _⟩ =>
    show cc0_transform_1 (grid0.coords t) 2 * 384 + 1 * l.val = l.val
    rw [index1]; show 0 * 384 + 1 * l.val = l.val; omega

theorem out_emb : (win0_2.blk t).view.emb (ix2 r l) = (ix2 r (col (blockOf t) l) : S2048x3072.Idx) := by
  refine funext fun a => Fin.ext ?_
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 384 + 1 * l.val = t.val * 384 + l.val
    rw [index2]; show t.val * 384 + 1 * l.val = t.val * 384 + l.val; omega

/-- The product is the reference's. -/
theorem product_eq : (dats m 0 c).arrAt 2 cfg0.N = product (hK m c) (wK m c) := by
  refine (dats m 0 c).arrAt_eq_of_covers 2 _ (by decide +kernel) fun t hf y => ?_
  blk_simp
  obtain ⟨r, l, rfl⟩ : ∃ (r : Fin 2048) (l : Fin 384), y = ix2 r l := ⟨y 0, y 1, eq_ix2 y⟩
  rw [out_emb, product_at, after0_2, out2_eq, pay1_at]
  refine Fin.sum_fin_congr fun k => ?_
  rw [blk0, blk1]

end Cert.BranchIn

end
-- ==== Proof.MixerOutReference.lean ====
module

public import proofs.«01_k».proof.Proof.Gen.Reference10Ideal.Run
public import Idealize.ShloMosaic.Lib.Pointwise

@[expose] public section

/-! # A mixer's output projection, element by element -/

noncomputable section

namespace Cert.MixerOut.Ref

open Cert.Reference10Ideal Cert.Reference10Ideal.Gen Cert.Reference10Ideal.Value
open Idealize.ShloMosaic Idealize.ShloMosaic.TcCoe

section Terms

variable (y w : FVec Ideal S2048x2048 .bf16) (r n : Fin 2048)

/-- The product. -/
def product : FVec Ideal S2048x2048 .f32 :=
  Host.dotGeneral dot_S2048x2048_S2048x2048_S2048x2048_1_0_0_1_n_n none (extf .f32 y bitsLt_bf16_f32) (extf .f32 w bitsLt_bf16_f32)

theorem product_at : product y w (ix2 r n) = ∑ k : Fin 2048, y (ix2 r k) * w (ix2 k n) := by pointwise [product]

end Terms

variable (m : (ℓ : Loc nD τ sig) → Buf (Elt Ideal) ℓ) (c : Dev nD)

/-- The arguments. -/
abbrev yOf : S2048x2048.Idx → EReal := m ((c.tc : Thread nD τ).loc main_arg0)
abbrev wOf : S2048x2048.Idx → EReal := m ((c.tc : Thread nD τ).loc main_arg1)

/-- The reference's run: its result, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v2) = product (yOf m c) (wOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference10Ideal.Value.run m ρ)

end Cert.MixerOut.Ref

end
-- ==== Proof.MixerOut.lean ====
module

public import proofs.«01_k».proof.Proof.Gen.Kernel10Ideal.Value
public import proofs.«01_k».proof.Proof.MixerOutReference
public import Idealize.ShloMosaic.Lib.Pipeline.ValueKit

@[expose] public section

/-!
# A mixer's output projection as the kernel computes it

Grid point `t` takes 512 of the 2048 columns. Every sum is over a whole axis.
-/

noncomputable section

namespace Cert.MixerOut

open Cert.Kernel10Ideal Cert.Kernel10Ideal.Gen Cert.MixerOut.Ref
open Idealize.ShloMosaic Idealize.ShloMosaic.TcCoe

section Blocks

variable (x : Vec Ideal S2048x2048 .bf16) (w : Vec Ideal S2048x512 .bf16) (r : Fin 2048) (l : Fin 512)

theorem pay1_at : k0_pay1 x w (ix2 r l) = ∑ k : Fin 2048, x (ix2 r k) * w (ix2 k l) := by pointwise [k0_pay1]
theorem out2_eq : out0_2 x w = k0_pay1 x w := by frame_out

end Blocks

variable (m : (ℓ : Loc nD τ sig) → Buf (Elt Ideal) ℓ) (c : Dev nD) (t : Fin cfg0.N) (r k : Fin 2048) (l : Fin 512)

/-- The arguments. -/
abbrev yK : S2048x2048.Idx → EReal := m ((c.tc : Thread nD τ).loc main_arg0)
abbrev wK : S2048x2048.Idx → EReal := m ((c.tc : Thread nD τ).loc main_arg1)

/-- Column `l` of point `t`. -/
def col : Fin 2048 := ⟨512 * t.val + l.val, by have h : t.val < 4 := lt_of_lt_of_eq t.isLt N_0; have := l.isLt; omega⟩

theorem index0 : ∀ t : Fin grid0.N, cc0_transform_0 (grid0.coords t) = ![0, 0] := by decide
theorem index1 : ∀ t : Fin grid0.N, cc0_transform_1 (grid0.coords t) = ![0, t.val] := by decide
theorem index2 : ∀ t : Fin grid0.N, cc0_transform_2 (grid0.coords t) = ![0, t.val] := by decide

theorem blk0 : iblk m c 0 t (ix2 r k) = yK m c (ix2 r k) := by
  unfold iblk
  refine (congrFun (V_main_arg0 m c) _).trans (congrArg (yK m c) (funext fun a => Fin.ext ?_))
  match a with
  | ⟨0, _⟩ =>
    show cc0_transform_0 (grid0.coords t) 0 * 2048 + 1 * r.val = r.val
    rw [index0]; show 0 * 2048 + 1 * r.val = r.val; omega
  | ⟨1, _⟩ =>
    show cc0_transform_0 (grid0.coords t) 1 * 2048 + 1 * k.val = k.val
    rw [index0]; show 0 * 2048 + 1 * k.val = k.val; omega

theorem blk1 : iblk m c 1 t (ix2 k l) = wK m c (ix2 k (col t l)) := by
  unfold iblk
  refine (congrFun (V_main_arg1 m c) _).trans (congrArg (wK m c) (funext fun a => Fin.ext ?_))
  match a with
  | ⟨0, _⟩ =>
    show cc0_transform_1 (grid0.coords t) 0 * 2048 + 1 * k.val = k.val
    rw [index1]; show 0 * 2048 + 1 * k.val = k.val; omega
  | ⟨1, _⟩ =>
    show cc0_transform_1 (grid0.coords t) 1 * 512 + 1 * l.val = 512 * t.val + l.val
    rw [index1]; show t.val * 512 + 1 * l.val = 512 * t.val + l.val; omega

theorem out_emb : (win0_2.blk t).view.emb (ix2 r l) = (ix2 r (col t l) : S2048x2048.Idx) := by
  refine funext fun a => Fin.ext ?_
  match a with
  | ⟨0, _⟩ =>
    show cc0_transform_2 (grid0.coords t) 0 * 2048 + 1 * r.val = r.val
    rw [index2]; show 0 * 2048 + 1 * r.val = r.val; omega
  | ⟨1, _⟩ =>
    show cc0_transform_2 (grid0.coords t) 1 * 512 + 1 * l.val = 512 * t.val + l.val
    rw [index2]; show t.val * 512 + 1 * l.val = 512 * t.val + l.val; omega

/-- The product is the reference's. -/
theorem product_eq : (dats m 0 c).arrAt 2 cfg0.N = product (yK m c) (wK m c) := by
  refine (dats m 0 c).arrAt_eq_of_covers 2 _ (by decide +kernel) fun t hf y => ?_
  blk_simp
  obtain ⟨r, l, rfl⟩ : ∃ (r : Fin 2048) (l : Fin 512), y = ix2 r l := ⟨y 0, y 1, eq_ix2 y⟩
  rw [out_emb, product_at, after0_2, out2_eq, pay1_at]
  refine Fin.sum_fin_congr fun k => ?_
  rw [blk0, blk1]

end Cert.MixerOut

end
-- ==== Proof.UpRun.lean ====
module

public import proofs.«01_k».proof.Proof.Gen.Kernel11Ideal.Frame

@[expose] public section

/-!
# A run of the first product's two calls

The frame's run with one more array read at its end: the result, which holds what the second call leaves in its output.
-/

noncomputable section

namespace Cert.Up

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v1 (by decide))).trans (W3_arr m ρ c 2),
       (h c _ (mem_uc main_arg0 (by decide))).trans (W3_main_arg0 m ρ c),
       (h c _ (mem_uc main_arg1 (by decide))).trans (W3_main_arg1 m ρ c)⟩)

end Cert.Up

end
-- ==== Proof.UpReference.lean ====
module

public import proofs.«01_k».proof.Proof.Gen.Reference11Ideal.Run
public import Idealize.ShloMosaic.Lib.Pointwise

@[expose] public section

/-! # The first product with its activation, `relu(h · w1)`, element by element -/

noncomputable section

namespace Cert.Up.Ref

open Cert.Reference11Ideal Cert.Reference11Ideal.Gen Cert.Reference11Ideal.Value
open Idealize.ShloMosaic Idealize.ShloMosaic.TcCoe

section Terms

variable (h : FVec Ideal S2048x2048 .bf16) (w : FVec Ideal S8x2048x1024 .bf16)
variable (r : Fin 2048) (s : Fin 8) (l : Fin 1024) (k : Fin 8192)

/-- The product, its hidden channels by shard. -/
def sharded : FVec Ideal S2048x8x1024 .f32 :=
  Host.dotGeneral dot_S2048x2048_S8x2048x1024_S2048x8x1024_1_1_0_02_n_n none (extf .f32 h bitsLt_bf16_f32)
    (extf .f32 w bitsLt_bf16_f32)

/-- The activation. -/
def hidden : FVec Ideal S2048x8192 .bf16 :=
  truncf .bf16 (maximumf (shapeCast S2048x8192 (sharded h w) shapeCasts_S2048x8x1024_S2048x8192)
    (broadcastInDim S2048x8192 ![] bcast_S_S2048x8192 (constant (F := Ideal) S_ .f32 0x00000000#32))) bitsLt_bf16_f32

theorem sharded_at : sharded h w (ix3 r s l) = ∑ k : Fin 2048, h (ix2 r k) * w (ix3 s k l) := by pointwise [sharded]

/-- Hidden channel `k` is channel `k % 1024` of shard `k / 1024`. -/
theorem hidden_at : hidden h w (ix2 r k)
    = max (∑ n : Fin 2048, h (ix2 r n)
        * w (ix3 (⟨k.val / 1024, by have := k.isLt; omega⟩ : Fin 8) n (⟨k.val % 1024, by omega⟩ : Fin 1024))) 0 := by
  pointwise [hidden, sharded_at]

end Terms

variable (m : (ℓ : Loc nD τ sig) → Buf (Elt Ideal) ℓ) (c : Dev nD)

/-- The arguments. -/
abbrev hOf : S2048x2048.Idx → EReal := m ((c.tc : Thread nD τ).loc main_arg0)
abbrev w1Of : S8x2048x1024.Idx → EReal := m ((c.tc : Thread nD τ).loc main_arg1)

/-- The reference's run: its result, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v5) = hidden (hOf m c) (w1Of m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference11Ideal.Value.run m ρ)

end Cert.Up.Ref

end
-- ==== Proof.Up.lean ====
module

public import proofs.«01_k».proof.Proof.UpRun
public import proofs.«01_k».proof.Proof.UpReference
public import Idealize.ShloMosaic.Lib.Pipeline.ValueKit

@[expose] public section

/-!
# The first product with its activation, `relu(h · w1)`, as the kernel computes it

Two calls fill one array of 2048 tokens by 8192 hidden channels, 512 channels a grid point: the first call the first twelve
blocks of channels, the second, on the first's array, the last four. Every sum is over a whole axis.
-/

noncomputable section

namespace Cert.Up

open Cert.Kernel11Ideal Cert.Kernel11Ideal.Gen Cert.Up.Ref
open Idealize.ShloMosaic Idealize.ShloMosaic.TcCoe

variable (a : Vec Ideal S2048x2048 .bf16) (b : Vec Ideal S1x2048x512 .bf16)
variable (m : (ℓ : Loc nD τ sig) → Buf (Elt Ideal) ℓ) (ρ : Dev nD → PrngReg) (c : Dev nD)
variable (r k : Fin 2048) (l : Fin 512)

/-- The arguments. -/
abbrev hK : S2048x2048.Idx → EReal := m ((c.tc : Thread nD τ).loc main_arg0)
abbrev w1K : S8x2048x1024.Idx → EReal := m ((c.tc : Thread nD τ).loc main_arg1)

/-! ## Call 1: blocks 0 to 11 of 512 hidden channels -/

section Call1

variable (t : Fin cfg0.N)

/-- Hidden channel `l` of point `t`. -/
def chan0 : Fin 8192 := ⟨512 * (0 + t.val) + l.val, by have h : t.val < 12 := lt_of_lt_of_eq t.isLt N_0; have := l.isLt; omega⟩

theorem pay0_at : k0_pay1 a b (ix2 r l) = max (∑ k : Fin 2048, a (ix2 r k) * b (ix3 0 k l)) 0 := by pointwise [k0_pay1]

theorem index00 : ∀ t : Fin grid0.N, cc0_transform_0 (grid0.coords t) = ![0, 0] := by decide
theorem index01 : ∀ t : Fin grid0.N, cc0_transform_1 (grid0.coords t) = ![(0 + t.val) / 2, 0, t.val % 2] := by decide
theorem index02 : ∀ t : Fin grid0.N, cc0_transform_2 (grid0.coords t) = ![0, 0 + t.val] := by decide

theorem blk00 : iblk0 (V0 m ρ) c 0 t (ix2 r k) = hK m c (ix2 r k) := by
  unfold iblk0
  refine (congrFun (W0_args m ρ c main_arg0 (by decide)) _).trans (congrArg (hK m c) (funext fun a => Fin.ext ?_))
  match a with
  | ⟨0, _⟩ =>
    show cc0_transform_0 (grid0.coords t) 0 * 2048 + 1 * r.val = r.val
    rw [index00]; show 0 * 2048 + 1 * r.val = r.val; omega
  | ⟨1, _⟩ =>
    show cc0_transform_0 (grid0.coords t) 1 * 2048 + 1 * k.val = k.val
    rw [index00]; show 0 * 2048 + 1 * k.val = k.val; omega

theorem blk01 : iblk0 (V0 m ρ) c 1 t (ix3 0 k l)
    = w1K m c (ix3 (⟨(chan0 l t).val / 1024, by have := (chan0 l t).isLt; omega⟩ : Fin 8) k
        (⟨(chan0 l t).val % 1024, by omega⟩ : Fin 1024)) := by
  unfold iblk0
  refine (congrFun (W0_args m ρ c main_arg1 (by decide)) _).trans (congrArg (w1K m c) (funext fun a => Fin.ext ?_))
  have hl := l.isLt
  match a with
  | ⟨0, _⟩ =>
    show cc0_transform_1 (grid0.coords t) 0 * 1 + 1 * 0 = (512 * (0 + t.val) + l.val) / 1024
    rw [index01]; show (0 + t.val) / 2 * 1 + 1 * 0 = (512 * (0 + t.val) + l.val) / 1024; omega
  | ⟨1, _⟩ =>
    show cc0_transform_1 (grid0.coords t) 1 * 2048 + 1 * k.val = k.val
    rw [index01]; show 0 * 2048 + 1 * k.val = k.val; omega
  | ⟨2, _⟩ =>
    show cc0_transform_1 (grid0.coords t) 2 * 512 + 1 * l.val = (512 * (0 + t.val) + l.val) % 1024
    rw [index01]; show t.val % 2 * 512 + 1 * l.val = (512 * (0 + t.val) + l.val) % 1024; omega

theorem emb0 : (win0_2.blk t).view.emb (ix2 r l) = (ix2 r (chan0 l t) : S2048x8192.Idx) := by
  refine funext fun a => Fin.ext ?_
  match a with
  | ⟨0, _⟩ =>
    show cc0_transform_2 (grid0.coords t) 0 * 2048 + 1 * r.val = r.val
    rw [index02]; show 0 * 2048 + 1 * r.val = r.val; omega
  | ⟨1, _⟩ =>
    show cc0_transform_2 (grid0.coords t) 1 * 512 + 1 * l.val = 512 * (0 + t.val) + l.val
    rw [index02]; show (0 + t.val) * 512 + 1 * l.val = 512 * (0 + t.val) + l.val; omega

/-- What the body leaves at a point is the reference's activation there. -/
theorem point0 : k0_pay1 (iblk0 (V0 m ρ) c 0 t) (iblk0 (V0 m ρ) c 1 t) (ix2 r l)
    = hidden (hK m c) (w1K m c) (ix2 r (chan0 l t)) := by
  rw [pay0_at, hidden_at]
  refine congrArg (fun x : EReal => max x 0) (Finset.sum_congr rfl fun k _ => ?_)
  rw [blk00, blk01]

end Call1

/-! ## Call 2: blocks 12 to 15 of 512 hidden channels -/

section Call2

variable (t : Fin cfg1.N)

/-- Hidden channel `l` of point `t`. -/
def chan1 : Fin 8192 := ⟨512 * (12 + t.val) + l.val, by have h : t.val < 4 := lt_of_lt_of_eq t.isLt N_1; have := l.isLt; omega⟩

theorem pay1_at : k1_pay1 a b (ix2 r l) = max (∑ k : Fin 2048, a (ix2 r k) * b (ix3 0 k l)) 0 := by pointwise [k1_pay1]

theorem index10 : ∀ t : Fin grid1.N, cc1_transform_0 (grid1.coords t) = ![0, 0] := by decide
theorem index11 : ∀ t : Fin grid1.N, cc1_transform_1 (grid1.coords t) = ![(12 + t.val) / 2, 0, t.val % 2] := by decide
theorem index12 : ∀ t : Fin grid1.N, cc1_transform_3 (grid1.coords t) = ![0, 12 + t.val] := by decide

theorem blk10 : iblk1 (V2 m ρ) c 0 t (ix2 r k) = hK m c (ix2 r k) := by
  unfold iblk1
  refine (congrFun (W2_args m ρ c main_arg0 (by decide)) _).trans (congrArg (hK m c) (funext fun a => Fin.ext ?_))
  match a with
  | ⟨0, _⟩ =>
    show cc1_transform_0 (grid1.coords t) 0 * 2048 + 1 * r.val = r.val
    rw [index10]; show 0 * 2048 + 1 * r.val = r.val; omega
  | ⟨1, _⟩ =>
    show cc1_transform_0 (grid1.coords t) 1 * 2048 + 1 * k.val = k.val
    rw [index10]; show 0 * 2048 + 1 * k.val = k.val; omega

theorem blk11 : iblk1 (V2 m ρ) c 1 t (ix3 0 k l)
    = w1K m c (ix3 (⟨(chan1 l t).val / 1024, by have := (chan1 l t).isLt; omega⟩ : Fin 8) k
        (⟨(chan1 l t).val % 1024, by omega⟩ : Fin 1024)) := by
  unfold iblk1
  refine (congrFun (W2_args m ρ c main_arg1 (by decide)) _).trans (congrArg (w1K m c) (funext fun a => Fin.ext ?_))
  have hl := l.isLt
  match a with
  | ⟨0, _⟩ =>
    show cc1_transform_1 (grid1.coords t) 0 * 1 + 1 * 0 = (512 * (12 + t.val) + l.val) / 1024
    rw [index11]; show (12 + t.val) / 2 * 1 + 1 * 0 = (512 * (12 + t.val) + l.val) / 1024; omega
  | ⟨1, _⟩ =>
    show cc1_transform_1 (grid1.coords t) 1 * 2048 + 1 * k.val = k.val
    rw [index11]; show 0 * 2048 + 1 * k.val = k.val; omega
  | ⟨2, _⟩ =>
    show cc1_transform_1 (grid1.coords t) 2 * 512 + 1 * l.val = (512 * (12 + t.val) + l.val) % 1024
    rw [index11]; show t.val % 2 * 512 + 1 * l.val = (512 * (12 + t.val) + l.val) % 1024; omega

theorem emb1 : (win1_2.blk t).view.emb (ix2 r l) = (ix2 r (chan1 l t) : S2048x8192.Idx) := by
  refine funext fun a => Fin.ext ?_
  match a with
  | ⟨0, _⟩ =>
    show cc1_transform_3 (grid1.coords t) 0 * 2048 + 1 * r.val = r.val
    rw [index12]; show 0 * 2048 + 1 * r.val = r.val; omega
  | ⟨1, _⟩ =>
    show cc1_transform_3 (grid1.coords t) 1 * 512 + 1 * l.val = 512 * (12 + t.val) + l.val
    rw [index12]; show (12 + t.val) * 512 + 1 * l.val = 512 * (12 + t.val) + l.val; omega

/-- What the body leaves at a point is the reference's activation there. -/
theorem point1 : k1_pay1 (iblk1 (V2 m ρ) c 0 t) (iblk1 (V2 m ρ) c 1 t) (ix2 r l)
    = hidden (hK m c) (w1K m c) (ix2 r (chan1 l t)) := by
  rw [pay1_at, hidden_at]
  refine congrArg (fun x : EReal => max x 0) (Finset.sum_congr rfl fun k _ => ?_)
  rw [blk10, blk11]

end Call2

/-! ## The array -/

theorem out0_eq : out0_2 a b = k0_pay1 a b := by frame_out

theorem outs1_eq (t : Fin cfg1.N) : outsAt1 (V2 m ρ) c t = k1_pay1 (iblk1 (V2 m ρ) c 0 t) (iblk1 (V2 m ρ) c 1 t) := by
  unfold outsAt1
  frame_out

/-- The second call starts from the array that the first one leaves. -/
theorem entry : V2 m ρ c main_v1 = (dat0 (V0 m ρ) c).arrAt 2 cfg0.N := by
  refine Eq.trans ?_ (W1_arr m ρ c 2)
  show StableHlo.after hostOps1 (W1 m ρ c) (Proc.devRef .tc main_v1) = _
  after_results
  rfl

/-- Hidden channels below 6144 are the first call's. -/
theorem first_call (i : S2048x8192.Idx) (hi : ¬ 12 ≤ (i 1 : ℕ) / 512) :
    (dat0 (V0 m ρ) c).arrAt 2 cfg0.N i = hidden (hK m c) (w1K m c) i := by
  refine ((dat0 (V0 m ρ) c).arrAt_apply_of_coversWhere 2 (hidden (hK m c) (w1K m c)) (P := fun i => (i 1 : ℕ) / 512 < 12)
    (fun β => β (1 : Fin _) < 12) (by decide +kernel) (fun t hf y => ?_) (fun j => Iff.rfl) i).trans (if_pos (by omega))
  blk_simp
  obtain ⟨r, l, rfl⟩ : ∃ (r : Fin 2048) (l : Fin 512), y = ix2 r l := ⟨y 0, y 1, eq_ix2 y⟩
  rw [emb0, after0_2, out0_eq]
  exact point0 m ρ c r l t

/-- The array is the reference's. -/
theorem hidden_eq : (dat1 (V2 m ρ) c).arrAt 2 cfg1.N = hidden (hK m c) (w1K m c) := by
  refine (dat1 (V2 m ρ) c).arrAt_eq_of_coversWhere_of_agree 2 _ (fun β => 12 ≤ β (1 : Fin _)) (by decide +kernel)
    (fun t hf y => ?_) (fun j hj => ?_)
  · blk_simp
    obtain ⟨r, l, rfl⟩ : ∃ (r : Fin 2048) (l : Fin 512), y = ix2 r l := ⟨y 0, y 1, eq_ix2 y⟩
    rw [emb1, after1_2, outs1_eq]
    exact point1 m ρ c r l t
  · refine (congrFun (entry m ρ c) _).trans (first_call m ρ c _ ?_)
    exact hj

end Cert.Up

end
-- ==== Proof.Adam.lean ====
module

public import Idealize.ShloMosaic.Lib.Pointwise

@[expose] public section

/-!
# The optimiser's formulas for one element

`w` is the weight, `m` and `v` its moments before the step, `g` its gradient. The constants are the float32 values of the decay
rates, the bias corrections, the rate, the weight decay and the guard against a root of zero.
-/

noncomputable section

namespace Cert.Adam

open Idealize.ShloMosaic

/-- The sum of the four contributions to a gradient. -/
def total (f : Fin 4 → EReal) : EReal := ∑ s : Fin 4, f s

theorem total_eq (f : Fin 4 → EReal) : total f = f 0 + f 1 + f 2 + f 3 := Fin.sum_univ_four f

variable (w m v g : EReal)

/-- The first moment after the step. -/
def first : EReal := Ideal.ofBits .f32 0x3F666666#32 * m + Ideal.ofBits .f32 0x3DCCCCCD#32 * g

/-- The second moment after the step. -/
def second : EReal := Ideal.ofBits .f32 0x3F7FBE77#32 * v + Ideal.ofBits .f32 0x3A83126F#32 * (g * g)

/-- The change of the weight. -/
def change : EReal :=
  Ideal.ofBits .f32 0xBA83126F#32
    * (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

end Cert.Adam

end
-- ==== Proof.UpdateFirstReference.lean ====
module

public import proofs.«01_k».proof.Proof.Gen.Reference12Ideal.Run
public import proofs.«01_k».proof.Proof.Adam

@[expose] public section

/-! # The optimiser's step on the feed-forward layers' first weights, element by element -/

noncomputable section

namespace Cert.UpdateFirst.Ref

open Cert.Reference12Ideal Cert.Reference12Ideal.Gen Cert.Reference12Ideal.Value
open Idealize.ShloMosaic Idealize.ShloMosaic.TcCoe

section Terms

variable (c₀ c₁ : FVec Ideal S4x2048x1024 .bf16) (w m v g : FVec Ideal S4096x1024 .f32) (r : Fin 4096) (h : Fin 2048) (n : Fin 1024)

/-- The gradient of one layer's weight. -/
def layer (c : FVec Ideal S4x2048x1024 .bf16) : FVec Ideal S2048x1024 .f32 :=
  Host.reduceAdd (extf .f32 c bitsLt_bf16_f32) (constant S_ .f32 0x00000000#32) reducesTo_S4x2048x1024_S2048x1024_d0 h_S_

/-- The gradient, one layer after the other. -/
def grad : FVec Ideal S4096x1024 .f32 :=
  concatenate S4096x1024 0 [⟨S2048x1024, layer c₀⟩, ⟨S2048x1024, layer c₁⟩] concatenates_S2048x1024_S2048x1024_S4096x1024_d0

/-- The first moment after the step. -/
def newFirst (m g : FVec Ideal S4096x1024 .f32) : FVec Ideal S4096x1024 .f32 :=
  addf (mulf (broadcastInDim S4096x1024 ![] bcast_S_S4096x1024 (constant S_ .f32 0x3F666666#32)) m)
    (mulf (broadcastInDim S4096x1024 ![] bcast_S_S4096x1024 (constant S_ .f32 0x3DCCCCCD#32)) g)

/-- The second moment after the step. -/
def newSecond (v g : FVec Ideal S4096x1024 .f32) : FVec Ideal S4096x1024 .f32 :=
  addf (mulf (broadcastInDim S4096x1024 ![] bcast_S_S4096x1024 (constant S_ .f32 0x3F7FBE77#32)) v)
    (mulf (broadcastInDim S4096x1024 ![] bcast_S_S4096x1024 (constant S_ .f32 0x3A83126F#32)) (mulf g g))

/-- The change of the weight. -/
def delta (w m v g : FVec Ideal S4096x1024 .f32) : FVec Ideal S4096x1024 .f32 :=
  mulf (broadcastInDim S4096x1024 ![] bcast_S_S4096x1024 (constant S_ .f32 0xBA83126F#32))
    (addf (Host.divf (Host.divf (newFirst m g) (broadcastInDim S4096x1024 ![] bcast_S_S4096x1024 (constant S_ .f32 0x3F26BD02#32)))
        (addf (Host.sqrt (Host.divf (newSecond v g) (broadcastInDim S4096x1024 ![] bcast_S_S4096x1024 (constant S_ .f32 0x3C231ACC#32))))
          (broadcastInDim S4096x1024 ![] bcast_S_S4096x1024 (constant S_ .f32 0x322BCC77#32))))
      (mulf (broadcastInDim S4096x1024 ![] bcast_S_S4096x1024 (constant S_ .f32 0x3C23D70A#32)) w))

theorem layer_at (c : FVec Ideal S4x2048x1024 .bf16) : layer c (ix2 h n) = Adam.total fun s => c (ix3 s h n) := by
  pointwise [layer, Adam.total]
theorem grad_low (hr : r.val = h.val) : grad c₀ c₁ (ix2 r n) = Adam.total fun s => c₀ (ix3 s h n) := by
  obtain ⟨r, hlt⟩ := r
  obtain rfl : r = h.val := hr
  pointwise [grad, layer_at]
theorem grad_high (hr : r.val = 2048 + h.val) : grad c₀ c₁ (ix2 r n) = Adam.total fun s => c₁ (ix3 s h n) := by
  obtain ⟨r, hlt⟩ := r
  obtain rfl : r = 2048 + h.val := hr
  pointwise [grad, layer_at]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S4096x1024.Idx → EReal := m ((c.tc : Thread nD τ).loc main_arg0)
abbrev mOf : S4096x1024.Idx → EReal := m ((c.tc : Thread nD τ).loc main_arg1)
abbrev vOf : S4096x1024.Idx → EReal := m ((c.tc : Thread nD τ).loc main_arg2)
abbrev c₀Of : S4x2048x1024.Idx → EReal := m ((c.tc : Thread nD τ).loc main_arg3)
abbrev c₁Of : S4x2048x1024.Idx → EReal := m ((c.tc : Thread nD τ).loc main_arg4)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = grad (c₀Of m c) (c₁Of m c)
      ∧ r.2.mem ((c.tc : Thread nD τ).loc main_v28) = delta (wOf m c) (mOf m c) (vOf m c) (grad (c₀Of m c) (c₁Of m c))
      ∧ r.2.mem ((c.tc : Thread nD τ).loc main_v9) = newFirst (mOf m c) (grad (c₀Of m c) (c₁Of m c))
      ∧ r.2.mem ((c.tc : Thread nD τ).loc main_v15) = newSecond (vOf m c) (grad (c₀Of m c) (c₁Of m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl,
    (h c).2.2.2.2⟩) (Cert.Reference12Ideal.Value.run m ρ)

end Cert.UpdateFirst.Ref

end
-- ==== Proof.UpdateFirst.lean ====
module

public import proofs.«01_k».proof.Proof.Gen.Kernel12Ideal.Value
public import proofs.«01_k».proof.Proof.UpdateFirstReference
public import Idealize.ShloMosaic.Lib.Pipeline.ValueKit

@[expose] public section

/-!
# The optimiser's step on the feed-forward layers' first weights as the kernel computes it

Grid point `t` takes 256 of the 4096 rows: the first eight points those of the first layer, the others those of the second. The
gradient is the sum of the layer's four contributions, added in their order. A point reads a tile of each layer's contributions,
clamped to the layer, and selects the sum of its own.
-/

noncomputable section

namespace Cert.UpdateFirst

open Cert.Kernel12Ideal Cert.Kernel12Ideal.Gen Cert.UpdateFirst.Ref
open Idealize.ShloMosaic Idealize.ShloMosaic.TcCoe

section Blocks

variable (w m v : Vec Ideal S256x1024 .f32) (c₀ c₁ : Vec Ideal S4x256x1024 .bf16) (t : Fin grid0.N) (r : Fin 256) (n : Fin 1024)

/-- A grid point's choice of the layer. -/
theorem later : ∀ t : Fin grid0.N, Scalar.cmpi .sge (BitVec.ofNat 32 (grid0.coords t 0).val) 8#32 = if 8 ≤ t.val then 1#1 else 0#1 := by
  decide

theorem sum_at : k0_pay5 (grid0.coords t) w m v c₀ c₁ (ix2 r n)
    = if 8 ≤ t.val then Adam.total fun s => c₁ (ix3 s r n) else Adam.total fun s => c₀ (ix3 s r n) := by
  rw [Adam.total_eq, Adam.total_eq]
  unfold k0_pay5 k0_pay4
  simp only [later]
  split <;> pointwise []

theorem out5_eq : out0_5 (grid0.coords t) w m v c₀ c₁ = k0_pay5 (grid0.coords t) w m v c₀ c₁ := by frame_out

theorem out6_at : out0_6 (grid0.coords t) w m v c₀ c₁ (ix2 r n)
    = Adam.change (w (ix2 r n)) (m (ix2 r n)) (v (ix2 r n)) (k0_pay5 (grid0.coords t) w m v c₀ c₁ (ix2 r n)) := by
  unfold out0_6
  generalize k0_pay5 (grid0.coords t) w m v c₀ c₁ = g
  frame_out
  pointwise [k0_pay1, k0_pay2, k0_pay3, Adam.change, Adam.first, Adam.second]

theorem out7_at : out0_7 (grid0.coords t) w m v c₀ c₁ (ix2 r n)
    = Adam.first (m (ix2 r n)) (k0_pay5 (grid0.coords t) w m v c₀ c₁ (ix2 r n)) := by
  unfold out0_7
  generalize k0_pay5 (grid0.coords t) w m v c₀ c₁ = g
  frame_out
  pointwise [k0_pay1, Adam.first]

theorem out8_at : out0_8 (grid0.coords t) w m v c₀ c₁ (ix2 r n)
    = Adam.second (v (ix2 r n)) (k0_pay5 (grid0.coords t) w m v c₀ c₁ (ix2 r n)) := by
  unfold out0_8
  generalize k0_pay5 (grid0.coords t) w m v c₀ c₁ = g
  frame_out
  pointwise [k0_pay2, Adam.second]

end Blocks

variable (m : (ℓ : Loc nD τ sig) → Buf (Elt Ideal) ℓ) (c : Dev nD) (t : Fin cfg0.N) (r : Fin 256) (n : Fin 1024) (s : Fin 4)

/-- The arguments. -/
abbrev wK : S4096x1024.Idx → EReal := m ((c.tc : Thread nD τ).loc main_arg0)
abbrev mK : S4096x1024.Idx → EReal := m ((c.tc : Thread nD τ).loc main_arg1)
abbrev vK : S4096x1024.Idx → EReal := m ((c.tc : Thread nD τ).loc main_arg2)
abbrev c₀K : S4x2048x1024.Idx → EReal := m ((c.tc : Thread nD τ).loc main_arg3)
abbrev c₁K : S4x2048x1024.Idx → EReal := m ((c.tc : Thread nD τ).loc main_arg4)

/-- Row `r` of point `t`, of all the rows and of the layer's. -/
def row : Fin 4096 := ⟨256 * t.val + r.val, by have h : t.val < 16 := lt_of_lt_of_eq t.isLt N_0; have := r.isLt; omega⟩
def own : Fin 2048 := ⟨256 * (t.val % 8) + r.val, by have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index8 : ∀ t : Fin grid0.N, cc0_transform_8 (grid0.coords t) = ![t.val, 0] := by decide
theorem index3 : ∀ t : Fin grid0.N, t.val < 8 → cc0_transform_3 (grid0.coords t) = ![0, t.val % 8, 0] := by decide
theorem index4 : ∀ t : Fin grid0.N, 8 ≤ t.val → cc0_transform_4 (grid0.coords t) = ![0, t.val % 8, 0] := by decide

/-- Where a block of 256 rows has its entries. -/
theorem at_row {f : Fin 2 → ℕ} (h : f = ![t.val, 0]) {i : S4096x1024.Idx} (h₀ : (i 0).val = f 0 * 256 + 1 * r.val)
    (h₁ : (i 1).val = f 1 * 1024 + 1 * n.val) : i = ix2 (row t r) n := by
  subst h
  refine funext fun a => Fin.ext ?_
  match a with
  | ⟨0, _⟩ => refine h₀.trans ?_; show t.val * 256 + 1 * r.val = 256 * t.val + r.val; omega
  | ⟨1, _⟩ => refine h₁.trans ?_; show 0 * 1024 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 (h : t.val < 8) : iblk m c 3 t (ix3 s r n) = c₀K m c (ix3 s (own t r) n) := by
  unfold iblk
  refine (congrFun (V_main_arg3 m c) _).trans (congrArg (c₀K m c) (funext fun a => Fin.ext ?_))
  match a with
  | ⟨0, _⟩ =>
    show cc0_transform_3 (grid0.coords t) 0 * 4 + 1 * s.val = s.val
    rw [index3 t h]; show 0 * 4 + 1 * s.val = s.val; omega
  | ⟨1, _⟩ =>
    show cc0_transform_3 (grid0.coords t) 1 * 256 + 1 * r.val = 256 * (t.val % 8) + r.val
    rw [index3 t h]; show t.val % 8 * 256 + 1 * r.val = 256 * (t.val % 8) + r.val; omega
  | ⟨2, _⟩ =>
    show cc0_transform_3 (grid0.coords t) 2 * 1024 + 1 * n.val = n.val
    rw [index3 t h]; show 0 * 1024 + 1 * n.val = n.val; omega

theorem blk4 (h : 8 ≤ t.val) : iblk m c 4 t (ix3 s r n) = c₁K m c (ix3 s (own t r) n) := by
  unfold iblk
  refine (congrFun (V_main_arg4 m c) _).trans (congrArg (c₁K m c) (funext fun a => Fin.ext ?_))
  match a with
  | ⟨0, _⟩ =>
    show cc0_transform_4 (grid0.coords t) 0 * 4 + 1 * s.val = s.val
    rw [index4 t h]; show 0 * 4 + 1 * s.val = s.val; omega
  | ⟨1, _⟩ =>
    show cc0_transform_4 (grid0.coords t) 1 * 256 + 1 * r.val = 256 * (t.val % 8) + r.val
    rw [index4 t h]; show t.val % 8 * 256 + 1 * r.val = 256 * (t.val % 8) + r.val; omega
  | ⟨2, _⟩ =>
    show cc0_transform_4 (grid0.coords t) 2 * 1024 + 1 * n.val = n.val
    rw [index4 t h]; show 0 * 1024 + 1 * n.val = n.val; omega

theorem out_emb5 : (win0_5.blk t).view.emb (ix2 r n) = (ix2 (row t r) n : S4096x1024.Idx) :=
  at_row t r n (index5 t) rfl rfl

theorem out_emb6 : (win0_6.blk t).view.emb (ix2 r n) = (ix2 (row t r) n : S4096x1024.Idx) :=
  at_row t r n (index6 t) rfl rfl

theorem out_emb7 : (win0_7.blk t).view.emb (ix2 r n) = (ix2 (row t r) n : S4096x1024.Idx) :=
  at_row t r n (index7 t) rfl rfl

theorem out_emb8 : (win0_8.blk t).view.emb (ix2 r n) = (ix2 (row t r) n : S4096x1024.Idx) :=
  at_row t r n (index8 t) rfl rfl

/-- The gradient that a point computes is the reference's. -/
theorem grad_sum : k0_pay5 (grid0.coords t) (iblk m c 0 t) (iblk m c 1 t) (iblk m c 2 t) (iblk m c 3 t) (iblk m c 4 t) (ix2 r n)
    = grad (c₀K m c) (c₁K m c) (ix2 (row t r) n) := by
  rw [sum_at]
  by_cases h : 8 ≤ t.val
  · rw [if_pos h, grad_high _ _ (row t r) (own t r) n (by
      have hN : t.val < 16 := lt_of_lt_of_eq t.isLt N_0
      show 256 * t.val + r.val = 2048 + (256 * (t.val % 8) + r.val); omega)]
    exact congrArg Adam.total (funext fun s => blk4 m c t r n s h)
  · rw [if_neg h, grad_low _ _ (row t r) (own t r) n (by
      show 256 * t.val + r.val = 256 * (t.val % 8) + r.val; omega)]
    exact congrArg Adam.total (funext fun s => blk3 m c t r n s (by omega))

/-- The gradient is the reference's. -/
theorem grad_eq : (dats m 0 c).arrAt 5 cfg0.N = grad (c₀K m c) (c₁K m c) := by
  refine (dats m 0 c).arrAt_eq_of_covers 5 _ (by decide +kernel) fun t hf y => ?_
  blk_simp
  obtain ⟨r, n, rfl⟩ : ∃ (r : Fin 256) (n : Fin 1024), y = ix2 r n := ⟨y 0, y 1, eq_ix2 y⟩
  rw [out_emb5, after0_5, out5_eq, grad_sum]

/-- The change of the weight is the reference's. -/
theorem delta_eq : (dats m 0 c).arrAt 6 cfg0.N = delta (wK m c) (mK m c) (vK m c) (grad (c₀K m c) (c₁K m c)) := by
  refine (dats m 0 c).arrAt_eq_of_covers 6 _ (by decide +kernel) fun t hf y => ?_
  blk_simp
  obtain ⟨r, n, rfl⟩ : ∃ (r : Fin 256) (n : Fin 1024), y = ix2 r n := ⟨y 0, y 1, eq_ix2 y⟩
  rw [out_emb6, delta_at, after0_6, out6_at, grad_sum, blk0, blk1, blk2]

/-- The first moment is the reference's. -/
theorem first_eq : (dats m 0 c).arrAt 7 cfg0.N = newFirst (mK m c) (grad (c₀K m c) (c₁K m c)) := by
  refine (dats m 0 c).arrAt_eq_of_covers 7 _ (by decide +kernel) fun t hf y => ?_
  blk_simp
  obtain ⟨r, n, rfl⟩ : ∃ (r : Fin 256) (n : Fin 1024), y = ix2 r n := ⟨y 0, y 1, eq_ix2 y⟩
  rw [out_emb7, newFirst_at, after0_7, out7_at, grad_sum, blk1]

/-- The second moment is the reference's. -/
theorem second_eq : (dats m 0 c).arrAt 8 cfg0.N = newSecond (vK m c) (grad (c₀K m c) (c₁K m c)) := by
  refine (dats m 0 c).arrAt_eq_of_covers 8 _ (by decide +kernel) fun t hf y => ?_
  blk_simp
  obtain ⟨r, n, rfl⟩ : ∃ (r : Fin 256) (n : Fin 1024), y = ix2 r n := ⟨y 0, y 1, eq_ix2 y⟩
  rw [out_emb8, newSecond_at, after0_8, out8_at, grad_sum, blk2]

end Cert.UpdateFirst

end
-- ==== Proof.UpdateSecondReference.lean ====
module

public import proofs.«01_k».proof.Proof.Gen.Reference13Ideal.Run
public import proofs.«01_k».proof.Proof.Adam

@[expose] public section

/-! # The optimiser's step on the feed-forward layers' second weights, element by element -/

noncomputable section

namespace Cert.UpdateSecond.Ref

open Cert.Reference13Ideal Cert.Reference13Ideal.Gen Cert.Reference13Ideal.Value
open Idealize.ShloMosaic Idealize.ShloMosaic.TcCoe

section Terms

variable (c₀ c₁ : FVec Ideal S4x1024x2048 .bf16) (w m v g : FVec Ideal S2048x2048 .f32) (r : Fin 2048) (h : Fin 1024) (n : Fin 2048)

/-- The gradient of one layer's weight. -/
def layer (c : FVec Ideal S4x1024x2048 .bf16) : FVec Ideal S1024x2048 .f32 :=
  Host.reduceAdd (extf .f32 c bitsLt_bf16_f32) (constant S_ .f32 0x00000000#32) reducesTo_S4x1024x2048_S1024x2048_d0 h_S_

/-- The gradient, one layer after the other. -/
def grad : FVec Ideal S2048x2048 .f32 :=
  concatenate S2048x2048 0 [⟨S1024x2048, layer c₀⟩, ⟨S1024x2048, layer c₁⟩] concatenates_S1024x2048_S1024x2048_S2048x2048_d0

/-- The first moment after the step. -/
def newFirst (m g : FVec Ideal S2048x2048 .f32) : FVec Ideal S2048x2048 .f32 :=
  addf (mulf (broadcastInDim S2048x2048 ![] bcast_S_S2048x2048 (constant S_ .f32 0x3F666666#32)) m)
    (mulf (broadcastInDim S2048x2048 ![] bcast_S_S2048x2048 (constant S_ .f32 0x3DCCCCCD#32)) g)

/-- The second moment after the step. -/
def newSecond (v g : FVec Ideal S2048x2048 .f32) : FVec Ideal S2048x2048 .f32 :=
  addf (mulf (broadcastInDim S2048x2048 ![] bcast_S_S2048x2048 (constant S_ .f32 0x3F7FBE77#32)) v)
    (mulf (broadcastInDim S2048x2048 ![] bcast_S_S2048x2048 (constant S_ .f32 0x3A83126F#32)) (mulf g g))

/-- The change of the weight. -/
def delta (w m v g : FVec Ideal S2048x2048 .f32) : FVec Ideal S2048x2048 .f32 :=
  mulf (broadcastInDim S2048x2048 ![] bcast_S_S2048x2048 (constant S_ .f32 0xBA83126F#32))
    (addf (Host.divf (Host.divf (newFirst m g) (broadcastInDim S2048x2048 ![] bcast_S_S2048x2048 (constant S_ .f32 0x3F26BD02#32)))
        (addf (Host.sqrt (Host.divf (newSecond v g) (broadcastInDim S2048x2048 ![] bcast_S_S2048x2048 (constant S_ .f32 0x3C231ACC#32))))
          (broadcastInDim S2048x2048 ![] bcast_S_S2048x2048 (constant S_ .f32 0x322BCC77#32))))
      (mulf (broadcastInDim S2048x2048 ![] bcast_S_S2048x2048 (constant S_ .f32 0x3C23D70A#32)) w))

theorem layer_at (c : FVec Ideal S4x1024x2048 .bf16) : layer c (ix2 h n) = Adam.total fun s => c (ix3 s h n) := by
  pointwise [layer, Adam.total]
theorem grad_low (hr : r.val = h.val) : grad c₀ c₁ (ix2 r n) = Adam.total fun s => c₀ (ix3 s h n) := by
  obtain ⟨r, hlt⟩ := r
  obtain rfl : r = h.val := hr
  pointwise [grad, layer_at]
theorem grad_high (hr : r.val = 1024 + h.val) : grad c₀ c₁ (ix2 r n) = Adam.total fun s => c₁ (ix3 s h n) := by
  obtain ⟨r, hlt⟩ := r
  obtain rfl : r = 1024 + h.val := hr
  pointwise [grad, layer_at]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S2048x2048.Idx → EReal := m ((c.tc : Thread nD τ).loc main_arg0)
abbrev mOf : S2048x2048.Idx → EReal := m ((c.tc : Thread nD τ).loc main_arg1)
abbrev vOf : S2048x2048.Idx → EReal := m ((c.tc : Thread nD τ).loc main_arg2)
abbrev c₀Of : S4x1024x2048.Idx → EReal := m ((c.tc : Thread nD τ).loc main_arg3)
abbrev c₁Of : S4x1024x2048.Idx → EReal := m ((c.tc : Thread nD τ).loc main_arg4)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = grad (c₀Of m c) (c₁Of m c)
      ∧ r.2.mem ((c.tc : Thread nD τ).loc main_v28) = delta (wOf m c) (mOf m c) (vOf m c) (grad (c₀Of m c) (c₁Of m c))
      ∧ r.2.mem ((c.tc : Thread nD τ).loc main_v9) = newFirst (mOf m c) (grad (c₀Of m c) (c₁Of m c))
      ∧ r.2.mem ((c.tc : Thread nD τ).loc main_v15) = newSecond (vOf m c) (grad (c₀Of m c) (c₁Of m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl,
    (h c).2.2.2.2⟩) (Cert.Reference13Ideal.Value.run m ρ)

end Cert.UpdateSecond.Ref

end
-- ==== Proof.UpdateSecond.lean ====
module

public import proofs.«01_k».proof.Proof.Gen.Kernel13Ideal.Value
public import proofs.«01_k».proof.Proof.UpdateSecondReference
public import Idealize.ShloMosaic.Lib.Pipeline.ValueKit

@[expose] public section

/-!
# The optimiser's step on the feed-forward layers' second weights as the kernel computes it

Grid point `t` takes 128 of the 2048 rows: the first eight points those of the first layer, the others those of the second. The
gradient is the sum of the layer's four contributions, added in their order. A point reads a tile of each layer's contributions,
clamped to the layer, and selects the sum of its own.
-/

noncomputable section

namespace Cert.UpdateSecond

open Cert.Kernel13Ideal Cert.Kernel13Ideal.Gen Cert.UpdateSecond.Ref
open Idealize.ShloMosaic Idealize.ShloMosaic.TcCoe

section Blocks

variable (w m v : Vec Ideal S128x2048 .f32) (c₀ c₁ : Vec Ideal S4x128x2048 .bf16) (t : Fin grid0.N) (r : Fin 128) (n : Fin 2048)

/-- A grid point's choice of the layer. -/
theorem later : ∀ t : Fin grid0.N, Scalar.cmpi .sge (BitVec.ofNat 32 (grid0.coords t 0).val) 8#32 = if 8 ≤ t.val then 1#1 else 0#1 := by
  decide

theorem sum_at : k0_pay5 (grid0.coords t) w m v c₀ c₁ (ix2 r n)
    = if 8 ≤ t.val then Adam.total fun s => c₁ (ix3 s r n) else Adam.total fun s => c₀ (ix3 s r n) := by
  rw [Adam.total_eq, Adam.total_eq]
  unfold k0_pay5 k0_pay4
  simp only [later]
  split <;> pointwise []

theorem out5_eq : out0_5 (grid0.coords t) w m v c₀ c₁ = k0_pay5 (grid0.coords t) w m v c₀ c₁ := by frame_out

theorem out6_at : out0_6 (grid0.coords t) w m v c₀ c₁ (ix2 r n)
    = Adam.change (w (ix2 r n)) (m (ix2 r n)) (v (ix2 r n)) (k0_pay5 (grid0.coords t) w m v c₀ c₁ (ix2 r n)) := by
  unfold out0_6
  generalize k0_pay5 (grid0.coords t) w m v c₀ c₁ = g
  frame_out
  pointwise [k0_pay1, k0_pay2, k0_pay3, Adam.change, Adam.first, Adam.second]

theorem out7_at : out0_7 (grid0.coords t) w m v c₀ c₁ (ix2 r n)
    = Adam.first (m (ix2 r n)) (k0_pay5 (grid0.coords t) w m v c₀ c₁ (ix2 r n)) := by
  unfold out0_7
  generalize k0_pay5 (grid0.coords t) w m v c₀ c₁ = g
  frame_out
  pointwise [k0_pay1, Adam.first]

theorem out8_at : out0_8 (grid0.coords t) w m v c₀ c₁ (ix2 r n)
    = Adam.second (v (ix2 r n)) (k0_pay5 (grid0.coords t) w m v c₀ c₁ (ix2 r n)) := by
  unfold out0_8
  generalize k0_pay5 (grid0.coords t) w m v c₀ c₁ = g
  frame_out
  pointwise [k0_pay2, Adam.second]

end Blocks

variable (m : (ℓ : Loc nD τ sig) → Buf (Elt Ideal) ℓ) (c : Dev nD) (t : Fin cfg0.N) (r : Fin 128) (n : Fin 2048) (s : Fin 4)

/-- The arguments. -/
abbrev wK : S2048x2048.Idx → EReal := m ((c.tc : Thread nD τ).loc main_arg0)
abbrev mK : S2048x2048.Idx → EReal := m ((c.tc : Thread nD τ).loc main_arg1)
abbrev vK : S2048x2048.Idx → EReal := m ((c.tc : Thread nD τ).loc main_arg2)
abbrev c₀K : S4x1024x2048.Idx → EReal := m ((c.tc : Thread nD τ).loc main_arg3)
abbrev c₁K : S4x1024x2048.Idx → EReal := m ((c.tc : Thread nD τ).loc main_arg4)

/-- Row `r` of point `t`, of all the rows and of the layer's. -/
def row : Fin 2048 := ⟨128 * t.val + r.val, by have h : t.val < 16 := lt_of_lt_of_eq t.isLt N_0; have := r.isLt; omega⟩
def own : Fin 1024 := ⟨128 * (t.val % 8) + r.val, by have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index8 : ∀ t : Fin grid0.N, cc0_transform_8 (grid0.coords t) = ![t.val, 0] := by decide
theorem index3 : ∀ t : Fin grid0.N, t.val < 8 → cc0_transform_3 (grid0.coords t) = ![0, t.val % 8, 0] := by decide
theorem index4 : ∀ t : Fin grid0.N, 8 ≤ t.val → cc0_transform_4 (grid0.coords t) = ![0, t.val % 8, 0] := by decide

/-- Where a block of 128 rows has its entries. -/
theorem at_row {f : Fin 2 → ℕ} (h : f = ![t.val, 0]) {i : S2048x2048.Idx} (h₀ : (i 0).val = f 0 * 128 + 1 * r.val)
    (h₁ : (i 1).val = f 1 * 2048 + 1 * n.val) : i = ix2 (row t r) n := by
  subst h
  refine funext fun a => Fin.ext ?_
  match a with
  | ⟨0, _⟩ => refine h₀.trans ?_; show t.val * 128 + 1 * r.val = 128 * t.val + r.val; omega
  | ⟨1, _⟩ => refine h₁.trans ?_; show 0 * 2048 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 (h : t.val < 8) : iblk m c 3 t (ix3 s r n) = c₀K m c (ix3 s (own t r) n) := by
  unfold iblk
  refine (congrFun (V_main_arg3 m c) _).trans (congrArg (c₀K m c) (funext fun a => Fin.ext ?_))
  match a with
  | ⟨0, _⟩ =>
    show cc0_transform_3 (grid0.coords t) 0 * 4 + 1 * s.val = s.val
    rw [index3 t h]; show 0 * 4 + 1 * s.val = s.val; omega
  | ⟨1, _⟩ =>
    show cc0_transform_3 (grid0.coords t) 1 * 128 + 1 * r.val = 128 * (t.val % 8) + r.val
    rw [index3 t h]; show t.val % 8 * 128 + 1 * r.val = 128 * (t.val % 8) + r.val; omega
  | ⟨2, _⟩ =>
    show cc0_transform_3 (grid0.coords t) 2 * 2048 + 1 * n.val = n.val
    rw [index3 t h]; show 0 * 2048 + 1 * n.val = n.val; omega

theorem blk4 (h : 8 ≤ t.val) : iblk m c 4 t (ix3 s r n) = c₁K m c (ix3 s (own t r) n) := by
  unfold iblk
  refine (congrFun (V_main_arg4 m c) _).trans (congrArg (c₁K m c) (funext fun a => Fin.ext ?_))
  match a with
  | ⟨0, _⟩ =>
    show cc0_transform_4 (grid0.coords t) 0 * 4 + 1 * s.val = s.val
    rw [index4 t h]; show 0 * 4 + 1 * s.val = s.val; omega
  | ⟨1, _⟩ =>
    show cc0_transform_4 (grid0.coords t) 1 * 128 + 1 * r.val = 128 * (t.val % 8) + r.val
    rw [index4 t h]; show t.val % 8 * 128 + 1 * r.val = 128 * (t.val % 8) + r.val; omega
  | ⟨2, _⟩ =>
    show cc0_transform_4 (grid0.coords t) 2 * 2048 + 1 * n.val = n.val
    rw [index4 t h]; show 0 * 2048 + 1 * n.val = n.val; omega

theorem out_emb5 : (win0_5.blk t).view.emb (ix2 r n) = (ix2 (row t r) n : S2048x2048.Idx) :=
  at_row t r n (index5 t) rfl rfl

theorem out_emb6 : (win0_6.blk t).view.emb (ix2 r n) = (ix2 (row t r) n : S2048x2048.Idx) :=
  at_row t r n (index6 t) rfl rfl

theorem out_emb7 : (win0_7.blk t).view.emb (ix2 r n) = (ix2 (row t r) n : S2048x2048.Idx) :=
  at_row t r n (index7 t) rfl rfl

theorem out_emb8 : (win0_8.blk t).view.emb (ix2 r n) = (ix2 (row t r) n : S2048x2048.Idx) :=
  at_row t r n (index8 t) rfl rfl

/-- The gradient that a point computes is the reference's. -/
theorem grad_sum : k0_pay5 (grid0.coords t) (iblk m c 0 t) (iblk m c 1 t) (iblk m c 2 t) (iblk m c 3 t) (iblk m c 4 t) (ix2 r n)
    = grad (c₀K m c) (c₁K m c) (ix2 (row t r) n) := by
  rw [sum_at]
  by_cases h : 8 ≤ t.val
  · rw [if_pos h, grad_high _ _ (row t r) (own t r) n (by
      have hN : t.val < 16 := lt_of_lt_of_eq t.isLt N_0
      show 128 * t.val + r.val = 1024 + (128 * (t.val % 8) + r.val); omega)]
    exact congrArg Adam.total (funext fun s => blk4 m c t r n s h)
  · rw [if_neg h, grad_low _ _ (row t r) (own t r) n (by
      show 128 * t.val + r.val = 128 * (t.val % 8) + r.val; omega)]
    exact congrArg Adam.total (funext fun s => blk3 m c t r n s (by omega))

/-- The gradient is the reference's. -/
theorem grad_eq : (dats m 0 c).arrAt 5 cfg0.N = grad (c₀K m c) (c₁K m c) := by
  refine (dats m 0 c).arrAt_eq_of_covers 5 _ (by decide +kernel) fun t hf y => ?_
  blk_simp
  obtain ⟨r, n, rfl⟩ : ∃ (r : Fin 128) (n : Fin 2048), y = ix2 r n := ⟨y 0, y 1, eq_ix2 y⟩
  rw [out_emb5, after0_5, out5_eq, grad_sum]

/-- The change of the weight is the reference's. -/
theorem delta_eq : (dats m 0 c).arrAt 6 cfg0.N = delta (wK m c) (mK m c) (vK m c) (grad (c₀K m c) (c₁K m c)) := by
  refine (dats m 0 c).arrAt_eq_of_covers 6 _ (by decide +kernel) fun t hf y => ?_
  blk_simp
  obtain ⟨r, n, rfl⟩ : ∃ (r : Fin 128) (n : Fin 2048), y = ix2 r n := ⟨y 0, y 1, eq_ix2 y⟩
  rw [out_emb6, delta_at, after0_6, out6_at, grad_sum, blk0, blk1, blk2]

/-- The first moment is the reference's. -/
theorem first_eq : (dats m 0 c).arrAt 7 cfg0.N = newFirst (mK m c) (grad (c₀K m c) (c₁K m c)) := by
  refine (dats m 0 c).arrAt_eq_of_covers 7 _ (by decide +kernel) fun t hf y => ?_
  blk_simp
  obtain ⟨r, n, rfl⟩ : ∃ (r : Fin 128) (n : Fin 2048), y = ix2 r n := ⟨y 0, y 1, eq_ix2 y⟩
  rw [out_emb7, newFirst_at, after0_7, out7_at, grad_sum, blk1]

/-- The second moment is the reference's. -/
theorem second_eq : (dats m 0 c).arrAt 8 cfg0.N = newSecond (vK m c) (grad (c₀K m c) (c₁K m c)) := by
  refine (dats m 0 c).arrAt_eq_of_covers 8 _ (by decide +kernel) fun t hf y => ?_
  blk_simp
  obtain ⟨r, n, rfl⟩ : ∃ (r : Fin 128) (n : Fin 2048), y = ix2 r n := ⟨y 0, y 1, eq_ix2 y⟩
  rw [out_emb8, newSecond_at, after0_8, out8_at, grad_sum, blk2]

end Cert.UpdateSecond

end
-- ==== Proof.UpdateShortInReference.lean ====
module

public import proofs.«01_k».proof.Proof.Gen.Reference14Ideal.Run
public import proofs.«01_k».proof.Proof.Adam

@[expose] public section

/-! # The optimiser's step on the short convolution's input projection, element by element -/

noncomputable section

namespace Cert.UpdateShortIn.Ref

open Cert.Reference14Ideal Cert.Reference14Ideal.Gen Cert.Reference14Ideal.Value
open Idealize.ShloMosaic Idealize.ShloMosaic.TcCoe

section Terms

variable (c : FVec Ideal S4x2048x768 .bf16) (w m v g : FVec Ideal S2048x768 .f32) (r : Fin 2048) (n : Fin 768)

/-- The gradient. -/
def grad : FVec Ideal S2048x768 .f32 :=
  Host.reduceAdd (extf .f32 c bitsLt_bf16_f32) (constant S_ .f32 0x00000000#32) reducesTo_S4x2048x768_S2048x768_d0 h_S_

/-- The first moment after the step. -/
def newFirst (m g : FVec Ideal S2048x768 .f32) : FVec Ideal S2048x768 .f32 :=
  addf (mulf (broadcastInDim S2048x768 ![] bcast_S_S2048x768 (constant S_ .f32 0x3F666666#32)) m)
    (mulf (broadcastInDim S2048x768 ![] bcast_S_S2048x768 (constant S_ .f32 0x3DCCCCCD#32)) g)

/-- The second moment after the step. -/
def newSecond (v g : FVec Ideal S2048x768 .f32) : FVec Ideal S2048x768 .f32 :=
  addf (mulf (broadcastInDim S2048x768 ![] bcast_S_S2048x768 (constant S_ .f32 0x3F7FBE77#32)) v)
    (mulf (broadcastInDim S2048x768 ![] bcast_S_S2048x768 (constant S_ .f32 0x3A83126F#32)) (mulf g g))

/-- The change of the weight. -/
def delta (w m v g : FVec Ideal S2048x768 .f32) : FVec Ideal S2048x768 .f32 :=
  mulf (broadcastInDim S2048x768 ![] bcast_S_S2048x768 (constant S_ .f32 0xBA83126F#32))
    (addf (Host.divf (Host.divf (newFirst m g) (broadcastInDim S2048x768 ![] bcast_S_S2048x768 (constant S_ .f32 0x3F26BD02#32)))
        (addf (Host.sqrt (Host.divf (newSecond v g) (broadcastInDim S2048x768 ![] bcast_S_S2048x768 (constant S_ .f32 0x3C231ACC#32))))
          (broadcastInDim S2048x768 ![] bcast_S_S2048x768 (constant S_ .f32 0x322BCC77#32))))
      (mulf (broadcastInDim S2048x768 ![] bcast_S_S2048x768 (constant S_ .f32 0x3C23D70A#32)) w))

theorem grad_at : grad c (ix2 r n) = Adam.total fun s => c (ix3 s r n) := by pointwise [grad, Adam.total]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S2048x768.Idx → EReal := m ((c.tc : Thread nD τ).loc main_arg0)
abbrev mOf : S2048x768.Idx → EReal := m ((c.tc : Thread nD τ).loc main_arg1)
abbrev vOf : S2048x768.Idx → EReal := m ((c.tc : Thread nD τ).loc main_arg2)
abbrev cOf : S4x2048x768.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v1) = grad (cOf m c)
      ∧ r.2.mem ((c.tc : Thread nD τ).loc main_v25) = delta (wOf m c) (mOf m c) (vOf m c) (grad (cOf m c))
      ∧ r.2.mem ((c.tc : Thread nD τ).loc main_v6) = newFirst (mOf m c) (grad (cOf m c))
      ∧ r.2.mem ((c.tc : Thread nD τ).loc main_v12) = newSecond (vOf m c) (grad (cOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl,
    (h c).2.2.2.2⟩) (Cert.Reference14Ideal.Value.run m ρ)

end Cert.UpdateShortIn.Ref

end
-- ==== Proof.UpdateShortIn.lean ====
module

public import proofs.«01_k».proof.Proof.Gen.Kernel14Ideal.Value
public import proofs.«01_k».proof.Proof.UpdateShortInReference
public import Idealize.ShloMosaic.Lib.Pipeline.ValueKit

@[expose] public section

/-!
# The optimiser's step on the short convolution's input projection as the kernel computes it

Grid point `t` takes 256 of the 2048 rows. The gradient is the sum of the four contributions, added in their order.
-/

noncomputable section

namespace Cert.UpdateShortIn

open Cert.Kernel14Ideal Cert.Kernel14Ideal.Gen Cert.UpdateShortIn.Ref
open Idealize.ShloMosaic Idealize.ShloMosaic.TcCoe

section Blocks

variable (w m v : Vec Ideal S256x768 .f32) (c : Vec Ideal S4x256x768 .bf16) (r : Fin 256) (n : Fin 768)

theorem out4_at : out0_4 w m v c (ix2 r n) = Adam.total fun s => c (ix3 s r n) := by
  rw [Adam.total_eq]
  frame_out
  pointwise [k0_pay2]

theorem out5_at : out0_5 w m v c (ix2 r n) = Adam.change (w (ix2 r n)) (m (ix2 r n)) (v (ix2 r n)) (Adam.total fun s => c (ix3 s r n)) := by
  rw [Adam.total_eq]
  frame_out
  pointwise [k0_pay1, k0_pay2, k0_pay3, k0_pay4, k0_pay5, k0_pay6, Adam.change, Adam.first, Adam.second]

theorem out6_at : out0_6 w m v c (ix2 r n) = Adam.first (m (ix2 r n)) (Adam.total fun s => c (ix3 s r n)) := by
  rw [Adam.total_eq]
  frame_out
  pointwise [k0_pay2, k0_pay3, Adam.first]

theorem out7_at : out0_7 w m v c (ix2 r n) = Adam.second (v (ix2 r n)) (Adam.total fun s => c (ix3 s r n)) := by
  rw [Adam.total_eq]
  frame_out
  pointwise [k0_pay2, k0_pay4, k0_pay6, Adam.second]

end Blocks

variable (m : (ℓ : Loc nD τ sig) → Buf (Elt Ideal) ℓ) (c : Dev nD) (t : Fin cfg0.N) (r : Fin 256) (n : Fin 768) (s : Fin 4)

/-- The arguments. -/
abbrev wK : S2048x768.Idx → EReal := m ((c.tc : Thread nD τ).loc main_arg0)
abbrev mK : S2048x768.Idx → EReal := m ((c.tc : Thread nD τ).loc main_arg1)
abbrev vK : S2048x768.Idx → EReal := m ((c.tc : Thread nD τ).loc main_arg2)
abbrev cK : S4x2048x768.Idx → EReal := m ((c.tc : Thread nD τ).loc main_arg3)

/-- Row `r` of point `t`. -/
def row : Fin 2048 := ⟨256 * t.val + r.val, by have h : t.val < 8 := lt_of_lt_of_eq t.isLt N_0; have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index4 : ∀ t : Fin grid0.N, cc0_transform_4 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index3 : ∀ t : Fin grid0.N, cc0_transform_3 (grid0.coords t) = ![0, t.val, 0] := by decide

/-- Where a block of 256 rows has its entries. -/
theorem at_row {f : Fin 2 → ℕ} (h : f = ![t.val, 0]) {i : S2048x768.Idx} (h₀ : (i 0).val = f 0 * 256 + 1 * r.val)
    (h₁ : (i 1).val = f 1 * 768 + 1 * n.val) : i = ix2 (row t r) n := by
  subst h
  refine funext fun a => Fin.ext ?_
  match a with
  | ⟨0, _⟩ => refine h₀.trans ?_; show t.val * 256 + 1 * r.val = 256 * t.val + r.val; omega
  | ⟨1, _⟩ => refine h₁.trans ?_; show 0 * 768 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 : iblk m c 3 t (ix3 s r n) = cK m c (ix3 s (row t r) n) := by
  unfold iblk
  refine (congrFun (V_main_arg3 m c) _).trans (congrArg (cK m c) (funext fun a => Fin.ext ?_))
  match a with
  | ⟨0, _⟩ =>
    show cc0_transform_3 (grid0.coords t) 0 * 4 + 1 * s.val = s.val
    rw [index3]; show 0 * 4 + 1 * s.val = s.val; omega
  | ⟨1, _⟩ =>
    show cc0_transform_3 (grid0.coords t) 1 * 256 + 1 * r.val = 256 * t.val + r.val
    rw [index3]; show t.val * 256 + 1 * r.val = 256 * t.val + r.val; omega
  | ⟨2, _⟩ =>
    show cc0_transform_3 (grid0.coords t) 2 * 768 + 1 * n.val = n.val
    rw [index3]; show 0 * 768 + 1 * n.val = n.val; omega

theorem out_emb4 : (win0_4.blk t).view.emb (ix2 r n) = (ix2 (row t r) n : S2048x768.Idx) :=
  at_row t r n (index4 t) rfl rfl

theorem out_emb5 : (win0_5.blk t).view.emb (ix2 r n) = (ix2 (row t r) n : S2048x768.Idx) :=
  at_row t r n (index5 t) rfl rfl

theorem out_emb6 : (win0_6.blk t).view.emb (ix2 r n) = (ix2 (row t r) n : S2048x768.Idx) :=
  at_row t r n (index6 t) rfl rfl

theorem out_emb7 : (win0_7.blk t).view.emb (ix2 r n) = (ix2 (row t r) n : S2048x768.Idx) :=
  at_row t r n (index7 t) rfl rfl

theorem grad_sum : (Adam.total fun s => iblk m c 3 t (ix3 s r n)) = grad (cK m c) (ix2 (row t r) n) := by
  rw [grad_at]
  exact congrArg Adam.total (funext fun s => blk3 m c t r n s)

/-- The gradient is the reference's. -/
theorem grad_eq : (dats m 0 c).arrAt 4 cfg0.N = grad (cK m c) := by
  refine (dats m 0 c).arrAt_eq_of_covers 4 _ (by decide +kernel) fun t hf y => ?_
  blk_simp
  obtain ⟨r, n, rfl⟩ : ∃ (r : Fin 256) (n : Fin 768), y = ix2 r n := ⟨y 0, y 1, eq_ix2 y⟩
  rw [out_emb4, after0_4, out4_at, grad_sum]

/-- The change of the weight is the reference's. -/
theorem delta_eq : (dats m 0 c).arrAt 5 cfg0.N = delta (wK m c) (mK m c) (vK m c) (grad (cK m c)) := by
  refine (dats m 0 c).arrAt_eq_of_covers 5 _ (by decide +kernel) fun t hf y => ?_
  blk_simp
  obtain ⟨r, n, rfl⟩ : ∃ (r : Fin 256) (n : Fin 768), y = ix2 r n := ⟨y 0, y 1, eq_ix2 y⟩
  rw [out_emb5, delta_at, after0_5, out5_at, grad_sum, blk0, blk1, blk2]

/-- The first moment is the reference's. -/
theorem first_eq : (dats m 0 c).arrAt 6 cfg0.N = newFirst (mK m c) (grad (cK m c)) := by
  refine (dats m 0 c).arrAt_eq_of_covers 6 _ (by decide +kernel) fun t hf y => ?_
  blk_simp
  obtain ⟨r, n, rfl⟩ : ∃ (r : Fin 256) (n : Fin 768), y = ix2 r n := ⟨y 0, y 1, eq_ix2 y⟩
  rw [out_emb6, newFirst_at, after0_6, out6_at, grad_sum, blk1]

/-- The second moment is the reference's. -/
theorem second_eq : (dats m 0 c).arrAt 7 cfg0.N = newSecond (vK m c) (grad (cK m c)) := by
  refine (dats m 0 c).arrAt_eq_of_covers 7 _ (by decide +kernel) fun t hf y => ?_
  blk_simp
  obtain ⟨r, n, rfl⟩ : ∃ (r : Fin 256) (n : Fin 768), y = ix2 r n := ⟨y 0, y 1, eq_ix2 y⟩
  rw [out_emb7, newSecond_at, after0_7, out7_at, grad_sum, blk2]

end Cert.UpdateShortIn

end
-- ==== Proof.UpdateBranchInReference.lean ====
module

public import proofs.«01_k».proof.Proof.Gen.Reference15Ideal.Run
public import proofs.«01_k».proof.Proof.Adam

@[expose] public section

/-! # The optimiser's step on the two branches' input projection, element by element -/

noncomputable section

namespace Cert.UpdateBranchIn.Ref

open Cert.Reference15Ideal Cert.Reference15Ideal.Gen Cert.Reference15Ideal.Value
open Idealize.ShloMosaic Idealize.ShloMosaic.TcCoe

section Terms

variable (c : FVec Ideal S4x2048x384 .bf16) (w m v g : FVec Ideal S2048x384 .f32) (r : Fin 2048) (n : Fin 384)

/-- The gradient. -/
def grad : FVec Ideal S2048x384 .f32 :=
  Host.reduceAdd (extf .f32 c bitsLt_bf16_f32) (constant S_ .f32 0x00000000#32) reducesTo_S4x2048x384_S2048x384_d0 h_S_

/-- The first moment after the step. -/
def newFirst (m g : FVec Ideal S2048x384 .f32) : FVec Ideal S2048x384 .f32 :=
  addf (mulf (broadcastInDim S2048x384 ![] bcast_S_S2048x384 (constant S_ .f32 0x3F666666#32)) m)
    (mulf (broadcastInDim S2048x384 ![] bcast_S_S2048x384 (constant S_ .f32 0x3DCCCCCD#32)) g)

/-- The second moment after the step. -/
def newSecond (v g : FVec Ideal S2048x384 .f32) : FVec Ideal S2048x384 .f32 :=
  addf (mulf (broadcastInDim S2048x384 ![] bcast_S_S2048x384 (constant S_ .f32 0x3F7FBE77#32)) v)
    (mulf (broadcastInDim S2048x384 ![] bcast_S_S2048x384 (constant S_ .f32 0x3A83126F#32)) (mulf g g))

/-- The change of the weight. -/
def delta (w m v g : FVec Ideal S2048x384 .f32) : FVec Ideal S2048x384 .f32 :=
  mulf (broadcastInDim S2048x384 ![] bcast_S_S2048x384 (constant S_ .f32 0xBA83126F#32))
    (addf (Host.divf (Host.divf (newFirst m g) (broadcastInDim S2048x384 ![] bcast_S_S2048x384 (constant S_ .f32 0x3F26BD02#32)))
        (addf (Host.sqrt (Host.divf (newSecond v g) (broadcastInDim S2048x384 ![] bcast_S_S2048x384 (constant S_ .f32 0x3C231ACC#32))))
          (broadcastInDim S2048x384 ![] bcast_S_S2048x384 (constant S_ .f32 0x322BCC77#32))))
      (mulf (broadcastInDim S2048x384 ![] bcast_S_S2048x384 (constant S_ .f32 0x3C23D70A#32)) w))

theorem grad_at : grad c (ix2 r n) = Adam.total fun s => c (ix3 s r n) := by pointwise [grad, Adam.total]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S2048x384.Idx → EReal := m ((c.tc : Thread nD τ).loc main_arg0)
abbrev mOf : S2048x384.Idx → EReal := m ((c.tc : Thread nD τ).loc main_arg1)
abbrev vOf : S2048x384.Idx → EReal := m ((c.tc : Thread nD τ).loc main_arg2)
abbrev cOf : S4x2048x384.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v1) = grad (cOf m c)
      ∧ r.2.mem ((c.tc : Thread nD τ).loc main_v25) = delta (wOf m c) (mOf m c) (vOf m c) (grad (cOf m c))
      ∧ r.2.mem ((c.tc : Thread nD τ).loc main_v6) = newFirst (mOf m c) (grad (cOf m c))
      ∧ r.2.mem ((c.tc : Thread nD τ).loc main_v12) = newSecond (vOf m c) (grad (cOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl,
    (h c).2.2.2.2⟩) (Cert.Reference15Ideal.Value.run m ρ)

end Cert.UpdateBranchIn.Ref

end
-- ==== Proof.UpdateBranchIn.lean ====
module

public import proofs.«01_k».proof.Proof.Gen.Kernel15Ideal.Value
public import proofs.«01_k».proof.Proof.UpdateBranchInReference
public import Idealize.ShloMosaic.Lib.Pipeline.ValueKit

@[expose] public section

/-!
# The optimiser's step on the two branches' input projection as the kernel computes it

Grid point `t` takes 256 of the 2048 rows. The gradient is the sum of the four contributions, added in their order.
-/

noncomputable section

namespace Cert.UpdateBranchIn

open Cert.Kernel15Ideal Cert.Kernel15Ideal.Gen Cert.UpdateBranchIn.Ref
open Idealize.ShloMosaic Idealize.ShloMosaic.TcCoe

section Blocks

variable (w m v : Vec Ideal S256x384 .f32) (c : Vec Ideal S4x256x384 .bf16) (r : Fin 256) (n : Fin 384)

theorem out4_at : out0_4 w m v c (ix2 r n) = Adam.total fun s => c (ix3 s r n) := by
  rw [Adam.total_eq]
  frame_out
  pointwise [k0_pay2]

theorem out5_at : out0_5 w m v c (ix2 r n) = Adam.change (w (ix2 r n)) (m (ix2 r n)) (v (ix2 r n)) (Adam.total fun s => c (ix3 s r n)) := by
  rw [Adam.total_eq]
  frame_out
  pointwise [k0_pay1, k0_pay2, k0_pay3, k0_pay4, k0_pay5, k0_pay6, Adam.change, Adam.first, Adam.second]

theorem out6_at : out0_6 w m v c (ix2 r n) = Adam.first (m (ix2 r n)) (Adam.total fun s => c (ix3 s r n)) := by
  rw [Adam.total_eq]
  frame_out
  pointwise [k0_pay2, k0_pay3, Adam.first]

theorem out7_at : out0_7 w m v c (ix2 r n) = Adam.second (v (ix2 r n)) (Adam.total fun s => c (ix3 s r n)) := by
  rw [Adam.total_eq]
  frame_out
  pointwise [k0_pay2, k0_pay4, k0_pay6, Adam.second]

end Blocks

variable (m : (ℓ : Loc nD τ sig) → Buf (Elt Ideal) ℓ) (c : Dev nD) (t : Fin cfg0.N) (r : Fin 256) (n : Fin 384) (s : Fin 4)

/-- The arguments. -/
abbrev wK : S2048x384.Idx → EReal := m ((c.tc : Thread nD τ).loc main_arg0)
abbrev mK : S2048x384.Idx → EReal := m ((c.tc : Thread nD τ).loc main_arg1)
abbrev vK : S2048x384.Idx → EReal := m ((c.tc : Thread nD τ).loc main_arg2)
abbrev cK : S4x2048x384.Idx → EReal := m ((c.tc : Thread nD τ).loc main_arg3)

/-- Row `r` of point `t`. -/
def row : Fin 2048 := ⟨256 * t.val + r.val, by have h : t.val < 8 := lt_of_lt_of_eq t.isLt N_0; have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index4 : ∀ t : Fin grid0.N, cc0_transform_4 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index3 : ∀ t : Fin grid0.N, cc0_transform_3 (grid0.coords t) = ![0, t.val, 0] := by decide

/-- Where a block of 256 rows has its entries. -/
theorem at_row {f : Fin 2 → ℕ} (h : f = ![t.val, 0]) {i : S2048x384.Idx} (h₀ : (i 0).val = f 0 * 256 + 1 * r.val)
    (h₁ : (i 1).val = f 1 * 384 + 1 * n.val) : i = ix2 (row t r) n := by
  subst h
  refine funext fun a => Fin.ext ?_
  match a with
  | ⟨0, _⟩ => refine h₀.trans ?_; show t.val * 256 + 1 * r.val = 256 * t.val + r.val; omega
  | ⟨1, _⟩ => refine h₁.trans ?_; show 0 * 384 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 : iblk m c 3 t (ix3 s r n) = cK m c (ix3 s (row t r) n) := by
  unfold iblk
  refine (congrFun (V_main_arg3 m c) _).trans (congrArg (cK m c) (funext fun a => Fin.ext ?_))
  match a with
  | ⟨0, _⟩ =>
    show cc0_transform_3 (grid0.coords t) 0 * 4 + 1 * s.val = s.val
    rw [index3]; show 0 * 4 + 1 * s.val = s.val; omega
  | ⟨1, _⟩ =>
    show cc0_transform_3 (grid0.coords t) 1 * 256 + 1 * r.val = 256 * t.val + r.val
    rw [index3]; show t.val * 256 + 1 * r.val = 256 * t.val + r.val; omega
  | ⟨2, _⟩ =>
    show cc0_transform_3 (grid0.coords t) 2 * 384 + 1 * n.val = n.val
    rw [index3]; show 0 * 384 + 1 * n.val = n.val; omega

theorem out_emb4 : (win0_4.blk t).view.emb (ix2 r n) = (ix2 (row t r) n : S2048x384.Idx) :=
  at_row t r n (index4 t) rfl rfl

theorem out_emb5 : (win0_5.blk t).view.emb (ix2 r n) = (ix2 (row t r) n : S2048x384.Idx) :=
  at_row t r n (index5 t) rfl rfl

theorem out_emb6 : (win0_6.blk t).view.emb (ix2 r n) = (ix2 (row t r) n : S2048x384.Idx) :=
  at_row t r n (index6 t) rfl rfl

theorem out_emb7 : (win0_7.blk t).view.emb (ix2 r n) = (ix2 (row t r) n : S2048x384.Idx) :=
  at_row t r n (index7 t) rfl rfl

theorem grad_sum : (Adam.total fun s => iblk m c 3 t (ix3 s r n)) = grad (cK m c) (ix2 (row t r) n) := by
  rw [grad_at]
  exact congrArg Adam.total (funext fun s => blk3 m c t r n s)

/-- The gradient is the reference's. -/
theorem grad_eq : (dats m 0 c).arrAt 4 cfg0.N = grad (cK m c) := by
  refine (dats m 0 c).arrAt_eq_of_covers 4 _ (by decide +kernel) fun t hf y => ?_
  blk_simp
  obtain ⟨r, n, rfl⟩ : ∃ (r : Fin 256) (n : Fin 384), y = ix2 r n := ⟨y 0, y 1, eq_ix2 y⟩
  rw [out_emb4, after0_4, out4_at, grad_sum]

/-- The change of the weight is the reference's. -/
theorem delta_eq : (dats m 0 c).arrAt 5 cfg0.N = delta (wK m c) (mK m c) (vK m c) (grad (cK m c)) := by
  refine (dats m 0 c).arrAt_eq_of_covers 5 _ (by decide +kernel) fun t hf y => ?_
  blk_simp
  obtain ⟨r, n, rfl⟩ : ∃ (r : Fin 256) (n : Fin 384), y = ix2 r n := ⟨y 0, y 1, eq_ix2 y⟩
  rw [out_emb5, delta_at, after0_5, out5_at, grad_sum, blk0, blk1, blk2]

/-- The first moment is the reference's. -/
theorem first_eq : (dats m 0 c).arrAt 6 cfg0.N = newFirst (mK m c) (grad (cK m c)) := by
  refine (dats m 0 c).arrAt_eq_of_covers 6 _ (by decide +kernel) fun t hf y => ?_
  blk_simp
  obtain ⟨r, n, rfl⟩ : ∃ (r : Fin 256) (n : Fin 384), y = ix2 r n := ⟨y 0, y 1, eq_ix2 y⟩
  rw [out_emb6, newFirst_at, after0_6, out6_at, grad_sum, blk1]

/-- The second moment is the reference's. -/
theorem second_eq : (dats m 0 c).arrAt 7 cfg0.N = newSecond (vK m c) (grad (cK m c)) := by
  refine (dats m 0 c).arrAt_eq_of_covers 7 _ (by decide +kernel) fun t hf y => ?_
  blk_simp
  obtain ⟨r, n, rfl⟩ : ∃ (r : Fin 256) (n : Fin 384), y = ix2 r n := ⟨y 0, y 1, eq_ix2 y⟩
  rw [out_emb7, newSecond_at, after0_7, out7_at, grad_sum, blk2]

end Cert.UpdateBranchIn

end
-- ==== Proof.UpdateMixerOutReference.lean ====
module

public import proofs.«01_k».proof.Proof.Gen.Reference16Ideal.Run
public import proofs.«01_k».proof.Proof.Adam

@[expose] public section

/-! # The optimiser's step on a mixer's output projection, element by element -/

noncomputable section

namespace Cert.UpdateMixerOut.Ref

open Cert.Reference16Ideal Cert.Reference16Ideal.Gen Cert.Reference16Ideal.Value
open Idealize.ShloMosaic Idealize.ShloMosaic.TcCoe

section Terms

variable (c : FVec Ideal S4x256x2048 .bf16) (w m v g : FVec Ideal S256x2048 .f32) (r : Fin 256) (n : Fin 2048)

/-- The gradient. -/
def grad : FVec Ideal S256x2048 .f32 :=
  Host.reduceAdd (extf .f32 c bitsLt_bf16_f32) (constant S_ .f32 0x00000000#32) reducesTo_S4x256x2048_S256x2048_d0 h_S_

/-- The first moment after the step. -/
def newFirst (m g : FVec Ideal S256x2048 .f32) : FVec Ideal S256x2048 .f32 :=
  addf (mulf (broadcastInDim S256x2048 ![] bcast_S_S256x2048 (constant S_ .f32 0x3F666666#32)) m)
    (mulf (broadcastInDim S256x2048 ![] bcast_S_S256x2048 (constant S_ .f32 0x3DCCCCCD#32)) g)

/-- The second moment after the step. -/
def newSecond (v g : FVec Ideal S256x2048 .f32) : FVec Ideal S256x2048 .f32 :=
  addf (mulf (broadcastInDim S256x2048 ![] bcast_S_S256x2048 (constant S_ .f32 0x3F7FBE77#32)) v)
    (mulf (broadcastInDim S256x2048 ![] bcast_S_S256x2048 (constant S_ .f32 0x3A83126F#32)) (mulf g g))

/-- The change of the weight. -/
def delta (w m v g : FVec Ideal S256x2048 .f32) : FVec Ideal S256x2048 .f32 :=
  mulf (broadcastInDim S256x2048 ![] bcast_S_S256x2048 (constant S_ .f32 0xBA83126F#32))
    (addf (Host.divf (Host.divf (newFirst m g) (broadcastInDim S256x2048 ![] bcast_S_S256x2048 (constant S_ .f32 0x3F26BD02#32)))
        (addf (Host.sqrt (Host.divf (newSecond v g) (broadcastInDim S256x2048 ![] bcast_S_S256x2048 (constant S_ .f32 0x3C231ACC#32))))
          (broadcastInDim S256x2048 ![] bcast_S_S256x2048 (constant S_ .f32 0x322BCC77#32))))
      (mulf (broadcastInDim S256x2048 ![] bcast_S_S256x2048 (constant S_ .f32 0x3C23D70A#32)) w))

theorem grad_at : grad c (ix2 r n) = Adam.total fun s => c (ix3 s r n) := by pointwise [grad, Adam.total]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S256x2048.Idx → EReal := m ((c.tc : Thread nD τ).loc main_arg0)
abbrev mOf : S256x2048.Idx → EReal := m ((c.tc : Thread nD τ).loc main_arg1)
abbrev vOf : S256x2048.Idx → EReal := m ((c.tc : Thread nD τ).loc main_arg2)
abbrev cOf : S4x256x2048.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v1) = grad (cOf m c)
      ∧ r.2.mem ((c.tc : Thread nD τ).loc main_v25) = delta (wOf m c) (mOf m c) (vOf m c) (grad (cOf m c))
      ∧ r.2.mem ((c.tc : Thread nD τ).loc main_v6) = newFirst (mOf m c) (grad (cOf m c))
      ∧ r.2.mem ((c.tc : Thread nD τ).loc main_v12) = newSecond (vOf m c) (grad (cOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl,
    (h c).2.2.2.2⟩) (Cert.Reference16Ideal.Value.run m ρ)

end Cert.UpdateMixerOut.Ref

end
-- ==== Proof.UpdateMixerOut.lean ====
module

public import proofs.«01_k».proof.Proof.Gen.Kernel16Ideal.Value
public import proofs.«01_k».proof.Proof.UpdateMixerOutReference
public import Idealize.ShloMosaic.Lib.Pipeline.ValueKit

@[expose] public section

/-!
# The optimiser's step on a mixer's output projection as the kernel computes it

Grid point `t` takes 128 of the 256 rows. The gradient is the sum of the four contributions, added in their order.
-/

noncomputable section

namespace Cert.UpdateMixerOut

open Cert.Kernel16Ideal Cert.Kernel16Ideal.Gen Cert.UpdateMixerOut.Ref
open Idealize.ShloMosaic Idealize.ShloMosaic.TcCoe

section Blocks

variable (w m v : Vec Ideal S128x2048 .f32) (c : Vec Ideal S4x128x2048 .bf16) (r : Fin 128) (n : Fin 2048)

theorem out4_at : out0_4 w m v c (ix2 r n) = Adam.total fun s => c (ix3 s r n) := by
  rw [Adam.total_eq]
  frame_out
  pointwise [k0_pay2]

theorem out5_at : out0_5 w m v c (ix2 r n) = Adam.change (w (ix2 r n)) (m (ix2 r n)) (v (ix2 r n)) (Adam.total fun s => c (ix3 s r n)) := by
  rw [Adam.total_eq]
  frame_out
  pointwise [k0_pay1, k0_pay2, k0_pay3, k0_pay4, k0_pay5, k0_pay6, Adam.change, Adam.first, Adam.second]

theorem out6_at : out0_6 w m v c (ix2 r n) = Adam.first (m (ix2 r n)) (Adam.total fun s => c (ix3 s r n)) := by
  rw [Adam.total_eq]
  frame_out
  pointwise [k0_pay2, k0_pay3, Adam.first]

theorem out7_at : out0_7 w m v c (ix2 r n) = Adam.second (v (ix2 r n)) (Adam.total fun s => c (ix3 s r n)) := by
  rw [Adam.total_eq]
  frame_out
  pointwise [k0_pay2, k0_pay4, k0_pay6, Adam.second]

end Blocks

variable (m : (ℓ : Loc nD τ sig) → Buf (Elt Ideal) ℓ) (c : Dev nD) (t : Fin cfg0.N) (r : Fin 128) (n : Fin 2048) (s : Fin 4)

/-- The arguments. -/
abbrev wK : S256x2048.Idx → EReal := m ((c.tc : Thread nD τ).loc main_arg0)
abbrev mK : S256x2048.Idx → EReal := m ((c.tc : Thread nD τ).loc main_arg1)
abbrev vK : S256x2048.Idx → EReal := m ((c.tc : Thread nD τ).loc main_arg2)
abbrev cK : S4x256x2048.Idx → EReal := m ((c.tc : Thread nD τ).loc main_arg3)

/-- Row `r` of point `t`. -/
def row : Fin 256 := ⟨128 * t.val + r.val, by have h : t.val < 2 := lt_of_lt_of_eq t.isLt N_0; have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index4 : ∀ t : Fin grid0.N, cc0_transform_4 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index3 : ∀ t : Fin grid0.N, cc0_transform_3 (grid0.coords t) = ![0, t.val, 0] := by decide

/-- Where a block of 128 rows has its entries. -/
theorem at_row {f : Fin 2 → ℕ} (h : f = ![t.val, 0]) {i : S256x2048.Idx} (h₀ : (i 0).val = f 0 * 128 + 1 * r.val)
    (h₁ : (i 1).val = f 1 * 2048 + 1 * n.val) : i = ix2 (row t r) n := by
  subst h
  refine funext fun a => Fin.ext ?_
  match a with
  | ⟨0, _⟩ => refine h₀.trans ?_; show t.val * 128 + 1 * r.val = 128 * t.val + r.val; omega
  | ⟨1, _⟩ => refine h₁.trans ?_; show 0 * 2048 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 : iblk m c 3 t (ix3 s r n) = cK m c (ix3 s (row t r) n) := by
  unfold iblk
  refine (congrFun (V_main_arg3 m c) _).trans (congrArg (cK m c) (funext fun a => Fin.ext ?_))
  match a with
  | ⟨0, _⟩ =>
    show cc0_transform_3 (grid0.coords t) 0 * 4 + 1 * s.val = s.val
    rw [index3]; show 0 * 4 + 1 * s.val = s.val; omega
  | ⟨1, _⟩ =>
    show cc0_transform_3 (grid0.coords t) 1 * 128 + 1 * r.val = 128 * t.val + r.val
    rw [index3]; show t.val * 128 + 1 * r.val = 128 * t.val + r.val; omega
  | ⟨2, _⟩ =>
    show cc0_transform_3 (grid0.coords t) 2 * 2048 + 1 * n.val = n.val
    rw [index3]; show 0 * 2048 + 1 * n.val = n.val; omega

theorem out_emb4 : (win0_4.blk t).view.emb (ix2 r n) = (ix2 (row t r) n : S256x2048.Idx) :=
  at_row t r n (index4 t) rfl rfl

theorem out_emb5 : (win0_5.blk t).view.emb (ix2 r n) = (ix2 (row t r) n : S256x2048.Idx) :=
  at_row t r n (index5 t) rfl rfl

theorem out_emb6 : (win0_6.blk t).view.emb (ix2 r n) = (ix2 (row t r) n : S256x2048.Idx) :=
  at_row t r n (index6 t) rfl rfl

theorem out_emb7 : (win0_7.blk t).view.emb (ix2 r n) = (ix2 (row t r) n : S256x2048.Idx) :=
  at_row t r n (index7 t) rfl rfl

theorem grad_sum : (Adam.total fun s => iblk m c 3 t (ix3 s r n)) = grad (cK m c) (ix2 (row t r) n) := by
  rw [grad_at]
  exact congrArg Adam.total (funext fun s => blk3 m c t r n s)

/-- The gradient is the reference's. -/
theorem grad_eq : (dats m 0 c).arrAt 4 cfg0.N = grad (cK m c) := by
  refine (dats m 0 c).arrAt_eq_of_covers 4 _ (by decide +kernel) fun t hf y => ?_
  blk_simp
  obtain ⟨r, n, rfl⟩ : ∃ (r : Fin 128) (n : Fin 2048), y = ix2 r n := ⟨y 0, y 1, eq_ix2 y⟩
  rw [out_emb4, after0_4, out4_at, grad_sum]

/-- The change of the weight is the reference's. -/
theorem delta_eq : (dats m 0 c).arrAt 5 cfg0.N = delta (wK m c) (mK m c) (vK m c) (grad (cK m c)) := by
  refine (dats m 0 c).arrAt_eq_of_covers 5 _ (by decide +kernel) fun t hf y => ?_
  blk_simp
  obtain ⟨r, n, rfl⟩ : ∃ (r : Fin 128) (n : Fin 2048), y = ix2 r n := ⟨y 0, y 1, eq_ix2 y⟩
  rw [out_emb5, delta_at, after0_5, out5_at, grad_sum, blk0, blk1, blk2]

/-- The first moment is the reference's. -/
theorem first_eq : (dats m 0 c).arrAt 6 cfg0.N = newFirst (mK m c) (grad (cK m c)) := by
  refine (dats m 0 c).arrAt_eq_of_covers 6 _ (by decide +kernel) fun t hf y => ?_
  blk_simp
  obtain ⟨r, n, rfl⟩ : ∃ (r : Fin 128) (n : Fin 2048), y = ix2 r n := ⟨y 0, y 1, eq_ix2 y⟩
  rw [out_emb6, newFirst_at, after0_6, out6_at, grad_sum, blk1]

/-- The second moment is the reference's. -/
theorem second_eq : (dats m 0 c).arrAt 7 cfg0.N = newSecond (vK m c) (grad (cK m c)) := by
  refine (dats m 0 c).arrAt_eq_of_covers 7 _ (by decide +kernel) fun t hf y => ?_
  blk_simp
  obtain ⟨r, n, rfl⟩ : ∃ (r : Fin 128) (n : Fin 2048), y = ix2 r n := ⟨y 0, y 1, eq_ix2 y⟩
  rw [out_emb7, newSecond_at, after0_7, out7_at, grad_sum, blk2]

end Cert.UpdateMixerOut

end
-- ==== Proof.RowNorm.lean ====
module

public import Idealize.ShloMosaic.PureOps.Ideal

@[expose] public section

/-!
# The gradient of a row through its root mean square

With `z` the mean square plus a small constant and `ρ` the reciprocal root of `z`, one form is `ρ (a - x ρ mean (a (x ρ)))`. The other takes the
gradient through `z` on its own: its derivative is `-ρ / 2z`, and each entry is met twice. The entries are extended reals. If the squares'
sum is infinite, `ρ` is zero and both are zero. Otherwise every `x` is a number, `ρ` is a positive number, and `ρ ρ` is the inverse of `z`.
-/

noncomputable section

namespace Cert.RowNorm

open Idealize.ShloMosaic

theorem columns_eq : Ideal.ofBits .f32 0x45000000#32 = ((2048 : ℝ) : EReal) := by
  simp [Ideal.ofBits, Ideal.ieee, -EReal.coe_mul]; norm_num
theorem half_eq : Ideal.ofBits .f32 0xBF000000#32 = ((-1 / 2 : ℝ) : EReal) := by
  simp [Ideal.ofBits, Ideal.ieee, -EReal.coe_mul]; norm_num
theorem small_eq : ∃ e : ℝ, 0 < e ∧ Ideal.ofBits .f32 0x358637BD#32 = ((e : ℝ) : EReal) := by
  refine ⟨_, ?_, by simp [Ideal.ofBits, Ideal.ieee, -EReal.coe_mul]; rfl⟩
  norm_num

theorem div_columns (y : EReal) : Ideal.div y ((2048 : ℝ) : EReal) = y * ((1 / 2048 : ℝ) : EReal) := by
  unfold Ideal.div
  rw [if_neg (by simp), ← EReal.coe_inv, one_div]

theorem square_nonneg (y : EReal) : 0 ≤ y * y := by
  rcases le_total 0 y with h | h
  · exact mul_nonneg h h
  · rw [← neg_mul_neg]; exact mul_nonneg (EReal.neg_nonneg.mpr h) (EReal.neg_nonneg.mpr h)

theorem add_self (y : EReal) : y + y = y * ((2 : ℝ) : EReal) := by
  have h := EReal.left_distrib_of_nonneg (a := (1 : EReal)) (b := 1) (c := y) zero_le_one zero_le_one
  rw [mul_one] at h
  rw [← h]
  congr 1
  norm_cast

theorem sum_mul_real {n : ℕ} (f : Fin n → EReal) {ρ : ℝ} (h : 0 ≤ ρ) : (∑ k : Fin n, f k) * (ρ : EReal) = ∑ k : Fin n, f k * (ρ : EReal) := by
  induction n with
  | zero => simp
  | succ n ih =>
    rw [Fin.sum_univ_castSucc, Fin.sum_univ_castSucc,
      EReal.right_distrib_of_nonneg_of_ne_top (EReal.coe_nonneg.mpr h) (EReal.coe_ne_top ρ), ih]

variable {n : ℕ} (x a : Fin n → EReal) (l : Fin n)

theorem real_of_square {z : ℝ} (h : ∑ k : Fin n, x k * x k = (z : EReal)) : ∃ ξ : ℝ, x l = (ξ : EReal) := by
  have hl : x l * x l ≤ (z : EReal) :=
    h ▸ Finset.single_le_sum (f := fun k => x k * x k) (fun k _ => square_nonneg (x k)) (Finset.mem_univ l)
  induction hx : x l with
  | bot => rw [hx, EReal.bot_mul_bot] at hl; exact absurd hl (not_le.mpr (EReal.coe_lt_top z))
  | coe ξ => exact ⟨ξ, rfl⟩
  | top => rw [hx, EReal.top_mul_top] at hl; exact absurd hl (not_le.mpr (EReal.coe_lt_top z))

/-- The mean square with a positive constant added is infinite, or it is a positive number and the row's entries are numbers. -/
theorem square_cases {e : ℝ} (he : 0 < e) :
    Ideal.div (∑ k : Fin n, x k * x k) ((2048 : ℝ) : EReal) + (e : EReal) = ⊤
      ∨ ∃ z ξ : ℝ, 0 < z ∧ x l = (ξ : EReal) ∧ Ideal.div (∑ k : Fin n, x k * x k) ((2048 : ℝ) : EReal) + (e : EReal) = (z : EReal) := by
  have h0 : 0 ≤ ∑ k : Fin n, x k * x k := Finset.sum_nonneg fun k _ => square_nonneg (x k)
  rw [div_columns]
  induction hs : ∑ k : Fin n, x k * x k with
  | bot => rw [hs] at h0; exact absurd h0 (by simp)
  | top =>
    left
    rw [EReal.top_mul_of_pos (EReal.coe_pos.mpr (by norm_num)), EReal.top_add_coe]
  | coe s =>
    right
    obtain ⟨ξ, hξ⟩ := real_of_square x l hs
    rw [hs] at h0
    have := EReal.coe_nonneg.mp h0
    exact ⟨s * (1 / 2048) + e, ξ, by positivity, hξ, by rw [EReal.coe_add, EReal.coe_mul]⟩

/-- The two forms agree. -/
theorem row_eq {e : ℝ} (he : 0 < e) (z : EReal)
    (hz : Ideal.div (∑ k : Fin n, x k * x k) ((2048 : ℝ) : EReal) + (e : EReal) = z) :
    Ideal.rsqrt z * (a l - x l * Ideal.rsqrt z * Ideal.div (∑ k : Fin n, a k * (x k * Ideal.rsqrt z)) ((2048 : ℝ) : EReal))
    = a l * Ideal.rsqrt z
      + x l * Ideal.div ((∑ k : Fin n, x k * a k) * (((-1 / 2 : ℝ) : EReal) * Ideal.div (Ideal.rsqrt z) z)) ((2048 : ℝ) : EReal)
      + Ideal.div ((∑ k : Fin n, x k * a k) * (((-1 / 2 : ℝ) : EReal) * Ideal.div (Ideal.rsqrt z) z)) ((2048 : ℝ) : EReal) * x l := by
  rcases square_cases x l he with h | ⟨ζ, ξ, hζ, hξ, h⟩
  · obtain rfl : z = ⊤ := hz.symm.trans h
    have hr : Ideal.rsqrt ⊤ = 0 := rfl
    have hd : Ideal.div 0 ⊤ = 0 := by unfold Ideal.div; rw [if_neg (by simp), zero_mul]
    simp only [hr, hd, div_columns, zero_mul, mul_zero, add_zero]
  · obtain rfl : z = (ζ : EReal) := hz.symm.trans h
    have hr : Ideal.rsqrt (ζ : EReal) = (((Real.sqrt ζ)⁻¹ : ℝ) : EReal) := by
      show (if ζ < 0 then ⊥ else if ζ = 0 then ⊤ else (((Real.sqrt ζ)⁻¹ : ℝ) : EReal)) = _
      rw [if_neg hζ.not_gt, if_neg hζ.ne']
    have hd : Ideal.div (((Real.sqrt ζ)⁻¹ : ℝ) : EReal) (ζ : EReal) = (((Real.sqrt ζ)⁻¹ * ζ⁻¹ : ℝ) : EReal) := by
      unfold Ideal.div
      rw [if_neg (by exact_mod_cast hζ.ne'), ← EReal.coe_inv, EReal.coe_mul]
    have hp : 0 ≤ (Real.sqrt ζ)⁻¹ := by positivity
    have hq : ζ⁻¹ = (Real.sqrt ζ)⁻¹ * (Real.sqrt ζ)⁻¹ := by rw [← mul_inv, Real.mul_self_sqrt hζ.le]
    rw [hr, hd, hξ, hq]
    generalize (Real.sqrt ζ)⁻¹ = ρ at hp
    have hs : ∑ k : Fin n, a k * (x k * (ρ : EReal)) = (∑ k : Fin n, x k * a k) * (ρ : EReal) := by
      rw [sum_mul_real _ hp]
      refine Finset.sum_congr rfl fun k _ => ?_
      rw [← mul_assoc, mul_comm (a k)]
    rw [hs]
    generalize ∑ k : Fin n, x k * a k = S
    rw [EReal.mul_sub_of_nonneg_of_ne_top (EReal.coe_nonneg.mpr hp) (EReal.coe_ne_top ρ), add_assoc, mul_comm (a l), sub_eq_add_neg]
    congr 1
    have e1 : (ξ : EReal) * Ideal.div (S * (((-1 / 2 : ℝ) : EReal) * ((ρ * (ρ * ρ) : ℝ) : EReal))) ((2048 : ℝ) : EReal)
        = S * ((ξ * (-1 / 2 * (ρ * (ρ * ρ))) * (1 / 2048) : ℝ) : EReal) := by
      rw [div_columns, ← EReal.coe_mul, mul_assoc, ← EReal.coe_mul, mul_left_comm, ← EReal.coe_mul, ← mul_assoc ξ]
    rw [mul_comm _ (ξ : EReal), e1, add_self, div_columns, ← EReal.coe_mul, mul_assoc S, mul_assoc S, ← EReal.coe_mul, ← EReal.coe_mul,
      mul_left_comm _ S, mul_left_comm _ S, ← EReal.coe_mul, ← EReal.coe_mul, ← mul_neg, ← EReal.coe_neg]
    congr 2
    ring

/-- The mean square of a row, with the constant that keeps it from zero. -/
def squareOf (y : Fin 2048 → EReal) : EReal :=
  Ideal.div (∑ k : Fin 2048, y k * y k) (Ideal.ofBits .f32 0x45000000#32) + Ideal.ofBits .f32 0x358637BD#32

/-- The gradient through the mean square of row `y`, where `a` is the gradient of the normalized row. -/
def sharedOf (y a : Fin 2048 → EReal) : EReal :=
  Ideal.div ((∑ k : Fin 2048, y k * a k) * (Ideal.ofBits .f32 0xBF000000#32 * Ideal.div (Ideal.rsqrt (squareOf y)) (squareOf y)))
    (Ideal.ofBits .f32 0x45000000#32)

/-- The gradient of the row, the mean square's on its own. -/
def backOf (y a : Fin 2048 → EReal) (l : Fin 2048) : EReal := a l * Ideal.rsqrt (squareOf y) + y l * sharedOf y a + sharedOf y a * y l

/-- The gradient of the row, the reciprocal root taken out. -/
def rowOf (y a : Fin 2048 → EReal) (l : Fin 2048) : EReal :=
  Ideal.rsqrt (squareOf y) * (a l - y l * Ideal.rsqrt (squareOf y)
    * Ideal.div (∑ k : Fin 2048, a k * (y k * Ideal.rsqrt (squareOf y))) (Ideal.ofBits .f32 0x45000000#32))

theorem rowOf_eq (y a : Fin 2048 → EReal) (l : Fin 2048) : rowOf y a l = backOf y a l := by
  obtain ⟨e, he, h⟩ := small_eq
  unfold rowOf backOf sharedOf
  rw [columns_eq, half_eq]
  refine row_eq y a l he (squareOf y) ?_
  unfold squareOf
  rw [columns_eq, h]

end Cert.RowNorm

end
-- ==== Proof.Rows.lean ====
module

public import proofs.«01_k».proof.Proof.RowNorm
public import proofs.«01_k».proof.Proof.Accumulate
public import Idealize.ShloMosaic.Lib.Pointwise
public import Idealize.ShloMosaic.Lib.Pipeline.ValueKit

@[expose] public section

/-!
# The rows that a norm's kernel takes at a grid point

Each of the eight points takes 256 of the 2048 rows. What is summed over all of them is kept in eight rows: row `s` sums the rows that are
`s` above a multiple of eight. The first point starts that sum and the others add to it.
-/

noncomputable section

namespace Cert.Rows

open Idealize.ShloMosaic

/-- Row `s` of the `j`-th eight rows. -/
def rowOf8 {n : ℕ} (j : Fin n) (s : Fin 8) : Fin (8 * n) := ⟨j.val * 8 + s.val, by omega⟩

/-- The part that point `p` has in row `s` of the sum of `e`. -/
def part (e : Fin 2048 → EReal) (s p : Fin 8) : EReal := ∑ j : Fin 32, e ⟨256 * p.val + 8 * j.val + s.val, by omega⟩

theorem total_eq (e : Fin 2048 → EReal) (s : Fin 8) : ∑ p : Fin 8, part e s p = ∑ j : Fin 256, e (rowOf8 j s) := by
  refine Eq.trans ?_ (Fin.sum_univ_tiles (N := 256) 8 32 (by decide) _).symm
  refine Fin.sum_fin_congr fun p => Fin.sum_fin_congr fun j => congrArg e (Fin.ext ?_)
  show 256 * p.val + 8 * j.val + s.val = (p.val * 32 + j.val) * 8 + s.val
  omega

variable {N : ℕ} (hN : N = 8) (t : Fin N) (e : Fin 2048 → EReal) (s : Fin 8)

/-- Row `r` of point `t`. -/
def row (r : Fin 256) : Fin 2048 := ⟨256 * t.val + r.val, by have := t.isLt; omega⟩

variable {t} in
theorem eq_row {f : Fin 2 → ℕ} (h : f = ![t.val, 0]) {i : (⟨2, ![2048, 2048]⟩ : Shape).Idx} {r : Fin 256} {l : Fin 2048}
    (h0 : (i 0).val = f 0 * 256 + 1 * r.val) (h1 : (i 1).val = f 1 * 2048 + 1 * l.val) : i = ix2 (row hN t r) l := by
  subst h
  refine funext fun a => Fin.ext ?_
  match a with
  | ⟨0, _⟩ => exact h0.trans (show t.val * 256 + 1 * r.val = 256 * t.val + r.val by omega)
  | ⟨1, _⟩ => exact h1.trans (show 0 * 2048 + 1 * l.val = l.val by omega)

theorem eq_whole {f : Fin 2 → ℕ} (h : f = ![0, 0]) {n k : ℕ} {i : (⟨2, ![n, k]⟩ : Shape).Idx} {r : Fin n} {l : Fin k}
    (h0 : (i 0).val = f 0 * n + 1 * r.val) (h1 : (i 1).val = f 1 * k + 1 * l.val) : i = ix2 r l := by
  subst h
  refine funext fun a => Fin.ext ?_
  match a with
  | ⟨0, _⟩ => exact h0.trans (show 0 * n + 1 * r.val = r.val by omega)
  | ⟨1, _⟩ => exact h1.trans (show 0 * k + 1 * l.val = l.val by omega)

variable {e} in
theorem tile_eq {b : Fin 256 → EReal} (h : ∀ r, b r = e (row hN t r)) :
    ∑ j : Fin 32, b (rowOf8 j s) = part e s ⟨t.val % 8, Nat.mod_lt _ (by decide)⟩ := by
  have ht : t.val % 8 = t.val := Nat.mod_eq_of_lt (by have := t.isLt; omega)
  refine Fin.sum_fin_congr fun j => (h _).trans (congrArg e (Fin.ext ?_))
  show 256 * t.val + (j.val * 8 + s.val) = 256 * (t.val % 8) + 8 * j.val + s.val
  omega

/-- The sum that the last point leaves. -/
theorem run_eq (f : (n : ℕ) → n < N → EReal)
    (first : ∀ t : Fin N, t.val % 8 = 0 → f t.val t.isLt = part e s ⟨t.val % 8, Nat.mod_lt _ (by decide)⟩)
    (next : ∀ t : Fin N, ¬t.val % 8 = 0 → f t.val t.isLt
      = f (t.val - 1) (Nat.lt_of_le_of_lt (Nat.sub_le _ _) t.isLt) + part e s ⟨t.val % 8, Nat.mod_lt _ (by decide)⟩)
    (h : t.val % 8 = 7) : f t.val t.isLt = ∑ j : Fin 256, e (rowOf8 j s) :=
  (next t (by omega)).trans ((Accumulate.run_sum (by decide) f (t.val / 8) (part e s)
    (fun t' _ h => first t' h) (fun t' _ h _ => next t' h) t rfl h).trans (total_eq e s))

end Cert.Rows

end
-- ==== Proof.NormReference.lean ====
module

public import proofs.«01_k».proof.Proof.Gen.Reference19Ideal.Run
public import proofs.«01_k».proof.Proof.Rows

@[expose] public section

/-! # The norm of the references and its gradient, element by element -/

noncomputable section

namespace Cert.Norms

open Cert.Reference19Ideal Cert.Reference19Ideal.Gen Cert.RowNorm Cert.Rows
open Idealize.ShloMosaic

variable (x a : FVec Ideal S2048x2048 .f32) (g : FVec Ideal S1x2048 .f32) (r l : Fin 2048)

/-- Each row's mean square, with the constant that keeps it from zero. -/
def meanSquare : FVec Ideal S2048x1 .f32 :=
  addf (Host.divf (broadcastInDim S2048x1 ![0] bcast_S2048_S2048x1_0 (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))

/-- The rows over their root mean square. -/
def unit : FVec Ideal S2048x2048 .f32 := mulf x (broadcastInDim S2048x2048 ![0, 1] bcast_S2048x1_S2048x2048_0_1 (Host.rsqrt (meanSquare x)))

/-- The rows times the gain. -/
def gained : FVec Ideal S2048x2048 .f32 := mulf a (broadcastInDim S2048x2048 ![0, 1] bcast_S1x2048_S2048x2048_0_1 g)

/-- Each row's gradient through its mean square, before the division by the number of columns. -/
def through : FVec Ideal S2048x1 .f32 :=
  mulf (shapeCast _ (Host.reduceAdd (mulf x a) (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt (meanSquare x)) (meanSquare x)))

/-- Each row's gradient through its mean square, on every column. -/
def shared : FVec Ideal S2048x2048 .f32 :=
  broadcastInDim S2048x2048 ![0] bcast_S2048_S2048x2048_0 (Host.reduceAdd (Host.divf (through x a)
    (broadcastInDim S2048x1 ![] bcast_S_S2048x1 (constant S_ .f32 0x45000000#32))) (constant S_ .f32 0x00000000#32) reducesTo_S2048x1_S2048_d1 h_S_)

/-- The gradient of the rows, where `a` is the gradient of the rows over their root mean square. -/
def back : FVec Ideal S2048x2048 .f32 :=
  addf (addf (mulf a (broadcastInDim S2048x2048 ![0, 1] bcast_S2048x1_S2048x2048_0_1 (Host.rsqrt (meanSquare x)))) (mulf x (shared x a))) (mulf (shared x a) x)

/-- The gain's gradient, each of its eight rows summed over the rows that are as many above a multiple of eight. -/
def gain : FVec Ideal S8x2048 .f32 :=
  Host.reduceAdd (shapeCast _ (mulf (unit x) a) shapeCasts_S2048x2048_S256x8x2048) (constant S_ .f32 0x00000000#32) reducesTo_S256x8x2048_S8x2048_d0 h_S_

theorem meanSquare_at (u : Fin 1) : meanSquare x (ix2 r u) = squareOf (fun k => x (ix2 r k)) := by
  pointwise [meanSquare, squareOf]

theorem unit_at : unit x (ix2 r l) = x (ix2 r l) * Ideal.rsqrt (squareOf fun k => x (ix2 r k)) := by pointwise [unit, meanSquare_at]

theorem gained_at : gained a g (ix2 r l) = a (ix2 r l) * g (ix2 0 l) := by pointwise [gained]

theorem through_at (u : Fin 1) : through x a (ix2 r u) = (∑ k : Fin 2048, x (ix2 r k) * a (ix2 r k))
    * (Ideal.ofBits .f32 0xBF000000#32 * Ideal.div (Ideal.rsqrt (squareOf fun k => x (ix2 r k))) (squareOf fun k => x (ix2 r k))) := by
  pointwise [through, meanSquare_at]

theorem shared_at : shared x a (ix2 r l) = sharedOf (fun k => x (ix2 r k)) (fun k => a (ix2 r k)) := by
  pointwise [shared, through_at, sharedOf]
  exact Fin.sum_univ_one _

theorem back_at : back x a (ix2 r l) = backOf (fun k => x (ix2 r k)) (fun k => a (ix2 r k)) l := by
  pointwise [back, shared_at, meanSquare_at, backOf]

/-- What row `q` adds to column `l` of the gain's gradient. -/
def entry (x a : (⟨2, ![2048, 2048]⟩ : Shape).Idx → EReal) (l q : Fin 2048) : EReal :=
  x (ix2 q l) * Ideal.rsqrt (squareOf fun k => x (ix2 q k)) * a (ix2 q l)

theorem gain_at (s : Fin 8) : gain x a (ix2 s l) = ∑ j : Fin 256, entry x a l (rowOf8 j s) := by
  pointwise [gain, unit_at, entry]
  rfl

variable {x a} {N : ℕ} {hN : N = 8} {t : Fin N} {X D : (⟨2, ![256, 2048]⟩ : Shape).Idx → EReal}

/-- The gradient of a point's rows is that of those rows. -/
theorem rowOf_back (hX : ∀ r l, X (ix2 r l) = x (ix2 (row hN t r) l)) (hD : ∀ r l, D (ix2 r l) = a (ix2 (row hN t r) l)) (r : Fin 256) (l : Fin 2048) :
    rowOf (fun k => X (ix2 r k)) (fun k => D (ix2 r k)) l = back x a (ix2 (row hN t r) l) := by
  rw [back_at, ← rowOf_eq]
  exact congrArg₂ (fun y d => rowOf y d l) (funext fun k => hX r k) (funext fun k => hD r k)

/-- What a point's row adds to the gain's gradient is that row's. -/
theorem entry_row (hX : ∀ r l, X (ix2 r l) = x (ix2 (row hN t r) l)) (hD : ∀ r l, D (ix2 r l) = a (ix2 (row hN t r) l)) (l : Fin 2048) (r : Fin 256) :
    D (ix2 r l) * (X (ix2 r l) * Ideal.rsqrt (squareOf fun k => X (ix2 r k))) = entry x a l (row hN t r) := by
  unfold entry
  rw [mul_comm, hX, hD]
  exact congrArg (fun y => _ * Ideal.rsqrt (squareOf y) * _) (funext fun k => hX r k)

end Cert.Norms

end
-- ==== Proof.FirstNorm.lean ====
module

public import proofs.«01_k».proof.Proof.Gen.Kernel19Ideal.Value
public import proofs.«01_k».proof.Proof.Gen.Reference19Ideal.Run
public import proofs.«01_k».proof.Proof.NormReference
public import Idealize.ShloMosaic.Lib.Pipeline.ValueKit

@[expose] public section

/-!
# The gradient through the first norm

Grid point `t` takes 256 of the 2048 rows. The first point starts the sum of the gain's gradient and the others add to it: a case each,
with the same block of the rows' gradient.
-/

noncomputable section

namespace Cert.FirstNorm

section Kernel

open Cert.Kernel19Ideal Cert.Kernel19Ideal.Gen Cert.RowNorm Cert.Rows Cert.Norms
open Idealize.ShloMosaic Idealize.ShloMosaic.TcCoe

section Blocks

variable (x : Vec Ideal S256x2048 .f32) (g : Vec Ideal S1x2048 .f32) (dh : Vec Ideal S256x2048 .bf16) (dx : Vec Ideal S256x2048 .f32)
variable (r : Fin 256) (l : Fin 2048)

theorem pay2_at : k0_pay2 dh (ix2 r l) = dh (ix2 r l) := by pointwise [k0_pay2]
theorem pay3_at (u : Fin 1) : k0_pay3 x (ix2 r u) = Ideal.rsqrt (squareOf fun k => x (ix2 r k)) := by pointwise [k0_pay3, squareOf]
theorem pay4_at : k0_pay4 x (ix2 r l) = x (ix2 r l) * Ideal.rsqrt (squareOf fun k => x (ix2 r k)) := by pointwise [k0_pay4, pay3_at]
theorem pay5_at : k0_pay5 x g dh dx (ix2 r l)
    = dx (ix2 r l) + rowOf (fun k => x (ix2 r k)) (fun k => dh (ix2 r k) * g (ix2 0 k)) l := by
  pointwise [k0_pay5, pay2_at, pay3_at, pay4_at, rowOf]

theorem pay6_at (s : Fin 8) : k0_pay6 x dh (ix2 s l) = ∑ j : Fin 32,
    dh (ix2 (rowOf8 j s) l) * (x (ix2 (rowOf8 j s) l) * Ideal.rsqrt (squareOf fun k => x (ix2 (rowOf8 j s) k))) := by
  pointwise [k0_pay6, pay2_at, pay4_at]
  rfl

theorem pay1_at (u v : Vec Ideal S8x2048 .f32) (s : Fin 8) : k0_pay1 u v (ix2 s l) = v (ix2 s l) + u (ix2 s l) := by pointwise [k0_pay1]

end Blocks

variable (m : (ℓ : Loc nD τ sig) → Buf (Elt Ideal) ℓ) (c : Dev nD) (t : Fin cfg0.N) (r : Fin 256) (l : Fin 2048)

/-- The arguments. -/
abbrev dxK : S2048x2048.Idx → EReal := m ((c.tc : Thread nD τ).loc main_arg0)
abbrev xK : S2048x2048.Idx → EReal := m ((c.tc : Thread nD τ).loc main_arg1)
abbrev gK : S1x2048.Idx → EReal := m ((c.tc : Thread nD τ).loc main_arg2)
abbrev dhK : S2048x2048.Idx → EReal := m ((c.tc : Thread nD τ).loc main_arg3)

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![0, 0] := by decide
theorem index3 : ∀ t : Fin grid0.N, cc0_transform_3 (grid0.coords t) = ![t.val, 0] := by decide

theorem blk0 : iblk m c 0 t (ix2 r l) = dxK m c (ix2 (row N_0 t r) l) :=
  (congrFun (V_main_arg0 m c) _).trans (congrArg (dxK m c) (eq_row N_0 (index0 t) rfl rfl))
theorem blk1 : iblk m c 1 t (ix2 r l) = xK m c (ix2 (row N_0 t r) l) :=
  (congrFun (V_main_arg1 m c) _).trans (congrArg (xK m c) (eq_row N_0 (index1 t) rfl rfl))
theorem blk2 : iblk m c 2 t (ix2 0 l) = gK m c (ix2 0 l) :=
  (congrFun (V_main_arg2 m c) _).trans (congrArg (gK m c) (eq_whole (index2 t) rfl rfl))
theorem blk3 : iblk m c 3 t (ix2 r l) = dhK m c (ix2 (row N_0 t r) l) :=
  (congrFun (V_main_arg3 m c) _).trans (congrArg (dhK m c) (eq_row N_0 (index3 t) rfl rfl))

theorem index4 : ∀ t : Fin grid0.N, cc0_transform_4 (grid0.coords t) = ![t.val, 0] := by decide
theorem emb4 : (win0_4.blk t).view.emb (ix2 r l) = (ix2 (row N_0 t r) l : S2048x2048.Idx) := eq_row N_0 (index4 t) rfl rfl

theorem index5 : ∀ t : Fin grid0.N, cc0_transform_5 (grid0.coords t) = ![0, 0] := by decide
theorem emb5 (s : Fin 8) (l : Fin 2048) : (win0_5.blk t).view.emb (ix2 s l) = (ix2 s l : S8x2048.Idx) := eq_whole (index5 t) rfl rfl

/-- The block that a point writes out, in either case. -/
theorem out_eq : (outsAt0 m c t.val t.isLt).1 (ix2 r l) = k0_pay5 (iblk m c 1 t) (iblk m c 2 t) (iblk m c 3 t) (iblk m c 0 t) (ix2 r l) := by
  have hN : t.val < 8 := lt_of_lt_of_eq t.isLt N_0
  by_cases h : t.val = 0
  · rw [outsAt0_A m c t (by omega) (by omega)]
    frame_out
  · rw [outsAt0_B m c t (by omega) (by omega)]
    frame_out

/-- The gradient, the reference's. -/
abbrev gradient (dx x : (⟨2, ![2048, 2048]⟩ : Shape).Idx → EReal) (g : (⟨2, ![1, 2048]⟩ : Shape).Idx → EReal)
    (dh : (⟨2, ![2048, 2048]⟩ : Shape).Idx → EReal) : FVec Ideal Cert.Reference19Ideal.S2048x2048 .f32 :=
  addf (F := Ideal) (φ := .f32) dx (back x (gained dh g))

theorem gradient_eq : (dats m 0 c).arrAt 4 cfg0.N = gradient (dxK m c) (xK m c) (gK m c) (dhK m c) := by
  refine (dats m 0 c).arrAt_eq_of_covers 4 _ (by decide +kernel) fun t hf y => ?_
  blk_simp
  obtain ⟨r, l, rfl⟩ : ∃ (r : Fin 256) (l : Fin 2048), y = ix2 r l := ⟨y 0, y 1, eq_ix2 y⟩
  rw [emb4, after0_4, out_eq, pay5_at, blk0]
  refine congrArg (dxK m c (ix2 (row N_0 t r) l) + ·) ?_
  exact rowOf_back (D := fun i => (fun u v : EReal => u * v) (iblk m c 3 t i) (iblk m c 2 t (ix2 0 (i 1)))) (blk1 m c t)
    (fun r k => (congrArg₂ (fun u v : EReal => u * v) (blk3 m c t r k) (blk2 m c t k)).trans (gained_at _ _ _ _).symm) r l

theorem tile (s : Fin 8) : k0_pay6 (iblk m c 1 t) (iblk m c 3 t) (ix2 s l)
    = part (entry (xK m c) (dhK m c) l) s ⟨t.val % 8, Nat.mod_lt _ (by decide)⟩ := by
  rw [pay6_at]
  exact tile_eq N_0 t s (entry_row (blk1 m c t) (blk3 m c t) l)

/-- What window 5 holds after point `n`. -/
abbrev acc5 (s : Fin 8) (l : Fin 2048) (n : ℕ) (h : n < cfg0.N) : EReal := (outsAt0 m c n h).2 (ix2 s l)

theorem first5 (s : Fin 8) (l : Fin 2048) (h : t.val % 8 = 0) :
    acc5 m c s l t.val t.isLt = part (entry (xK m c) (dhK m c) l) s ⟨t.val % 8, Nat.mod_lt _ (by decide)⟩ := by
  unfold acc5
  rw [outsAt0_A m c t h (by have := lt_of_lt_of_eq t.isLt N_0; omega)]
  frame_out
  rw [tile]

theorem next5 (s : Fin 8) (l : Fin 2048) (h : ¬t.val % 8 = 0) : acc5 m c s l t.val t.isLt
    = acc5 m c s l (t.val - 1) (Nat.lt_of_le_of_lt (Nat.sub_le _ _) t.isLt) + part (entry (xK m c) (dhK m c) l) s ⟨t.val % 8, Nat.mod_lt _ (by decide)⟩ := by
  unfold acc5
  rw [outsAt0_B m c t h (by omega)]
  frame_out
  rw [pay1_at, tile]

/-- The gain's gradient is the reference's. -/
theorem gain_eq : (dats m 0 c).arrAt 5 cfg0.N = gain (xK m c) (dhK m c) := by
  refine (dats m 0 c).arrAt_eq_of_covers 5 _ (by decide +kernel) fun t hf y => ?_
  blk_simp
  obtain ⟨s, l, rfl⟩ : ∃ (s : Fin 8) (l : Fin 2048), y = ix2 s l := ⟨y 0, y 1, eq_ix2 y⟩
  rw [emb5, gain_at, after0_5]
  exact run_eq t _ s (acc5 m c s l) (fun t h => first5 m c t s l h) (fun t h => next5 m c t s l h) ((flush0_5 t).mp hf)

end Kernel

namespace Ref

open Cert.Reference19Ideal Cert.Norms
open Idealize.ShloMosaic Idealize.ShloMosaic.TcCoe

variable (m : (ℓ : Loc nD τ sig) → Buf (Elt Ideal) ℓ) (c : Dev nD)

/-- The arguments. -/
abbrev dxR : S2048x2048.Idx → EReal := m ((c.tc : Thread nD τ).loc main_arg0)
abbrev xR : S2048x2048.Idx → EReal := m ((c.tc : Thread nD τ).loc main_arg1)
abbrev gR : S1x2048.Idx → EReal := m ((c.tc : Thread nD τ).loc main_arg2)
abbrev dhR : S2048x2048.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v32) = gradient (dxR m c) (xR m c) (gR m c) (dhR m c)
      ∧ r.2.mem ((c.tc : Thread nD τ).loc main_v34) = gain (xR m c) (dhR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.Reference19Ideal.Value.run m ρ)

end Ref

end Cert.FirstNorm

end
-- ==== Proof.Norm.lean ====
module

public import proofs.«01_k».proof.Proof.Gen.Kernel20Ideal.Value
public import proofs.«01_k».proof.Proof.Gen.Reference20Ideal.Run
public import proofs.«01_k».proof.Proof.NormReference
public import Idealize.ShloMosaic.Lib.Pipeline.ValueKit

@[expose] public section

/-!
# The norm before the first mixer

Grid point `t` takes 256 of the 2048 rows.
-/

noncomputable section

namespace Cert.Norm

section Kernel

open Cert.Kernel20Ideal Cert.Kernel20Ideal.Gen Cert.RowNorm Cert.Rows Cert.Norms
open Idealize.ShloMosaic Idealize.ShloMosaic.TcCoe

theorem pay_at (x : Vec Ideal S256x2048 .f32) (g : Vec Ideal S1x2048 .f32) (r : Fin 256) (l : Fin 2048) :
    k0_pay1 x g (ix2 r l) = x (ix2 r l) * Ideal.rsqrt (squareOf fun k => x (ix2 r k)) * g (ix2 0 l) := by pointwise [k0_pay1, squareOf]

variable (m : (ℓ : Loc nD τ sig) → Buf (Elt Ideal) ℓ) (c : Dev nD) (t : Fin cfg0.N) (r : Fin 256) (l : Fin 2048)

/-- The arguments. -/
abbrev xK : S2048x2048.Idx → EReal := m ((c.tc : Thread nD τ).loc main_arg0)
abbrev gK : S1x2048.Idx → EReal := m ((c.tc : Thread nD τ).loc main_arg1)

theorem index0 : ∀ t : Fin grid0.N, cc0_transform_0 (grid0.coords t) = ![t.val, 0] := by decide
theorem index1 : ∀ t : Fin grid0.N, cc0_transform_1 (grid0.coords t) = ![0, 0] := by decide

theorem blk0 : iblk m c 0 t (ix2 r l) = xK m c (ix2 (row N_0 t r) l) :=
  (congrFun (V_main_arg0 m c) _).trans (congrArg (xK m c) (eq_row N_0 (index0 t) rfl rfl))
theorem blk1 : iblk m c 1 t (ix2 0 l) = gK m c (ix2 0 l) :=
  (congrFun (V_main_arg1 m c) _).trans (congrArg (gK m c) (eq_whole (index1 t) rfl rfl))

theorem index2 : ∀ t : Fin grid0.N, cc0_transform_2 (grid0.coords t) = ![t.val, 0] := by decide
theorem emb2 : (win0_2.blk t).view.emb (ix2 r l) = (ix2 (row N_0 t r) l : S2048x2048.Idx) := eq_row N_0 (index2 t) rfl rfl

theorem norm_eq : (dats m 0 c).arrAt 2 cfg0.N = gained (unit (xK m c)) (gK m c) := by
  refine (dats m 0 c).arrAt_eq_of_covers 2 _ (by decide +kernel) fun t hf y => ?_
  blk_simp
  obtain ⟨r, l, rfl⟩ : ∃ (r : Fin 256) (l : Fin 2048), y = ix2 r l := ⟨y 0, y 1, eq_ix2 y⟩
  rw [emb2, gained_at, unit_at, after0_2]
  unfold out0_2
  frame_out
  rw [pay_at]
  refine congrArg₂ (fun u v : EReal => u * v) (congrArg₂ (fun u v : EReal => u * v) (blk0 m c t r l) ?_) (blk1 m c t l)
  exact congrArg (fun y => Ideal.rsqrt (squareOf y)) (funext fun k => blk0 m c t r k)

end Kernel

namespace Ref

open Cert.Reference20Ideal Cert.Norms
open Idealize.ShloMosaic Idealize.ShloMosaic.TcCoe

variable (m : (ℓ : Loc nD τ sig) → Buf (Elt Ideal) ℓ) (c : Dev nD)

/-- The arguments. -/
abbrev xR : S2048x2048.Idx → EReal := m ((c.tc : Thread nD τ).loc main_arg0)
abbrev gR : S1x2048.Idx → EReal := m ((c.tc : Thread nD τ).loc main_arg1)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v12) = gained (unit (xR m c)) (gR m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference20Ideal.Value.run m ρ)

end Ref

end Cert.Norm

end
-- ==== Proof.TwoNorms.lean ====
module

public import proofs.«01_k».proof.Proof.Gen.Kernel21Ideal.Value
public import proofs.«01_k».proof.Proof.Gen.Reference21Ideal.Run
public import proofs.«01_k».proof.Proof.NormReference
public import Idealize.ShloMosaic.Lib.Pipeline.ValueKit

@[expose] public section

/-!
# The norm of a mixer's result and the norm of the sum

Grid point `t` takes 256 of the 2048 rows.
-/

noncomputable section

namespace Cert.TwoNorms

section Kernel

open Cert.Kernel21Ideal Cert.Kernel21Ideal.Gen Cert.RowNorm Cert.Rows Cert.Norms
open Idealize.ShloMosaic Idealize.ShloMosaic.TcCoe

section Blocks

variable (mix x : Vec Ideal S256x2048 .f32) (g h : Vec Ideal S1x2048 .f32) (r : Fin 256) (l : Fin 2048)

theorem pay1_at : k0_pay1 mix x g (ix2 r l)
    = x (ix2 r l) + mix (ix2 r l) * Ideal.rsqrt (squareOf fun k => mix (ix2 r k)) * g (ix2 0 l) := by pointwise [k0_pay1, squareOf]
theorem pay2_at : k0_pay2 mix x g h (ix2 r l) = k0_pay1 mix x g (ix2 r l) * Ideal.rsqrt (squareOf fun k => k0_pay1 mix x g (ix2 r k)) * h (ix2 0 l) := by
  pointwise [k0_pay2, squareOf]

end Blocks

/-- The sum, the reference's. -/
abbrev sum (x mix : (⟨2, ![2048, 2048]⟩ : Shape).Idx → EReal) (g : (⟨2, ![1, 2048]⟩ : Shape).Idx → EReal) :
    FVec Ideal Cert.Reference19Ideal.S2048x2048 .f32 :=
  addf (F := Ideal) (φ := .f32) x (gained (unit mix) g)

variable (m : (ℓ : Loc nD τ sig) → Buf (Elt Ideal) ℓ) (c : Dev nD) (t : Fin cfg0.N) (r : Fin 256) (l : Fin 2048)

/-- The arguments. -/
abbrev xK : S2048x2048.Idx → EReal := m ((c.tc : Thread nD τ).loc main_arg0)
abbrev mixK : S2048x2048.Idx → EReal := m ((c.tc : Thread nD τ).loc main_arg1)
abbrev gK : S1x2048.Idx → EReal := m ((c.tc : Thread nD τ).loc main_arg2)
abbrev hK : S1x2048.Idx → EReal := m ((c.tc : Thread nD τ).loc main_arg3)

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![0, 0] := by decide
theorem index3 : ∀ t : Fin grid0.N, cc0_transform_3 (grid0.coords t) = ![0, 0] := by decide

theorem blk0 : iblk m c 0 t (ix2 r l) = xK m c (ix2 (row N_0 t r) l) :=
  (congrFun (V_main_arg0 m c) _).trans (congrArg (xK m c) (eq_row N_0 (index0 t) rfl rfl))
theorem blk1 : iblk m c 1 t (ix2 r l) = mixK m c (ix2 (row N_0 t r) l) :=
  (congrFun (V_main_arg1 m c) _).trans (congrArg (mixK m c) (eq_row N_0 (index1 t) rfl rfl))
theorem blk2 : iblk m c 2 t (ix2 0 l) = gK m c (ix2 0 l) :=
  (congrFun (V_main_arg2 m c) _).trans (congrArg (gK m c) (eq_whole (index2 t) rfl rfl))
theorem blk3 : iblk m c 3 t (ix2 0 l) = hK m c (ix2 0 l) :=
  (congrFun (V_main_arg3 m c) _).trans (congrArg (hK m c) (eq_whole (index3 t) rfl rfl))

theorem index4 : ∀ t : Fin grid0.N, cc0_transform_4 (grid0.coords t) = ![t.val, 0] := by decide
theorem emb4 : (win0_4.blk t).view.emb (ix2 r l) = (ix2 (row N_0 t r) l : S2048x2048.Idx) := eq_row N_0 (index4 t) rfl rfl

theorem index5 : ∀ t : Fin grid0.N, cc0_transform_5 (grid0.coords t) = ![t.val, 0] := by decide
theorem emb5 : (win0_5.blk t).view.emb (ix2 r l) = (ix2 (row N_0 t r) l : S2048x2048.Idx) := eq_row N_0 (index5 t) rfl rfl

theorem tile : k0_pay1 (iblk m c 1 t) (iblk m c 0 t) (iblk m c 2 t) (ix2 r l) = sum (xK m c) (mixK m c) (gK m c) (ix2 (row N_0 t r) l) := by
  rw [pay1_at]
  refine congrArg₂ (fun u v : EReal => u + v) (blk0 m c t r l) (Eq.trans ?_ (gained_at _ _ _ _).symm)
  rw [unit_at]
  refine congrArg₂ (fun u v : EReal => u * v) (congrArg₂ (fun u v : EReal => u * v) (blk1 m c t r l) ?_) (blk2 m c t l)
  exact congrArg (fun y => Ideal.rsqrt (squareOf y)) (funext fun k => blk1 m c t r k)

theorem sum_eq : (dats m 0 c).arrAt 4 cfg0.N = sum (xK m c) (mixK m c) (gK m c) := by
  refine (dats m 0 c).arrAt_eq_of_covers 4 _ (by decide +kernel) fun t hf y => ?_
  blk_simp
  obtain ⟨r, l, rfl⟩ : ∃ (r : Fin 256) (l : Fin 2048), y = ix2 r l := ⟨y 0, y 1, eq_ix2 y⟩
  rw [emb4, after0_4]
  unfold out0_4
  frame_out
  exact tile m c t r l

theorem norm_eq : (dats m 0 c).arrAt 5 cfg0.N = gained (unit (sum (xK m c) (mixK m c) (gK m c))) (hK m c) := by
  refine (dats m 0 c).arrAt_eq_of_covers 5 _ (by decide +kernel) fun t hf y => ?_
  blk_simp
  obtain ⟨r, l, rfl⟩ : ∃ (r : Fin 256) (l : Fin 2048), y = ix2 r l := ⟨y 0, y 1, eq_ix2 y⟩
  rw [emb5, gained_at, unit_at, after0_5]
  unfold out0_5
  frame_out
  rw [pay2_at]
  refine congrArg₂ (fun u v : EReal => u * v) (congrArg₂ (fun u v : EReal => u * v) (tile m c t r l) ?_) (blk3 m c t l)
  exact congrArg (fun y => Ideal.rsqrt (squareOf y)) (funext fun k => tile m c t r k)

end Kernel

namespace Ref

open Cert.Reference21Ideal Cert.Norms
open Idealize.ShloMosaic Idealize.ShloMosaic.TcCoe

variable (m : (ℓ : Loc nD τ sig) → Buf (Elt Ideal) ℓ) (c : Dev nD)

/-- The arguments. -/
abbrev xR : S2048x2048.Idx → EReal := m ((c.tc : Thread nD τ).loc main_arg0)
abbrev mixR : S2048x2048.Idx → EReal := m ((c.tc : Thread nD τ).loc main_arg1)
abbrev gR : S1x2048.Idx → EReal := m ((c.tc : Thread nD τ).loc main_arg2)
abbrev hR : S1x2048.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v12) = sum (xR m c) (mixR m c) (gR m c)
      ∧ r.2.mem ((c.tc : Thread nD τ).loc main_v25) = gained (unit (sum (xR m c) (mixR m c) (gR m c))) (hR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.Reference21Ideal.Value.run m ρ)

end Ref

end Cert.TwoNorms

end
-- ==== Proof.LastNorm.lean ====
module

public import proofs.«01_k».proof.Proof.Gen.Kernel22Ideal.Value
public import proofs.«01_k».proof.Proof.Gen.Reference22Ideal.Run
public import proofs.«01_k».proof.Proof.NormReference
public import Idealize.ShloMosaic.Lib.Pipeline.ValueKit

@[expose] public section

/-!
# The last norm, the squared errors and their gradient

Grid point `t` takes 256 of the 2048 rows. The first point starts the sums of the squares and of the gain's gradient and the others add to
them: a case each, with the same blocks otherwise.
-/

noncomputable section

namespace Cert.LastNorm

section Terms

open Cert.Reference22Ideal Cert.Reference22Ideal.Gen Cert.RowNorm Cert.Rows Cert.Norms
open Idealize.ShloMosaic

variable (x f y e : FVec Ideal S2048x2048 .f32) (g : FVec Ideal S1x2048 .f32) (r l : Fin 2048)

/-- The errors. -/
def errors : FVec Ideal S2048x2048 .f32 := subf (addf x (gained (unit f) g)) y

/-- The gradient that reaches the sum of the norm and what passes it by. -/
def scaled : FVec Ideal S2048x2048 .f32 :=
  Host.divf e (broadcastInDim S2048x2048 ![] bcast_S_S2048x2048
    (constant S_ .f32 0x45000000#32))

/-- The summed squares. -/
def summed : FVec Ideal S8x128 .f32 :=
  Host.reduceAdd (Host.reduceAdd (shapeCast _ (mulf e e) shapeCasts_S2048x2048_S256x8x16x128) (constant S_ .f32 0x00000000#32) reducesTo_S256x8x16x128_S256x8x128_d2 h_S_)
    (constant S_ .f32 0x00000000#32) reducesTo_S256x8x128_S8x128_d0 h_S_

/-- The squares of a row in the columns that are `l` above a multiple of 128. -/
def squares (b : Fin 2048 → EReal) (l : Fin 128) : EReal :=
  ∑ q : Fin 16, b ⟨q.val * 128 + l.val, by omega⟩ * b ⟨q.val * 128 + l.val, by omega⟩

theorem errors_at : errors x f y g (ix2 r l)
    = x (ix2 r l) + f (ix2 r l) * Ideal.rsqrt (squareOf fun k => f (ix2 r k)) * g (ix2 0 l) - y (ix2 r l) := by
  pointwise [errors, gained_at, unit_at]
theorem scaled_at : scaled e (ix2 r l) = Ideal.div (e (ix2 r l)) (Ideal.ofBits .f32 0x45000000#32) := by pointwise [scaled]
theorem summed_at (s : Fin 8) (l : Fin 128) : summed e (ix2 s l) = ∑ j : Fin 256, squares (fun k => e (ix2 (rowOf8 j s) k)) l := by
  pointwise [summed, squares]
  rfl

end Terms

section Kernel

open Cert.Kernel22Ideal Cert.Kernel22Ideal.Gen Cert.RowNorm Cert.Rows Cert.Norms
open Idealize.ShloMosaic Idealize.ShloMosaic.TcCoe

section Blocks

variable (f x y e z : Vec Ideal S256x2048 .f32) (g : Vec Ideal S1x2048 .f32) (u : Vec Ideal S8x128 .f32) (v w : Vec Ideal S8x2048 .f32)
variable (r : Fin 256) (l : Fin 2048) (s : Fin 8)

theorem pay2_at : k0_pay2 f g x y (ix2 r l)
    = x (ix2 r l) + f (ix2 r l) * Ideal.rsqrt (squareOf fun k => f (ix2 r k)) * g (ix2 0 l) - y (ix2 r l) := by pointwise [k0_pay2, squareOf]
theorem scale_eq : Ideal.ofBits .f32 0x3A000000#32 = ((1 / 2048 : ℝ) : EReal) := by
  simp [Ideal.ofBits, Ideal.ieee, -EReal.coe_mul]; norm_num
theorem pay3_at : k0_pay3 f g x y (ix2 r l) = Ideal.div (k0_pay2 f g x y (ix2 r l)) (Ideal.ofBits .f32 0x45000000#32) := by
  rw [columns_eq, div_columns, ← scale_eq]
  pointwise [k0_pay3]
theorem pay4_at (q : Fin 1) : k0_pay4 f (ix2 r q) = Ideal.rsqrt (squareOf fun k => f (ix2 r k)) := by pointwise [k0_pay4, squareOf]
theorem pay5_at : k0_pay5 f (ix2 r l) = f (ix2 r l) * Ideal.rsqrt (squareOf fun k => f (ix2 r k)) := by pointwise [k0_pay5, pay4_at]
theorem pay8_at : k0_pay8 (k0_pay4 f) (k0_pay5 f) (k0_pay6 f g x y) (k0_pay7 f g x y) (ix2 r l)
    = rowOf (fun k => f (ix2 r k)) (fun k => k0_pay3 f g x y (ix2 r k) * g (ix2 0 k)) l := by
  pointwise [k0_pay8, k0_pay7, k0_pay6, pay4_at, pay5_at, rowOf]
theorem pay11_at : k0_pay11 e (k0_pay5 f) (ix2 s l) = ∑ j : Fin 32,
    e (ix2 (rowOf8 j s) l) * (f (ix2 (rowOf8 j s) l) * Ideal.rsqrt (squareOf fun k => f (ix2 (rowOf8 j s) k))) := by
  pointwise [k0_pay11, pay5_at]
  rfl
theorem pay1_at : k0_pay1 w v (ix2 s l) = v (ix2 s l) + w (ix2 s l) := by pointwise [k0_pay1]

theorem sum16 (b : Fin 16 → EReal) : ∑ q : Fin 16, b q
    = b 0 + b 1 + b 2 + b 3 + b 4 + b 5 + b 6 + b 7 + b 8 + b 9 + b 10 + b 11 + b 12 + b 13 + b 14 + b 15 := by
  simp only [Fin.sum_univ_castSucc, Fin.sum_univ_zero, zero_add]
  rfl

theorem pay10_at (l : Fin 128) : k0_pay10 (F := Ideal) e u (ix2 s l) = u (ix2 s l) + k0_pay9 (F := Ideal) e (ix2 s l) := by pointwise [k0_pay10]
theorem pay9_at (l : Fin 128) : k0_pay9 (F := Ideal) e (ix2 s l) = ∑ j : Fin 32, squares (fun k => e (ix2 (rowOf8 j s) k)) l := by
  pointwise [k0_pay9, squares]
  refine Fin.sum_fin_congr fun j => ?_
  have h0 : (⟨l.val, by omega⟩ : Fin 2048) = ⟨(0 : Fin 16).val * 128 + l.val, by omega⟩ := Fin.ext (by simp)
  rw [sum16, h0]
  rfl

end Blocks

variable (m : (ℓ : Loc nD τ sig) → Buf (Elt Ideal) ℓ) (c : Dev nD) (t : Fin cfg0.N) (r : Fin 256) (l : Fin 2048)

/-- The arguments. -/
abbrev xK : S2048x2048.Idx → EReal := m ((c.tc : Thread nD τ).loc main_arg0)
abbrev fK : S2048x2048.Idx → EReal := m ((c.tc : Thread nD τ).loc main_arg1)
abbrev gK : S1x2048.Idx → EReal := m ((c.tc : Thread nD τ).loc main_arg2)
abbrev yK : S2048x2048.Idx → EReal := m ((c.tc : Thread nD τ).loc main_arg3)

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![0, 0] := by decide
theorem index3 : ∀ t : Fin grid0.N, cc0_transform_3 (grid0.coords t) = ![t.val, 0] := by decide

theorem blk0 : iblk m c 0 t (ix2 r l) = xK m c (ix2 (row N_0 t r) l) :=
  (congrFun (V_main_arg0 m c) _).trans (congrArg (xK m c) (eq_row N_0 (index0 t) rfl rfl))
theorem blk1 : iblk m c 1 t (ix2 r l) = fK m c (ix2 (row N_0 t r) l) :=
  (congrFun (V_main_arg1 m c) _).trans (congrArg (fK m c) (eq_row N_0 (index1 t) rfl rfl))
theorem blk2 : iblk m c 2 t (ix2 0 l) = gK m c (ix2 0 l) :=
  (congrFun (V_main_arg2 m c) _).trans (congrArg (gK m c) (eq_whole (index2 t) rfl rfl))
theorem blk3 : iblk m c 3 t (ix2 r l) = yK m c (ix2 (row N_0 t r) l) :=
  (congrFun (V_main_arg3 m c) _).trans (congrArg (yK m c) (eq_row N_0 (index3 t) rfl rfl))

theorem index4 : ∀ t : Fin grid0.N, cc0_transform_4 (grid0.coords t) = ![t.val, 0] := by decide
theorem emb4 : (win0_4.blk t).view.emb (ix2 r l) = (ix2 (row N_0 t r) l : S2048x2048.Idx) := eq_row N_0 (index4 t) rfl rfl

theorem index5 : ∀ t : Fin grid0.N, cc0_transform_5 (grid0.coords t) = ![t.val, 0] := by decide
theorem emb5 : (win0_5.blk t).view.emb (ix2 r l) = (ix2 (row N_0 t r) l : S2048x2048.Idx) := eq_row N_0 (index5 t) rfl rfl

theorem index6 : ∀ t : Fin grid0.N, cc0_transform_6 (grid0.coords t) = ![0, 0] := by decide
theorem emb6 (s : Fin 8) (l : Fin 128) : (win0_6.blk t).view.emb (ix2 s l) = (ix2 s l : S8x128.Idx) := eq_whole (index6 t) rfl rfl

theorem index7 : ∀ t : Fin grid0.N, cc0_transform_7 (grid0.coords t) = ![0, 0] := by decide
theorem emb7 (s : Fin 8) (l : Fin 2048) : (win0_7.blk t).view.emb (ix2 s l) = (ix2 s l : S8x2048.Idx) := eq_whole (index7 t) rfl rfl

/-- The blocks of rows that a point writes out, in either case. -/
theorem out_eq : (outsAt0 m c t.val t.isLt).1 (ix2 r l) = k0_pay3 (iblk m c 1 t) (iblk m c 2 t) (iblk m c 0 t) (iblk m c 3 t) (ix2 r l)
    ∧ (outsAt0 m c t.val t.isLt).2.1 (ix2 r l)
      = k0_pay8 (k0_pay4 (iblk m c 1 t)) (k0_pay5 (iblk m c 1 t)) (k0_pay6 (iblk m c 1 t) (iblk m c 2 t) (iblk m c 0 t) (iblk m c 3 t)) (k0_pay7 (iblk m c 1 t) (iblk m c 2 t) (iblk m c 0 t) (iblk m c 3 t)) (ix2 r l) := by
  have hN : t.val < 8 := lt_of_lt_of_eq t.isLt N_0
  by_cases h : t.val = 0
  · rw [outsAt0_A m c t (by omega) (by omega) (by omega) (by omega)]
    constructor <;> frame_out
  · rw [outsAt0_B m c t (by omega) (by omega) (by omega) (by omega)]
    constructor <;> frame_out

/-- The point's block of the errors. -/
theorem errors_tile : k0_pay2 (iblk m c 1 t) (iblk m c 2 t) (iblk m c 0 t) (iblk m c 3 t) (ix2 r l) = errors (xK m c) (fK m c) (yK m c) (gK m c) (ix2 (row N_0 t r) l) := by
  rw [pay2_at, errors_at]
  refine congrArg₂ (fun u v : EReal => u - v) (congrArg₂ (fun u v : EReal => u + v) (blk0 m c t r l) (congrArg₂ (fun u v : EReal => u * v)
    (congrArg₂ (fun u v : EReal => u * v) (blk1 m c t r l) ?_) (blk2 m c t l))) (blk3 m c t r l)
  exact congrArg (fun y => Ideal.rsqrt (squareOf y)) (funext fun k => blk1 m c t r k)

/-- The point's block of their gradient. -/
theorem scaled_tile (r : Fin 256) (l : Fin 2048) : k0_pay3 (iblk m c 1 t) (iblk m c 2 t) (iblk m c 0 t) (iblk m c 3 t) (ix2 r l) = scaled (errors (xK m c) (fK m c) (yK m c) (gK m c)) (ix2 (row N_0 t r) l) := by
  rw [pay3_at, errors_tile, scaled_at]

theorem first_eq : (dats m 0 c).arrAt 4 cfg0.N = scaled (errors (xK m c) (fK m c) (yK m c) (gK m c)) := by
  refine (dats m 0 c).arrAt_eq_of_covers 4 _ (by decide +kernel) fun t hf y => ?_
  blk_simp
  obtain ⟨r, l, rfl⟩ : ∃ (r : Fin 256) (l : Fin 2048), y = ix2 r l := ⟨y 0, y 1, eq_ix2 y⟩
  rw [emb4, after0_4, (out_eq m c t r l).1, scaled_tile]

theorem second_eq : (dats m 0 c).arrAt 5 cfg0.N = back (fK m c) (gained (scaled (errors (xK m c) (fK m c) (yK m c) (gK m c))) (gK m c)) := by
  refine (dats m 0 c).arrAt_eq_of_covers 5 _ (by decide +kernel) fun t hf y => ?_
  blk_simp
  obtain ⟨r, l, rfl⟩ : ∃ (r : Fin 256) (l : Fin 2048), y = ix2 r l := ⟨y 0, y 1, eq_ix2 y⟩
  rw [emb5, after0_5, (out_eq m c t r l).2, pay8_at]
  exact rowOf_back (D := fun i => (fun u v : EReal => u * v) (k0_pay3 (iblk m c 1 t) (iblk m c 2 t) (iblk m c 0 t) (iblk m c 3 t) i) (iblk m c 2 t (ix2 0 (i 1)))) (blk1 m c t)
    (fun r k => (congrArg₂ (fun u v : EReal => u * v) (scaled_tile m c t r k) (blk2 m c t k)).trans (gained_at _ _ _ _).symm) r l

theorem tile6 (s : Fin 8) (l : Fin 128) : k0_pay9 (F := Ideal) (k0_pay2 (iblk m c 1 t) (iblk m c 2 t) (iblk m c 0 t) (iblk m c 3 t)) (ix2 s l)
    = part (fun q => squares (fun k => errors (xK m c) (fK m c) (yK m c) (gK m c) (ix2 q k)) l) s ⟨t.val % 8, Nat.mod_lt _ (by decide)⟩ := by
  rw [pay9_at]
  exact tile_eq N_0 t s (b := fun r => squares (fun k => k0_pay2 (iblk m c 1 t) (iblk m c 2 t) (iblk m c 0 t) (iblk m c 3 t) (ix2 r k)) l)
    fun r => congrArg (fun b => squares b l) (funext fun k => errors_tile m c t r k)

theorem tile7 (s : Fin 8) : k0_pay11 (k0_pay3 (iblk m c 1 t) (iblk m c 2 t) (iblk m c 0 t) (iblk m c 3 t)) (k0_pay5 (iblk m c 1 t)) (ix2 s l)
    = part (entry (fK m c) (scaled (errors (xK m c) (fK m c) (yK m c) (gK m c))) l) s ⟨t.val % 8, Nat.mod_lt _ (by decide)⟩ := by
  rw [pay11_at]
  exact tile_eq N_0 t s (entry_row (blk1 m c t) (scaled_tile m c t) l)

/-- What window 6 holds after point `n`. -/
abbrev acc6 (s : Fin 8) (l : Fin 128) (n : ℕ) (h : n < cfg0.N) : EReal := (outsAt0 m c n h).2.2.1 (ix2 s l)

theorem first6 (s : Fin 8) (l : Fin 128) (h : t.val % 8 = 0) :
    acc6 m c s l t.val t.isLt = part (fun q => squares (fun k => errors (xK m c) (fK m c) (yK m c) (gK m c) (ix2 q k)) l) s ⟨t.val % 8, Nat.mod_lt _ (by decide)⟩ := by
  unfold acc6
  rw [outsAt0_A m c t h (by have := lt_of_lt_of_eq t.isLt N_0; omega) h (by have := lt_of_lt_of_eq t.isLt N_0; omega)]
  frame_out
  rw [tile6]

theorem next6 (s : Fin 8) (l : Fin 128) (h : ¬t.val % 8 = 0) : acc6 m c s l t.val t.isLt
    = acc6 m c s l (t.val - 1) (Nat.lt_of_le_of_lt (Nat.sub_le _ _) t.isLt) + part (fun q => squares (fun k => errors (xK m c) (fK m c) (yK m c) (gK m c) (ix2 q k)) l) s ⟨t.val % 8, Nat.mod_lt _ (by decide)⟩ := by
  unfold acc6
  rw [outsAt0_B m c t h (by omega) h (by omega)]
  frame_out
  rw [pay10_at, tile6]

theorem squares_eq : (dats m 0 c).arrAt 6 cfg0.N = summed (errors (xK m c) (fK m c) (yK m c) (gK m c)) := by
  refine (dats m 0 c).arrAt_eq_of_covers 6 _ (by decide +kernel) fun t hf y => ?_
  blk_simp
  obtain ⟨s, l, rfl⟩ : ∃ (s : Fin 8) (l : Fin 128), y = ix2 s l := ⟨y 0, y 1, eq_ix2 y⟩
  rw [emb6, summed_at, after0_6]
  exact run_eq t _ s (acc6 m c s l) (fun t h => first6 m c t s l h) (fun t h => next6 m c t s l h) ((flush0_6 t).mp hf)

/-- What window 7 holds after point `n`. -/
abbrev acc7 (s : Fin 8) (l : Fin 2048) (n : ℕ) (h : n < cfg0.N) : EReal := (outsAt0 m c n h).2.2.2 (ix2 s l)

theorem first7 (s : Fin 8) (l : Fin 2048) (h : t.val % 8 = 0) :
    acc7 m c s l t.val t.isLt = part (entry (fK m c) (scaled (errors (xK m c) (fK m c) (yK m c) (gK m c))) l) s ⟨t.val % 8, Nat.mod_lt _ (by decide)⟩ := by
  unfold acc7
  rw [outsAt0_A m c t h (by have := lt_of_lt_of_eq t.isLt N_0; omega) h (by have := lt_of_lt_of_eq t.isLt N_0; omega)]
  frame_out
  rw [tile7]

theorem next7 (s : Fin 8) (l : Fin 2048) (h : ¬t.val % 8 = 0) : acc7 m c s l t.val t.isLt
    = acc7 m c s l (t.val - 1) (Nat.lt_of_le_of_lt (Nat.sub_le _ _) t.isLt) + part (entry (fK m c) (scaled (errors (xK m c) (fK m c) (yK m c) (gK m c))) l) s ⟨t.val % 8, Nat.mod_lt _ (by decide)⟩ := by
  unfold acc7
  rw [outsAt0_B m c t h (by omega) h (by omega)]
  frame_out
  rw [pay1_at, tile7]

theorem gain_eq : (dats m 0 c).arrAt 7 cfg0.N = gain (fK m c) (scaled (errors (xK m c) (fK m c) (yK m c) (gK m c))) := by
  refine (dats m 0 c).arrAt_eq_of_covers 7 _ (by decide +kernel) fun t hf y => ?_
  blk_simp
  obtain ⟨s, l, rfl⟩ : ∃ (s : Fin 8) (l : Fin 2048), y = ix2 s l := ⟨y 0, y 1, eq_ix2 y⟩
  rw [emb7, gain_at, after0_7]
  exact run_eq t _ s (acc7 m c s l) (fun t h => first7 m c t s l h) (fun t h => next7 m c t s l h) ((flush0_7 t).mp hf)

end Kernel

namespace Ref

open Cert.Reference22Ideal Cert.Norms
open Idealize.ShloMosaic Idealize.ShloMosaic.TcCoe

variable (m : (ℓ : Loc nD τ sig) → Buf (Elt Ideal) ℓ) (c : Dev nD)

/-- The arguments. -/
abbrev xR : S2048x2048.Idx → EReal := m ((c.tc : Thread nD τ).loc main_arg0)
abbrev fR : S2048x2048.Idx → EReal := m ((c.tc : Thread nD τ).loc main_arg1)
abbrev gR : S1x2048.Idx → EReal := m ((c.tc : Thread nD τ).loc main_arg2)
abbrev yR : S2048x2048.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v15) = scaled (errors (xR m c) (fR m c) (yR m c) (gR m c))
      ∧ r.2.mem ((c.tc : Thread nD τ).loc main_v51) = back (fR m c) (gained (scaled (errors (xR m c) (fR m c) (yR m c) (gR m c))) (gR m c))
      ∧ r.2.mem ((c.tc : Thread nD τ).loc main_v50) = summed (errors (xR m c) (fR m c) (yR m c) (gR m c))
      ∧ r.2.mem ((c.tc : Thread nD τ).loc main_v53) = gain (fR m c) (scaled (errors (xR m c) (fR m c) (yR m c) (gR m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl, (h c).2.2.2.2⟩) (Cert.Reference22Ideal.Value.run m ρ)

end Ref

end Cert.LastNorm

end
-- ==== Proof.TwoNormsBack.lean ====
module

public import proofs.«01_k».proof.Proof.Gen.Kernel23Ideal.Value
public import proofs.«01_k».proof.Proof.Gen.Reference23Ideal.Run
public import proofs.«01_k».proof.Proof.NormReference
public import Idealize.ShloMosaic.Lib.Pipeline.ValueKit

@[expose] public section

/-!
# The gradient through two norms

Grid point `t` takes 256 of the 2048 rows. The first gradient is that of a norm and of what passes it by; the second takes it through the
norm before. The first point starts the sums of the gains' gradients and the others add to them: a case each, with the same blocks otherwise.
-/

noncomputable section

namespace Cert.TwoNormsBack

section Kernel

open Cert.Kernel23Ideal Cert.Kernel23Ideal.Gen Cert.RowNorm Cert.Rows Cert.Norms
open Idealize.ShloMosaic Idealize.ShloMosaic.TcCoe

section Blocks

variable (x f d : Vec Ideal S256x2048 .f32) (g : Vec Ideal S1x2048 .f32) (dh : Vec Ideal S256x2048 .bf16) (dx : Vec Ideal S256x2048 .f32)
variable (z : Vec Ideal S256x1 .f32) (u v : Vec Ideal S8x2048 .f32) (r : Fin 256) (l : Fin 2048) (s : Fin 8)

theorem pay8_at : k0_pay8 dh (ix2 r l) = dh (ix2 r l) := by pointwise [k0_pay8]
theorem pay9_at (w : Fin 1) : k0_pay9 x (ix2 r w) = Ideal.rsqrt (squareOf fun k => x (ix2 r k)) := by pointwise [k0_pay9, squareOf]
theorem pay10_at : k0_pay10 x (ix2 r l) = x (ix2 r l) * Ideal.rsqrt (squareOf fun k => x (ix2 r k)) := by pointwise [k0_pay10, pay9_at]
theorem pay12_at : k0_pay12 x g dh dx (ix2 r l)
    = dx (ix2 r l) + rowOf (fun k => x (ix2 r k)) (fun k => dh (ix2 r k) * g (ix2 0 k)) l := by
  pointwise [k0_pay12, pay8_at, pay9_at, pay10_at, rowOf]

theorem mean_at (w : Fin 1) : k0_pay1 (k0_pay13 f) (ix2 r w) = Ideal.rsqrt (squareOf fun k => f (ix2 r k)) := by
  pointwise [k0_pay1, k0_pay13, squareOf]
theorem pay2_at : k0_pay2 f (k0_pay13 f) (ix2 r l) = f (ix2 r l) * Ideal.rsqrt (squareOf fun k => f (ix2 r k)) := by pointwise [k0_pay2, mean_at]
theorem pay3_at : k0_pay3 d f g (k0_pay13 f) (ix2 r l) = rowOf (fun k => f (ix2 r k)) (fun k => d (ix2 r k) * g (ix2 0 k)) l := by
  pointwise [k0_pay3, pay2_at, mean_at, rowOf]

theorem pay5_at : k0_pay5 (k0_pay11 x dh) v (ix2 s l) = v (ix2 s l) + k0_pay4 (k0_pay11 x dh) (ix2 s l) := by pointwise [k0_pay5]
theorem pay4_at : k0_pay4 (k0_pay11 x dh) (ix2 s l) = ∑ j : Fin 32,
    dh (ix2 (rowOf8 j s) l) * (x (ix2 (rowOf8 j s) l) * Ideal.rsqrt (squareOf fun k => x (ix2 (rowOf8 j s) k))) := by
  pointwise [k0_pay4, k0_pay11, pay8_at, pay10_at]
  rfl
theorem pay7_at : k0_pay7 d f (k0_pay13 f) v (ix2 s l) = v (ix2 s l) + k0_pay6 d f (k0_pay13 f) (ix2 s l) := by pointwise [k0_pay7]
theorem pay6_at : k0_pay6 d f (k0_pay13 f) (ix2 s l) = ∑ j : Fin 32,
    d (ix2 (rowOf8 j s) l) * (f (ix2 (rowOf8 j s) l) * Ideal.rsqrt (squareOf fun k => f (ix2 (rowOf8 j s) k))) := by
  pointwise [k0_pay6, pay2_at]
  rfl

end Blocks

/-- The first gradient, the reference's. -/
abbrev gradient (dx x : (⟨2, ![2048, 2048]⟩ : Shape).Idx → EReal) (g : (⟨2, ![1, 2048]⟩ : Shape).Idx → EReal)
    (dh : (⟨2, ![2048, 2048]⟩ : Shape).Idx → EReal) : FVec Ideal Cert.Reference19Ideal.S2048x2048 .f32 :=
  addf (F := Ideal) (φ := .f32) dx (back x (gained dh g))

variable (m : (ℓ : Loc nD τ sig) → Buf (Elt Ideal) ℓ) (c : Dev nD) (t : Fin cfg0.N) (r : Fin 256) (l : Fin 2048)

/-- The arguments. -/
abbrev dxK : S2048x2048.Idx → EReal := m ((c.tc : Thread nD τ).loc main_arg0)
abbrev xK : S2048x2048.Idx → EReal := m ((c.tc : Thread nD τ).loc main_arg1)
abbrev gK : S1x2048.Idx → EReal := m ((c.tc : Thread nD τ).loc main_arg2)
abbrev dhK : S2048x2048.Idx → EReal := m ((c.tc : Thread nD τ).loc main_arg3)
abbrev fK : S2048x2048.Idx → EReal := m ((c.tc : Thread nD τ).loc main_arg4)
abbrev postK : S1x2048.Idx → EReal := m ((c.tc : Thread nD τ).loc main_arg5)

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![0, 0] := by decide
theorem index3 : ∀ t : Fin grid0.N, cc0_transform_3 (grid0.coords t) = ![t.val, 0] := by decide
theorem index4 : ∀ t : Fin grid0.N, cc0_transform_4 (grid0.coords t) = ![t.val, 0] := by decide
theorem index5 : ∀ t : Fin grid0.N, cc0_transform_5 (grid0.coords t) = ![0, 0] := by decide

theorem blk0 : iblk m c 0 t (ix2 r l) = dxK m c (ix2 (row N_0 t r) l) :=
  (congrFun (V_main_arg0 m c) _).trans (congrArg (dxK m c) (eq_row N_0 (index0 t) rfl rfl))
theorem blk1 : iblk m c 1 t (ix2 r l) = xK m c (ix2 (row N_0 t r) l) :=
  (congrFun (V_main_arg1 m c) _).trans (congrArg (xK m c) (eq_row N_0 (index1 t) rfl rfl))
theorem blk2 : iblk m c 2 t (ix2 0 l) = gK m c (ix2 0 l) :=
  (congrFun (V_main_arg2 m c) _).trans (congrArg (gK m c) (eq_whole (index2 t) rfl rfl))
theorem blk3 : iblk m c 3 t (ix2 r l) = dhK m c (ix2 (row N_0 t r) l) :=
  (congrFun (V_main_arg3 m c) _).trans (congrArg (dhK m c) (eq_row N_0 (index3 t) rfl rfl))
theorem blk4 : iblk m c 4 t (ix2 r l) = fK m c (ix2 (row N_0 t r) l) :=
  (congrFun (V_main_arg4 m c) _).trans (congrArg (fK m c) (eq_row N_0 (index4 t) rfl rfl))
theorem blk5 : iblk m c 5 t (ix2 0 l) = postK m c (ix2 0 l) :=
  (congrFun (V_main_arg5 m c) _).trans (congrArg (postK m c) (eq_whole (index5 t) rfl rfl))

theorem index6 : ∀ t : Fin grid0.N, cc0_transform_6 (grid0.coords t) = ![t.val, 0] := by decide
theorem emb6 : (win0_6.blk t).view.emb (ix2 r l) = (ix2 (row N_0 t r) l : S2048x2048.Idx) := eq_row N_0 (index6 t) rfl rfl

theorem index7 : ∀ t : Fin grid0.N, cc0_transform_7 (grid0.coords t) = ![t.val, 0] := by decide
theorem emb7 : (win0_7.blk t).view.emb (ix2 r l) = (ix2 (row N_0 t r) l : S2048x2048.Idx) := eq_row N_0 (index7 t) rfl rfl

theorem index8 : ∀ t : Fin grid0.N, cc0_transform_8 (grid0.coords t) = ![0, 0] := by decide
theorem emb8 (s : Fin 8) (l : Fin 2048) : (win0_8.blk t).view.emb (ix2 s l) = (ix2 s l : S8x2048.Idx) := eq_whole (index8 t) rfl rfl

theorem index9 : ∀ t : Fin grid0.N, cc0_transform_9 (grid0.coords t) = ![0, 0] := by decide
theorem emb9 (s : Fin 8) (l : Fin 2048) : (win0_9.blk t).view.emb (ix2 s l) = (ix2 s l : S8x2048.Idx) := eq_whole (index9 t) rfl rfl

/-- The blocks that a point writes out, in either case. -/
theorem out_eq : (outsAt0 m c t.val t.isLt).1 (ix2 r l) = k0_pay12 (iblk m c 1 t) (iblk m c 2 t) (iblk m c 3 t) (iblk m c 0 t) (ix2 r l)
    ∧ (outsAt0 m c t.val t.isLt).2.1 (ix2 r l)
      = k0_pay3 (k0_pay12 (iblk m c 1 t) (iblk m c 2 t) (iblk m c 3 t) (iblk m c 0 t)) (iblk m c 4 t) (iblk m c 5 t) (k0_pay13 (iblk m c 4 t)) (ix2 r l) := by
  have hN : t.val < 8 := lt_of_lt_of_eq t.isLt N_0
  by_cases h : t.val = 0
  · rw [outsAt0_A m c t (by omega) (by omega) (by omega) (by omega)]
    constructor <;> frame_out
  · rw [outsAt0_B m c t (by omega) (by omega) (by omega) (by omega)]
    constructor <;> frame_out

/-- The point's block of the first gradient. -/
theorem first_at (r : Fin 256) (l : Fin 2048) : k0_pay12 (iblk m c 1 t) (iblk m c 2 t) (iblk m c 3 t) (iblk m c 0 t) (ix2 r l)
    = gradient (dxK m c) (xK m c) (gK m c) (dhK m c) (ix2 (row N_0 t r) l) := by
  rw [pay12_at, blk0]
  refine congrArg (dxK m c (ix2 (row N_0 t r) l) + ·) ?_
  exact rowOf_back (D := fun i => (fun u v : EReal => u * v) (iblk m c 3 t i) (iblk m c 2 t (ix2 0 (i 1)))) (blk1 m c t)
    (fun r k => (congrArg₂ (fun u v : EReal => u * v) (blk3 m c t r k) (blk2 m c t k)).trans (gained_at _ _ _ _).symm) r l

/-- The first gradient is the reference's. -/
theorem first_eq : (dats m 0 c).arrAt 6 cfg0.N = gradient (dxK m c) (xK m c) (gK m c) (dhK m c) := by
  refine (dats m 0 c).arrAt_eq_of_covers 6 _ (by decide +kernel) fun t hf y => ?_
  blk_simp
  obtain ⟨r, l, rfl⟩ : ∃ (r : Fin 256) (l : Fin 2048), y = ix2 r l := ⟨y 0, y 1, eq_ix2 y⟩
  rw [emb6, after0_6, (out_eq m c t r l).1, first_at]

/-- The second gradient is the reference's. -/
theorem second_eq : (dats m 0 c).arrAt 7 cfg0.N = back (fK m c) (gained (gradient (dxK m c) (xK m c) (gK m c) (dhK m c)) (postK m c)) := by
  refine (dats m 0 c).arrAt_eq_of_covers 7 _ (by decide +kernel) fun t hf y => ?_
  blk_simp
  obtain ⟨r, l, rfl⟩ : ∃ (r : Fin 256) (l : Fin 2048), y = ix2 r l := ⟨y 0, y 1, eq_ix2 y⟩
  rw [emb7, after0_7, (out_eq m c t r l).2, pay3_at]
  exact rowOf_back (D := fun i => (fun u v : EReal => u * v) (k0_pay12 (iblk m c 1 t) (iblk m c 2 t) (iblk m c 3 t) (iblk m c 0 t) i) (iblk m c 5 t (ix2 0 (i 1)))) (blk4 m c t)
    (fun r k => (congrArg₂ (fun u v : EReal => u * v) (first_at m c t r k) (blk5 m c t k)).trans (gained_at _ _ _ _).symm) r l

theorem tile8 (s : Fin 8) : k0_pay4 (k0_pay11 (iblk m c 1 t) (iblk m c 3 t)) (ix2 s l)
    = part (entry (xK m c) (dhK m c) l) s ⟨t.val % 8, Nat.mod_lt _ (by decide)⟩ := by
  rw [pay4_at]
  exact tile_eq N_0 t s (entry_row (blk1 m c t) (blk3 m c t) l)

theorem tile9 (s : Fin 8) : k0_pay6 (k0_pay12 (iblk m c 1 t) (iblk m c 2 t) (iblk m c 3 t) (iblk m c 0 t)) (iblk m c 4 t) (k0_pay13 (iblk m c 4 t)) (ix2 s l)
    = part (entry (fK m c) (gradient (dxK m c) (xK m c) (gK m c) (dhK m c)) l) s ⟨t.val % 8, Nat.mod_lt _ (by decide)⟩ := by
  rw [pay6_at]
  exact tile_eq N_0 t s (entry_row (blk4 m c t) (first_at m c t) l)

/-- What window 8 holds after point `n`. -/
abbrev acc8 (s : Fin 8) (l : Fin 2048) (n : ℕ) (h : n < cfg0.N) : EReal := (outsAt0 m c n h).2.2.1 (ix2 s l)

theorem first8 (s : Fin 8) (l : Fin 2048) (h : t.val % 8 = 0) :
    acc8 m c s l t.val t.isLt = part (entry (xK m c) (dhK m c) l) s ⟨t.val % 8, Nat.mod_lt _ (by decide)⟩ := by
  unfold acc8
  rw [outsAt0_A m c t h (by have := lt_of_lt_of_eq t.isLt N_0; omega) h (by have := lt_of_lt_of_eq t.isLt N_0; omega)]
  frame_out
  rw [tile8]

theorem next8 (s : Fin 8) (l : Fin 2048) (h : ¬t.val % 8 = 0) : acc8 m c s l t.val t.isLt
    = acc8 m c s l (t.val - 1) (Nat.lt_of_le_of_lt (Nat.sub_le _ _) t.isLt) + part (entry (xK m c) (dhK m c) l) s ⟨t.val % 8, Nat.mod_lt _ (by decide)⟩ := by
  unfold acc8
  rw [outsAt0_B m c t h (by omega) h (by omega)]
  frame_out
  rw [pay5_at, tile8]

theorem gain8 : (dats m 0 c).arrAt 8 cfg0.N = gain (xK m c) (dhK m c) := by
  refine (dats m 0 c).arrAt_eq_of_covers 8 _ (by decide +kernel) fun t hf y => ?_
  blk_simp
  obtain ⟨s, l, rfl⟩ : ∃ (s : Fin 8) (l : Fin 2048), y = ix2 s l := ⟨y 0, y 1, eq_ix2 y⟩
  rw [emb8, gain_at, after0_8]
  exact run_eq t _ s (acc8 m c s l) (fun t h => first8 m c t s l h) (fun t h => next8 m c t s l h) ((flush0_8 t).mp hf)

/-- What window 9 holds after point `n`. -/
abbrev acc9 (s : Fin 8) (l : Fin 2048) (n : ℕ) (h : n < cfg0.N) : EReal := (outsAt0 m c n h).2.2.2 (ix2 s l)

theorem first9 (s : Fin 8) (l : Fin 2048) (h : t.val % 8 = 0) :
    acc9 m c s l t.val t.isLt = part (entry (fK m c) (gradient (dxK m c) (xK m c) (gK m c) (dhK m c)) l) s ⟨t.val % 8, Nat.mod_lt _ (by decide)⟩ := by
  unfold acc9
  rw [outsAt0_A m c t h (by have := lt_of_lt_of_eq t.isLt N_0; omega) h (by have := lt_of_lt_of_eq t.isLt N_0; omega)]
  frame_out
  rw [tile9]

theorem next9 (s : Fin 8) (l : Fin 2048) (h : ¬t.val % 8 = 0) : acc9 m c s l t.val t.isLt
    = acc9 m c s l (t.val - 1) (Nat.lt_of_le_of_lt (Nat.sub_le _ _) t.isLt) + part (entry (fK m c) (gradient (dxK m c) (xK m c) (gK m c) (dhK m c)) l) s ⟨t.val % 8, Nat.mod_lt _ (by decide)⟩ := by
  unfold acc9
  rw [outsAt0_B m c t h (by omega) h (by omega)]
  frame_out
  rw [pay7_at, tile9]

theorem gain9 : (dats m 0 c).arrAt 9 cfg0.N = gain (fK m c) (gradient (dxK m c) (xK m c) (gK m c) (dhK m c)) := by
  refine (dats m 0 c).arrAt_eq_of_covers 9 _ (by decide +kernel) fun t hf y => ?_
  blk_simp
  obtain ⟨s, l, rfl⟩ : ∃ (s : Fin 8) (l : Fin 2048), y = ix2 s l := ⟨y 0, y 1, eq_ix2 y⟩
  rw [emb9, gain_at, after0_9]
  exact run_eq t _ s (acc9 m c s l) (fun t h => first9 m c t s l h) (fun t h => next9 m c t s l h) ((flush0_9 t).mp hf)

end Kernel

namespace Ref

open Cert.Reference23Ideal Cert.Norms
open Idealize.ShloMosaic Idealize.ShloMosaic.TcCoe

variable (m : (ℓ : Loc nD τ sig) → Buf (Elt Ideal) ℓ) (c : Dev nD)

/-- The arguments. -/
abbrev dxR : S2048x2048.Idx → EReal := m ((c.tc : Thread nD τ).loc main_arg0)
abbrev xR : S2048x2048.Idx → EReal := m ((c.tc : Thread nD τ).loc main_arg1)
abbrev gR : S1x2048.Idx → EReal := m ((c.tc : Thread nD τ).loc main_arg2)
abbrev dhR : S2048x2048.Idx → EReal := m ((c.tc : Thread nD τ).loc main_arg3)
abbrev fR : S2048x2048.Idx → EReal := m ((c.tc : Thread nD τ).loc main_arg4)
abbrev postR : S1x2048.Idx → EReal := m ((c.tc : Thread nD τ).loc main_arg5)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v32) = gradient (dxR m c) (xR m c) (gR m c) (dhR m c)
      ∧ r.2.mem ((c.tc : Thread nD τ).loc main_v64) = back (fR m c) (gained (gradient (dxR m c) (xR m c) (gR m c) (dhR m c)) (postR m c))
      ∧ r.2.mem ((c.tc : Thread nD τ).loc main_v66) = gain (xR m c) (dhR m c)
      ∧ r.2.mem ((c.tc : Thread nD τ).loc main_v68) = gain (fR m c) (gradient (dxR m c) (xR m c) (gR m c) (dhR m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2⟩) (Cert.Reference23Ideal.Value.run m ρ)

end Ref

end Cert.TwoNormsBack

end
-- ==== Proof.UpdateSmallReference.lean ====
module

public import proofs.«01_k».proof.Proof.Gen.Reference17Ideal.Run
public import proofs.«01_k».proof.Proof.Adam

@[expose] public section

/-! # The optimiser's step on the small weights in one table, element by element -/

noncomputable section

namespace Cert.UpdateSmall.Ref

open Cert.Reference17Ideal Cert.Reference17Ideal.Gen Cert.Reference17Ideal.Value
open Idealize.ShloMosaic Idealize.ShloMosaic.TcCoe

section Terms

variable (c : FVec Ideal S4x296x128 .f32) (w m v g : FVec Ideal S296x128 .f32) (r : Fin 296) (n : Fin 128)

/-- The gradient. -/
def grad : FVec Ideal S296x128 .f32 :=
  Host.reduceAdd c (constant S_ .f32 0x00000000#32) reducesTo_S4x296x128_S296x128_d0 h_S_

/-- The first moment after the step. -/
def newFirst (m g : FVec Ideal S296x128 .f32) : FVec Ideal S296x128 .f32 :=
  addf (mulf (broadcastInDim S296x128 ![] bcast_S_S296x128 (constant S_ .f32 0x3F666666#32)) m)
    (mulf (broadcastInDim S296x128 ![] bcast_S_S296x128 (constant S_ .f32 0x3DCCCCCD#32)) g)

/-- The second moment after the step. -/
def newSecond (v g : FVec Ideal S296x128 .f32) : FVec Ideal S296x128 .f32 :=
  addf (mulf (broadcastInDim S296x128 ![] bcast_S_S296x128 (constant S_ .f32 0x3F7FBE77#32)) v)
    (mulf (broadcastInDim S296x128 ![] bcast_S_S296x128 (constant S_ .f32 0x3A83126F#32)) (mulf g g))

/-- The change of the weight. -/
def delta (w m v g : FVec Ideal S296x128 .f32) : FVec Ideal S296x128 .f32 :=
  mulf (broadcastInDim S296x128 ![] bcast_S_S296x128 (constant S_ .f32 0xBA83126F#32))
    (addf (Host.divf (Host.divf (newFirst m g) (broadcastInDim S296x128 ![] bcast_S_S296x128 (constant S_ .f32 0x3F26BD02#32)))
        (addf (Host.sqrt (Host.divf (newSecond v g) (broadcastInDim S296x128 ![] bcast_S_S296x128 (constant S_ .f32 0x3C231ACC#32))))
          (broadcastInDim S296x128 ![] bcast_S_S296x128 (constant S_ .f32 0x322BCC77#32))))
      (mulf (broadcastInDim S296x128 ![] bcast_S_S296x128 (constant S_ .f32 0x3C23D70A#32)) w))

theorem grad_at : grad c (ix2 r n) = Adam.total fun s => c (ix3 s r n) := by pointwise [grad, Adam.total]
theorem newFirst_at : newFirst m g (ix2 r n) = Adam.first (m (ix2 r n)) (g (ix2 r n)) := by pointwise [newFirst, Adam.first]
theorem newSecond_at : newSecond v g (ix2 r n) = Adam.second (v (ix2 r n)) (g (ix2 r n)) := by pointwise [newSecond, Adam.second]
theorem delta_at : delta w m v g (ix2 r n) = Adam.change (w (ix2 r n)) (m (ix2 r n)) (v (ix2 r n)) (g (ix2 r n)) := by
  pointwise [delta, newFirst_at, newSecond_at, Adam.change]

end Terms

variable (m : (ℓ : Loc nD τ sig) → Buf (Elt Ideal) ℓ) (c : Dev nD)

/-- The arguments. -/
abbrev wOf : S296x128.Idx → EReal := m ((c.tc : Thread nD τ).loc main_arg0)
abbrev mOf : S296x128.Idx → EReal := m ((c.tc : Thread nD τ).loc main_arg1)
abbrev vOf : S296x128.Idx → EReal := m ((c.tc : Thread nD τ).loc main_arg2)
abbrev cOf : S4x296x128.Idx → EReal := m ((c.tc : Thread nD τ).loc main_arg3)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0) = grad (cOf m c)
      ∧ r.2.mem ((c.tc : Thread nD τ).loc main_v24) = delta (wOf m c) (mOf m c) (vOf m c) (grad (cOf m c))
      ∧ r.2.mem ((c.tc : Thread nD τ).loc main_v5) = newFirst (mOf m c) (grad (cOf m c))
      ∧ r.2.mem ((c.tc : Thread nD τ).loc main_v11) = newSecond (vOf m c) (grad (cOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl,
    (h c).2.2.2.2⟩) (Cert.Reference17Ideal.Value.run m ρ)

end Cert.UpdateSmall.Ref

end
-- ==== Proof.UpdateSmall.lean ====
module

public import proofs.«01_k».proof.Proof.Gen.Kernel17Ideal.Value
public import proofs.«01_k».proof.Proof.UpdateSmallReference
public import Idealize.ShloMosaic.Lib.Pipeline.ValueKit

@[expose] public section

/-!
# The optimiser's step on the small weights in one table as the kernel computes it

The grid has one point. The gradient is the sum of the four contributions, added in their order.
-/

noncomputable section

namespace Cert.UpdateSmall

open Cert.Kernel17Ideal Cert.Kernel17Ideal.Gen Cert.UpdateSmall.Ref
open Idealize.ShloMosaic Idealize.ShloMosaic.TcCoe

section Blocks

variable (w m v : Vec Ideal S296x128 .f32) (c : Vec Ideal S4x296x128 .f32) (r : Fin 296) (n : Fin 128)

theorem out4_at : out0_4 w m v c (ix2 r n) = Adam.total fun s => c (ix3 s r n) := by
  rw [Adam.total_eq]
  frame_out
  pointwise [k0_pay2]

theorem out5_at : out0_5 w m v c (ix2 r n) = Adam.change (w (ix2 r n)) (m (ix2 r n)) (v (ix2 r n)) (Adam.total fun s => c (ix3 s r n)) := by
  rw [Adam.total_eq]
  frame_out
  pointwise [k0_pay1, k0_pay2, k0_pay3, k0_pay4, k0_pay5, k0_pay6, Adam.change, Adam.first, Adam.second]

theorem out6_at : out0_6 w m v c (ix2 r n) = Adam.first (m (ix2 r n)) (Adam.total fun s => c (ix3 s r n)) := by
  rw [Adam.total_eq]
  frame_out
  pointwise [k0_pay2, k0_pay3, Adam.first]

theorem out7_at : out0_7 w m v c (ix2 r n) = Adam.second (v (ix2 r n)) (Adam.total fun s => c (ix3 s r n)) := by
  rw [Adam.total_eq]
  frame_out
  pointwise [k0_pay2, k0_pay4, k0_pay6, Adam.second]

end Blocks

variable (m : (ℓ : Loc nD τ sig) → Buf (Elt Ideal) ℓ) (c : Dev nD) (t : Fin cfg0.N) (r : Fin 296) (n : Fin 128) (s : Fin 4)

/-- The arguments. -/
abbrev wK : S296x128.Idx → EReal := m ((c.tc : Thread nD τ).loc main_arg0)
abbrev mK : S296x128.Idx → EReal := m ((c.tc : Thread nD τ).loc main_arg1)
abbrev vK : S296x128.Idx → EReal := m ((c.tc : Thread nD τ).loc main_arg2)
abbrev cK : S4x296x128.Idx → EReal := m ((c.tc : Thread nD τ).loc main_arg3)

/-- Row `r` of point `t`. -/
def row : Fin 296 := ⟨296 * t.val + r.val, by have h : t.val < 1 := lt_of_lt_of_eq t.isLt N_0; have := r.isLt; omega⟩

theorem index0 : ∀ t : Fin grid0.N, cc0_transform_0 (grid0.coords t) = ![t.val, 0] := by decide
theorem index1 : ∀ t : Fin grid0.N, cc0_transform_1 (grid0.coords t) = ![t.val, 0] := by decide
theorem index2 : ∀ t : Fin grid0.N, cc0_transform_2 (grid0.coords t) = ![t.val, 0] := by decide
theorem index4 : ∀ t : Fin grid0.N, cc0_transform_4 (grid0.coords t) = ![t.val, 0] := by decide
theorem index5 : ∀ t : Fin grid0.N, cc0_transform_5 (grid0.coords t) = ![t.val, 0] := by decide
theorem index6 : ∀ t : Fin grid0.N, cc0_transform_6 (grid0.coords t) = ![t.val, 0] := by decide
theorem index7 : ∀ t : Fin grid0.N, cc0_transform_7 (grid0.coords t) = ![t.val, 0] := by decide
theorem index3 : ∀ t : Fin grid0.N, cc0_transform_3 (grid0.coords t) = ![0, t.val, 0] := by decide

/-- Where a block of 296 rows has its entries. -/
theorem at_row {f : Fin 2 → ℕ} (h : f = ![t.val, 0]) {i : S296x128.Idx} (h₀ : (i 0).val = f 0 * 296 + 1 * r.val)
    (h₁ : (i 1).val = f 1 * 128 + 1 * n.val) : i = ix2 (row t r) n := by
  subst h
  refine funext fun a => Fin.ext ?_
  match a with
  | ⟨0, _⟩ => refine h₀.trans ?_; show t.val * 296 + 1 * r.val = 296 * t.val + r.val; omega
  | ⟨1, _⟩ => refine h₁.trans ?_; show 0 * 128 + 1 * n.val = n.val; omega

theorem blk0 : iblk m c 0 t (ix2 r n) = wK m c (ix2 (row t r) n) :=
  (congrFun (V_main_arg0 m c) _).trans (congrArg (wK m c) (at_row t r n (index0 t) rfl rfl))

theorem blk1 : iblk m c 1 t (ix2 r n) = mK m c (ix2 (row t r) n) :=
  (congrFun (V_main_arg1 m c) _).trans (congrArg (mK m c) (at_row t r n (index1 t) rfl rfl))

theorem blk2 : iblk m c 2 t (ix2 r n) = vK m c (ix2 (row t r) n) :=
  (congrFun (V_main_arg2 m c) _).trans (congrArg (vK m c) (at_row t r n (index2 t) rfl rfl))

theorem blk3 : iblk m c 3 t (ix3 s r n) = cK m c (ix3 s (row t r) n) := by
  unfold iblk
  refine (congrFun (V_main_arg3 m c) _).trans (congrArg (cK m c) (funext fun a => Fin.ext ?_))
  match a with
  | ⟨0, _⟩ =>
    show cc0_transform_3 (grid0.coords t) 0 * 4 + 1 * s.val = s.val
    rw [index3]; show 0 * 4 + 1 * s.val = s.val; omega
  | ⟨1, _⟩ =>
    show cc0_transform_3 (grid0.coords t) 1 * 296 + 1 * r.val = 296 * t.val + r.val
    rw [index3]; show t.val * 296 + 1 * r.val = 296 * t.val + r.val; omega
  | ⟨2, _⟩ =>
    show cc0_transform_3 (grid0.coords t) 2 * 128 + 1 * n.val = n.val
    rw [index3]; show 0 * 128 + 1 * n.val = n.val; omega

theorem out_emb4 : (win0_4.blk t).view.emb (ix2 r n) = (ix2 (row t r) n : S296x128.Idx) :=
  at_row t r n (index4 t) rfl rfl

theorem out_emb5 : (win0_5.blk t).view.emb (ix2 r n) = (ix2 (row t r) n : S296x128.Idx) :=
  at_row t r n (index5 t) rfl rfl

theorem out_emb6 : (win0_6.blk t).view.emb (ix2 r n) = (ix2 (row t r) n : S296x128.Idx) :=
  at_row t r n (index6 t) rfl rfl

theorem out_emb7 : (win0_7.blk t).view.emb (ix2 r n) = (ix2 (row t r) n : S296x128.Idx) :=
  at_row t r n (index7 t) rfl rfl

theorem grad_sum : (Adam.total fun s => iblk m c 3 t (ix3 s r n)) = grad (cK m c) (ix2 (row t r) n) := by
  rw [grad_at]
  exact congrArg Adam.total (funext fun s => blk3 m c t r n s)

/-- The gradient is the reference's. -/
theorem grad_eq : (dats m 0 c).arrAt 4 cfg0.N = grad (cK m c) := by
  refine (dats m 0 c).arrAt_eq_of_covers 4 _ (by decide +kernel) fun t hf y => ?_
  blk_simp
  obtain ⟨r, n, rfl⟩ : ∃ (r : Fin 296) (n : Fin 128), y = ix2 r n := ⟨y 0, y 1, eq_ix2 y⟩
  rw [out_emb4, after0_4, out4_at, grad_sum]

/-- The change of the weight is the reference's. -/
theorem delta_eq : (dats m 0 c).arrAt 5 cfg0.N = delta (wK m c) (mK m c) (vK m c) (grad (cK m c)) := by
  refine (dats m 0 c).arrAt_eq_of_covers 5 _ (by decide +kernel) fun t hf y => ?_
  blk_simp
  obtain ⟨r, n, rfl⟩ : ∃ (r : Fin 296) (n : Fin 128), y = ix2 r n := ⟨y 0, y 1, eq_ix2 y⟩
  rw [out_emb5, delta_at, after0_5, out5_at, grad_sum, blk0, blk1, blk2]

/-- The first moment is the reference's. -/
theorem first_eq : (dats m 0 c).arrAt 6 cfg0.N = newFirst (mK m c) (grad (cK m c)) := by
  refine (dats m 0 c).arrAt_eq_of_covers 6 _ (by decide +kernel) fun t hf y => ?_
  blk_simp
  obtain ⟨r, n, rfl⟩ : ∃ (r : Fin 296) (n : Fin 128), y = ix2 r n := ⟨y 0, y 1, eq_ix2 y⟩
  rw [out_emb6, newFirst_at, after0_6, out6_at, grad_sum, blk1]

/-- The second moment is the reference's. -/
theorem second_eq : (dats m 0 c).arrAt 7 cfg0.N = newSecond (vK m c) (grad (cK m c)) := by
  refine (dats m 0 c).arrAt_eq_of_covers 7 _ (by decide +kernel) fun t hf y => ?_
  blk_simp
  obtain ⟨r, n, rfl⟩ : ∃ (r : Fin 296) (n : Fin 128), y = ix2 r n := ⟨y 0, y 1, eq_ix2 y⟩
  rw [out_emb7, newSecond_at, after0_7, out7_at, grad_sum, blk2]

end Cert.UpdateSmall

end
-- ==== Proof.UpdateReplicatedBody.lean ====
module

public import proofs.«01_k».proof.Proof.Gen.Kernel18Ideal.Launch
public import proofs.«01_k».proof.Proof.Gen.Kernel18Ideal.Skeleton
public import proofs.«01_k».proof.Proof.Gen.Kernel18Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

/-! # The step on the replicated weights: the body of the kernel -/

noncomputable section

namespace Cert.UpdateReplicated

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers as the region finds them. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- The operations after the region allocate nothing. -/
theorem hostOps1_fresh : (hostOps1 : List (HloOp τ sig (Elt F))).Forall fun op => op.fresh = ∅ := by
  simp only [List.Forall]; repeat' constructor

set_option maxHeartbeats 800000 in
/-- The program is the region and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- They touch only buffers outside the scopes. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 464000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl

/-! ## The windows' blocks -/

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S8x16x2048 := Rect.unit (s := S8x16x2048) ![0, 10, 0] S1x1x128.size inb_S8x16x2048_S1x1x128_0_10_0
abbrev r0_1 : Rect S8x16x2048 := Rect.unit (s := S8x16x2048) ![1, 10, 0] S1x1x128.size inb_S8x16x2048_S1x1x128_1_10_0
abbrev r0_2 : Rect S8x16x2048 := Rect.unit (s := S8x16x2048) ![2, 10, 0] S1x1x128.size inb_S8x16x2048_S1x1x128_2_10_0
abbrev r0_3 : Rect S8x16x2048 := Rect.unit (s := S8x16x2048) ![3, 10, 0] S1x1x128.size inb_S8x16x2048_S1x1x128_3_10_0
abbrev r0_4 : Rect S8x16x2048 := Rect.unit (s := S8x16x2048) ![4, 10, 0] S1x1x128.size inb_S8x16x2048_S1x1x128_4_10_0
abbrev r0_5 : Rect S8x16x2048 := Rect.unit (s := S8x16x2048) ![5, 10, 0] S1x1x128.size inb_S8x16x2048_S1x1x128_5_10_0
abbrev r0_6 : Rect S8x16x2048 := Rect.unit (s := S8x16x2048) ![6, 10, 0] S1x1x128.size inb_S8x16x2048_S1x1x128_6_10_0
abbrev r0_7 : Rect S8x16x2048 := Rect.unit (s := S8x16x2048) ![7, 10, 0] S1x1x128.size inb_S8x16x2048_S1x1x128_7_10_0
abbrev r0_8 : Rect S1x128 := Rect.unit (s := S1x128) ![0, 0] S1x128.size inb_S1x128_S1x128_0_0
abbrev r0_9 : Rect S8x16x2048 := Rect.unit (s := S8x16x2048) ![0, 0, 0] S1x2x2048.size inb_S8x16x2048_S1x2x2048_0_0_0
abbrev r0_10 : Rect S8x16x2048 := Rect.unit (s := S8x16x2048) ![1, 0, 0] S1x2x2048.size inb_S8x16x2048_S1x2x2048_1_0_0
abbrev r0_11 : Rect S8x16x2048 := Rect.unit (s := S8x16x2048) ![2, 0, 0] S1x2x2048.size inb_S8x16x2048_S1x2x2048_2_0_0
abbrev r0_12 : Rect S8x16x2048 := Rect.unit (s := S8x16x2048) ![3, 0, 0] S1x2x2048.size inb_S8x16x2048_S1x2x2048_3_0_0
abbrev r0_13 : Rect S8x16x2048 := Rect.unit (s := S8x16x2048) ![4, 0, 0] S1x2x2048.size inb_S8x16x2048_S1x2x2048_4_0_0
abbrev r0_14 : Rect S8x16x2048 := Rect.unit (s := S8x16x2048) ![5, 0, 0] S1x2x2048.size inb_S8x16x2048_S1x2x2048_5_0_0
abbrev r0_15 : Rect S8x16x2048 := Rect.unit (s := S8x16x2048) ![6, 0, 0] S1x2x2048.size inb_S8x16x2048_S1x2x2048_6_0_0
abbrev r0_16 : Rect S8x16x2048 := Rect.unit (s := S8x16x2048) ![7, 0, 0] S1x2x2048.size inb_S8x16x2048_S1x2x2048_7_0_0
abbrev r0_17 : Rect S2x2048 := Rect.unit (s := S2x2048) ![0, 0] S2x2048.size inb_S2x2048_S2x2048_0_0
abbrev r0_18 : Rect S8x16x2048 := Rect.unit (s := S8x16x2048) ![0, 2, 0] S1x2x2048.size inb_S8x16x2048_S1x2x2048_0_2_0
abbrev r0_19 : Rect S8x16x2048 := Rect.unit (s := S8x16x2048) ![1, 2, 0] S1x2x2048.size inb_S8x16x2048_S1x2x2048_1_2_0
abbrev r0_20 : Rect S8x16x2048 := Rect.unit (s := S8x16x2048) ![2, 2, 0] S1x2x2048.size inb_S8x16x2048_S1x2x2048_2_2_0
abbrev r0_21 : Rect S8x16x2048 := Rect.unit (s := S8x16x2048) ![3, 2, 0] S1x2x2048.size inb_S8x16x2048_S1x2x2048_3_2_0
abbrev r0_22 : Rect S8x16x2048 := Rect.unit (s := S8x16x2048) ![4, 2, 0] S1x2x2048.size inb_S8x16x2048_S1x2x2048_4_2_0
abbrev r0_23 : Rect S8x16x2048 := Rect.unit (s := S8x16x2048) ![5, 2, 0] S1x2x2048.size inb_S8x16x2048_S1x2x2048_5_2_0
abbrev r0_24 : Rect S8x16x2048 := Rect.unit (s := S8x16x2048) ![6, 2, 0] S1x2x2048.size inb_S8x16x2048_S1x2x2048_6_2_0
abbrev r0_25 : Rect S8x16x2048 := Rect.unit (s := S8x16x2048) ![7, 2, 0] S1x2x2048.size inb_S8x16x2048_S1x2x2048_7_2_0
abbrev r0_26 : Rect S8x16x2048 := Rect.unit (s := S8x16x2048) ![0, 4, 0] S1x2x2048.size inb_S8x16x2048_S1x2x2048_0_4_0
abbrev r0_27 : Rect S8x16x2048 := Rect.unit (s := S8x16x2048) ![1, 4, 0] S1x2x2048.size inb_S8x16x2048_S1x2x2048_1_4_0
abbrev r0_28 : Rect S8x16x2048 := Rect.unit (s := S8x16x2048) ![2, 4, 0] S1x2x2048.size inb_S8x16x2048_S1x2x2048_2_4_0
abbrev r0_29 : Rect S8x16x2048 := Rect.unit (s := S8x16x2048) ![3, 4, 0] S1x2x2048.size inb_S8x16x2048_S1x2x2048_3_4_0
abbrev r0_30 : Rect S8x16x2048 := Rect.unit (s := S8x16x2048) ![4, 4, 0] S1x2x2048.size inb_S8x16x2048_S1x2x2048_4_4_0
abbrev r0_31 : Rect S8x16x2048 := Rect.unit (s := S8x16x2048) ![5, 4, 0] S1x2x2048.size inb_S8x16x2048_S1x2x2048_5_4_0
abbrev r0_32 : Rect S8x16x2048 := Rect.unit (s := S8x16x2048) ![6, 4, 0] S1x2x2048.size inb_S8x16x2048_S1x2x2048_6_4_0
abbrev r0_33 : Rect S8x16x2048 := Rect.unit (s := S8x16x2048) ![7, 4, 0] S1x2x2048.size inb_S8x16x2048_S1x2x2048_7_4_0
abbrev r0_34 : Rect S8x16x2048 := Rect.unit (s := S8x16x2048) ![0, 6, 0] S1x2x2048.size inb_S8x16x2048_S1x2x2048_0_6_0
abbrev r0_35 : Rect S8x16x2048 := Rect.unit (s := S8x16x2048) ![1, 6, 0] S1x2x2048.size inb_S8x16x2048_S1x2x2048_1_6_0
abbrev r0_36 : Rect S8x16x2048 := Rect.unit (s := S8x16x2048) ![2, 6, 0] S1x2x2048.size inb_S8x16x2048_S1x2x2048_2_6_0
abbrev r0_37 : Rect S8x16x2048 := Rect.unit (s := S8x16x2048) ![3, 6, 0] S1x2x2048.size inb_S8x16x2048_S1x2x2048_3_6_0
abbrev r0_38 : Rect S8x16x2048 := Rect.unit (s := S8x16x2048) ![4, 6, 0] S1x2x2048.size inb_S8x16x2048_S1x2x2048_4_6_0
abbrev r0_39 : Rect S8x16x2048 := Rect.unit (s := S8x16x2048) ![5, 6, 0] S1x2x2048.size inb_S8x16x2048_S1x2x2048_5_6_0
abbrev r0_40 : Rect S8x16x2048 := Rect.unit (s := S8x16x2048) ![6, 6, 0] S1x2x2048.size inb_S8x16x2048_S1x2x2048_6_6_0
abbrev r0_41 : Rect S8x16x2048 := Rect.unit (s := S8x16x2048) ![7, 6, 0] S1x2x2048.size inb_S8x16x2048_S1x2x2048_7_6_0
abbrev r0_42 : Rect S8x16x2048 := Rect.unit (s := S8x16x2048) ![0, 8, 0] S1x1x1024.size inb_S8x16x2048_S1x1x1024_0_8_0
abbrev r0_43 : Rect S8x16x2048 := Rect.unit (s := S8x16x2048) ![1, 8, 0] S1x1x1024.size inb_S8x16x2048_S1x1x1024_1_8_0
abbrev r0_44 : Rect S8x16x2048 := Rect.unit (s := S8x16x2048) ![2, 8, 0] S1x1x1024.size inb_S8x16x2048_S1x1x1024_2_8_0
abbrev r0_45 : Rect S8x16x2048 := Rect.unit (s := S8x16x2048) ![3, 8, 0] S1x1x1024.size inb_S8x16x2048_S1x1x1024_3_8_0
abbrev r0_46 : Rect S8x16x2048 := Rect.unit (s := S8x16x2048) ![4, 8, 0] S1x1x1024.size inb_S8x16x2048_S1x1x1024_4_8_0
abbrev r0_47 : Rect S8x16x2048 := Rect.unit (s := S8x16x2048) ![5, 8, 0] S1x1x1024.size inb_S8x16x2048_S1x1x1024_5_8_0
abbrev r0_48 : Rect S8x16x2048 := Rect.unit (s := S8x16x2048) ![6, 8, 0] S1x1x1024.size inb_S8x16x2048_S1x1x1024_6_8_0
abbrev r0_49 : Rect S8x16x2048 := Rect.unit (s := S8x16x2048) ![7, 8, 0] S1x1x1024.size inb_S8x16x2048_S1x1x1024_7_8_0
abbrev r0_50 : Rect S1x1024 := Rect.unit (s := S1x1024) ![0, 0] S1x1024.size inb_S1x1024_S1x1024_0_0
abbrev r0_51 : Rect S8x16x2048 := Rect.unit (s := S8x16x2048) ![0, 8, 1024] S1x1x1024.size inb_S8x16x2048_S1x1x1024_0_8_1024
abbrev r0_52 : Rect S8x16x2048 := Rect.unit (s := S8x16x2048) ![1, 8, 1024] S1x1x1024.size inb_S8x16x2048_S1x1x1024_1_8_1024
abbrev r0_53 : Rect S8x16x2048 := Rect.unit (s := S8x16x2048) ![2, 8, 1024] S1x1x1024.size inb_S8x16x2048_S1x1x1024_2_8_1024
abbrev r0_54 : Rect S8x16x2048 := Rect.unit (s := S8x16x2048) ![3, 8, 1024] S1x1x1024.size inb_S8x16x2048_S1x1x1024_3_8_1024
abbrev r0_55 : Rect S8x16x2048 := Rect.unit (s := S8x16x2048) ![4, 8, 1024] S1x1x1024.size inb_S8x16x2048_S1x1x1024_4_8_1024
abbrev r0_56 : Rect S8x16x2048 := Rect.unit (s := S8x16x2048) ![5, 8, 1024] S1x1x1024.size inb_S8x16x2048_S1x1x1024_5_8_1024
abbrev r0_57 : Rect S8x16x2048 := Rect.unit (s := S8x16x2048) ![6, 8, 1024] S1x1x1024.size inb_S8x16x2048_S1x1x1024_6_8_1024
abbrev r0_58 : Rect S8x16x2048 := Rect.unit (s := S8x16x2048) ![7, 8, 1024] S1x1x1024.size inb_S8x16x2048_S1x1x1024_7_8_1024
abbrev r0_59 : Rect S8x16x2048 := Rect.unit (s := S8x16x2048) ![0, 9, 0] S1x1x1024.size inb_S8x16x2048_S1x1x1024_0_9_0
abbrev r0_60 : Rect S8x16x2048 := Rect.unit (s := S8x16x2048) ![1, 9, 0] S1x1x1024.size inb_S8x16x2048_S1x1x1024_1_9_0
abbrev r0_61 : Rect S8x16x2048 := Rect.unit (s := S8x16x2048) ![2, 9, 0] S1x1x1024.size inb_S8x16x2048_S1x1x1024_2_9_0
abbrev r0_62 : Rect S8x16x2048 := Rect.unit (s := S8x16x2048) ![3, 9, 0] S1x1x1024.size inb_S8x16x2048_S1x1x1024_3_9_0
abbrev r0_63 : Rect S8x16x2048 := Rect.unit (s := S8x16x2048) ![4, 9, 0] S1x1x1024.size inb_S8x16x2048_S1x1x1024_4_9_0
abbrev r0_64 : Rect S8x16x2048 := Rect.unit (s := S8x16x2048) ![5, 9, 0] S1x1x1024.size inb_S8x16x2048_S1x1x1024_5_9_0
abbrev r0_65 : Rect S8x16x2048 := Rect.unit (s := S8x16x2048) ![6, 9, 0] S1x1x1024.size inb_S8x16x2048_S1x1x1024_6_9_0
abbrev r0_66 : Rect S8x16x2048 := Rect.unit (s := S8x16x2048) ![7, 9, 0] S1x1x1024.size inb_S8x16x2048_S1x1x1024_7_9_0
abbrev r0_67 : Rect S8x16x2048 := Rect.unit (s := S8x16x2048) ![0, 9, 1024] S1x1x1024.size inb_S8x16x2048_S1x1x1024_0_9_1024
abbrev r0_68 : Rect S8x16x2048 := Rect.unit (s := S8x16x2048) ![1, 9, 1024] S1x1x1024.size inb_S8x16x2048_S1x1x1024_1_9_1024
abbrev r0_69 : Rect S8x16x2048 := Rect.unit (s := S8x16x2048) ![2, 9, 1024] S1x1x1024.size inb_S8x16x2048_S1x1x1024_2_9_1024
abbrev r0_70 : Rect S8x16x2048 := Rect.unit (s := S8x16x2048) ![3, 9, 1024] S1x1x1024.size inb_S8x16x2048_S1x1x1024_3_9_1024
abbrev r0_71 : Rect S8x16x2048 := Rect.unit (s := S8x16x2048) ![4, 9, 1024] S1x1x1024.size inb_S8x16x2048_S1x1x1024_4_9_1024
abbrev r0_72 : Rect S8x16x2048 := Rect.unit (s := S8x16x2048) ![5, 9, 1024] S1x1x1024.size inb_S8x16x2048_S1x1x1024_5_9_1024
abbrev r0_73 : Rect S8x16x2048 := Rect.unit (s := S8x16x2048) ![6, 9, 1024] S1x1x1024.size inb_S8x16x2048_S1x1x1024_6_9_1024
abbrev r0_74 : Rect S8x16x2048 := Rect.unit (s := S8x16x2048) ![7, 9, 1024] S1x1x1024.size inb_S8x16x2048_S1x1x1024_7_9_1024

/-! ## What the body leaves in each output window's buffer -/

/-- The values of the body that several stores use. -/
def k0_pay48 (x24 : Vec F S8x16x2048 .f32) : FVec F S2x2048 .f32 :=
  k0_pay2 (View.ld x24 r0_9)
def k0_pay49 (x24 : Vec F S8x16x2048 .f32) : FVec F S2x2048 .f32 :=
  k0_pay3 (k0_pay48 x24) (View.ld x24 r0_10) (View.ld x24 r0_11) (View.ld x24 r0_12) (View.ld x24 r0_13) (View.ld x24 r0_14) (View.ld x24 r0_15) (View.ld x24 r0_16)
def k0_pay50 (x8 : Vec F S2x2048 .f32) (x24 : Vec F S8x16x2048 .f32) : FVec F S2x2048 .f32 :=
  k0_pay4 (k0_pay48 x24) (View.ld x24 r0_10) (View.ld x24 r0_11) (View.ld x24 r0_12) (View.ld x24 r0_13) (View.ld x24 r0_14) (View.ld x24 r0_15) (View.ld x24 r0_16) (View.ld x8 r0_17)
def k0_pay51 : FVec F S2x2048 .f32 :=
  k0_pay5 (F := F)
def k0_pay52 (x24 : Vec F S8x16x2048 .f32) : FVec F S2x2048 .f32 :=
  k0_pay8 (View.ld x24 r0_18) (View.ld x24 r0_19) (View.ld x24 r0_20) (View.ld x24 r0_21)
def k0_pay53 (x24 : Vec F S8x16x2048 .f32) : FVec F S2x2048 .f32 :=
  k0_pay16 (View.ld x24 r0_26) (View.ld x24 r0_27) (View.ld x24 r0_28) (View.ld x24 r0_29) (View.ld x24 r0_30) (View.ld x24 r0_31)
def k0_pay54 (x24 : Vec F S8x16x2048 .f32) : FVec F S2x2048 .f32 :=
  k0_pay21 (View.ld x24 r0_34) (View.ld x24 r0_35) (View.ld x24 r0_36) (View.ld x24 r0_37) (View.ld x24 r0_38) (View.ld x24 r0_39) (View.ld x24 r0_40) (View.ld x24 r0_41)
def k0_pay55 (x24 : Vec F S8x16x2048 .f32) : FVec F S1x1024 .f32 :=
  k0_pay25 (View.ld x24 r0_42)
def k0_pay56 (x24 : Vec F S8x16x2048 .f32) : FVec F S1x1024 .f32 :=
  k0_pay26 (k0_pay55 x24) (View.ld x24 r0_43) (View.ld x24 r0_44) (View.ld x24 r0_45) (View.ld x24 r0_46) (View.ld x24 r0_47) (View.ld x24 r0_48) (View.ld x24 r0_49)
def k0_pay57 (x12 : Vec F S1x1024 .f32) (x24 : Vec F S8x16x2048 .f32) : FVec F S1x1024 .f32 :=
  k0_pay27 (k0_pay55 x24) (View.ld x24 r0_43) (View.ld x24 r0_44) (View.ld x24 r0_45) (View.ld x24 r0_46) (View.ld x24 r0_47) (View.ld x24 r0_48) (View.ld x24 r0_49) (View.ld x12 r0_50)
def k0_pay58 : FVec F S1x1024 .f32 :=
  k0_pay28 (F := F)
def k0_pay59 (x24 : Vec F S8x16x2048 .f32) : FVec F S1x1024 .f32 :=
  k0_pay31 (View.ld x24 r0_51) (View.ld x24 r0_52) (View.ld x24 r0_53) (View.ld x24 r0_54)
def k0_pay60 (x24 : Vec F S8x16x2048 .f32) : FVec F S1x1024 .f32 :=
  k0_pay39 (View.ld x24 r0_59) (View.ld x24 r0_60) (View.ld x24 r0_61) (View.ld x24 r0_62) (View.ld x24 r0_63) (View.ld x24 r0_64)
def k0_pay61 (x24 : Vec F S8x16x2048 .f32) : FVec F S1x1024 .f32 :=
  k0_pay44 (View.ld x24 r0_67) (View.ld x24 r0_68) (View.ld x24 r0_69) (View.ld x24 r0_70) (View.ld x24 r0_71) (View.ld x24 r0_72) (View.ld x24 r0_73) (View.ld x24 r0_74)

/-- What the body leaves in the table of summed squared errors; below, what it leaves in each other output. -/
def out0_25 (x24 : Vec F S8x16x2048 .f32) : Vec F S1x128 .f32 :=
  View.canon [⟨r0_8, k0_pay1 (View.ld x24 r0_0) (View.ld x24 r0_1) (View.ld x24 r0_2) (View.ld x24 r0_3) (View.ld x24 r0_4) (View.ld x24 r0_5) (View.ld x24 r0_6) (View.ld x24 r0_7)⟩]

theorem cover0_25 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

def out0_26 (x24 : Vec F S8x16x2048 .f32) : Vec F S2x2048 .f32 :=
  View.canon [⟨r0_17, k0_pay3 (k0_pay48 x24) (View.ld x24 r0_10) (View.ld x24 r0_11) (View.ld x24 r0_12) (View.ld x24 r0_13) (View.ld x24 r0_14) (View.ld x24 r0_15) (View.ld x24 r0_16)⟩]

theorem cover0_26 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_27 (x0 x8 x16 : Vec F S2x2048 .f32) (x24 : Vec F S8x16x2048 .f32) : Vec F S2x2048 .f32 :=
  View.canon [⟨r0_17, k0_pay7 (k0_pay49 x24) (View.ld x0 r0_17) (View.ld x16 r0_17) (k0_pay50 x8 x24) k0_pay51 (F := F)⟩]

theorem cover0_27 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_28 (x8 : Vec F S2x2048 .f32) (x24 : Vec F S8x16x2048 .f32) : Vec F S2x2048 .f32 :=
  View.canon [⟨r0_17, k0_pay50 x8 x24⟩]

theorem cover0_28 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_29 (x16 : Vec F S2x2048 .f32) (x24 : Vec F S8x16x2048 .f32) : Vec F S2x2048 .f32 :=
  View.canon [⟨r0_17, k0_pay6 (k0_pay49 x24) (View.ld x16 r0_17) k0_pay51 (F := F)⟩]

theorem cover0_29 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_30 (x24 : Vec F S8x16x2048 .f32) : Vec F S2x2048 .f32 :=
  View.canon [⟨r0_17, k0_pay9 (k0_pay52 x24) (View.ld x24 r0_22) (View.ld x24 r0_23) (View.ld x24 r0_24) (View.ld x24 r0_25)⟩]

theorem cover0_30 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_31 (x1 x9 x17 : Vec F S2x2048 .f32) (x24 : Vec F S8x16x2048 .f32) : Vec F S2x2048 .f32 :=
  View.canon [⟨r0_17, k0_pay15 (View.ld x1 r0_17) (k0_pay12 (k0_pay52 x24) (View.ld x24 r0_22) (View.ld x24 r0_23) (View.ld x24 r0_24) (View.ld x24 r0_25) (View.ld x9 r0_17)) (k0_pay13 (k0_pay52 x24) (View.ld x24 r0_22) (View.ld x24 r0_23) (View.ld x24 r0_24) (View.ld x24 r0_25) (View.ld x17 r0_17)) (k0_pay14 (F := F))⟩]

theorem cover0_31 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_32 (x9 : Vec F S2x2048 .f32) (x24 : Vec F S8x16x2048 .f32) : Vec F S2x2048 .f32 :=
  View.canon [⟨r0_17, k0_pay10 (k0_pay52 x24) (View.ld x24 r0_22) (View.ld x24 r0_23) (View.ld x24 r0_24) (View.ld x24 r0_25) (View.ld x9 r0_17)⟩]

theorem cover0_32 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_33 (x17 : Vec F S2x2048 .f32) (x24 : Vec F S8x16x2048 .f32) : Vec F S2x2048 .f32 :=
  View.canon [⟨r0_17, k0_pay11 (k0_pay52 x24) (View.ld x24 r0_22) (View.ld x24 r0_23) (View.ld x24 r0_24) (View.ld x24 r0_25) (View.ld x17 r0_17)⟩]

theorem cover0_33 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_34 (x24 : Vec F S8x16x2048 .f32) : Vec F S2x2048 .f32 :=
  View.canon [⟨r0_17, k0_pay17 (k0_pay53 x24) (View.ld x24 r0_32) (View.ld x24 r0_33)⟩]

theorem cover0_34 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_35 (x2 x10 x18 : Vec F S2x2048 .f32) (x24 : Vec F S8x16x2048 .f32) : Vec F S2x2048 .f32 :=
  View.canon [⟨r0_17, k0_pay20 (k0_pay53 x24) (View.ld x24 r0_32) (View.ld x24 r0_33) (View.ld x2 r0_17) (View.ld x10 r0_17) (View.ld x18 r0_17)⟩]

theorem cover0_35 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_36 (x10 : Vec F S2x2048 .f32) (x24 : Vec F S8x16x2048 .f32) : Vec F S2x2048 .f32 :=
  View.canon [⟨r0_17, k0_pay18 (k0_pay53 x24) (View.ld x24 r0_32) (View.ld x24 r0_33) (View.ld x10 r0_17)⟩]

theorem cover0_36 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_37 (x18 : Vec F S2x2048 .f32) (x24 : Vec F S8x16x2048 .f32) : Vec F S2x2048 .f32 :=
  View.canon [⟨r0_17, k0_pay19 (k0_pay53 x24) (View.ld x24 r0_32) (View.ld x24 r0_33) (View.ld x18 r0_17)⟩]

theorem cover0_37 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_38 (x24 : Vec F S8x16x2048 .f32) : Vec F S2x2048 .f32 :=
  View.canon [⟨r0_17, k0_pay21 (View.ld x24 r0_34) (View.ld x24 r0_35) (View.ld x24 r0_36) (View.ld x24 r0_37) (View.ld x24 r0_38) (View.ld x24 r0_39) (View.ld x24 r0_40) (View.ld x24 r0_41)⟩]

theorem cover0_38 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_39 (x3 x11 x19 : Vec F S2x2048 .f32) (x24 : Vec F S8x16x2048 .f32) : Vec F S2x2048 .f32 :=
  View.canon [⟨r0_17, k0_pay24 (k0_pay54 x24) (View.ld x3 r0_17) (View.ld x11 r0_17) (View.ld x19 r0_17)⟩]

theorem cover0_39 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_40 (x11 : Vec F S2x2048 .f32) (x24 : Vec F S8x16x2048 .f32) : Vec F S2x2048 .f32 :=
  View.canon [⟨r0_17, k0_pay22 (k0_pay54 x24) (View.ld x11 r0_17)⟩]

theorem cover0_40 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_41 (x19 : Vec F S2x2048 .f32) (x24 : Vec F S8x16x2048 .f32) : Vec F S2x2048 .f32 :=
  View.canon [⟨r0_17, k0_pay23 (k0_pay54 x24) (View.ld x19 r0_17)⟩]

theorem cover0_41 (p0 : Vec F S2x2048 .f32) (y : S2x2048.Idx) :
    ∃ pc ∈ ([⟨r0_17, p0⟩] : List (View.Piece (Elt F) S2x2048 .f32)), y ∈ pc.1.set :=
  View.cover_of_tiled [⟨r0_17, p0⟩] S2x2048.size (by rfl) y

def out0_42 (x24 : Vec F S8x16x2048 .f32) : Vec F S1x1024 .f32 :=
  View.canon [⟨r0_50, k0_pay26 (k0_pay55 x24) (View.ld x24 r0_43) (View.ld x24 r0_44) (View.ld x24 r0_45) (View.ld x24 r0_46) (View.ld x24 r0_47) (View.ld x24 r0_48) (View.ld x24 r0_49)⟩]

theorem cover0_42 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_43 (x4 x12 x20 : Vec F S1x1024 .f32) (x24 : Vec F S8x16x2048 .f32) : Vec F S1x1024 .f32 :=
  View.canon [⟨r0_50, k0_pay30 (k0_pay56 x24) (View.ld x4 r0_50) (View.ld x20 r0_50) (k0_pay57 x12 x24) k0_pay58 (F := F)⟩]

theorem cover0_43 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_44 (x12 : Vec F S1x1024 .f32) (x24 : Vec F S8x16x2048 .f32) : Vec F S1x1024 .f32 :=
  View.canon [⟨r0_50, k0_pay57 x12 x24⟩]

theorem cover0_44 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_45 (x20 : Vec F S1x1024 .f32) (x24 : Vec F S8x16x2048 .f32) : Vec F S1x1024 .f32 :=
  View.canon [⟨r0_50, k0_pay29 (k0_pay56 x24) (View.ld x20 r0_50) k0_pay58 (F := F)⟩]

theorem cover0_45 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_46 (x24 : Vec F S8x16x2048 .f32) : Vec F S1x1024 .f32 :=
  View.canon [⟨r0_50, k0_pay32 (k0_pay59 x24) (View.ld x24 r0_55) (View.ld x24 r0_56) (View.ld x24 r0_57) (View.ld x24 r0_58)⟩]

theorem cover0_46 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_47 (x5 x13 x21 : Vec F S1x1024 .f32) (x24 : Vec F S8x16x2048 .f32) : Vec F S1x1024 .f32 :=
  View.canon [⟨r0_50, k0_pay38 (View.ld x5 r0_50) (k0_pay35 (k0_pay59 x24) (View.ld x24 r0_55) (View.ld x24 r0_56) (View.ld x24 r0_57) (View.ld x24 r0_58) (View.ld x13 r0_50)) (k0_pay36 (k0_pay59 x24) (View.ld x24 r0_55) (View.ld x24 r0_56) (View.ld x24 r0_57) (View.ld x24 r0_58) (View.ld x21 r0_50)) (k0_pay37 (F := F))⟩]

theorem cover0_47 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_48 (x13 : Vec F S1x1024 .f32) (x24 : Vec F S8x16x2048 .f32) : Vec F S1x1024 .f32 :=
  View.canon [⟨r0_50, k0_pay33 (k0_pay59 x24) (View.ld x24 r0_55) (View.ld x24 r0_56) (View.ld x24 r0_57) (View.ld x24 r0_58) (View.ld x13 r0_50)⟩]

theorem cover0_48 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_49 (x21 : Vec F S1x1024 .f32) (x24 : Vec F S8x16x2048 .f32) : Vec F S1x1024 .f32 :=
  View.canon [⟨r0_50, k0_pay34 (k0_pay59 x24) (View.ld x24 r0_55) (View.ld x24 r0_56) (View.ld x24 r0_57) (View.ld x24 r0_58) (View.ld x21 r0_50)⟩]

theorem cover0_49 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_50 (x24 : Vec F S8x16x2048 .f32) : Vec F S1x1024 .f32 :=
  View.canon [⟨r0_50, k0_pay40 (k0_pay60 x24) (View.ld x24 r0_65) (View.ld x24 r0_66)⟩]

theorem cover0_50 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_51 (x6 x14 x22 : Vec F S1x1024 .f32) (x24 : Vec F S8x16x2048 .f32) : Vec F S1x1024 .f32 :=
  View.canon [⟨r0_50, k0_pay43 (k0_pay60 x24) (View.ld x24 r0_65) (View.ld x24 r0_66) (View.ld x6 r0_50) (View.ld x14 r0_50) (View.ld x22 r0_50)⟩]

theorem cover0_51 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_52 (x14 : Vec F S1x1024 .f32) (x24 : Vec F S8x16x2048 .f32) : Vec F S1x1024 .f32 :=
  View.canon [⟨r0_50, k0_pay41 (k0_pay60 x24) (View.ld x24 r0_65) (View.ld x24 r0_66) (View.ld x14 r0_50)⟩]

theorem cover0_52 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_53 (x22 : Vec F S1x1024 .f32) (x24 : Vec F S8x16x2048 .f32) : Vec F S1x1024 .f32 :=
  View.canon [⟨r0_50, k0_pay42 (k0_pay60 x24) (View.ld x24 r0_65) (View.ld x24 r0_66) (View.ld x22 r0_50)⟩]

theorem cover0_53 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_54 (x24 : Vec F S8x16x2048 .f32) : Vec F S1x1024 .f32 :=
  View.canon [⟨r0_50, k0_pay44 (View.ld x24 r0_67) (View.ld x24 r0_68) (View.ld x24 r0_69) (View.ld x24 r0_70) (View.ld x24 r0_71) (View.ld x24 r0_72) (View.ld x24 r0_73) (View.ld x24 r0_74)⟩]

theorem cover0_54 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_55 (x7 x15 x23 : Vec F S1x1024 .f32) (x24 : Vec F S8x16x2048 .f32) : Vec F S1x1024 .f32 :=
  View.canon [⟨r0_50, k0_pay47 (k0_pay61 x24) (View.ld x7 r0_50) (View.ld x15 r0_50) (View.ld x23 r0_50)⟩]

theorem cover0_55 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_56 (x15 : Vec F S1x1024 .f32) (x24 : Vec F S8x16x2048 .f32) : Vec F S1x1024 .f32 :=
  View.canon [⟨r0_50, k0_pay45 (k0_pay61 x24) (View.ld x15 r0_50)⟩]

theorem cover0_56 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

def out0_57 (x23 : Vec F S1x1024 .f32) (x24 : Vec F S8x16x2048 .f32) : Vec F S1x1024 .f32 :=
  View.canon [⟨r0_50, k0_pay46 (k0_pay61 x24) (View.ld x23 r0_50)⟩]

theorem cover0_57 (p0 : Vec F S1x1024 .f32) (y : S1x1024.Idx) :
    ∃ pc ∈ ([⟨r0_50, p0⟩] : List (View.Piece (Elt F) S1x1024 .f32)), y ∈ pc.1.set :=
  View.cover_of_tiled [⟨r0_50, p0⟩] S1x1024.size (by rfl) y

/-! ## The body's triple -/

set_option maxHeartbeats 1000000 in
/-- The body, from any buffers: it ends with the inputs kept and the outputs stored. -/
theorem sound_kernel (c : Dev nD) (E : Set ℕ) (arg0 : Memref sig .tc .vmem S2x2048 .f32) (harg0 : arg0.IsWhole) (arg1 : Memref sig .tc .vmem S2x2048 .f32) (harg1 : arg1.IsWhole) (arg2 : Memref sig .tc .vmem S2x2048 .f32) (harg2 : arg2.IsWhole) (arg3 : Memref sig .tc .vmem S2x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2x2048 .f32) (harg8 : arg8.IsWhole) (arg9 : Memref sig .tc .vmem S2x2048 .f32) (harg9 : arg9.IsWhole) (arg10 : Memref sig .tc .vmem S2x2048 .f32) (harg10 : arg10.IsWhole) (arg11 : Memref sig .tc .vmem S2x2048 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2x2048 .f32) (harg16 : arg16.IsWhole) (arg17 : Memref sig .tc .vmem S2x2048 .f32) (harg17 : arg17.IsWhole) (arg18 : Memref sig .tc .vmem S2x2048 .f32) (harg18 : arg18.IsWhole) (arg19 : Memref sig .tc .vmem S2x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S8x16x2048 .f32) (harg24 : arg24.IsWhole) (arg25 : Memref sig .tc .vmem S1x128 .f32) (harg25 : arg25.IsWhole) (arg26 : Memref sig .tc .vmem S2x2048 .f32) (harg26 : arg26.IsWhole) (arg27 : Memref sig .tc .vmem S2x2048 .f32) (harg27 : arg27.IsWhole) (arg28 : Memref sig .tc .vmem S2x2048 .f32) (harg28 : arg28.IsWhole) (arg29 : Memref sig .tc .vmem S2x2048 .f32) (harg29 : arg29.IsWhole) (arg30 : Memref sig .tc .vmem S2x2048 .f32) (harg30 : arg30.IsWhole) (arg31 : Memref sig .tc .vmem S2x2048 .f32) (harg31 : arg31.IsWhole) (arg32 : Memref sig .tc .vmem S2x2048 .f32) (harg32 : arg32.IsWhole) (arg33 : Memref sig .tc .vmem S2x2048 .f32) (harg33 : arg33.IsWhole) (arg34 : Memref sig .tc .vmem S2x2048 .f32) (harg34 : arg34.IsWhole) (arg35 : Memref sig .tc .vmem S2x2048 .f32) (harg35 : arg35.IsWhole) (arg36 : Memref sig .tc .vmem S2x2048 .f32) (harg36 : arg36.IsWhole) (arg37 : Memref sig .tc .vmem S2x2048 .f32) (harg37 : arg37.IsWhole) (arg38 : Memref sig .tc .vmem S2x2048 .f32) (harg38 : arg38.IsWhole) (arg39 : Memref sig .tc .vmem S2x2048 .f32) (harg39 : arg39.IsWhole) (arg40 : Memref sig .tc .vmem S2x2048 .f32) (harg40 : arg40.IsWhole) (arg41 : Memref sig .tc .vmem S2x2048 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x1024 .f32) (harg48 : arg48.IsWhole) (arg49 : Memref sig .tc .vmem S1x1024 .f32) (harg49 : arg49.IsWhole) (arg50 : Memref sig .tc .vmem S1x1024 .f32) (harg50 : arg50.IsWhole) (arg51 : Memref sig .tc .vmem S1x1024 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole) (arg57 : Memref sig .tc .vmem S1x1024 .f32) (harg57 : arg57.IsWhole)
    (x0 x1 x2 x3 : Vec F S2x2048 .f32) (x4 x5 x6 x7 : Vec F S1x1024 .f32) (x8 x9 x10 x11 : Vec F S2x2048 .f32) (x12 x13 x14 x15 : Vec F S1x1024 .f32) (x16 x17 x18 x19 : Vec F S2x2048 .f32) (x20 x21 x22 x23 : Vec F S1x1024 .f32) (x24 : Vec F S8x16x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare (out0_25 x24) ∗ owns (c : Thread nD τ) arg26 fullShare (out0_26 x24) ∗ owns (c : Thread nD τ) arg27 fullShare (out0_27 x0 x8 x16 x24) ∗ owns (c : Thread nD τ) arg28 fullShare (out0_28 x8 x24) ∗ owns (c : Thread nD τ) arg29 fullShare (out0_29 x16 x24) ∗ owns (c : Thread nD τ) arg30 fullShare (out0_30 x24) ∗ owns (c : Thread nD τ) arg31 fullShare (out0_31 x1 x9 x17 x24) ∗ owns (c : Thread nD τ) arg32 fullShare (out0_32 x9 x24) ∗ owns (c : Thread nD τ) arg33 fullShare (out0_33 x17 x24) ∗ owns (c : Thread nD τ) arg34 fullShare (out0_34 x24) ∗ owns (c : Thread nD τ) arg35 fullShare (out0_35 x2 x10 x18 x24) ∗ owns (c : Thread nD τ) arg36 fullShare (out0_36 x10 x24) ∗ owns (c : Thread nD τ) arg37 fullShare (out0_37 x18 x24) ∗ owns (c : Thread nD τ) arg38 fullShare (out0_38 x24) ∗ owns (c : Thread nD τ) arg39 fullShare (out0_39 x3 x11 x19 x24) ∗ owns (c : Thread nD τ) arg40 fullShare (out0_40 x11 x24) ∗ owns (c : Thread nD τ) arg41 fullShare (out0_41 x19 x24) ∗ owns (c : Thread nD τ) arg42 fullShare (out0_42 x24) ∗ owns (c : Thread nD τ) arg43 fullShare (out0_43 x4 x12 x20 x24) ∗ owns (c : Thread nD τ) arg44 fullShare (out0_44 x12 x24) ∗ owns (c : Thread nD τ) arg45 fullShare (out0_45 x20 x24) ∗ owns (c : Thread nD τ) arg46 fullShare (out0_46 x24) ∗ owns (c : Thread nD τ) arg47 fullShare (out0_47 x5 x13 x21 x24) ∗ owns (c : Thread nD τ) arg48 fullShare (out0_48 x13 x24) ∗ owns (c : Thread nD τ) arg49 fullShare (out0_49 x21 x24) ∗ owns (c : Thread nD τ) arg50 fullShare (out0_50 x24) ∗ owns (c : Thread nD τ) arg51 fullShare (out0_51 x6 x14 x22 x24) ∗ owns (c : Thread nD τ) arg52 fullShare (out0_52 x14 x24) ∗ owns (c : Thread nD τ) arg53 fullShare (out0_53 x22 x24) ∗ owns (c : Thread nD τ) arg54 fullShare (out0_54 x24) ∗ owns (c : Thread nD τ) arg55 fullShare (out0_55 x7 x15 x23 x24) ∗ owns (c : Thread nD τ) arg56 fullShare (out0_56 x15 x24) ∗ owns (c : Thread nD τ) arg57 fullShare (out0_57 x23 x24)) -∗ K ⟨⟩))
      ⊢ wp frame (wpE (defs₀ (F := F)) Variants.none c none) E (cc0_adam_replicated arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57) K := by
  simp only [cc0_adam_replicated_eq_skeleton]; unfold cc0_adam_replicated_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  isplitl [H55]
  · iexists _; isplitr
    swap; · iexact H55
    ipureintro
    refine (View.read_writes_eq_canon _ _ _ (cover0_55 _)).trans ?_
    rfl
  isplitl [H56]
  · iexists _; isplitr
    swap; · iexact H56
    ipureintro
    refine (View.read_writes_eq_canon _ _ _ (cover0_56 _)).trans ?_
    rfl
  iexists _; isplitr
  swap; · iexact H57
  ipureintro
  refine (View.read_writes_eq_canon _ _ _ (cover0_57 _)).trans ?_
  rfl

end Cert.UpdateReplicated

end
-- ==== Proof.UpdateReplicatedRun.lean ====
module

public import proofs.«01_k».proof.Proof.UpdateReplicatedBody

@[expose] public section

set_option maxRecDepth 16384

/-! # The step on the replicated weights: the run -/

noncomputable section

namespace Cert.UpdateReplicated

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Every input buffer holds its block after the body, every output buffer what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 24 t)
    | ⟨26, _⟩ => out0_26 (iblk m c 24 t)
    | ⟨27, _⟩ => out0_27 (iblk m c 0 t) (iblk m c 8 t) (iblk m c 16 t) (iblk m c 24 t)
    | ⟨28, _⟩ => out0_28 (iblk m c 8 t) (iblk m c 24 t)
    | ⟨29, _⟩ => out0_29 (iblk m c 16 t) (iblk m c 24 t)
    | ⟨30, _⟩ => out0_30 (iblk m c 24 t)
    | ⟨31, _⟩ => out0_31 (iblk m c 1 t) (iblk m c 9 t) (iblk m c 17 t) (iblk m c 24 t)
    | ⟨32, _⟩ => out0_32 (iblk m c 9 t) (iblk m c 24 t)
    | ⟨33, _⟩ => out0_33 (iblk m c 17 t) (iblk m c 24 t)
    | ⟨34, _⟩ => out0_34 (iblk m c 24 t)
    | ⟨35, _⟩ => out0_35 (iblk m c 2 t) (iblk m c 10 t) (iblk m c 18 t) (iblk m c 24 t)
    | ⟨36, _⟩ => out0_36 (iblk m c 10 t) (iblk m c 24 t)
    | ⟨37, _⟩ => out0_37 (iblk m c 18 t) (iblk m c 24 t)
    | ⟨38, _⟩ => out0_38 (iblk m c 24 t)
    | ⟨39, _⟩ => out0_39 (iblk m c 3 t) (iblk m c 11 t) (iblk m c 19 t) (iblk m c 24 t)
    | ⟨40, _⟩ => out0_40 (iblk m c 11 t) (iblk m c 24 t)
    | ⟨41, _⟩ => out0_41 (iblk m c 19 t) (iblk m c 24 t)
    | ⟨42, _⟩ => out0_42 (iblk m c 24 t)
    | ⟨43, _⟩ => out0_43 (iblk m c 4 t) (iblk m c 12 t) (iblk m c 20 t) (iblk m c 24 t)
    | ⟨44, _⟩ => out0_44 (iblk m c 12 t) (iblk m c 24 t)
    | ⟨45, _⟩ => out0_45 (iblk m c 20 t) (iblk m c 24 t)
    | ⟨46, _⟩ => out0_46 (iblk m c 24 t)
    | ⟨47, _⟩ => out0_47 (iblk m c 5 t) (iblk m c 13 t) (iblk m c 21 t) (iblk m c 24 t)
    | ⟨48, _⟩ => out0_48 (iblk m c 13 t) (iblk m c 24 t)
    | ⟨49, _⟩ => out0_49 (iblk m c 21 t) (iblk m c 24 t)
    | ⟨50, _⟩ => out0_50 (iblk m c 24 t)
    | ⟨51, _⟩ => out0_51 (iblk m c 6 t) (iblk m c 14 t) (iblk m c 22 t) (iblk m c 24 t)
    | ⟨52, _⟩ => out0_52 (iblk m c 14 t) (iblk m c 24 t)
    | ⟨53, _⟩ => out0_53 (iblk m c 22 t) (iblk m c 24 t)
    | ⟨54, _⟩ => out0_54 (iblk m c 24 t)
    | ⟨55, _⟩ => out0_55 (iblk m c 7 t) (iblk m c 15 t) (iblk m c 23 t) (iblk m c 24 t)
    | ⟨56, _⟩ => out0_56 (iblk m c 15 t) (iblk m c 24 t)
    | ⟨57, _⟩ => out0_57 (iblk m c 23 t) (iblk m c 24 t)
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 24 t) := by dsimp only [dats]
theorem after0_26 (c : Dev nD) (t : Fin cfg0.N) : (dats m 0 c).after 26 t = out0_26 (iblk m c 24 t) := by dsimp only [dats]
theorem after0_27 (c : Dev nD) (t : Fin cfg0.N) : (dats m 0 c).after 27 t = out0_27 (iblk m c 0 t) (iblk m c 8 t) (iblk m c 16 t) (iblk m c 24 t) := by dsimp only [dats]
theorem after0_28 (c : Dev nD) (t : Fin cfg0.N) : (dats m 0 c).after 28 t = out0_28 (iblk m c 8 t) (iblk m c 24 t) := by dsimp only [dats]
theorem after0_29 (c : Dev nD) (t : Fin cfg0.N) : (dats m 0 c).after 29 t = out0_29 (iblk m c 16 t) (iblk m c 24 t) := by dsimp only [dats]
theorem after0_30 (c : Dev nD) (t : Fin cfg0.N) : (dats m 0 c).after 30 t = out0_30 (iblk m c 24 t) := by dsimp only [dats]
theorem after0_31 (c : Dev nD) (t : Fin cfg0.N) : (dats m 0 c).after 31 t = out0_31 (iblk m c 1 t) (iblk m c 9 t) (iblk m c 17 t) (iblk m c 24 t) := by dsimp only [dats]
theorem after0_32 (c : Dev nD) (t : Fin cfg0.N) : (dats m 0 c).after 32 t = out0_32 (iblk m c 9 t) (iblk m c 24 t) := by dsimp only [dats]
theorem after0_33 (c : Dev nD) (t : Fin cfg0.N) : (dats m 0 c).after 33 t = out0_33 (iblk m c 17 t) (iblk m c 24 t) := by dsimp only [dats]
theorem after0_34 (c : Dev nD) (t : Fin cfg0.N) : (dats m 0 c).after 34 t = out0_34 (iblk m c 24 t) := by dsimp only [dats]
theorem after0_35 (c : Dev nD) (t : Fin cfg0.N) : (dats m 0 c).after 35 t = out0_35 (iblk m c 2 t) (iblk m c 10 t) (iblk m c 18 t) (iblk m c 24 t) := by dsimp only [dats]
theorem after0_36 (c : Dev nD) (t : Fin cfg0.N) : (dats m 0 c).after 36 t = out0_36 (iblk m c 10 t) (iblk m c 24 t) := by dsimp only [dats]
theorem after0_37 (c : Dev nD) (t : Fin cfg0.N) : (dats m 0 c).after 37 t = out0_37 (iblk m c 18 t) (iblk m c 24 t) := by dsimp only [dats]
theorem after0_38 (c : Dev nD) (t : Fin cfg0.N) : (dats m 0 c).after 38 t = out0_38 (iblk m c 24 t) := by dsimp only [dats]
theorem after0_39 (c : Dev nD) (t : Fin cfg0.N) : (dats m 0 c).after 39 t = out0_39 (iblk m c 3 t) (iblk m c 11 t) (iblk m c 19 t) (iblk m c 24 t) := by dsimp only [dats]
theorem after0_40 (c : Dev nD) (t : Fin cfg0.N) : (dats m 0 c).after 40 t = out0_40 (iblk m c 11 t) (iblk m c 24 t) := by dsimp only [dats]
theorem after0_41 (c : Dev nD) (t : Fin cfg0.N) : (dats m 0 c).after 41 t = out0_41 (iblk m c 19 t) (iblk m c 24 t) := by dsimp only [dats]
theorem after0_42 (c : Dev nD) (t : Fin cfg0.N) : (dats m 0 c).after 42 t = out0_42 (iblk m c 24 t) := by dsimp only [dats]
theorem after0_43 (c : Dev nD) (t : Fin cfg0.N) : (dats m 0 c).after 43 t = out0_43 (iblk m c 4 t) (iblk m c 12 t) (iblk m c 20 t) (iblk m c 24 t) := by dsimp only [dats]
theorem after0_44 (c : Dev nD) (t : Fin cfg0.N) : (dats m 0 c).after 44 t = out0_44 (iblk m c 12 t) (iblk m c 24 t) := by dsimp only [dats]
theorem after0_45 (c : Dev nD) (t : Fin cfg0.N) : (dats m 0 c).after 45 t = out0_45 (iblk m c 20 t) (iblk m c 24 t) := by dsimp only [dats]
theorem after0_46 (c : Dev nD) (t : Fin cfg0.N) : (dats m 0 c).after 46 t = out0_46 (iblk m c 24 t) := by dsimp only [dats]
theorem after0_47 (c : Dev nD) (t : Fin cfg0.N) : (dats m 0 c).after 47 t = out0_47 (iblk m c 5 t) (iblk m c 13 t) (iblk m c 21 t) (iblk m c 24 t) := by dsimp only [dats]
theorem after0_48 (c : Dev nD) (t : Fin cfg0.N) : (dats m 0 c).after 48 t = out0_48 (iblk m c 13 t) (iblk m c 24 t) := by dsimp only [dats]
theorem after0_49 (c : Dev nD) (t : Fin cfg0.N) : (dats m 0 c).after 49 t = out0_49 (iblk m c 21 t) (iblk m c 24 t) := by dsimp only [dats]
theorem after0_50 (c : Dev nD) (t : Fin cfg0.N) : (dats m 0 c).after 50 t = out0_50 (iblk m c 24 t) := by dsimp only [dats]
theorem after0_51 (c : Dev nD) (t : Fin cfg0.N) : (dats m 0 c).after 51 t = out0_51 (iblk m c 6 t) (iblk m c 14 t) (iblk m c 22 t) (iblk m c 24 t) := by dsimp only [dats]
theorem after0_52 (c : Dev nD) (t : Fin cfg0.N) : (dats m 0 c).after 52 t = out0_52 (iblk m c 14 t) (iblk m c 24 t) := by dsimp only [dats]
theorem after0_53 (c : Dev nD) (t : Fin cfg0.N) : (dats m 0 c).after 53 t = out0_53 (iblk m c 22 t) (iblk m c 24 t) := by dsimp only [dats]
theorem after0_54 (c : Dev nD) (t : Fin cfg0.N) : (dats m 0 c).after 54 t = out0_54 (iblk m c 24 t) := by dsimp only [dats]
theorem after0_55 (c : Dev nD) (t : Fin cfg0.N) : (dats m 0 c).after 55 t = out0_55 (iblk m c 7 t) (iblk m c 15 t) (iblk m c 23 t) (iblk m c 24 t) := by dsimp only [dats]
theorem after0_56 (c : Dev nD) (t : Fin cfg0.N) : (dats m 0 c).after 56 t = out0_56 (iblk m c 15 t) (iblk m c 24 t) := by dsimp only [dats]
theorem after0_57 (c : Dev nD) (t : Fin cfg0.N) : (dats m 0 c).after 57 t = out0_57 (iblk m c 23 t) (iblk m c 24 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What holds before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d)))

/-- What holds after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

/-- The body at a point, as the table of bodies has it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The same as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: it ends, every array holds what the proof data say, every semaphore is at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-! ## What the run leaves -/

/-- The first entry of the table of summed squared errors, scaled. -/
def scaled (s : FVec F S1x128 .f32) : FVec F S_ .f32 :=
  mulf (shapeCast S_ (extractStridedSlice S1x1 ![0, 0] s slices_S1x128_S1x1_0_0) shapeCasts_S1x1_S_) (constant S_ .f32 0x39800000#32)

theorem tail_loss (c : Dev nD) : Pipeline.afterTail₀ cfgs (dats m) 0 (V0 m) [hostOps1] c main_v3 = scaled ((dats m 0 c).arrAt 25 cfg0.N) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v0_0)
    = (dats m 0 c).arrAt 25 cfg0.N from Pipeline.withArrays_arr spec0 launch0.win.arr_inj c (V0 m c) (fun w => (dats m 0 c).arrAt w cfg0.N) 25]
  rfl

set_option maxHeartbeats 4000000 in
/-- The arguments are as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun _ h => ⟨fun c => ⟨((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4)),
    ((h.1 c).1 5).trans (((dats m 0 c).arrAt_in 5 rfl _).trans (A_eq m c 5)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8)),
    ((h.1 c).1 9).trans (((dats m 0 c).arrAt_in 9 rfl _).trans (A_eq m c 9)),
    ((h.1 c).1 10).trans (((dats m 0 c).arrAt_in 10 rfl _).trans (A_eq m c 10)),
    ((h.1 c).1 11).trans (((dats m 0 c).arrAt_in 11 rfl _).trans (A_eq m c 11)),
    ((h.1 c).1 12).trans (((dats m 0 c).arrAt_in 12 rfl _).trans (A_eq m c 12)),
    ((h.1 c).1 13).trans (((dats m 0 c).arrAt_in 13 rfl _).trans (A_eq m c 13)),
    ((h.1 c).1 14).trans (((dats m 0 c).arrAt_in 14 rfl _).trans (A_eq m c 14)),
    ((h.1 c).1 15).trans (((dats m 0 c).arrAt_in 15 rfl _).trans (A_eq m c 15)),
    ((h.1 c).1 16).trans (((dats m 0 c).arrAt_in 16 rfl _).trans (A_eq m c 16)),
    ((h.1 c).1 17).trans (((dats m 0 c).arrAt_in 17 rfl _).trans (A_eq m c 17)),
    ((h.1 c).1 18).trans (((dats m 0 c).arrAt_in 18 rfl _).trans (A_eq m c 18)),
    ((h.1 c).1 19).trans (((dats m 0 c).arrAt_in 19 rfl _).trans (A_eq m c 19)),
    ((h.1 c).1 20).trans (((dats m 0 c).arrAt_in 20 rfl _).trans (A_eq m c 20)),
    ((h.1 c).1 21).trans (((dats m 0 c).arrAt_in 21 rfl _).trans (A_eq m c 21)),
    ((h.1 c).1 22).trans (((dats m 0 c).arrAt_in 22 rfl _).trans (A_eq m c 22)),
    ((h.1 c).1 23).trans (((dats m 0 c).arrAt_in 23 rfl _).trans (A_eq m c 23)),
    ((h.1 c).1 24).trans (((dats m 0 c).arrAt_in 24 rfl _).trans (A_eq m c 24))⟩, h.2⟩) (run_main_quiescent m ρ)

set_option maxHeartbeats 4000000 in
/-- The run: its results, the arguments as they were. -/
theorem run : θ_run defs (onTc (τ := τ) (main (F := F))) ⟨m, fun _ => 0, ρ⟩ (fun r => ∀ c : Dev nD,
      r.2.mem ((c.tc : Thread nD τ).loc main_v3) = scaled ((dats m 0 c).arrAt 25 cfg0.N)
      ∧ r.2.mem ((c.tc : Thread nD τ).loc main_v0_1) = (dats m 0 c).arrAt 26 cfg0.N
      ∧ r.2.mem ((c.tc : Thread nD τ).loc main_v0_2) = (dats m 0 c).arrAt 27 cfg0.N
      ∧ r.2.mem ((c.tc : Thread nD τ).loc main_v0_3) = (dats m 0 c).arrAt 28 cfg0.N
      ∧ r.2.mem ((c.tc : Thread nD τ).loc main_v0_4) = (dats m 0 c).arrAt 29 cfg0.N
      ∧ r.2.mem ((c.tc : Thread nD τ).loc main_v0_5) = (dats m 0 c).arrAt 30 cfg0.N
      ∧ r.2.mem ((c.tc : Thread nD τ).loc main_v0_6) = (dats m 0 c).arrAt 31 cfg0.N
      ∧ r.2.mem ((c.tc : Thread nD τ).loc main_v0_7) = (dats m 0 c).arrAt 32 cfg0.N
      ∧ r.2.mem ((c.tc : Thread nD τ).loc main_v0_8) = (dats m 0 c).arrAt 33 cfg0.N
      ∧ r.2.mem ((c.tc : Thread nD τ).loc main_v0_9) = (dats m 0 c).arrAt 34 cfg0.N
      ∧ r.2.mem ((c.tc : Thread nD τ).loc main_v0_10) = (dats m 0 c).arrAt 35 cfg0.N
      ∧ r.2.mem ((c.tc : Thread nD τ).loc main_v0_11) = (dats m 0 c).arrAt 36 cfg0.N
      ∧ r.2.mem ((c.tc : Thread nD τ).loc main_v0_12) = (dats m 0 c).arrAt 37 cfg0.N
      ∧ r.2.mem ((c.tc : Thread nD τ).loc main_v0_13) = (dats m 0 c).arrAt 38 cfg0.N
      ∧ r.2.mem ((c.tc : Thread nD τ).loc main_v0_14) = (dats m 0 c).arrAt 39 cfg0.N
      ∧ r.2.mem ((c.tc : Thread nD τ).loc main_v0_15) = (dats m 0 c).arrAt 40 cfg0.N
      ∧ r.2.mem ((c.tc : Thread nD τ).loc main_v0_16) = (dats m 0 c).arrAt 41 cfg0.N
      ∧ r.2.mem ((c.tc : Thread nD τ).loc main_v0_17) = (dats m 0 c).arrAt 42 cfg0.N
      ∧ r.2.mem ((c.tc : Thread nD τ).loc main_v0_18) = (dats m 0 c).arrAt 43 cfg0.N
      ∧ r.2.mem ((c.tc : Thread nD τ).loc main_v0_19) = (dats m 0 c).arrAt 44 cfg0.N
      ∧ r.2.mem ((c.tc : Thread nD τ).loc main_v0_20) = (dats m 0 c).arrAt 45 cfg0.N
      ∧ r.2.mem ((c.tc : Thread nD τ).loc main_v0_21) = (dats m 0 c).arrAt 46 cfg0.N
      ∧ r.2.mem ((c.tc : Thread nD τ).loc main_v0_22) = (dats m 0 c).arrAt 47 cfg0.N
      ∧ r.2.mem ((c.tc : Thread nD τ).loc main_v0_23) = (dats m 0 c).arrAt 48 cfg0.N
      ∧ r.2.mem ((c.tc : Thread nD τ).loc main_v0_24) = (dats m 0 c).arrAt 49 cfg0.N
      ∧ r.2.mem ((c.tc : Thread nD τ).loc main_v0_25) = (dats m 0 c).arrAt 50 cfg0.N
      ∧ r.2.mem ((c.tc : Thread nD τ).loc main_v0_26) = (dats m 0 c).arrAt 51 cfg0.N
      ∧ r.2.mem ((c.tc : Thread nD τ).loc main_v0_27) = (dats m 0 c).arrAt 52 cfg0.N
      ∧ r.2.mem ((c.tc : Thread nD τ).loc main_v0_28) = (dats m 0 c).arrAt 53 cfg0.N
      ∧ r.2.mem ((c.tc : Thread nD τ).loc main_v0_29) = (dats m 0 c).arrAt 54 cfg0.N
      ∧ r.2.mem ((c.tc : Thread nD τ).loc main_v0_30) = (dats m 0 c).arrAt 55 cfg0.N
      ∧ r.2.mem ((c.tc : Thread nD τ).loc main_v0_31) = (dats m 0 c).arrAt 56 cfg0.N
      ∧ r.2.mem ((c.tc : Thread nD τ).loc main_v0_32) = (dats m 0 c).arrAt 57 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h.1 c).2 main_v3 (by decide)).trans (tail_loss m c),
    (h.1 c).1 26, (h.1 c).1 27, (h.1 c).1 28, (h.1 c).1 29, (h.1 c).1 30, (h.1 c).1 31, (h.1 c).1 32, (h.1 c).1 33, (h.1 c).1 34, (h.1 c).1 35, (h.1 c).1 36, (h.1 c).1 37, (h.1 c).1 38, (h.1 c).1 39, (h.1 c).1 40, (h.1 c).1 41, (h.1 c).1 42, (h.1 c).1 43, (h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57,
    ((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4)),
    ((h.1 c).1 5).trans (((dats m 0 c).arrAt_in 5 rfl _).trans (A_eq m c 5)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8)),
    ((h.1 c).1 9).trans (((dats m 0 c).arrAt_in 9 rfl _).trans (A_eq m c 9)),
    ((h.1 c).1 10).trans (((dats m 0 c).arrAt_in 10 rfl _).trans (A_eq m c 10)),
    ((h.1 c).1 11).trans (((dats m 0 c).arrAt_in 11 rfl _).trans (A_eq m c 11)),
    ((h.1 c).1 12).trans (((dats m 0 c).arrAt_in 12 rfl _).trans (A_eq m c 12)),
    ((h.1 c).1 13).trans (((dats m 0 c).arrAt_in 13 rfl _).trans (A_eq m c 13)),
    ((h.1 c).1 14).trans (((dats m 0 c).arrAt_in 14 rfl _).trans (A_eq m c 14)),
    ((h.1 c).1 15).trans (((dats m 0 c).arrAt_in 15 rfl _).trans (A_eq m c 15)),
    ((h.1 c).1 16).trans (((dats m 0 c).arrAt_in 16 rfl _).trans (A_eq m c 16)),
    ((h.1 c).1 17).trans (((dats m 0 c).arrAt_in 17 rfl _).trans (A_eq m c 17)),
    ((h.1 c).1 18).trans (((dats m 0 c).arrAt_in 18 rfl _).trans (A_eq m c 18)),
    ((h.1 c).1 19).trans (((dats m 0 c).arrAt_in 19 rfl _).trans (A_eq m c 19)),
    ((h.1 c).1 20).trans (((dats m 0 c).arrAt_in 20 rfl _).trans (A_eq m c 20)),
    ((h.1 c).1 21).trans (((dats m 0 c).arrAt_in 21 rfl _).trans (A_eq m c 21)),
    ((h.1 c).1 22).trans (((dats m 0 c).arrAt_in 22 rfl _).trans (A_eq m c 22)),
    ((h.1 c).1 23).trans (((dats m 0 c).arrAt_in 23 rfl _).trans (A_eq m c 23)),
    ((h.1 c).1 24).trans (((dats m 0 c).arrAt_in 24 rfl _).trans (A_eq m c 24))⟩) (run_main_quiescent m ρ)

end Cert.UpdateReplicated

end
-- ==== Proof.UpdateReplicatedReference.lean ====
module

public import proofs.«01_k».proof.Proof.Gen.Reference18Ideal.Run
public import proofs.«01_k».proof.Proof.Adam

@[expose] public section

/-!
# The optimiser's step on the replicated weights and the loss, element by element

The eight contributions are tables of 16 rows of 2048. Rows 0 to 7 hold the gradients of four weights of two rows each, rows 8
and 9 those of four weights of half a row each, row 10 the summed squared errors at its start.
-/

noncomputable section

namespace Cert.UpdateReplicated.Ref

open Cert.Reference18Ideal Cert.Reference18Ideal.Gen Cert.Reference18Ideal.Value
open Idealize.ShloMosaic Idealize.ShloMosaic.TcCoe

/-- The sum of the eight contributions to an entry. -/
def total (f : Fin 8 → EReal) : EReal := ∑ s : Fin 8, f s

theorem total_eq (f : Fin 8 → EReal) : total f = f 0 + f 1 + f 2 + f 3 + f 4 + f 5 + f 6 + f 7 := Fin.sum_univ_eight f

/-- Entry `(r, n)` of weight 0 in contribution `s`. -/
def spot0 (s : Fin 8) (r : Fin 2) (n : Fin 2048) : S8x16x2048.Idx :=
  ix3 s (⟨0 + r.val, by have := r.isLt; omega⟩ : Fin 16) (⟨0 + n.val, by have := n.isLt; omega⟩ : Fin 2048)

/-- Entry `(r, n)` of weight 1 in contribution `s`. -/
def spot1 (s : Fin 8) (r : Fin 2) (n : Fin 2048) : S8x16x2048.Idx :=
  ix3 s (⟨2 + r.val, by have := r.isLt; omega⟩ : Fin 16) (⟨0 + n.val, by have := n.isLt; omega⟩ : Fin 2048)

/-- Entry `(r, n)` of weight 2 in contribution `s`. -/
def spot2 (s : Fin 8) (r : Fin 2) (n : Fin 2048) : S8x16x2048.Idx :=
  ix3 s (⟨4 + r.val, by have := r.isLt; omega⟩ : Fin 16) (⟨0 + n.val, by have := n.isLt; omega⟩ : Fin 2048)

/-- Entry `(r, n)` of weight 3 in contribution `s`. -/
def spot3 (s : Fin 8) (r : Fin 2) (n : Fin 2048) : S8x16x2048.Idx :=
  ix3 s (⟨6 + r.val, by have := r.isLt; omega⟩ : Fin 16) (⟨0 + n.val, by have := n.isLt; omega⟩ : Fin 2048)

/-- Entry `(r, n)` of weight 4 in contribution `s`. -/
def spot4 (s : Fin 8) (r : Fin 1) (n : Fin 1024) : S8x16x2048.Idx :=
  ix3 s (⟨8 + r.val, by have := r.isLt; omega⟩ : Fin 16) (⟨0 + n.val, by have := n.isLt; omega⟩ : Fin 2048)

/-- Entry `(r, n)` of weight 5 in contribution `s`. -/
def spot5 (s : Fin 8) (r : Fin 1) (n : Fin 1024) : S8x16x2048.Idx :=
  ix3 s (⟨8 + r.val, by have := r.isLt; omega⟩ : Fin 16) (⟨1024 + n.val, by have := n.isLt; omega⟩ : Fin 2048)

/-- Entry `(r, n)` of weight 6 in contribution `s`. -/
def spot6 (s : Fin 8) (r : Fin 1) (n : Fin 1024) : S8x16x2048.Idx :=
  ix3 s (⟨9 + r.val, by have := r.isLt; omega⟩ : Fin 16) (⟨0 + n.val, by have := n.isLt; omega⟩ : Fin 2048)

/-- Entry `(r, n)` of weight 7 in contribution `s`. -/
def spot7 (s : Fin 8) (r : Fin 1) (n : Fin 1024) : S8x16x2048.Idx :=
  ix3 s (⟨9 + r.val, by have := r.isLt; omega⟩ : Fin 16) (⟨1024 + n.val, by have := n.isLt; omega⟩ : Fin 2048)

section Wide

variable (w m v g : FVec Ideal S2x2048 .f32) (r : Fin 2) (n : Fin 2048)

/-- The first moment after the step. -/
def firstWide : FVec Ideal S2x2048 .f32 :=
  addf (mulf (broadcastInDim S2x2048 ![] bcast_S_S2x2048 (constant S_ .f32 0x3F666666#32)) m)
    (mulf (broadcastInDim S2x2048 ![] bcast_S_S2x2048 (constant S_ .f32 0x3DCCCCCD#32)) g)

/-- The second moment after the step. -/
def secondWide : FVec Ideal S2x2048 .f32 :=
  addf (mulf (broadcastInDim S2x2048 ![] bcast_S_S2x2048 (constant S_ .f32 0x3F7FBE77#32)) v)
    (mulf (broadcastInDim S2x2048 ![] bcast_S_S2x2048 (constant S_ .f32 0x3A83126F#32)) (mulf g g))

/-- The change of the weight. -/
def deltaWide : FVec Ideal S2x2048 .f32 :=
  mulf (broadcastInDim S2x2048 ![] bcast_S_S2x2048 (constant S_ .f32 0xBA83126F#32))
    (addf (Host.divf (Host.divf (firstWide m g) (broadcastInDim S2x2048 ![] bcast_S_S2x2048 (constant S_ .f32 0x3F26BD02#32)))
        (addf (Host.sqrt (Host.divf (secondWide v g) (broadcastInDim S2x2048 ![] bcast_S_S2x2048 (constant S_ .f32 0x3C231ACC#32))))
          (broadcastInDim S2x2048 ![] bcast_S_S2x2048 (constant S_ .f32 0x322BCC77#32))))
      (mulf (broadcastInDim S2x2048 ![] bcast_S_S2x2048 (constant S_ .f32 0x3C23D70A#32)) w))

theorem firstWide_at : firstWide m g (ix2 r n) = Adam.first (m (ix2 r n)) (g (ix2 r n)) := by pointwise [firstWide, Adam.first]
theorem secondWide_at : secondWide v g (ix2 r n) = Adam.second (v (ix2 r n)) (g (ix2 r n)) := by pointwise [secondWide, Adam.second]
theorem deltaWide_at : deltaWide w m v g (ix2 r n) = Adam.change (w (ix2 r n)) (m (ix2 r n)) (v (ix2 r n)) (g (ix2 r n)) := by
  pointwise [deltaWide, firstWide_at, secondWide_at, Adam.change]

end Wide

section Narrow

variable (w m v g : FVec Ideal S1x1024 .f32) (r : Fin 1) (n : Fin 1024)

/-- The first moment after the step. -/
def firstNarrow : FVec Ideal S1x1024 .f32 :=
  addf (mulf (broadcastInDim S1x1024 ![] bcast_S_S1x1024 (constant S_ .f32 0x3F666666#32)) m)
    (mulf (broadcastInDim S1x1024 ![] bcast_S_S1x1024 (constant S_ .f32 0x3DCCCCCD#32)) g)

/-- The second moment after the step. -/
def secondNarrow : FVec Ideal S1x1024 .f32 :=
  addf (mulf (broadcastInDim S1x1024 ![] bcast_S_S1x1024 (constant S_ .f32 0x3F7FBE77#32)) v)
    (mulf (broadcastInDim S1x1024 ![] bcast_S_S1x1024 (constant S_ .f32 0x3A83126F#32)) (mulf g g))

/-- The change of the weight. -/
def deltaNarrow : FVec Ideal S1x1024 .f32 :=
  mulf (broadcastInDim S1x1024 ![] bcast_S_S1x1024 (constant S_ .f32 0xBA83126F#32))
    (addf (Host.divf (Host.divf (firstNarrow m g) (broadcastInDim S1x1024 ![] bcast_S_S1x1024 (constant S_ .f32 0x3F26BD02#32)))
        (addf (Host.sqrt (Host.divf (secondNarrow v g) (broadcastInDim S1x1024 ![] bcast_S_S1x1024 (constant S_ .f32 0x3C231ACC#32))))
          (broadcastInDim S1x1024 ![] bcast_S_S1x1024 (constant S_ .f32 0x322BCC77#32))))
      (mulf (broadcastInDim S1x1024 ![] bcast_S_S1x1024 (constant S_ .f32 0x3C23D70A#32)) w))

theorem firstNarrow_at : firstNarrow m g (ix2 r n) = Adam.first (m (ix2 r n)) (g (ix2 r n)) := by pointwise [firstNarrow, Adam.first]
theorem secondNarrow_at : secondNarrow v g (ix2 r n) = Adam.second (v (ix2 r n)) (g (ix2 r n)) := by pointwise [secondNarrow, Adam.second]
theorem deltaNarrow_at : deltaNarrow w m v g (ix2 r n) = Adam.change (w (ix2 r n)) (m (ix2 r n)) (v (ix2 r n)) (g (ix2 r n)) := by
  pointwise [deltaNarrow, firstNarrow_at, secondNarrow_at, Adam.change]

end Narrow

section Gradients

variable (c : FVec Ideal S8x16x2048 .f32)

/-- The table of sums. -/
def sums : FVec Ideal S16x2048 .f32 :=
  Host.reduceAdd c (constant S_ .f32 0x00000000#32) reducesTo_S8x16x2048_S16x2048_d0 h_S_

theorem sums_at (r : Fin 16) (n : Fin 2048) : sums c (ix2 r n) = total fun s => c (ix3 s r n) := by pointwise [sums, total]

/-- Half the mean of the squared errors. -/
def loss : FVec Ideal S_ .f32 :=
  mulf (constant S_ .f32 0x3F000000#32)
    (Host.divf (shapeCast _ (extractStridedSlice S1x1 ![10, 0] (sums c) slices_S16x2048_S1x1_10_0) shapeCasts_S1x1_S_)
      (constant S_ .f32 0x45000000#32))

theorem loss_at (i : S_.Idx) : loss c i = Ideal.ofBits .f32 0x3F000000#32
    * Ideal.div (total fun s => c (ix3 s (10 : Fin 16) (0 : Fin 2048))) (Ideal.ofBits .f32 0x45000000#32) := by
  rw [← sums_at]
  pointwise [loss]

/-- The gradient of weight 0. -/
def grad0 : FVec Ideal S2x2048 .f32 := extractStridedSlice S2x2048 ![0, 0] (sums c) slices_S16x2048_S2x2048_0_0

theorem grad0_at (r : Fin 2) (n : Fin 2048) : grad0 c (ix2 r n) = total fun s => c (spot0 s r n) := by
  unfold spot0
  rw [← sums_at]
  pointwise [grad0]

/-- The gradient of weight 1. -/
def grad1 : FVec Ideal S2x2048 .f32 := extractStridedSlice S2x2048 ![2, 0] (sums c) slices_S16x2048_S2x2048_2_0

theorem grad1_at (r : Fin 2) (n : Fin 2048) : grad1 c (ix2 r n) = total fun s => c (spot1 s r n) := by
  unfold spot1
  rw [← sums_at]
  pointwise [grad1]

/-- The gradient of weight 2. -/
def grad2 : FVec Ideal S2x2048 .f32 := extractStridedSlice S2x2048 ![4, 0] (sums c) slices_S16x2048_S2x2048_4_0

theorem grad2_at (r : Fin 2) (n : Fin 2048) : grad2 c (ix2 r n) = total fun s => c (spot2 s r n) := by
  unfold spot2
  rw [← sums_at]
  pointwise [grad2]

/-- The gradient of weight 3. -/
def grad3 : FVec Ideal S2x2048 .f32 := extractStridedSlice S2x2048 ![6, 0] (sums c) slices_S16x2048_S2x2048_6_0

theorem grad3_at (r : Fin 2) (n : Fin 2048) : grad3 c (ix2 r n) = total fun s => c (spot3 s r n) := by
  unfold spot3
  rw [← sums_at]
  pointwise [grad3]

/-- The gradient of weight 4. -/
def grad4 : FVec Ideal S1x1024 .f32 := extractStridedSlice S1x1024 ![8, 0] (sums c) slices_S16x2048_S1x1024_8_0

theorem grad4_at (r : Fin 1) (n : Fin 1024) : grad4 c (ix2 r n) = total fun s => c (spot4 s r n) := by
  unfold spot4
  rw [← sums_at]
  pointwise [grad4]

/-- The gradient of weight 5. -/
def grad5 : FVec Ideal S1x1024 .f32 := extractStridedSlice S1x1024 ![8, 1024] (sums c) slices_S16x2048_S1x1024_8_1024

theorem grad5_at (r : Fin 1) (n : Fin 1024) : grad5 c (ix2 r n) = total fun s => c (spot5 s r n) := by
  unfold spot5
  rw [← sums_at]
  pointwise [grad5]

/-- The gradient of weight 6. -/
def grad6 : FVec Ideal S1x1024 .f32 := extractStridedSlice S1x1024 ![9, 0] (sums c) slices_S16x2048_S1x1024_9_0

theorem grad6_at (r : Fin 1) (n : Fin 1024) : grad6 c (ix2 r n) = total fun s => c (spot6 s r n) := by
  unfold spot6
  rw [← sums_at]
  pointwise [grad6]

/-- The gradient of weight 7. -/
def grad7 : FVec Ideal S1x1024 .f32 := extractStridedSlice S1x1024 ![9, 1024] (sums c) slices_S16x2048_S1x1024_9_1024

theorem grad7_at (r : Fin 1) (n : Fin 1024) : grad7 c (ix2 r n) = total fun s => c (spot7 s r n) := by
  unfold spot7
  rw [← sums_at]
  pointwise [grad7]

end Gradients

variable (m : (ℓ : Loc nD τ sig) → Buf (Elt Ideal) ℓ) (c : Dev nD)

/-- The arguments: the weights, their moments, the contributions. -/
abbrev wOf0 : S2x2048.Idx → EReal := m ((c.tc : Thread nD τ).loc main_arg0)
abbrev wOf1 : S2x2048.Idx → EReal := m ((c.tc : Thread nD τ).loc main_arg1)
abbrev wOf2 : S2x2048.Idx → EReal := m ((c.tc : Thread nD τ).loc main_arg2)
abbrev wOf3 : S2x2048.Idx → EReal := m ((c.tc : Thread nD τ).loc main_arg3)
abbrev wOf4 : S1x1024.Idx → EReal := m ((c.tc : Thread nD τ).loc main_arg4)
abbrev wOf5 : S1x1024.Idx → EReal := m ((c.tc : Thread nD τ).loc main_arg5)
abbrev wOf6 : S1x1024.Idx → EReal := m ((c.tc : Thread nD τ).loc main_arg6)
abbrev wOf7 : S1x1024.Idx → EReal := m ((c.tc : Thread nD τ).loc main_arg7)
abbrev mOf0 : S2x2048.Idx → EReal := m ((c.tc : Thread nD τ).loc main_arg8)
abbrev mOf1 : S2x2048.Idx → EReal := m ((c.tc : Thread nD τ).loc main_arg9)
abbrev mOf2 : S2x2048.Idx → EReal := m ((c.tc : Thread nD τ).loc main_arg10)
abbrev mOf3 : S2x2048.Idx → EReal := m ((c.tc : Thread nD τ).loc main_arg11)
abbrev mOf4 : S1x1024.Idx → EReal := m ((c.tc : Thread nD τ).loc main_arg12)
abbrev mOf5 : S1x1024.Idx → EReal := m ((c.tc : Thread nD τ).loc main_arg13)
abbrev mOf6 : S1x1024.Idx → EReal := m ((c.tc : Thread nD τ).loc main_arg14)
abbrev mOf7 : S1x1024.Idx → EReal := m ((c.tc : Thread nD τ).loc main_arg15)
abbrev vOf0 : S2x2048.Idx → EReal := m ((c.tc : Thread nD τ).loc main_arg16)
abbrev vOf1 : S2x2048.Idx → EReal := m ((c.tc : Thread nD τ).loc main_arg17)
abbrev vOf2 : S2x2048.Idx → EReal := m ((c.tc : Thread nD τ).loc main_arg18)
abbrev vOf3 : S2x2048.Idx → EReal := m ((c.tc : Thread nD τ).loc main_arg19)
abbrev vOf4 : S1x1024.Idx → EReal := m ((c.tc : Thread nD τ).loc main_arg20)
abbrev vOf5 : S1x1024.Idx → EReal := m ((c.tc : Thread nD τ).loc main_arg21)
abbrev vOf6 : S1x1024.Idx → EReal := m ((c.tc : Thread nD τ).loc main_arg22)
abbrev vOf7 : S1x1024.Idx → EReal := m ((c.tc : Thread nD τ).loc main_arg23)
abbrev cOf : S8x16x2048.Idx → EReal := m ((c.tc : Thread nD τ).loc main_arg24)

/-- The reference's run: its results, the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = loss (cOf m c)
      ∧ r.2.mem ((c.tc : Thread nD τ).loc main_v5) = grad0 (cOf m c)
      ∧ r.2.mem ((c.tc : Thread nD τ).loc main_v29) = deltaWide (wOf0 m c) (mOf0 m c) (vOf0 m c) (grad0 (cOf m c))
      ∧ r.2.mem ((c.tc : Thread nD τ).loc main_v10) = firstWide (mOf0 m c) (grad0 (cOf m c))
      ∧ r.2.mem ((c.tc : Thread nD τ).loc main_v16) = secondWide (vOf0 m c) (grad0 (cOf m c))
      ∧ r.2.mem ((c.tc : Thread nD τ).loc main_v30) = grad1 (cOf m c)
      ∧ r.2.mem ((c.tc : Thread nD τ).loc main_v54) = deltaWide (wOf1 m c) (mOf1 m c) (vOf1 m c) (grad1 (cOf m c))
      ∧ r.2.mem ((c.tc : Thread nD τ).loc main_v35) = firstWide (mOf1 m c) (grad1 (cOf m c))
      ∧ r.2.mem ((c.tc : Thread nD τ).loc main_v41) = secondWide (vOf1 m c) (grad1 (cOf m c))
      ∧ r.2.mem ((c.tc : Thread nD τ).loc main_v55) = grad2 (cOf m c)
      ∧ r.2.mem ((c.tc : Thread nD τ).loc main_v79) = deltaWide (wOf2 m c) (mOf2 m c) (vOf2 m c) (grad2 (cOf m c))
      ∧ r.2.mem ((c.tc : Thread nD τ).loc main_v60) = firstWide (mOf2 m c) (grad2 (cOf m c))
      ∧ r.2.mem ((c.tc : Thread nD τ).loc main_v66) = secondWide (vOf2 m c) (grad2 (cOf m c))
      ∧ r.2.mem ((c.tc : Thread nD τ).loc main_v80) = grad3 (cOf m c)
      ∧ r.2.mem ((c.tc : Thread nD τ).loc main_v104) = deltaWide (wOf3 m c) (mOf3 m c) (vOf3 m c) (grad3 (cOf m c))
      ∧ r.2.mem ((c.tc : Thread nD τ).loc main_v85) = firstWide (mOf3 m c) (grad3 (cOf m c))
      ∧ r.2.mem ((c.tc : Thread nD τ).loc main_v91) = secondWide (vOf3 m c) (grad3 (cOf m c))
      ∧ r.2.mem ((c.tc : Thread nD τ).loc main_v105) = grad4 (cOf m c)
      ∧ r.2.mem ((c.tc : Thread nD τ).loc main_v129) = deltaNarrow (wOf4 m c) (mOf4 m c) (vOf4 m c) (grad4 (cOf m c))
      ∧ r.2.mem ((c.tc : Thread nD τ).loc main_v110) = firstNarrow (mOf4 m c) (grad4 (cOf m c))
      ∧ r.2.mem ((c.tc : Thread nD τ).loc main_v116) = secondNarrow (vOf4 m c) (grad4 (cOf m c))
      ∧ r.2.mem ((c.tc : Thread nD τ).loc main_v130) = grad5 (cOf m c)
      ∧ r.2.mem ((c.tc : Thread nD τ).loc main_v154) = deltaNarrow (wOf5 m c) (mOf5 m c) (vOf5 m c) (grad5 (cOf m c))
      ∧ r.2.mem ((c.tc : Thread nD τ).loc main_v135) = firstNarrow (mOf5 m c) (grad5 (cOf m c))
      ∧ r.2.mem ((c.tc : Thread nD τ).loc main_v141) = secondNarrow (vOf5 m c) (grad5 (cOf m c))
      ∧ r.2.mem ((c.tc : Thread nD τ).loc main_v155) = grad6 (cOf m c)
      ∧ r.2.mem ((c.tc : Thread nD τ).loc main_v179) = deltaNarrow (wOf6 m c) (mOf6 m c) (vOf6 m c) (grad6 (cOf m c))
      ∧ r.2.mem ((c.tc : Thread nD τ).loc main_v160) = firstNarrow (mOf6 m c) (grad6 (cOf m c))
      ∧ r.2.mem ((c.tc : Thread nD τ).loc main_v166) = secondNarrow (vOf6 m c) (grad6 (cOf m c))
      ∧ r.2.mem ((c.tc : Thread nD τ).loc main_v180) = grad7 (cOf m c)
      ∧ r.2.mem ((c.tc : Thread nD τ).loc main_v204) = deltaNarrow (wOf7 m c) (mOf7 m c) (vOf7 m c) (grad7 (cOf m c))
      ∧ r.2.mem ((c.tc : Thread nD τ).loc main_v185) = firstNarrow (mOf7 m c) (grad7 (cOf m c))
      ∧ r.2.mem ((c.tc : Thread nD τ).loc main_v191) = secondNarrow (vOf7 m c) (grad7 (cOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans rfl,
    (h c).2.1.trans rfl,
    (h c).2.2.1.trans rfl,
    (h c).2.2.2.1.trans rfl,
    (h c).2.2.2.2.1.trans rfl,
    (h c).2.2.2.2.2.1.trans rfl,
    (h c).2.2.2.2.2.2.1.trans rfl,
    (h c).2.2.2.2.2.2.2.1.trans rfl,
    (h c).2.2.2.2.2.2.2.2.1.trans rfl,
    (h c).2.2.2.2.2.2.2.2.2.1.trans rfl,
    (h c).2.2.2.2.2.2.2.2.2.2.1.trans rfl,
    (h c).2.2.2.2.2.2.2.2.2.2.2.1.trans rfl,
    (h c).2.2.2.2.2.2.2.2.2.2.2.2.1.trans rfl,
    (h c).2.2.2.2.2.2.2.2.2.2.2.2.2.1.trans rfl,
    (h c).2.2.2.2.2.2.2.2.2.2.2.2.2.2.1.trans rfl,
    (h c).2.2.2.2.2.2.2.2.2.2.2.2.2.2.2.1.trans rfl,
    (h c).2.2.2.2.2.2.2.2.2.2.2.2.2.2.2.2.1.trans rfl,
    (h c).2.2.2.2.2.2.2.2.2.2.2.2.2.2.2.2.2.1.trans rfl,
    (h c).2.2.2.2.2.2.2.2.2.2.2.2.2.2.2.2.2.2.1.trans rfl,
    (h c).2.2.2.2.2.2.2.2.2.2.2.2.2.2.2.2.2.2.2.1.trans rfl,
    (h c).2.2.2.2.2.2.2.2.2.2.2.2.2.2.2.2.2.2.2.2.1.trans rfl,
    (h c).2.2.2.2.2.2.2.2.2.2.2.2.2.2.2.2.2.2.2.2.2.1.trans rfl,
    (h c).2.2.2.2.2.2.2.2.2.2.2.2.2.2.2.2.2.2.2.2.2.2.1.trans rfl,
    (h c).2.2.2.2.2.2.2.2.2.2.2.2.2.2.2.2.2.2.2.2.2.2.2.1.trans rfl,
    (h c).2.2.2.2.2.2.2.2.2.2.2.2.2.2.2.2.2.2.2.2.2.2.2.2.1.trans rfl,
    (h c).2.2.2.2.2.2.2.2.2.2.2.2.2.2.2.2.2.2.2.2.2.2.2.2.2.1.trans rfl,
    (h c).2.2.2.2.2.2.2.2.2.2.2.2.2.2.2.2.2.2.2.2.2.2.2.2.2.2.1.trans rfl,
    (h c).2.2.2.2.2.2.2.2.2.2.2.2.2.2.2.2.2.2.2.2.2.2.2.2.2.2.2.1.trans rfl,
    (h c).2.2.2.2.2.2.2.2.2.2.2.2.2.2.2.2.2.2.2.2.2.2.2.2.2.2.2.2.1.trans rfl,
    (h c).2.2.2.2.2.2.2.2.2.2.2.2.2.2.2.2.2.2.2.2.2.2.2.2.2.2.2.2.2.1.trans rfl,
    (h c).2.2.2.2.2.2.2.2.2.2.2.2.2.2.2.2.2.2.2.2.2.2.2.2.2.2.2.2.2.2.1.trans rfl,
    (h c).2.2.2.2.2.2.2.2.2.2.2.2.2.2.2.2.2.2.2.2.2.2.2.2.2.2.2.2.2.2.2.1.trans rfl,
    (h c).2.2.2.2.2.2.2.2.2.2.2.2.2.2.2.2.2.2.2.2.2.2.2.2.2.2.2.2.2.2.2.2.1.trans rfl,
    (h c).2.2.2.2.2.2.2.2.2.2.2.2.2.2.2.2.2.2.2.2.2.2.2.2.2.2.2.2.2.2.2.2.2⟩) (Cert.Reference18Ideal.Value.run m ρ)

end Cert.UpdateReplicated.Ref

end
-- ==== Proof.UpdateReplicated.lean ====
module

public import proofs.«01_k».proof.Proof.UpdateReplicatedRun
public import proofs.«01_k».proof.Proof.UpdateReplicatedReference
public import Idealize.ShloMosaic.Lib.Pipeline.ValueKit

@[expose] public section

/-!
# The optimiser's step on the replicated weights as the kernel computes it

The grid has one point. The kernel adds the eight contributions slice by slice and steps each weight with its sum.
-/

noncomputable section

namespace Cert.UpdateReplicated

open Cert.Kernel18Ideal Cert.Kernel18Ideal.Gen Cert.UpdateReplicated.Ref
open Idealize.ShloMosaic Idealize.ShloMosaic.TcCoe

/-! ## What the body leaves -/

section Wide

variable (w m v : Vec Ideal S2x2048 .f32) (c : Vec Ideal S8x16x2048 .f32) (r : Fin 2) (n : Fin 2048)

theorem out26_at : out0_26 c (ix2 r n) = total fun s => c (spot0 s r n) := by
  rw [total_eq]
  unfold out0_26 k0_pay48
  frame_out
  pointwise [k0_pay2, k0_pay3, spot0]

theorem out27_at : out0_27 w m v c (ix2 r n) = Adam.change (w (ix2 r n)) (m (ix2 r n)) (v (ix2 r n)) (total fun s => c (spot0 s r n)) := by
  rw [total_eq]
  unfold out0_27 k0_pay51 k0_pay50 k0_pay49 k0_pay48
  frame_out
  pointwise [k0_pay2, k0_pay3, k0_pay4, k0_pay5, k0_pay6, k0_pay7, spot0, Adam.change, Adam.first, Adam.second]

theorem out28_at : out0_28 m c (ix2 r n) = Adam.first (m (ix2 r n)) (total fun s => c (spot0 s r n)) := by
  rw [total_eq]
  unfold out0_28 k0_pay50 k0_pay48
  frame_out
  pointwise [k0_pay2, k0_pay3, k0_pay4, spot0, Adam.first]

theorem out29_at : out0_29 v c (ix2 r n) = Adam.second (v (ix2 r n)) (total fun s => c (spot0 s r n)) := by
  rw [total_eq]
  unfold out0_29 k0_pay51 k0_pay49 k0_pay48
  frame_out
  pointwise [k0_pay2, k0_pay3, k0_pay5, k0_pay6, spot0, Adam.second]

theorem out30_at : out0_30 c (ix2 r n) = total fun s => c (spot1 s r n) := by
  rw [total_eq]
  unfold out0_30 k0_pay52
  frame_out
  pointwise [k0_pay8, k0_pay9, spot1]

theorem out31_at : out0_31 w m v c (ix2 r n) = Adam.change (w (ix2 r n)) (m (ix2 r n)) (v (ix2 r n)) (total fun s => c (spot1 s r n)) := by
  rw [total_eq]
  unfold out0_31 k0_pay52
  frame_out
  pointwise [k0_pay8, k0_pay9, k0_pay10, k0_pay11, k0_pay12, k0_pay13, k0_pay14, k0_pay15, spot1, Adam.change, Adam.first, Adam.second]

theorem out32_at : out0_32 m c (ix2 r n) = Adam.first (m (ix2 r n)) (total fun s => c (spot1 s r n)) := by
  rw [total_eq]
  unfold out0_32 k0_pay52
  frame_out
  pointwise [k0_pay8, k0_pay9, k0_pay10, spot1, Adam.first]

theorem out33_at : out0_33 v c (ix2 r n) = Adam.second (v (ix2 r n)) (total fun s => c (spot1 s r n)) := by
  rw [total_eq]
  unfold out0_33 k0_pay52
  frame_out
  pointwise [k0_pay8, k0_pay9, k0_pay11, spot1, Adam.second]

theorem out34_at : out0_34 c (ix2 r n) = total fun s => c (spot2 s r n) := by
  rw [total_eq]
  unfold out0_34 k0_pay53
  frame_out
  pointwise [k0_pay16, k0_pay17, spot2]

theorem out35_at : out0_35 w m v c (ix2 r n) = Adam.change (w (ix2 r n)) (m (ix2 r n)) (v (ix2 r n)) (total fun s => c (spot2 s r n)) := by
  rw [total_eq]
  unfold out0_35 k0_pay53
  frame_out
  pointwise [k0_pay16, k0_pay17, k0_pay18, k0_pay19, k0_pay20, spot2, Adam.change, Adam.first, Adam.second]

theorem out36_at : out0_36 m c (ix2 r n) = Adam.first (m (ix2 r n)) (total fun s => c (spot2 s r n)) := by
  rw [total_eq]
  unfold out0_36 k0_pay53
  frame_out
  pointwise [k0_pay16, k0_pay17, k0_pay18, spot2, Adam.first]

theorem out37_at : out0_37 v c (ix2 r n) = Adam.second (v (ix2 r n)) (total fun s => c (spot2 s r n)) := by
  rw [total_eq]
  unfold out0_37 k0_pay53
  frame_out
  pointwise [k0_pay16, k0_pay17, k0_pay19, spot2, Adam.second]

theorem out38_at : out0_38 c (ix2 r n) = total fun s => c (spot3 s r n) := by
  rw [total_eq]
  unfold out0_38
  frame_out
  pointwise [k0_pay21, spot3]

theorem out39_at : out0_39 w m v c (ix2 r n) = Adam.change (w (ix2 r n)) (m (ix2 r n)) (v (ix2 r n)) (total fun s => c (spot3 s r n)) := by
  rw [total_eq]
  unfold out0_39 k0_pay54
  frame_out
  pointwise [k0_pay21, k0_pay22, k0_pay23, k0_pay24, spot3, Adam.change, Adam.first, Adam.second]

theorem out40_at : out0_40 m c (ix2 r n) = Adam.first (m (ix2 r n)) (total fun s => c (spot3 s r n)) := by
  rw [total_eq]
  unfold out0_40 k0_pay54
  frame_out
  pointwise [k0_pay21, k0_pay22, spot3, Adam.first]

theorem out41_at : out0_41 v c (ix2 r n) = Adam.second (v (ix2 r n)) (total fun s => c (spot3 s r n)) := by
  rw [total_eq]
  unfold out0_41 k0_pay54
  frame_out
  pointwise [k0_pay21, k0_pay23, spot3, Adam.second]

end Wide

section Narrow

variable (w m v : Vec Ideal S1x1024 .f32) (c : Vec Ideal S8x16x2048 .f32) (r : Fin 1) (n : Fin 1024)

theorem out42_at : out0_42 c (ix2 r n) = total fun s => c (spot4 s r n) := by
  rw [total_eq]
  unfold out0_42 k0_pay55
  frame_out
  pointwise [k0_pay25, k0_pay26, spot4]

theorem out43_at : out0_43 w m v c (ix2 r n) = Adam.change (w (ix2 r n)) (m (ix2 r n)) (v (ix2 r n)) (total fun s => c (spot4 s r n)) := by
  rw [total_eq]
  unfold out0_43 k0_pay58 k0_pay57 k0_pay56 k0_pay55
  frame_out
  pointwise [k0_pay25, k0_pay26, k0_pay27, k0_pay28, k0_pay29, k0_pay30, spot4, Adam.change, Adam.first, Adam.second]

theorem out44_at : out0_44 m c (ix2 r n) = Adam.first (m (ix2 r n)) (total fun s => c (spot4 s r n)) := by
  rw [total_eq]
  unfold out0_44 k0_pay57 k0_pay55
  frame_out
  pointwise [k0_pay25, k0_pay26, k0_pay27, spot4, Adam.first]

theorem out45_at : out0_45 v c (ix2 r n) = Adam.second (v (ix2 r n)) (total fun s => c (spot4 s r n)) := by
  rw [total_eq]
  unfold out0_45 k0_pay58 k0_pay56 k0_pay55
  frame_out
  pointwise [k0_pay25, k0_pay26, k0_pay28, k0_pay29, spot4, Adam.second]

theorem out46_at : out0_46 c (ix2 r n) = total fun s => c (spot5 s r n) := by
  rw [total_eq]
  unfold out0_46 k0_pay59
  frame_out
  pointwise [k0_pay31, k0_pay32, spot5]

theorem out47_at : out0_47 w m v c (ix2 r n) = Adam.change (w (ix2 r n)) (m (ix2 r n)) (v (ix2 r n)) (total fun s => c (spot5 s r n)) := by
  rw [total_eq]
  unfold out0_47 k0_pay59
  frame_out
  pointwise [k0_pay31, k0_pay32, k0_pay33, k0_pay34, k0_pay35, k0_pay36, k0_pay37, k0_pay38, spot5, Adam.change, Adam.first, Adam.second]

theorem out48_at : out0_48 m c (ix2 r n) = Adam.first (m (ix2 r n)) (total fun s => c (spot5 s r n)) := by
  rw [total_eq]
  unfold out0_48 k0_pay59
  frame_out
  pointwise [k0_pay31, k0_pay32, k0_pay33, spot5, Adam.first]

theorem out49_at : out0_49 v c (ix2 r n) = Adam.second (v (ix2 r n)) (total fun s => c (spot5 s r n)) := by
  rw [total_eq]
  unfold out0_49 k0_pay59
  frame_out
  pointwise [k0_pay31, k0_pay32, k0_pay34, spot5, Adam.second]

theorem out50_at : out0_50 c (ix2 r n) = total fun s => c (spot6 s r n) := by
  rw [total_eq]
  unfold out0_50 k0_pay60
  frame_out
  pointwise [k0_pay39, k0_pay40, spot6]

theorem out51_at : out0_51 w m v c (ix2 r n) = Adam.change (w (ix2 r n)) (m (ix2 r n)) (v (ix2 r n)) (total fun s => c (spot6 s r n)) := by
  rw [total_eq]
  unfold out0_51 k0_pay60
  frame_out
  pointwise [k0_pay39, k0_pay40, k0_pay41, k0_pay42, k0_pay43, spot6, Adam.change, Adam.first, Adam.second]

theorem out52_at : out0_52 m c (ix2 r n) = Adam.first (m (ix2 r n)) (total fun s => c (spot6 s r n)) := by
  rw [total_eq]
  unfold out0_52 k0_pay60
  frame_out
  pointwise [k0_pay39, k0_pay40, k0_pay41, spot6, Adam.first]

theorem out53_at : out0_53 v c (ix2 r n) = Adam.second (v (ix2 r n)) (total fun s => c (spot6 s r n)) := by
  rw [total_eq]
  unfold out0_53 k0_pay60
  frame_out
  pointwise [k0_pay39, k0_pay40, k0_pay42, spot6, Adam.second]

theorem out54_at : out0_54 c (ix2 r n) = total fun s => c (spot7 s r n) := by
  rw [total_eq]
  unfold out0_54
  frame_out
  pointwise [k0_pay44, spot7]

theorem out55_at : out0_55 w m v c (ix2 r n) = Adam.change (w (ix2 r n)) (m (ix2 r n)) (v (ix2 r n)) (total fun s => c (spot7 s r n)) := by
  rw [total_eq]
  unfold out0_55 k0_pay61
  frame_out
  pointwise [k0_pay44, k0_pay45, k0_pay46, k0_pay47, spot7, Adam.change, Adam.first, Adam.second]

theorem out56_at : out0_56 m c (ix2 r n) = Adam.first (m (ix2 r n)) (total fun s => c (spot7 s r n)) := by
  rw [total_eq]
  unfold out0_56 k0_pay61
  frame_out
  pointwise [k0_pay44, k0_pay45, spot7, Adam.first]

theorem out57_at : out0_57 v c (ix2 r n) = Adam.second (v (ix2 r n)) (total fun s => c (spot7 s r n)) := by
  rw [total_eq]
  unfold out0_57 k0_pay61
  frame_out
  pointwise [k0_pay44, k0_pay46, spot7, Adam.second]

end Narrow

/-- The first entry of the table of summed squared errors. -/
theorem out25_at (c : Vec Ideal S8x16x2048 .f32) : out0_25 c (ix2 (0 : Fin 1) (0 : Fin 128)) = total fun s => c (ix3 s (10 : Fin 16) (0 : Fin 2048)) := by
  rw [total_eq]
  unfold out0_25
  frame_out
  pointwise [k0_pay1]

/-! ## Blocks and arrays -/

variable (m : (ℓ : Loc nD τ sig) → Buf (Elt Ideal) ℓ) (c : Dev nD) (t : Fin cfg0.N)

/-- The arguments: the weights, their first and second moments, and the contributions. -/

abbrev wK0 : S2x2048.Idx → EReal := m ((c.tc : Thread nD τ).loc main_arg0)
abbrev wK1 : S2x2048.Idx → EReal := m ((c.tc : Thread nD τ).loc main_arg1)
abbrev wK2 : S2x2048.Idx → EReal := m ((c.tc : Thread nD τ).loc main_arg2)
abbrev wK3 : S2x2048.Idx → EReal := m ((c.tc : Thread nD τ).loc main_arg3)
abbrev wK4 : S1x1024.Idx → EReal := m ((c.tc : Thread nD τ).loc main_arg4)
abbrev wK5 : S1x1024.Idx → EReal := m ((c.tc : Thread nD τ).loc main_arg5)
abbrev wK6 : S1x1024.Idx → EReal := m ((c.tc : Thread nD τ).loc main_arg6)
abbrev wK7 : S1x1024.Idx → EReal := m ((c.tc : Thread nD τ).loc main_arg7)
abbrev mK0 : S2x2048.Idx → EReal := m ((c.tc : Thread nD τ).loc main_arg8)
abbrev mK1 : S2x2048.Idx → EReal := m ((c.tc : Thread nD τ).loc main_arg9)
abbrev mK2 : S2x2048.Idx → EReal := m ((c.tc : Thread nD τ).loc main_arg10)
abbrev mK3 : S2x2048.Idx → EReal := m ((c.tc : Thread nD τ).loc main_arg11)
abbrev mK4 : S1x1024.Idx → EReal := m ((c.tc : Thread nD τ).loc main_arg12)
abbrev mK5 : S1x1024.Idx → EReal := m ((c.tc : Thread nD τ).loc main_arg13)
abbrev mK6 : S1x1024.Idx → EReal := m ((c.tc : Thread nD τ).loc main_arg14)
abbrev mK7 : S1x1024.Idx → EReal := m ((c.tc : Thread nD τ).loc main_arg15)
abbrev vK0 : S2x2048.Idx → EReal := m ((c.tc : Thread nD τ).loc main_arg16)
abbrev vK1 : S2x2048.Idx → EReal := m ((c.tc : Thread nD τ).loc main_arg17)
abbrev vK2 : S2x2048.Idx → EReal := m ((c.tc : Thread nD τ).loc main_arg18)
abbrev vK3 : S2x2048.Idx → EReal := m ((c.tc : Thread nD τ).loc main_arg19)
abbrev vK4 : S1x1024.Idx → EReal := m ((c.tc : Thread nD τ).loc main_arg20)
abbrev vK5 : S1x1024.Idx → EReal := m ((c.tc : Thread nD τ).loc main_arg21)
abbrev vK6 : S1x1024.Idx → EReal := m ((c.tc : Thread nD τ).loc main_arg22)
abbrev vK7 : S1x1024.Idx → EReal := m ((c.tc : Thread nD τ).loc main_arg23)
abbrev cK : S8x16x2048.Idx → EReal := m ((c.tc : Thread nD τ).loc main_arg24)

/-- The block at the first place, as large as its array, has the array's own indices. -/
theorem same {a b : ℕ} {i j : (⟨2, ![a, b]⟩ : Shape).Idx} (h₀ : (i 0).val = 0 * a + 1 * (j 0).val)
    (h₁ : (i 1).val = 0 * b + 1 * (j 1).val) : i = j := by
  refine funext fun d => Fin.ext ?_
  match d with
  | ⟨0, _⟩ => refine h₀.trans ?_; show 0 * a + 1 * (j 0).val = (j 0).val; omega
  | ⟨1, _⟩ => refine h₁.trans ?_; show 0 * b + 1 * (j 1).val = (j 1).val; omega

theorem blk0 : iblk m c 0 t = wK0 m c :=
  funext fun _ => (congrFun (V_main_arg0 m c) _).trans (congrArg _ (same rfl rfl))

theorem blk1 : iblk m c 1 t = wK1 m c :=
  funext fun _ => (congrFun (V_main_arg1 m c) _).trans (congrArg _ (same rfl rfl))

theorem blk2 : iblk m c 2 t = wK2 m c :=
  funext fun _ => (congrFun (V_main_arg2 m c) _).trans (congrArg _ (same rfl rfl))

theorem blk3 : iblk m c 3 t = wK3 m c :=
  funext fun _ => (congrFun (V_main_arg3 m c) _).trans (congrArg _ (same rfl rfl))

theorem blk4 : iblk m c 4 t = wK4 m c :=
  funext fun _ => (congrFun (V_main_arg4 m c) _).trans (congrArg _ (same rfl rfl))

theorem blk5 : iblk m c 5 t = wK5 m c :=
  funext fun _ => (congrFun (V_main_arg5 m c) _).trans (congrArg _ (same rfl rfl))

theorem blk6 : iblk m c 6 t = wK6 m c :=
  funext fun _ => (congrFun (V_main_arg6 m c) _).trans (congrArg _ (same rfl rfl))

theorem blk7 : iblk m c 7 t = wK7 m c :=
  funext fun _ => (congrFun (V_main_arg7 m c) _).trans (congrArg _ (same rfl rfl))

theorem blk8 : iblk m c 8 t = mK0 m c :=
  funext fun _ => (congrFun (V_main_arg8 m c) _).trans (congrArg _ (same rfl rfl))

theorem blk9 : iblk m c 9 t = mK1 m c :=
  funext fun _ => (congrFun (V_main_arg9 m c) _).trans (congrArg _ (same rfl rfl))

theorem blk10 : iblk m c 10 t = mK2 m c :=
  funext fun _ => (congrFun (V_main_arg10 m c) _).trans (congrArg _ (same rfl rfl))

theorem blk11 : iblk m c 11 t = mK3 m c :=
  funext fun _ => (congrFun (V_main_arg11 m c) _).trans (congrArg _ (same rfl rfl))

theorem blk12 : iblk m c 12 t = mK4 m c :=
  funext fun _ => (congrFun (V_main_arg12 m c) _).trans (congrArg _ (same rfl rfl))

theorem blk13 : iblk m c 13 t = mK5 m c :=
  funext fun _ => (congrFun (V_main_arg13 m c) _).trans (congrArg _ (same rfl rfl))

theorem blk14 : iblk m c 14 t = mK6 m c :=
  funext fun _ => (congrFun (V_main_arg14 m c) _).trans (congrArg _ (same rfl rfl))

theorem blk15 : iblk m c 15 t = mK7 m c :=
  funext fun _ => (congrFun (V_main_arg15 m c) _).trans (congrArg _ (same rfl rfl))

theorem blk16 : iblk m c 16 t = vK0 m c :=
  funext fun _ => (congrFun (V_main_arg16 m c) _).trans (congrArg _ (same rfl rfl))

theorem blk17 : iblk m c 17 t = vK1 m c :=
  funext fun _ => (congrFun (V_main_arg17 m c) _).trans (congrArg _ (same rfl rfl))

theorem blk18 : iblk m c 18 t = vK2 m c :=
  funext fun _ => (congrFun (V_main_arg18 m c) _).trans (congrArg _ (same rfl rfl))

theorem blk19 : iblk m c 19 t = vK3 m c :=
  funext fun _ => (congrFun (V_main_arg19 m c) _).trans (congrArg _ (same rfl rfl))

theorem blk20 : iblk m c 20 t = vK4 m c :=
  funext fun _ => (congrFun (V_main_arg20 m c) _).trans (congrArg _ (same rfl rfl))

theorem blk21 : iblk m c 21 t = vK5 m c :=
  funext fun _ => (congrFun (V_main_arg21 m c) _).trans (congrArg _ (same rfl rfl))

theorem blk22 : iblk m c 22 t = vK6 m c :=
  funext fun _ => (congrFun (V_main_arg22 m c) _).trans (congrArg _ (same rfl rfl))

theorem blk23 : iblk m c 23 t = vK7 m c :=
  funext fun _ => (congrFun (V_main_arg23 m c) _).trans (congrArg _ (same rfl rfl))

theorem blk24 : iblk m c 24 t = cK m c := by
  funext j
  unfold iblk
  refine (congrFun (V_main_arg24 m c) _).trans (congrArg _ (funext fun a => Fin.ext ?_))
  match a with
  | ⟨0, _⟩ => show 0 * 8 + 1 * (j 0).val = (j 0).val; omega
  | ⟨1, _⟩ => show 0 * 16 + 1 * (j 1).val = (j 1).val; omega
  | ⟨2, _⟩ => show 0 * 2048 + 1 * (j 2).val = (j 2).val; omega

theorem emb25 (y : S1x128.Idx) : (win0_25.blk t0_0).view.emb y = y := same rfl rfl

theorem sums_eq : (dats m 0 c).arrAt 25 cfg0.N = out0_25 (cK m c) := by
  refine (dats m 0 c).arrAt_eq_of_covers 25 _ (by decide +kernel) fun t hf y => ?_
  obtain rfl : t = t0_0 := fin_N0 t
  blk_simp
  rw [after0_25, blk24]
  exact congrArg _ (emb25 y).symm

theorem emb26 (y : S2x2048.Idx) : (win0_26.blk t0_0).view.emb y = y := same rfl rfl

theorem grad0_eq : (dats m 0 c).arrAt 26 cfg0.N = grad0 (cK m c) := by
  refine (dats m 0 c).arrAt_eq_of_covers 26 _ (by decide +kernel) fun t hf y => ?_
  obtain rfl : t = t0_0 := fin_N0 t
  blk_simp
  rw [after0_26, blk24]
  refine (congrFun (?_ : _ = grad0 (cK m c)) y).trans (congrArg _ (emb26 y).symm)
  funext y
  obtain ⟨r, n, rfl⟩ : ∃ r n, y = ix2 r n := ⟨y 0, y 1, eq_ix2 y⟩
  rw [out26_at, grad0_at]

theorem emb27 (y : S2x2048.Idx) : (win0_27.blk t0_0).view.emb y = y := same rfl rfl

theorem delta0_eq : (dats m 0 c).arrAt 27 cfg0.N = deltaWide (wK0 m c) (mK0 m c) (vK0 m c) (grad0 (cK m c)) := by
  refine (dats m 0 c).arrAt_eq_of_covers 27 _ (by decide +kernel) fun t hf y => ?_
  obtain rfl : t = t0_0 := fin_N0 t
  blk_simp
  rw [after0_27, blk0, blk8, blk16, blk24]
  refine (congrFun (?_ : _ = deltaWide (wK0 m c) (mK0 m c) (vK0 m c) (grad0 (cK m c))) y).trans (congrArg _ (emb27 y).symm)
  funext y
  obtain ⟨r, n, rfl⟩ : ∃ r n, y = ix2 r n := ⟨y 0, y 1, eq_ix2 y⟩
  rw [out27_at, deltaWide_at, grad0_at]

theorem emb28 (y : S2x2048.Idx) : (win0_28.blk t0_0).view.emb y = y := same rfl rfl

theorem first0_eq : (dats m 0 c).arrAt 28 cfg0.N = firstWide (mK0 m c) (grad0 (cK m c)) := by
  refine (dats m 0 c).arrAt_eq_of_covers 28 _ (by decide +kernel) fun t hf y => ?_
  obtain rfl : t = t0_0 := fin_N0 t
  blk_simp
  rw [after0_28, blk8, blk24]
  refine (congrFun (?_ : _ = firstWide (mK0 m c) (grad0 (cK m c))) y).trans (congrArg _ (emb28 y).symm)
  funext y
  obtain ⟨r, n, rfl⟩ : ∃ r n, y = ix2 r n := ⟨y 0, y 1, eq_ix2 y⟩
  rw [out28_at, firstWide_at, grad0_at]

theorem emb29 (y : S2x2048.Idx) : (win0_29.blk t0_0).view.emb y = y := same rfl rfl

theorem second0_eq : (dats m 0 c).arrAt 29 cfg0.N = secondWide (vK0 m c) (grad0 (cK m c)) := by
  refine (dats m 0 c).arrAt_eq_of_covers 29 _ (by decide +kernel) fun t hf y => ?_
  obtain rfl : t = t0_0 := fin_N0 t
  blk_simp
  rw [after0_29, blk16, blk24]
  refine (congrFun (?_ : _ = secondWide (vK0 m c) (grad0 (cK m c))) y).trans (congrArg _ (emb29 y).symm)
  funext y
  obtain ⟨r, n, rfl⟩ : ∃ r n, y = ix2 r n := ⟨y 0, y 1, eq_ix2 y⟩
  rw [out29_at, secondWide_at, grad0_at]

theorem emb30 (y : S2x2048.Idx) : (win0_30.blk t0_0).view.emb y = y := same rfl rfl

theorem grad1_eq : (dats m 0 c).arrAt 30 cfg0.N = grad1 (cK m c) := by
  refine (dats m 0 c).arrAt_eq_of_covers 30 _ (by decide +kernel) fun t hf y => ?_
  obtain rfl : t = t0_0 := fin_N0 t
  blk_simp
  rw [after0_30, blk24]
  refine (congrFun (?_ : _ = grad1 (cK m c)) y).trans (congrArg _ (emb30 y).symm)
  funext y
  obtain ⟨r, n, rfl⟩ : ∃ r n, y = ix2 r n := ⟨y 0, y 1, eq_ix2 y⟩
  rw [out30_at, grad1_at]

theorem emb31 (y : S2x2048.Idx) : (win0_31.blk t0_0).view.emb y = y := same rfl rfl

theorem delta1_eq : (dats m 0 c).arrAt 31 cfg0.N = deltaWide (wK1 m c) (mK1 m c) (vK1 m c) (grad1 (cK m c)) := by
  refine (dats m 0 c).arrAt_eq_of_covers 31 _ (by decide +kernel) fun t hf y => ?_
  obtain rfl : t = t0_0 := fin_N0 t
  blk_simp
  rw [after0_31, blk1, blk9, blk17, blk24]
  refine (congrFun (?_ : _ = deltaWide (wK1 m c) (mK1 m c) (vK1 m c) (grad1 (cK m c))) y).trans (congrArg _ (emb31 y).symm)
  funext y
  obtain ⟨r, n, rfl⟩ : ∃ r n, y = ix2 r n := ⟨y 0, y 1, eq_ix2 y⟩
  rw [out31_at, deltaWide_at, grad1_at]

theorem emb32 (y : S2x2048.Idx) : (win0_32.blk t0_0).view.emb y = y := same rfl rfl

theorem first1_eq : (dats m 0 c).arrAt 32 cfg0.N = firstWide (mK1 m c) (grad1 (cK m c)) := by
  refine (dats m 0 c).arrAt_eq_of_covers 32 _ (by decide +kernel) fun t hf y => ?_
  obtain rfl : t = t0_0 := fin_N0 t
  blk_simp
  rw [after0_32, blk9, blk24]
  refine (congrFun (?_ : _ = firstWide (mK1 m c) (grad1 (cK m c))) y).trans (congrArg _ (emb32 y).symm)
  funext y
  obtain ⟨r, n, rfl⟩ : ∃ r n, y = ix2 r n := ⟨y 0, y 1, eq_ix2 y⟩
  rw [out32_at, firstWide_at, grad1_at]

theorem emb33 (y : S2x2048.Idx) : (win0_33.blk t0_0).view.emb y = y := same rfl rfl

theorem second1_eq : (dats m 0 c).arrAt 33 cfg0.N = secondWide (vK1 m c) (grad1 (cK m c)) := by
  refine (dats m 0 c).arrAt_eq_of_covers 33 _ (by decide +kernel) fun t hf y => ?_
  obtain rfl : t = t0_0 := fin_N0 t
  blk_simp
  rw [after0_33, blk17, blk24]
  refine (congrFun (?_ : _ = secondWide (vK1 m c) (grad1 (cK m c))) y).trans (congrArg _ (emb33 y).symm)
  funext y
  obtain ⟨r, n, rfl⟩ : ∃ r n, y = ix2 r n := ⟨y 0, y 1, eq_ix2 y⟩
  rw [out33_at, secondWide_at, grad1_at]

theorem emb34 (y : S2x2048.Idx) : (win0_34.blk t0_0).view.emb y = y := same rfl rfl

theorem grad2_eq : (dats m 0 c).arrAt 34 cfg0.N = grad2 (cK m c) := by
  refine (dats m 0 c).arrAt_eq_of_covers 34 _ (by decide +kernel) fun t hf y => ?_
  obtain rfl : t = t0_0 := fin_N0 t
  blk_simp
  rw [after0_34, blk24]
  refine (congrFun (?_ : _ = grad2 (cK m c)) y).trans (congrArg _ (emb34 y).symm)
  funext y
  obtain ⟨r, n, rfl⟩ : ∃ r n, y = ix2 r n := ⟨y 0, y 1, eq_ix2 y⟩
  rw [out34_at, grad2_at]

theorem emb35 (y : S2x2048.Idx) : (win0_35.blk t0_0).view.emb y = y := same rfl rfl

theorem delta2_eq : (dats m 0 c).arrAt 35 cfg0.N = deltaWide (wK2 m c) (mK2 m c) (vK2 m c) (grad2 (cK m c)) := by
  refine (dats m 0 c).arrAt_eq_of_covers 35 _ (by decide +kernel) fun t hf y => ?_
  obtain rfl : t = t0_0 := fin_N0 t
  blk_simp
  rw [after0_35, blk2, blk10, blk18, blk24]
  refine (congrFun (?_ : _ = deltaWide (wK2 m c) (mK2 m c) (vK2 m c) (grad2 (cK m c))) y).trans (congrArg _ (emb35 y).symm)
  funext y
  obtain ⟨r, n, rfl⟩ : ∃ r n, y = ix2 r n := ⟨y 0, y 1, eq_ix2 y⟩
  rw [out35_at, deltaWide_at, grad2_at]

theorem emb36 (y : S2x2048.Idx) : (win0_36.blk t0_0).view.emb y = y := same rfl rfl

theorem first2_eq : (dats m 0 c).arrAt 36 cfg0.N = firstWide (mK2 m c) (grad2 (cK m c)) := by
  refine (dats m 0 c).arrAt_eq_of_covers 36 _ (by decide +kernel) fun t hf y => ?_
  obtain rfl : t = t0_0 := fin_N0 t
  blk_simp
  rw [after0_36, blk10, blk24]
  refine (congrFun (?_ : _ = firstWide (mK2 m c) (grad2 (cK m c))) y).trans (congrArg _ (emb36 y).symm)
  funext y
  obtain ⟨r, n, rfl⟩ : ∃ r n, y = ix2 r n := ⟨y 0, y 1, eq_ix2 y⟩
  rw [out36_at, firstWide_at, grad2_at]

theorem emb37 (y : S2x2048.Idx) : (win0_37.blk t0_0).view.emb y = y := same rfl rfl

theorem second2_eq : (dats m 0 c).arrAt 37 cfg0.N = secondWide (vK2 m c) (grad2 (cK m c)) := by
  refine (dats m 0 c).arrAt_eq_of_covers 37 _ (by decide +kernel) fun t hf y => ?_
  obtain rfl : t = t0_0 := fin_N0 t
  blk_simp
  rw [after0_37, blk18, blk24]
  refine (congrFun (?_ : _ = secondWide (vK2 m c) (grad2 (cK m c))) y).trans (congrArg _ (emb37 y).symm)
  funext y
  obtain ⟨r, n, rfl⟩ : ∃ r n, y = ix2 r n := ⟨y 0, y 1, eq_ix2 y⟩
  rw [out37_at, secondWide_at, grad2_at]

theorem emb38 (y : S2x2048.Idx) : (win0_38.blk t0_0).view.emb y = y := same rfl rfl

theorem grad3_eq : (dats m 0 c).arrAt 38 cfg0.N = grad3 (cK m c) := by
  refine (dats m 0 c).arrAt_eq_of_covers 38 _ (by decide +kernel) fun t hf y => ?_
  obtain rfl : t = t0_0 := fin_N0 t
  blk_simp
  rw [after0_38, blk24]
  refine (congrFun (?_ : _ = grad3 (cK m c)) y).trans (congrArg _ (emb38 y).symm)
  funext y
  obtain ⟨r, n, rfl⟩ : ∃ r n, y = ix2 r n := ⟨y 0, y 1, eq_ix2 y⟩
  rw [out38_at, grad3_at]

theorem emb39 (y : S2x2048.Idx) : (win0_39.blk t0_0).view.emb y = y := same rfl rfl

theorem delta3_eq : (dats m 0 c).arrAt 39 cfg0.N = deltaWide (wK3 m c) (mK3 m c) (vK3 m c) (grad3 (cK m c)) := by
  refine (dats m 0 c).arrAt_eq_of_covers 39 _ (by decide +kernel) fun t hf y => ?_
  obtain rfl : t = t0_0 := fin_N0 t
  blk_simp
  rw [after0_39, blk3, blk11, blk19, blk24]
  refine (congrFun (?_ : _ = deltaWide (wK3 m c) (mK3 m c) (vK3 m c) (grad3 (cK m c))) y).trans (congrArg _ (emb39 y).symm)
  funext y
  obtain ⟨r, n, rfl⟩ : ∃ r n, y = ix2 r n := ⟨y 0, y 1, eq_ix2 y⟩
  rw [out39_at, deltaWide_at, grad3_at]

theorem emb40 (y : S2x2048.Idx) : (win0_40.blk t0_0).view.emb y = y := same rfl rfl

theorem first3_eq : (dats m 0 c).arrAt 40 cfg0.N = firstWide (mK3 m c) (grad3 (cK m c)) := by
  refine (dats m 0 c).arrAt_eq_of_covers 40 _ (by decide +kernel) fun t hf y => ?_
  obtain rfl : t = t0_0 := fin_N0 t
  blk_simp
  rw [after0_40, blk11, blk24]
  refine (congrFun (?_ : _ = firstWide (mK3 m c) (grad3 (cK m c))) y).trans (congrArg _ (emb40 y).symm)
  funext y
  obtain ⟨r, n, rfl⟩ : ∃ r n, y = ix2 r n := ⟨y 0, y 1, eq_ix2 y⟩
  rw [out40_at, firstWide_at, grad3_at]

theorem emb41 (y : S2x2048.Idx) : (win0_41.blk t0_0).view.emb y = y := same rfl rfl

theorem second3_eq : (dats m 0 c).arrAt 41 cfg0.N = secondWide (vK3 m c) (grad3 (cK m c)) := by
  refine (dats m 0 c).arrAt_eq_of_covers 41 _ (by decide +kernel) fun t hf y => ?_
  obtain rfl : t = t0_0 := fin_N0 t
  blk_simp
  rw [after0_41, blk19, blk24]
  refine (congrFun (?_ : _ = secondWide (vK3 m c) (grad3 (cK m c))) y).trans (congrArg _ (emb41 y).symm)
  funext y
  obtain ⟨r, n, rfl⟩ : ∃ r n, y = ix2 r n := ⟨y 0, y 1, eq_ix2 y⟩
  rw [out41_at, secondWide_at, grad3_at]

theorem emb42 (y : S1x1024.Idx) : (win0_42.blk t0_0).view.emb y = y := same rfl rfl

theorem grad4_eq : (dats m 0 c).arrAt 42 cfg0.N = grad4 (cK m c) := by
  refine (dats m 0 c).arrAt_eq_of_covers 42 _ (by decide +kernel) fun t hf y => ?_
  obtain rfl : t = t0_0 := fin_N0 t
  blk_simp
  rw [after0_42, blk24]
  refine (congrFun (?_ : _ = grad4 (cK m c)) y).trans (congrArg _ (emb42 y).symm)
  funext y
  obtain ⟨r, n, rfl⟩ : ∃ r n, y = ix2 r n := ⟨y 0, y 1, eq_ix2 y⟩
  rw [out42_at, grad4_at]

theorem emb43 (y : S1x1024.Idx) : (win0_43.blk t0_0).view.emb y = y := same rfl rfl

theorem delta4_eq : (dats m 0 c).arrAt 43 cfg0.N = deltaNarrow (wK4 m c) (mK4 m c) (vK4 m c) (grad4 (cK m c)) := by
  refine (dats m 0 c).arrAt_eq_of_covers 43 _ (by decide +kernel) fun t hf y => ?_
  obtain rfl : t = t0_0 := fin_N0 t
  blk_simp
  rw [after0_43, blk4, blk12, blk20, blk24]
  refine (congrFun (?_ : _ = deltaNarrow (wK4 m c) (mK4 m c) (vK4 m c) (grad4 (cK m c))) y).trans (congrArg _ (emb43 y).symm)
  funext y
  obtain ⟨r, n, rfl⟩ : ∃ r n, y = ix2 r n := ⟨y 0, y 1, eq_ix2 y⟩
  rw [out43_at, deltaNarrow_at, grad4_at]

theorem emb44 (y : S1x1024.Idx) : (win0_44.blk t0_0).view.emb y = y := same rfl rfl

theorem first4_eq : (dats m 0 c).arrAt 44 cfg0.N = firstNarrow (mK4 m c) (grad4 (cK m c)) := by
  refine (dats m 0 c).arrAt_eq_of_covers 44 _ (by decide +kernel) fun t hf y => ?_
  obtain rfl : t = t0_0 := fin_N0 t
  blk_simp
  rw [after0_44, blk12, blk24]
  refine (congrFun (?_ : _ = firstNarrow (mK4 m c) (grad4 (cK m c))) y).trans (congrArg _ (emb44 y).symm)
  funext y
  obtain ⟨r, n, rfl⟩ : ∃ r n, y = ix2 r n := ⟨y 0, y 1, eq_ix2 y⟩
  rw [out44_at, firstNarrow_at, grad4_at]

theorem emb45 (y : S1x1024.Idx) : (win0_45.blk t0_0).view.emb y = y := same rfl rfl

theorem second4_eq : (dats m 0 c).arrAt 45 cfg0.N = secondNarrow (vK4 m c) (grad4 (cK m c)) := by
  refine (dats m 0 c).arrAt_eq_of_covers 45 _ (by decide +kernel) fun t hf y => ?_
  obtain rfl : t = t0_0 := fin_N0 t
  blk_simp
  rw [after0_45, blk20, blk24]
  refine (congrFun (?_ : _ = secondNarrow (vK4 m c) (grad4 (cK m c))) y).trans (congrArg _ (emb45 y).symm)
  funext y
  obtain ⟨r, n, rfl⟩ : ∃ r n, y = ix2 r n := ⟨y 0, y 1, eq_ix2 y⟩
  rw [out45_at, secondNarrow_at, grad4_at]

theorem emb46 (y : S1x1024.Idx) : (win0_46.blk t0_0).view.emb y = y := same rfl rfl

theorem grad5_eq : (dats m 0 c).arrAt 46 cfg0.N = grad5 (cK m c) := by
  refine (dats m 0 c).arrAt_eq_of_covers 46 _ (by decide +kernel) fun t hf y => ?_
  obtain rfl : t = t0_0 := fin_N0 t
  blk_simp
  rw [after0_46, blk24]
  refine (congrFun (?_ : _ = grad5 (cK m c)) y).trans (congrArg _ (emb46 y).symm)
  funext y
  obtain ⟨r, n, rfl⟩ : ∃ r n, y = ix2 r n := ⟨y 0, y 1, eq_ix2 y⟩
  rw [out46_at, grad5_at]

theorem emb47 (y : S1x1024.Idx) : (win0_47.blk t0_0).view.emb y = y := same rfl rfl

theorem delta5_eq : (dats m 0 c).arrAt 47 cfg0.N = deltaNarrow (wK5 m c) (mK5 m c) (vK5 m c) (grad5 (cK m c)) := by
  refine (dats m 0 c).arrAt_eq_of_covers 47 _ (by decide +kernel) fun t hf y => ?_
  obtain rfl : t = t0_0 := fin_N0 t
  blk_simp
  rw [after0_47, blk5, blk13, blk21, blk24]
  refine (congrFun (?_ : _ = deltaNarrow (wK5 m c) (mK5 m c) (vK5 m c) (grad5 (cK m c))) y).trans (congrArg _ (emb47 y).symm)
  funext y
  obtain ⟨r, n, rfl⟩ : ∃ r n, y = ix2 r n := ⟨y 0, y 1, eq_ix2 y⟩
  rw [out47_at, deltaNarrow_at, grad5_at]

theorem emb48 (y : S1x1024.Idx) : (win0_48.blk t0_0).view.emb y = y := same rfl rfl

theorem first5_eq : (dats m 0 c).arrAt 48 cfg0.N = firstNarrow (mK5 m c) (grad5 (cK m c)) := by
  refine (dats m 0 c).arrAt_eq_of_covers 48 _ (by decide +kernel) fun t hf y => ?_
  obtain rfl : t = t0_0 := fin_N0 t
  blk_simp
  rw [after0_48, blk13, blk24]
  refine (congrFun (?_ : _ = firstNarrow (mK5 m c) (grad5 (cK m c))) y).trans (congrArg _ (emb48 y).symm)
  funext y
  obtain ⟨r, n, rfl⟩ : ∃ r n, y = ix2 r n := ⟨y 0, y 1, eq_ix2 y⟩
  rw [out48_at, firstNarrow_at, grad5_at]

theorem emb49 (y : S1x1024.Idx) : (win0_49.blk t0_0).view.emb y = y := same rfl rfl

theorem second5_eq : (dats m 0 c).arrAt 49 cfg0.N = secondNarrow (vK5 m c) (grad5 (cK m c)) := by
  refine (dats m 0 c).arrAt_eq_of_covers 49 _ (by decide +kernel) fun t hf y => ?_
  obtain rfl : t = t0_0 := fin_N0 t
  blk_simp
  rw [after0_49, blk21, blk24]
  refine (congrFun (?_ : _ = secondNarrow (vK5 m c) (grad5 (cK m c))) y).trans (congrArg _ (emb49 y).symm)
  funext y
  obtain ⟨r, n, rfl⟩ : ∃ r n, y = ix2 r n := ⟨y 0, y 1, eq_ix2 y⟩
  rw [out49_at, secondNarrow_at, grad5_at]

theorem emb50 (y : S1x1024.Idx) : (win0_50.blk t0_0).view.emb y = y := same rfl rfl

theorem grad6_eq : (dats m 0 c).arrAt 50 cfg0.N = grad6 (cK m c) := by
  refine (dats m 0 c).arrAt_eq_of_covers 50 _ (by decide +kernel) fun t hf y => ?_
  obtain rfl : t = t0_0 := fin_N0 t
  blk_simp
  rw [after0_50, blk24]
  refine (congrFun (?_ : _ = grad6 (cK m c)) y).trans (congrArg _ (emb50 y).symm)
  funext y
  obtain ⟨r, n, rfl⟩ : ∃ r n, y = ix2 r n := ⟨y 0, y 1, eq_ix2 y⟩
  rw [out50_at, grad6_at]

theorem emb51 (y : S1x1024.Idx) : (win0_51.blk t0_0).view.emb y = y := same rfl rfl

theorem delta6_eq : (dats m 0 c).arrAt 51 cfg0.N = deltaNarrow (wK6 m c) (mK6 m c) (vK6 m c) (grad6 (cK m c)) := by
  refine (dats m 0 c).arrAt_eq_of_covers 51 _ (by decide +kernel) fun t hf y => ?_
  obtain rfl : t = t0_0 := fin_N0 t
  blk_simp
  rw [after0_51, blk6, blk14, blk22, blk24]
  refine (congrFun (?_ : _ = deltaNarrow (wK6 m c) (mK6 m c) (vK6 m c) (grad6 (cK m c))) y).trans (congrArg _ (emb51 y).symm)
  funext y
  obtain ⟨r, n, rfl⟩ : ∃ r n, y = ix2 r n := ⟨y 0, y 1, eq_ix2 y⟩
  rw [out51_at, deltaNarrow_at, grad6_at]

theorem emb52 (y : S1x1024.Idx) : (win0_52.blk t0_0).view.emb y = y := same rfl rfl

theorem first6_eq : (dats m 0 c).arrAt 52 cfg0.N = firstNarrow (mK6 m c) (grad6 (cK m c)) := by
  refine (dats m 0 c).arrAt_eq_of_covers 52 _ (by decide +kernel) fun t hf y => ?_
  obtain rfl : t = t0_0 := fin_N0 t
  blk_simp
  rw [after0_52, blk14, blk24]
  refine (congrFun (?_ : _ = firstNarrow (mK6 m c) (grad6 (cK m c))) y).trans (congrArg _ (emb52 y).symm)
  funext y
  obtain ⟨r, n, rfl⟩ : ∃ r n, y = ix2 r n := ⟨y 0, y 1, eq_ix2 y⟩
  rw [out52_at, firstNarrow_at, grad6_at]

theorem emb53 (y : S1x1024.Idx) : (win0_53.blk t0_0).view.emb y = y := same rfl rfl

theorem second6_eq : (dats m 0 c).arrAt 53 cfg0.N = secondNarrow (vK6 m c) (grad6 (cK m c)) := by
  refine (dats m 0 c).arrAt_eq_of_covers 53 _ (by decide +kernel) fun t hf y => ?_
  obtain rfl : t = t0_0 := fin_N0 t
  blk_simp
  rw [after0_53, blk22, blk24]
  refine (congrFun (?_ : _ = secondNarrow (vK6 m c) (grad6 (cK m c))) y).trans (congrArg _ (emb53 y).symm)
  funext y
  obtain ⟨r, n, rfl⟩ : ∃ r n, y = ix2 r n := ⟨y 0, y 1, eq_ix2 y⟩
  rw [out53_at, secondNarrow_at, grad6_at]

theorem emb54 (y : S1x1024.Idx) : (win0_54.blk t0_0).view.emb y = y := same rfl rfl

theorem grad7_eq : (dats m 0 c).arrAt 54 cfg0.N = grad7 (cK m c) := by
  refine (dats m 0 c).arrAt_eq_of_covers 54 _ (by decide +kernel) fun t hf y => ?_
  obtain rfl : t = t0_0 := fin_N0 t
  blk_simp
  rw [after0_54, blk24]
  refine (congrFun (?_ : _ = grad7 (cK m c)) y).trans (congrArg _ (emb54 y).symm)
  funext y
  obtain ⟨r, n, rfl⟩ : ∃ r n, y = ix2 r n := ⟨y 0, y 1, eq_ix2 y⟩
  rw [out54_at, grad7_at]

theorem emb55 (y : S1x1024.Idx) : (win0_55.blk t0_0).view.emb y = y := same rfl rfl

theorem delta7_eq : (dats m 0 c).arrAt 55 cfg0.N = deltaNarrow (wK7 m c) (mK7 m c) (vK7 m c) (grad7 (cK m c)) := by
  refine (dats m 0 c).arrAt_eq_of_covers 55 _ (by decide +kernel) fun t hf y => ?_
  obtain rfl : t = t0_0 := fin_N0 t
  blk_simp
  rw [after0_55, blk7, blk15, blk23, blk24]
  refine (congrFun (?_ : _ = deltaNarrow (wK7 m c) (mK7 m c) (vK7 m c) (grad7 (cK m c))) y).trans (congrArg _ (emb55 y).symm)
  funext y
  obtain ⟨r, n, rfl⟩ : ∃ r n, y = ix2 r n := ⟨y 0, y 1, eq_ix2 y⟩
  rw [out55_at, deltaNarrow_at, grad7_at]

theorem emb56 (y : S1x1024.Idx) : (win0_56.blk t0_0).view.emb y = y := same rfl rfl

theorem first7_eq : (dats m 0 c).arrAt 56 cfg0.N = firstNarrow (mK7 m c) (grad7 (cK m c)) := by
  refine (dats m 0 c).arrAt_eq_of_covers 56 _ (by decide +kernel) fun t hf y => ?_
  obtain rfl : t = t0_0 := fin_N0 t
  blk_simp
  rw [after0_56, blk15, blk24]
  refine (congrFun (?_ : _ = firstNarrow (mK7 m c) (grad7 (cK m c))) y).trans (congrArg _ (emb56 y).symm)
  funext y
  obtain ⟨r, n, rfl⟩ : ∃ r n, y = ix2 r n := ⟨y 0, y 1, eq_ix2 y⟩
  rw [out56_at, firstNarrow_at, grad7_at]

theorem emb57 (y : S1x1024.Idx) : (win0_57.blk t0_0).view.emb y = y := same rfl rfl

theorem second7_eq : (dats m 0 c).arrAt 57 cfg0.N = secondNarrow (vK7 m c) (grad7 (cK m c)) := by
  refine (dats m 0 c).arrAt_eq_of_covers 57 _ (by decide +kernel) fun t hf y => ?_
  obtain rfl : t = t0_0 := fin_N0 t
  blk_simp
  rw [after0_57, blk23, blk24]
  refine (congrFun (?_ : _ = secondNarrow (vK7 m c) (grad7 (cK m c))) y).trans (congrArg _ (emb57 y).symm)
  funext y
  obtain ⟨r, n, rfl⟩ : ∃ r n, y = ix2 r n := ⟨y 0, y 1, eq_ix2 y⟩
  rw [out57_at, secondNarrow_at, grad7_at]

/-! ## The loss -/

/-- Half of a mean over 2048 entries is a 4096th of the sum. -/
theorem half_mean (x : EReal) : x * Ideal.ofBits .f32 0x39800000#32
    = Ideal.ofBits .f32 0x3F000000#32 * Ideal.div x (Ideal.ofBits .f32 0x45000000#32) := by
  have h1 : Ideal.ofBits .f32 0x39800000#32 = ((1 / 4096 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h3 : Ideal.ofBits .f32 0x45000000#32 = ((2048 : ℝ) : EReal) := by
    simp [Ideal.ofBits, Ideal.ieee, -EReal.coe_mul]; norm_num
  have h0 : ((2048 : ℝ) : EReal) ≠ 0 := by rw [Ne, EReal.coe_eq_zero]; norm_num
  rw [h1, h2, h3]
  unfold Ideal.div
  rw [if_neg h0, ← EReal.coe_inv, mul_left_comm, ← EReal.coe_mul]
  norm_num

theorem loss_eq : scaled ((dats m 0 c).arrAt 25 cfg0.N) = loss (cK m c) := by
  funext i
  rw [sums_eq, loss_at, ← half_mean, ← out25_at]
  pointwise [scaled]

end Cert.UpdateReplicated

end
-- ==== Proof.UpdateReplicatedClaims.lean ====
module

public import proofs.«01_k».proof.Defs
public import proofs.«01_k».proof.Proof.Gen.Kernel18
public import proofs.«01_k».proof.Proof.Gen.Kernel18Ideal
public import proofs.«01_k».proof.Proof.Gen.Reference18Ideal
public import proofs.«01_k».proof.Proof.UpdateReplicated

@[expose] public section

set_option maxRecDepth 16384
set_option maxHeartbeats 4000000

/-! # The claims about the optimiser's step on the replicated weights -/

noncomputable section

namespace Cert.Proof

open Idealize.ShloMosaic Idealize.SL.Sem

/-- The two programs have the same bodies. -/
theorem defs₀_eq18 : Cert.Kernel18.defs₀ (F := Bits) = Cert.Kernel18Ideal.defs₀ (F := Bits) := by
  unfold Cert.Kernel18.defs₀ Cert.Kernel18Ideal.defs₀
  refine congrArg Defs.onTc (funext fun l => funext fun a => ?_)
  match l, a with
  | 0, (t, s) => rfl

theorem defs_eq18 : Cert.Kernel18.defs (F := Bits) = Cert.Kernel18Ideal.defs (F := Bits) := congrArg (Pipeline.defs Cert.Kernel18.pcfgs) defs₀_eq18

theorem quiescent_kernel18 : Cert.quiescent_Kernel18 := fun m ρ _ => by
  rw [defs_eq18]
  exact Cert.UpdateReplicated.frame (F := Bits) m ρ

theorem quiescent_kernel18Ideal : Cert.quiescent_Kernel18Ideal := fun m ρ _ => Cert.UpdateReplicated.frame m ρ

theorem no_sem18 : IsEmpty (GSem Cert.Reference18Ideal.nD Cert.Reference18Ideal.τ Cert.Reference18Ideal.sig) := ⟨fun g => by
  obtain ⟨c, s⟩ := g
  revert s
  decide⟩

theorem quiescent_reference18Ideal : Cert.quiescent_Reference18Ideal := fun m ρ _ =>
  (θ_run Cert.Reference18Ideal.defs _ _).mono (fun _ h => ⟨fun c => (h c).2.2.2.2.2.2.2.2.2.2.2.2.2.2.2.2.2.2.2.2.2.2.2.2.2.2.2.2.2.2.2.2.2, funext fun g => no_sem18.elim g⟩) (Cert.UpdateReplicated.Ref.run m ρ)

theorem equal18 : Cert.algebraic_Kernel18Ideal_Reference18Ideal := fun m g m' g' _ hargs =>
  ⟨fun c => Cert.UpdateReplicated.scaled (F := Ideal) ((Cert.UpdateReplicated.dats m 0 c).arrAt 25 Cert.Kernel18Ideal.cfg0.N),
    fun c => (Cert.UpdateReplicated.dats m 0 c).arrAt 26 Cert.Kernel18Ideal.cfg0.N,
    fun c => (Cert.UpdateReplicated.dats m 0 c).arrAt 27 Cert.Kernel18Ideal.cfg0.N,
    fun c => (Cert.UpdateReplicated.dats m 0 c).arrAt 28 Cert.Kernel18Ideal.cfg0.N,
    fun c => (Cert.UpdateReplicated.dats m 0 c).arrAt 29 Cert.Kernel18Ideal.cfg0.N,
    fun c => (Cert.UpdateReplicated.dats m 0 c).arrAt 30 Cert.Kernel18Ideal.cfg0.N,
    fun c => (Cert.UpdateReplicated.dats m 0 c).arrAt 31 Cert.Kernel18Ideal.cfg0.N,
    fun c => (Cert.UpdateReplicated.dats m 0 c).arrAt 32 Cert.Kernel18Ideal.cfg0.N,
    fun c => (Cert.UpdateReplicated.dats m 0 c).arrAt 33 Cert.Kernel18Ideal.cfg0.N,
    fun c => (Cert.UpdateReplicated.dats m 0 c).arrAt 34 Cert.Kernel18Ideal.cfg0.N,
    fun c => (Cert.UpdateReplicated.dats m 0 c).arrAt 35 Cert.Kernel18Ideal.cfg0.N,
    fun c => (Cert.UpdateReplicated.dats m 0 c).arrAt 36 Cert.Kernel18Ideal.cfg0.N,
    fun c => (Cert.UpdateReplicated.dats m 0 c).arrAt 37 Cert.Kernel18Ideal.cfg0.N,
    fun c => (Cert.UpdateReplicated.dats m 0 c).arrAt 38 Cert.Kernel18Ideal.cfg0.N,
    fun c => (Cert.UpdateReplicated.dats m 0 c).arrAt 39 Cert.Kernel18Ideal.cfg0.N,
    fun c => (Cert.UpdateReplicated.dats m 0 c).arrAt 40 Cert.Kernel18Ideal.cfg0.N,
    fun c => (Cert.UpdateReplicated.dats m 0 c).arrAt 41 Cert.Kernel18Ideal.cfg0.N,
    fun c => (Cert.UpdateReplicated.dats m 0 c).arrAt 42 Cert.Kernel18Ideal.cfg0.N,
    fun c => (Cert.UpdateReplicated.dats m 0 c).arrAt 43 Cert.Kernel18Ideal.cfg0.N,
    fun c => (Cert.UpdateReplicated.dats m 0 c).arrAt 44 Cert.Kernel18Ideal.cfg0.N,
    fun c => (Cert.UpdateReplicated.dats m 0 c).arrAt 45 Cert.Kernel18Ideal.cfg0.N,
    fun c => (Cert.UpdateReplicated.dats m 0 c).arrAt 46 Cert.Kernel18Ideal.cfg0.N,
    fun c => (Cert.UpdateReplicated.dats m 0 c).arrAt 47 Cert.Kernel18Ideal.cfg0.N,
    fun c => (Cert.UpdateReplicated.dats m 0 c).arrAt 48 Cert.Kernel18Ideal.cfg0.N,
    fun c => (Cert.UpdateReplicated.dats m 0 c).arrAt 49 Cert.Kernel18Ideal.cfg0.N,
    fun c => (Cert.UpdateReplicated.dats m 0 c).arrAt 50 Cert.Kernel18Ideal.cfg0.N,
    fun c => (Cert.UpdateReplicated.dats m 0 c).arrAt 51 Cert.Kernel18Ideal.cfg0.N,
    fun c => (Cert.UpdateReplicated.dats m 0 c).arrAt 52 Cert.Kernel18Ideal.cfg0.N,
    fun c => (Cert.UpdateReplicated.dats m 0 c).arrAt 53 Cert.Kernel18Ideal.cfg0.N,
    fun c => (Cert.UpdateReplicated.dats m 0 c).arrAt 54 Cert.Kernel18Ideal.cfg0.N,
    fun c => (Cert.UpdateReplicated.dats m 0 c).arrAt 55 Cert.Kernel18Ideal.cfg0.N,
    fun c => (Cert.UpdateReplicated.dats m 0 c).arrAt 56 Cert.Kernel18Ideal.cfg0.N,
    fun c => (Cert.UpdateReplicated.dats m 0 c).arrAt 57 Cert.Kernel18Ideal.cfg0.N,
    Cert.UpdateReplicated.run m g,
    (θ_run Cert.Reference18Ideal.defs _ _).mono (fun _ h c => by
      refine ⟨(h c).1.trans ?_,
        (h c).2.1.trans ?_,
        (h c).2.2.1.trans ?_,
        (h c).2.2.2.1.trans ?_,
        (h c).2.2.2.2.1.trans ?_,
        (h c).2.2.2.2.2.1.trans ?_,
        (h c).2.2.2.2.2.2.1.trans ?_,
        (h c).2.2.2.2.2.2.2.1.trans ?_,
        (h c).2.2.2.2.2.2.2.2.1.trans ?_,
        (h c).2.2.2.2.2.2.2.2.2.1.trans ?_,
        (h c).2.2.2.2.2.2.2.2.2.2.1.trans ?_,
        (h c).2.2.2.2.2.2.2.2.2.2.2.1.trans ?_,
        (h c).2.2.2.2.2.2.2.2.2.2.2.2.1.trans ?_,
        (h c).2.2.2.2.2.2.2.2.2.2.2.2.2.1.trans ?_,
        (h c).2.2.2.2.2.2.2.2.2.2.2.2.2.2.1.trans ?_,
        (h c).2.2.2.2.2.2.2.2.2.2.2.2.2.2.2.1.trans ?_,
        (h c).2.2.2.2.2.2.2.2.2.2.2.2.2.2.2.2.1.trans ?_,
        (h c).2.2.2.2.2.2.2.2.2.2.2.2.2.2.2.2.2.1.trans ?_,
        (h c).2.2.2.2.2.2.2.2.2.2.2.2.2.2.2.2.2.2.1.trans ?_,
        (h c).2.2.2.2.2.2.2.2.2.2.2.2.2.2.2.2.2.2.2.1.trans ?_,
        (h c).2.2.2.2.2.2.2.2.2.2.2.2.2.2.2.2.2.2.2.2.1.trans ?_,
        (h c).2.2.2.2.2.2.2.2.2.2.2.2.2.2.2.2.2.2.2.2.2.1.trans ?_,
        (h c).2.2.2.2.2.2.2.2.2.2.2.2.2.2.2.2.2.2.2.2.2.2.1.trans ?_,
        (h c).2.2.2.2.2.2.2.2.2.2.2.2.2.2.2.2.2.2.2.2.2.2.2.1.trans ?_,
        (h c).2.2.2.2.2.2.2.2.2.2.2.2.2.2.2.2.2.2.2.2.2.2.2.2.1.trans ?_,
        (h c).2.2.2.2.2.2.2.2.2.2.2.2.2.2.2.2.2.2.2.2.2.2.2.2.2.1.trans ?_,
        (h c).2.2.2.2.2.2.2.2.2.2.2.2.2.2.2.2.2.2.2.2.2.2.2.2.2.2.1.trans ?_,
        (h c).2.2.2.2.2.2.2.2.2.2.2.2.2.2.2.2.2.2.2.2.2.2.2.2.2.2.2.1.trans ?_,
        (h c).2.2.2.2.2.2.2.2.2.2.2.2.2.2.2.2.2.2.2.2.2.2.2.2.2.2.2.2.1.trans ?_,
        (h c).2.2.2.2.2.2.2.2.2.2.2.2.2.2.2.2.2.2.2.2.2.2.2.2.2.2.2.2.2.1.trans ?_,
        (h c).2.2.2.2.2.2.2.2.2.2.2.2.2.2.2.2.2.2.2.2.2.2.2.2.2.2.2.2.2.2.1.trans ?_,
        (h c).2.2.2.2.2.2.2.2.2.2.2.2.2.2.2.2.2.2.2.2.2.2.2.2.2.2.2.2.2.2.2.1.trans ?_,
        (h c).2.2.2.2.2.2.2.2.2.2.2.2.2.2.2.2.2.2.2.2.2.2.2.2.2.2.2.2.2.2.2.2.1.trans ?_,
        (h c).2.2.2.2.2.2.2.2.2.2.2.2.2.2.2.2.2.2.2.2.2.2.2.2.2.2.2.2.2.2.2.2.2⟩
      · show _ = Cert.UpdateReplicated.scaled (F := Ideal) ((Cert.UpdateReplicated.dats m 0 c).arrAt 25 Cert.Kernel18Ideal.cfg0.N)
        rw [Cert.UpdateReplicated.loss_eq]
        unfold Cert.UpdateReplicated.Ref.cOf
        rw [(hargs c).2.2.2.2.2.2.2.2.2.2.2.2.2.2.2.2.2.2.2.2.2.2.2.2]
      · show _ = (Cert.UpdateReplicated.dats m 0 c).arrAt 26 Cert.Kernel18Ideal.cfg0.N
        rw [Cert.UpdateReplicated.grad0_eq]
        unfold Cert.UpdateReplicated.Ref.cOf
        rw [(hargs c).2.2.2.2.2.2.2.2.2.2.2.2.2.2.2.2.2.2.2.2.2.2.2.2]
      · show _ = (Cert.UpdateReplicated.dats m 0 c).arrAt 27 Cert.Kernel18Ideal.cfg0.N
        rw [Cert.UpdateReplicated.delta0_eq]
        unfold Cert.UpdateReplicated.Ref.wOf0 Cert.UpdateReplicated.Ref.mOf0 Cert.UpdateReplicated.Ref.vOf0 Cert.UpdateReplicated.Ref.cOf
        rw [(hargs c).1, (hargs c).2.2.2.2.2.2.2.2.1, (hargs c).2.2.2.2.2.2.2.2.2.2.2.2.2.2.2.2.1, (hargs c).2.2.2.2.2.2.2.2.2.2.2.2.2.2.2.2.2.2.2.2.2.2.2.2]
      · show _ = (Cert.UpdateReplicated.dats m 0 c).arrAt 28 Cert.Kernel18Ideal.cfg0.N
        rw [Cert.UpdateReplicated.first0_eq]
        unfold Cert.UpdateReplicated.Ref.mOf0 Cert.UpdateReplicated.Ref.cOf
        rw [(hargs c).2.2.2.2.2.2.2.2.1, (hargs c).2.2.2.2.2.2.2.2.2.2.2.2.2.2.2.2.2.2.2.2.2.2.2.2]
      · show _ = (Cert.UpdateReplicated.dats m 0 c).arrAt 29 Cert.Kernel18Ideal.cfg0.N
        rw [Cert.UpdateReplicated.second0_eq]
        unfold Cert.UpdateReplicated.Ref.vOf0 Cert.UpdateReplicated.Ref.cOf
        rw [(hargs c).2.2.2.2.2.2.2.2.2.2.2.2.2.2.2.2.1, (hargs c).2.2.2.2.2.2.2.2.2.2.2.2.2.2.2.2.2.2.2.2.2.2.2.2]
      · show _ = (Cert.UpdateReplicated.dats m 0 c).arrAt 30 Cert.Kernel18Ideal.cfg0.N
        rw [Cert.UpdateReplicated.grad1_eq]
        unfold Cert.UpdateReplicated.Ref.cOf
        rw [(hargs c).2.2.2.2.2.2.2.2.2.2.2.2.2.2.2.2.2.2.2.2.2.2.2.2]
      · show _ = (Cert.UpdateReplicated.dats m 0 c).arrAt 31 Cert.Kernel18Ideal.cfg0.N
        rw [Cert.UpdateReplicated.delta1_eq]
        unfold Cert.UpdateReplicated.Ref.wOf1 Cert.UpdateReplicated.Ref.mOf1 Cert.UpdateReplicated.Ref.vOf1 Cert.UpdateReplicated.Ref.cOf
        rw [(hargs c).2.1, (hargs c).2.2.2.2.2.2.2.2.2.1, (hargs c).2.2.2.2.2.2.2.2.2.2.2.2.2.2.2.2.2.1, (hargs c).2.2.2.2.2.2.2.2.2.2.2.2.2.2.2.2.2.2.2.2.2.2.2.2]
      · show _ = (Cert.UpdateReplicated.dats m 0 c).arrAt 32 Cert.Kernel18Ideal.cfg0.N
        rw [Cert.UpdateReplicated.first1_eq]
        unfold Cert.UpdateReplicated.Ref.mOf1 Cert.UpdateReplicated.Ref.cOf
        rw [(hargs c).2.2.2.2.2.2.2.2.2.1, (hargs c).2.2.2.2.2.2.2.2.2.2.2.2.2.2.2.2.2.2.2.2.2.2.2.2]
      · show _ = (Cert.UpdateReplicated.dats m 0 c).arrAt 33 Cert.Kernel18Ideal.cfg0.N
        rw [Cert.UpdateReplicated.second1_eq]
        unfold Cert.UpdateReplicated.Ref.vOf1 Cert.UpdateReplicated.Ref.cOf
        rw [(hargs c).2.2.2.2.2.2.2.2.2.2.2.2.2.2.2.2.2.1, (hargs c).2.2.2.2.2.2.2.2.2.2.2.2.2.2.2.2.2.2.2.2.2.2.2.2]
      · show _ = (Cert.UpdateReplicated.dats m 0 c).arrAt 34 Cert.Kernel18Ideal.cfg0.N
        rw [Cert.UpdateReplicated.grad2_eq]
        unfold Cert.UpdateReplicated.Ref.cOf
        rw [(hargs c).2.2.2.2.2.2.2.2.2.2.2.2.2.2.2.2.2.2.2.2.2.2.2.2]
      · show _ = (Cert.UpdateReplicated.dats m 0 c).arrAt 35 Cert.Kernel18Ideal.cfg0.N
        rw [Cert.UpdateReplicated.delta2_eq]
        unfold Cert.UpdateReplicated.Ref.wOf2 Cert.UpdateReplicated.Ref.mOf2 Cert.UpdateReplicated.Ref.vOf2 Cert.UpdateReplicated.Ref.cOf
        rw [(hargs c).2.2.1, (hargs c).2.2.2.2.2.2.2.2.2.2.1, (hargs c).2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 36 Cert.Kernel18Ideal.cfg0.N
        rw [Cert.UpdateReplicated.first2_eq]
        unfold Cert.UpdateReplicated.Ref.mOf2 Cert.UpdateReplicated.Ref.cOf
        rw [(hargs c).2.2.2.2.2.2.2.2.2.2.1, (hargs c).2.2.2.2.2.2.2.2.2.2.2.2.2.2.2.2.2.2.2.2.2.2.2.2]
      · show _ = (Cert.UpdateReplicated.dats m 0 c).arrAt 37 Cert.Kernel18Ideal.cfg0.N
        rw [Cert.UpdateReplicated.second2_eq]
        unfold Cert.UpdateReplicated.Ref.vOf2 Cert.UpdateReplicated.Ref.cOf
        rw [(hargs c).2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 38 Cert.Kernel18Ideal.cfg0.N
        rw [Cert.UpdateReplicated.grad3_eq]
        unfold Cert.UpdateReplicated.Ref.cOf
        rw [(hargs c).2.2.2.2.2.2.2.2.2.2.2.2.2.2.2.2.2.2.2.2.2.2.2.2]
      · show _ = (Cert.UpdateReplicated.dats m 0 c).arrAt 39 Cert.Kernel18Ideal.cfg0.N
        rw [Cert.UpdateReplicated.delta3_eq]
        unfold Cert.UpdateReplicated.Ref.wOf3 Cert.UpdateReplicated.Ref.mOf3 Cert.UpdateReplicated.Ref.vOf3 Cert.UpdateReplicated.Ref.cOf
        rw [(hargs c).2.2.2.1, (hargs c).2.2.2.2.2.2.2.2.2.2.2.1, (hargs c).2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 40 Cert.Kernel18Ideal.cfg0.N
        rw [Cert.UpdateReplicated.first3_eq]
        unfold Cert.UpdateReplicated.Ref.mOf3 Cert.UpdateReplicated.Ref.cOf
        rw [(hargs c).2.2.2.2.2.2.2.2.2.2.2.1, (hargs c).2.2.2.2.2.2.2.2.2.2.2.2.2.2.2.2.2.2.2.2.2.2.2.2]
      · show _ = (Cert.UpdateReplicated.dats m 0 c).arrAt 41 Cert.Kernel18Ideal.cfg0.N
        rw [Cert.UpdateReplicated.second3_eq]
        unfold Cert.UpdateReplicated.Ref.vOf3 Cert.UpdateReplicated.Ref.cOf
        rw [(hargs c).2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 42 Cert.Kernel18Ideal.cfg0.N
        rw [Cert.UpdateReplicated.grad4_eq]
        unfold Cert.UpdateReplicated.Ref.cOf
        rw [(hargs c).2.2.2.2.2.2.2.2.2.2.2.2.2.2.2.2.2.2.2.2.2.2.2.2]
      · show _ = (Cert.UpdateReplicated.dats m 0 c).arrAt 43 Cert.Kernel18Ideal.cfg0.N
        rw [Cert.UpdateReplicated.delta4_eq]
        unfold Cert.UpdateReplicated.Ref.wOf4 Cert.UpdateReplicated.Ref.mOf4 Cert.UpdateReplicated.Ref.vOf4 Cert.UpdateReplicated.Ref.cOf
        rw [(hargs c).2.2.2.2.1, (hargs c).2.2.2.2.2.2.2.2.2.2.2.2.1, (hargs c).2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 44 Cert.Kernel18Ideal.cfg0.N
        rw [Cert.UpdateReplicated.first4_eq]
        unfold Cert.UpdateReplicated.Ref.mOf4 Cert.UpdateReplicated.Ref.cOf
        rw [(hargs c).2.2.2.2.2.2.2.2.2.2.2.2.1, (hargs c).2.2.2.2.2.2.2.2.2.2.2.2.2.2.2.2.2.2.2.2.2.2.2.2]
      · show _ = (Cert.UpdateReplicated.dats m 0 c).arrAt 45 Cert.Kernel18Ideal.cfg0.N
        rw [Cert.UpdateReplicated.second4_eq]
        unfold Cert.UpdateReplicated.Ref.vOf4 Cert.UpdateReplicated.Ref.cOf
        rw [(hargs c).2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 46 Cert.Kernel18Ideal.cfg0.N
        rw [Cert.UpdateReplicated.grad5_eq]
        unfold Cert.UpdateReplicated.Ref.cOf
        rw [(hargs c).2.2.2.2.2.2.2.2.2.2.2.2.2.2.2.2.2.2.2.2.2.2.2.2]
      · show _ = (Cert.UpdateReplicated.dats m 0 c).arrAt 47 Cert.Kernel18Ideal.cfg0.N
        rw [Cert.UpdateReplicated.delta5_eq]
        unfold Cert.UpdateReplicated.Ref.wOf5 Cert.UpdateReplicated.Ref.mOf5 Cert.UpdateReplicated.Ref.vOf5 Cert.UpdateReplicated.Ref.cOf
        rw [(hargs c).2.2.2.2.2.1, (hargs c).2.2.2.2.2.2.2.2.2.2.2.2.2.1, (hargs c).2.2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 48 Cert.Kernel18Ideal.cfg0.N
        rw [Cert.UpdateReplicated.first5_eq]
        unfold Cert.UpdateReplicated.Ref.mOf5 Cert.UpdateReplicated.Ref.cOf
        rw [(hargs c).2.2.2.2.2.2.2.2.2.2.2.2.2.1, (hargs c).2.2.2.2.2.2.2.2.2.2.2.2.2.2.2.2.2.2.2.2.2.2.2.2]
      · show _ = (Cert.UpdateReplicated.dats m 0 c).arrAt 49 Cert.Kernel18Ideal.cfg0.N
        rw [Cert.UpdateReplicated.second5_eq]
        unfold Cert.UpdateReplicated.Ref.vOf5 Cert.UpdateReplicated.Ref.cOf
        rw [(hargs c).2.2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 50 Cert.Kernel18Ideal.cfg0.N
        rw [Cert.UpdateReplicated.grad6_eq]
        unfold Cert.UpdateReplicated.Ref.cOf
        rw [(hargs c).2.2.2.2.2.2.2.2.2.2.2.2.2.2.2.2.2.2.2.2.2.2.2.2]
      · show _ = (Cert.UpdateReplicated.dats m 0 c).arrAt 51 Cert.Kernel18Ideal.cfg0.N
        rw [Cert.UpdateReplicated.delta6_eq]
        unfold Cert.UpdateReplicated.Ref.wOf6 Cert.UpdateReplicated.Ref.mOf6 Cert.UpdateReplicated.Ref.vOf6 Cert.UpdateReplicated.Ref.cOf
        rw [(hargs c).2.2.2.2.2.2.1, (hargs c).2.2.2.2.2.2.2.2.2.2.2.2.2.2.1, (hargs c).2.2.2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 52 Cert.Kernel18Ideal.cfg0.N
        rw [Cert.UpdateReplicated.first6_eq]
        unfold Cert.UpdateReplicated.Ref.mOf6 Cert.UpdateReplicated.Ref.cOf
        rw [(hargs c).2.2.2.2.2.2.2.2.2.2.2.2.2.2.1, (hargs c).2.2.2.2.2.2.2.2.2.2.2.2.2.2.2.2.2.2.2.2.2.2.2.2]
      · show _ = (Cert.UpdateReplicated.dats m 0 c).arrAt 53 Cert.Kernel18Ideal.cfg0.N
        rw [Cert.UpdateReplicated.second6_eq]
        unfold Cert.UpdateReplicated.Ref.vOf6 Cert.UpdateReplicated.Ref.cOf
        rw [(hargs c).2.2.2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 54 Cert.Kernel18Ideal.cfg0.N
        rw [Cert.UpdateReplicated.grad7_eq]
        unfold Cert.UpdateReplicated.Ref.cOf
        rw [(hargs c).2.2.2.2.2.2.2.2.2.2.2.2.2.2.2.2.2.2.2.2.2.2.2.2]
      · show _ = (Cert.UpdateReplicated.dats m 0 c).arrAt 55 Cert.Kernel18Ideal.cfg0.N
        rw [Cert.UpdateReplicated.delta7_eq]
        unfold Cert.UpdateReplicated.Ref.wOf7 Cert.UpdateReplicated.Ref.mOf7 Cert.UpdateReplicated.Ref.vOf7 Cert.UpdateReplicated.Ref.cOf
        rw [(hargs c).2.2.2.2.2.2.2.1, (hargs c).2.2.2.2.2.2.2.2.2.2.2.2.2.2.2.1, (hargs c).2.2.2.2.2.2.2.2.2.2.2.2.2.2.2.2.2.2.2.2.2.2.2.1, (hargs c).2.2.2.2.2.2.2.2.2.2.2.2.2.2.2.2.2.2.2.2.2.2.2.2]
      · show _ = (Cert.UpdateReplicated.dats m 0 c).arrAt 56 Cert.Kernel18Ideal.cfg0.N
        rw [Cert.UpdateReplicated.first7_eq]
        unfold Cert.UpdateReplicated.Ref.mOf7 Cert.UpdateReplicated.Ref.cOf
        rw [(hargs c).2.2.2.2.2.2.2.2.2.2.2.2.2.2.2.1, (hargs c).2.2.2.2.2.2.2.2.2.2.2.2.2.2.2.2.2.2.2.2.2.2.2.2]
      · show _ = (Cert.UpdateReplicated.dats m 0 c).arrAt 57 Cert.Kernel18Ideal.cfg0.N
        rw [Cert.UpdateReplicated.second7_eq]
        unfold Cert.UpdateReplicated.Ref.vOf7 Cert.UpdateReplicated.Ref.cOf
        rw [(hargs c).2.2.2.2.2.2.2.2.2.2.2.2.2.2.2.2.2.2.2.2.2.2.2.1, (hargs c).2.2.2.2.2.2.2.2.2.2.2.2.2.2.2.2.2.2.2.2.2.2.2.2]) (Cert.UpdateReplicated.Ref.run m' g')⟩

end Cert.Proof

end
-- ==== Proof.lean ====
/- The claims about the calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.KernelValue
public import proofs.«01_k».proof.Proof.Hidden
public import proofs.«01_k».proof.Proof.Input
public import proofs.«01_k».proof.Proof.Down
public import proofs.«01_k».proof.Proof.OutputGrad
public import proofs.«01_k».proof.Proof.ShortInput
public import proofs.«01_k».proof.Proof.BranchInput
public import proofs.«01_k».proof.Proof.ShortIn
public import proofs.«01_k».proof.Proof.BranchIn
public import proofs.«01_k».proof.Proof.MixerOut
public import proofs.«01_k».proof.Proof.Up
public import proofs.«01_k».proof.Proof.UpdateFirst
public import proofs.«01_k».proof.Proof.UpdateSecond
public import proofs.«01_k».proof.Proof.UpdateShortIn
public import proofs.«01_k».proof.Proof.UpdateBranchIn
public import proofs.«01_k».proof.Proof.UpdateMixerOut
public import proofs.«01_k».proof.Proof.FirstNorm
public import proofs.«01_k».proof.Proof.Norm
public import proofs.«01_k».proof.Proof.TwoNorms
public import proofs.«01_k».proof.Proof.LastNorm
public import proofs.«01_k».proof.Proof.TwoNormsBack
public import proofs.«01_k».proof.Proof.UpdateSmall
public import proofs.«01_k».proof.Proof.UpdateReplicatedClaims
public import Idealize.ShloMosaic.Adequacy
public import Idealize.ShloMosaic.Init

@[expose] public section

noncomputable section

namespace Cert.Proof

open Idealize.ShloMosaic Idealize.SL.Sem Cert.Kernel

/-- Over any float values: every run ends, with the arguments as launched and every semaphore at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (Cert.ShortBwd.run_main m ρ)

theorem quiescent_kernelIdeal : Cert.quiescent_KernelIdeal := fun m ρ _ => run_frame m ρ

/-- The two programs' bodies are the same text. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) := congrArg (Pipeline.defs Cert.Kernel.pcfgs) defs₀_eq

theorem quiescent_kernel : Cert.quiescent_Kernel := fun m ρ _ => by
  rw [defs_eq]
  exact run_frame (F := Bits) m ρ

/-- The reference's program has no semaphores. -/
theorem no_sem : IsEmpty (GSem Cert.ReferenceIdeal.nD Cert.ReferenceIdeal.τ Cert.ReferenceIdeal.sig) := ⟨fun g => by
  obtain ⟨c, s⟩ := g
  revert s
  decide⟩

theorem quiescent_referenceIdeal : Cert.quiescent_ReferenceIdeal := fun m ρ _ =>
  (θ_run Cert.ReferenceIdeal.defs _ _).mono (fun _ h => ⟨fun c => (h c).2.2, funext fun g => no_sem.elim g⟩)
    (Cert.ShortBwd.Ref.run m ρ)

theorem equal : Cert.algebraic_KernelIdeal_ReferenceIdeal := fun m g m' g' _ hargs =>
  ⟨fun c => Cert.ShortBwd.mix m c 8, fun c => (Cert.ShortBwd.dats m 0 c).arrAt 5 Cert.KernelIdeal.cfg0.N,
    (θ_run Cert.KernelIdeal.defs _ _).mono (fun _ h c =>
      ⟨(h.1 c).2.2.2.1, (h.1 c).2.2.2.2, (h.1 c).1, (h.1 c).2.1, (h.1 c).2.2.1⟩) (Cert.ShortBwd.run_main m g),
    (θ_run Cert.ReferenceIdeal.defs _ _).mono (fun _ h c => by
      refine ⟨(h c).1.trans ?_, (h c).2.1.trans ?_, (h c).2.2⟩
      · show _ = Cert.ShortBwd.mix m c 8
        rw [Cert.ShortBwd.Ideals.gates]
        unfold Cert.ShortBwd.Ref.zOf Cert.ShortBwd.Ref.dyOf Cert.ShortBwd.Ref.wOf
        rw [(hargs c).1, (hargs c).2.1, (hargs c).2.2]
      · show _ = (Cert.ShortBwd.dats m 0 c).arrAt 5 Cert.KernelIdeal.cfg0.N
        rw [Cert.ShortBwd.Ideals.filter]
        unfold Cert.ShortBwd.Ref.zOf Cert.ShortBwd.Ref.dyOf
        rw [(hargs c).1, (hargs c).2.1]) (Cert.ShortBwd.Ref.run m' g')⟩

/-! ## The gradients of the feed-forward layer's second product -/

theorem quiescent_kernel2 : Cert.quiescent_Kernel2 := fun m ρ _ => Cert.Kernel2.Gen.frame m ρ

theorem quiescent_kernel2Ideal : Cert.quiescent_Kernel2Ideal := fun m ρ _ => Cert.Kernel2Ideal.Gen.frame m ρ

theorem no_sem2 : IsEmpty (GSem Cert.Reference2Ideal.nD Cert.Reference2Ideal.τ Cert.Reference2Ideal.sig) := ⟨fun g => by
  obtain ⟨c, s⟩ := g
  revert s
  decide⟩

theorem quiescent_reference2Ideal : Cert.quiescent_Reference2Ideal := fun m ρ _ =>
  (θ_run Cert.Reference2Ideal.defs _ _).mono (fun _ h => ⟨fun c => (h c).2.2, funext fun g => no_sem2.elim g⟩) (Cert.Hidden.Ref.run m ρ)

theorem equal2 : Cert.algebraic_Kernel2Ideal_Reference2Ideal := fun m g m' g' _ hargs =>
  ⟨fun c => (Cert.Kernel2Ideal.Gen.dats m 0 c).arrAt 3 Cert.Kernel2Ideal.cfg0.N, fun c => (Cert.Kernel2Ideal.Gen.dats m 0 c).arrAt 4 Cert.Kernel2Ideal.cfg0.N,
    Cert.Kernel2Ideal.Value.run_blocks m g,
    (θ_run Cert.Reference2Ideal.defs _ _).mono (fun _ h c => by
      refine ⟨(h c).1.trans ?_, (h c).2.1.trans ?_, (h c).2.2⟩
      · show _ = (Cert.Kernel2Ideal.Gen.dats m 0 c).arrAt 3 Cert.Kernel2Ideal.cfg0.N
        rw [Cert.Hidden.pre_grad]
        unfold Cert.Hidden.Ref.preOf Cert.Hidden.Ref.w2Of Cert.Hidden.Ref.dfOf
        rw [(hargs c).1, (hargs c).2.1, (hargs c).2.2]
      · show _ = (Cert.Kernel2Ideal.Gen.dats m 0 c).arrAt 4 Cert.Kernel2Ideal.cfg0.N
        rw [Cert.Hidden.weight_grad]
        unfold Cert.Hidden.Ref.preOf Cert.Hidden.Ref.dfOf
        rw [(hargs c).1, (hargs c).2.2]) (Cert.Hidden.Ref.run m' g')⟩

/-! ## The gradients of the feed-forward layer's first product -/

theorem quiescent_kernel3 : Cert.quiescent_Kernel3 := fun m ρ _ => Cert.Kernel3.Gen.frame m ρ

theorem quiescent_kernel3Ideal : Cert.quiescent_Kernel3Ideal := fun m ρ _ => Cert.Kernel3Ideal.Gen.frame m ρ

theorem no_sem3 : IsEmpty (GSem Cert.Reference3Ideal.nD Cert.Reference3Ideal.τ Cert.Reference3Ideal.sig) := ⟨fun g => by
  obtain ⟨c, s⟩ := g
  revert s
  decide⟩

theorem quiescent_reference3Ideal : Cert.quiescent_Reference3Ideal := fun m ρ _ =>
  (θ_run Cert.Reference3Ideal.defs _ _).mono (fun _ h => ⟨fun c => (h c).2.2, funext fun g => no_sem3.elim g⟩) (Cert.Input.Ref.run m ρ)

theorem equal3 : Cert.algebraic_Kernel3Ideal_Reference3Ideal := fun m g m' g' _ hargs =>
  ⟨fun c => (Cert.Kernel3Ideal.Gen.dats m 0 c).arrAt 3 Cert.Kernel3Ideal.cfg0.N, fun c => (Cert.Kernel3Ideal.Gen.dats m 0 c).arrAt 4 Cert.Kernel3Ideal.cfg0.N,
    Cert.Kernel3Ideal.Value.run_blocks m g,
    (θ_run Cert.Reference3Ideal.defs _ _).mono (fun _ h c => by
      refine ⟨(h c).1.trans ?_, (h c).2.1.trans ?_, (h c).2.2⟩
      · show _ = (Cert.Kernel3Ideal.Gen.dats m 0 c).arrAt 3 Cert.Kernel3Ideal.cfg0.N
        rw [Cert.Input.input_grad]
        unfold Cert.Input.Ref.wOf Cert.Input.Ref.dzOf
        rw [(hargs c).2.1, (hargs c).2.2]
      · show _ = (Cert.Kernel3Ideal.Gen.dats m 0 c).arrAt 4 Cert.Kernel3Ideal.cfg0.N
        rw [Cert.Input.weight_grad]
        unfold Cert.Input.Ref.hOf Cert.Input.Ref.dzOf
        rw [(hargs c).1, (hargs c).2.2]) (Cert.Input.Ref.run m' g')⟩

/-! ## The feed-forward layer's second product -/

theorem quiescent_kernel4 : Cert.quiescent_Kernel4 := fun m ρ _ => Cert.Kernel4.Gen.frame m ρ

theorem quiescent_kernel4Ideal : Cert.quiescent_Kernel4Ideal := fun m ρ _ => Cert.Kernel4Ideal.Gen.frame m ρ

theorem no_sem4 : IsEmpty (GSem Cert.Reference4Ideal.nD Cert.Reference4Ideal.τ Cert.Reference4Ideal.sig) := ⟨fun g => by
  obtain ⟨c, s⟩ := g
  revert s
  decide⟩

theorem quiescent_reference4Ideal : Cert.quiescent_Reference4Ideal := fun m ρ _ =>
  (θ_run Cert.Reference4Ideal.defs _ _).mono (fun _ h => ⟨fun c => (h c).2, funext fun g => no_sem4.elim g⟩) (Cert.Down.Ref.run m ρ)

theorem equal4 : Cert.algebraic_Kernel4Ideal_Reference4Ideal := fun m g m' g' _ hargs =>
  ⟨fun c => (Cert.Kernel4Ideal.Gen.dats m 0 c).arrAt 2 Cert.Kernel4Ideal.cfg0.N,
    Cert.Kernel4Ideal.Value.run_blocks m g,
    (θ_run Cert.Reference4Ideal.defs _ _).mono (fun _ h c => by
      refine ⟨(h c).1.trans ?_, (h c).2⟩
      show _ = (Cert.Kernel4Ideal.Gen.dats m 0 c).arrAt 2 Cert.Kernel4Ideal.cfg0.N
      rw [Cert.Down.product_eq]
      unfold Cert.Down.Ref.actOf Cert.Down.Ref.w2Of
      rw [(hargs c).1, (hargs c).2]) (Cert.Down.Ref.run m' g')⟩

/-! ## The gradients of a mixer's output projection -/

theorem quiescent_kernel5 : Cert.quiescent_Kernel5 := fun m ρ _ => Cert.Kernel5.Gen.frame m ρ

theorem quiescent_kernel5Ideal : Cert.quiescent_Kernel5Ideal := fun m ρ _ => Cert.Kernel5Ideal.Gen.frame m ρ

theorem no_sem5 : IsEmpty (GSem Cert.Reference5Ideal.nD Cert.Reference5Ideal.τ Cert.Reference5Ideal.sig) := ⟨fun g => by
  obtain ⟨c, s⟩ := g
  revert s
  decide⟩

theorem quiescent_reference5Ideal : Cert.quiescent_Reference5Ideal := fun m ρ _ =>
  (θ_run Cert.Reference5Ideal.defs _ _).mono (fun _ h => ⟨fun c => (h c).2.2, funext fun g => no_sem5.elim g⟩) (Cert.OutputGrad.Ref.run m ρ)

theorem equal5 : Cert.algebraic_Kernel5Ideal_Reference5Ideal := fun m g m' g' _ hargs =>
  ⟨fun c => (Cert.Kernel5Ideal.Gen.dats m 0 c).arrAt 3 Cert.Kernel5Ideal.cfg0.N, fun c => (Cert.Kernel5Ideal.Gen.dats m 0 c).arrAt 4 Cert.Kernel5Ideal.cfg0.N,
    Cert.Kernel5Ideal.Value.run_blocks m g,
    (θ_run Cert.Reference5Ideal.defs _ _).mono (fun _ h c => by
      refine ⟨(h c).1.trans ?_, (h c).2.1.trans ?_, (h c).2.2⟩
      · show _ = (Cert.Kernel5Ideal.Gen.dats m 0 c).arrAt 3 Cert.Kernel5Ideal.cfg0.N
        rw [Cert.OutputGrad.input_grad]
        unfold Cert.OutputGrad.Ref.wOf Cert.OutputGrad.Ref.dmOf
        rw [(hargs c).2.1, (hargs c).2.2]
      · show _ = (Cert.Kernel5Ideal.Gen.dats m 0 c).arrAt 4 Cert.Kernel5Ideal.cfg0.N
        rw [Cert.OutputGrad.weight_grad]
        unfold Cert.OutputGrad.Ref.yOf Cert.OutputGrad.Ref.dmOf
        rw [(hargs c).1, (hargs c).2.2]) (Cert.OutputGrad.Ref.run m' g')⟩

/-! ## The gradients of the short convolution's input projection -/

theorem quiescent_kernel6 : Cert.quiescent_Kernel6 := fun m ρ _ => Cert.Kernel6.Gen.frame m ρ

theorem quiescent_kernel6Ideal : Cert.quiescent_Kernel6Ideal := fun m ρ _ => Cert.Kernel6Ideal.Gen.frame m ρ

theorem no_sem6 : IsEmpty (GSem Cert.Reference6Ideal.nD Cert.Reference6Ideal.τ Cert.Reference6Ideal.sig) := ⟨fun g => by
  obtain ⟨c, s⟩ := g
  revert s
  decide⟩

theorem quiescent_reference6Ideal : Cert.quiescent_Reference6Ideal := fun m ρ _ =>
  (θ_run Cert.Reference6Ideal.defs _ _).mono (fun _ h => ⟨fun c => (h c).2.2, funext fun g => no_sem6.elim g⟩) (Cert.ShortInput.Ref.run m ρ)

theorem equal6 : Cert.algebraic_Kernel6Ideal_Reference6Ideal := fun m g m' g' _ hargs =>
  ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m g,
    (θ_run Cert.Reference6Ideal.defs _ _).mono (fun _ h c => by
      refine ⟨(h c).1.trans ?_, (h c).2.1.trans ?_, (h c).2.2⟩
      · show _ = (Cert.Kernel6Ideal.Gen.dats m 0 c).arrAt 3 Cert.Kernel6Ideal.cfg0.N
        rw [Cert.ShortInput.input_grad]
        unfold Cert.ShortInput.Ref.wOf Cert.ShortInput.Ref.dzOf
        rw [(hargs c).2.1, (hargs c).2.2]
      · show _ = (Cert.Kernel6Ideal.Gen.dats m 0 c).arrAt 4 Cert.Kernel6Ideal.cfg0.N
        rw [Cert.ShortInput.weight_grad]
        unfold Cert.ShortInput.Ref.hOf Cert.ShortInput.Ref.dzOf
        rw [(hargs c).1, (hargs c).2.2]) (Cert.ShortInput.Ref.run m' g')⟩

/-! ## The gradients of the two branches' input projection -/

theorem quiescent_kernel7 : Cert.quiescent_Kernel7 := fun m ρ _ => Cert.Kernel7.Gen.frame m ρ

theorem quiescent_kernel7Ideal : Cert.quiescent_Kernel7Ideal := fun m ρ _ => Cert.Kernel7Ideal.Gen.frame m ρ

theorem no_sem7 : IsEmpty (GSem Cert.Reference7Ideal.nD Cert.Reference7Ideal.τ Cert.Reference7Ideal.sig) := ⟨fun g => by
  obtain ⟨c, s⟩ := g
  revert s
  decide⟩

theorem quiescent_reference7Ideal : Cert.quiescent_Reference7Ideal := fun m ρ _ =>
  (θ_run Cert.Reference7Ideal.defs _ _).mono (fun _ h => ⟨fun c => (h c).2.2, funext fun g => no_sem7.elim g⟩) (Cert.BranchInput.Ref.run m ρ)

theorem equal7 : Cert.algebraic_Kernel7Ideal_Reference7Ideal := fun m g m' g' _ hargs =>
  ⟨fun c => (Cert.Kernel7Ideal.Gen.dats m 0 c).arrAt 3 Cert.Kernel7Ideal.cfg0.N, fun c => (Cert.Kernel7Ideal.Gen.dats m 0 c).arrAt 4 Cert.Kernel7Ideal.cfg0.N,
    Cert.Kernel7Ideal.Value.run_blocks m g,
    (θ_run Cert.Reference7Ideal.defs _ _).mono (fun _ h c => by
      refine ⟨(h c).1.trans ?_, (h c).2.1.trans ?_, (h c).2.2⟩
      · show _ = (Cert.Kernel7Ideal.Gen.dats m 0 c).arrAt 3 Cert.Kernel7Ideal.cfg0.N
        rw [Cert.BranchInput.input_grad]
        unfold Cert.BranchInput.Ref.wOf Cert.BranchInput.Ref.dzOf
        rw [(hargs c).2.1, (hargs c).2.2]
      · show _ = (Cert.Kernel7Ideal.Gen.dats m 0 c).arrAt 4 Cert.Kernel7Ideal.cfg0.N
        rw [Cert.BranchInput.weight_grad]
        unfold Cert.BranchInput.Ref.hOf Cert.BranchInput.Ref.dzOf
        rw [(hargs c).1, (hargs c).2.2]) (Cert.BranchInput.Ref.run m' g')⟩

/-! ## The short convolution's input projection -/

theorem quiescent_kernel8 : Cert.quiescent_Kernel8 := fun m ρ _ => Cert.Kernel8.Gen.frame m ρ

theorem quiescent_kernel8Ideal : Cert.quiescent_Kernel8Ideal := fun m ρ _ => Cert.Kernel8Ideal.Gen.frame m ρ

theorem no_sem8 : IsEmpty (GSem Cert.Reference8Ideal.nD Cert.Reference8Ideal.τ Cert.Reference8Ideal.sig) := ⟨fun g => by
  obtain ⟨c, s⟩ := g
  revert s
  decide⟩

theorem quiescent_reference8Ideal : Cert.quiescent_Reference8Ideal := fun m ρ _ =>
  (θ_run Cert.Reference8Ideal.defs _ _).mono (fun _ h => ⟨fun c => (h c).2, funext fun g => no_sem8.elim g⟩) (Cert.ShortIn.Ref.run m ρ)

theorem equal8 : Cert.algebraic_Kernel8Ideal_Reference8Ideal := fun m g m' g' _ hargs =>
  ⟨fun c => (Cert.Kernel8Ideal.Gen.dats m 0 c).arrAt 2 Cert.Kernel8Ideal.cfg0.N,
    Cert.Kernel8Ideal.Value.run_blocks m g,
    (θ_run Cert.Reference8Ideal.defs _ _).mono (fun _ h c => by
      refine ⟨(h c).1.trans ?_, (h c).2⟩
      show _ = (Cert.Kernel8Ideal.Gen.dats m 0 c).arrAt 2 Cert.Kernel8Ideal.cfg0.N
      rw [Cert.ShortIn.product_eq]
      unfold Cert.ShortIn.Ref.hOf Cert.ShortIn.Ref.wOf
      rw [(hargs c).1, (hargs c).2]) (Cert.ShortIn.Ref.run m' g')⟩

/-! ## The two branches' input projection -/

theorem quiescent_kernel9 : Cert.quiescent_Kernel9 := fun m ρ _ => Cert.Kernel9.Gen.frame m ρ

theorem quiescent_kernel9Ideal : Cert.quiescent_Kernel9Ideal := fun m ρ _ => Cert.Kernel9Ideal.Gen.frame m ρ

theorem no_sem9 : IsEmpty (GSem Cert.Reference9Ideal.nD Cert.Reference9Ideal.τ Cert.Reference9Ideal.sig) := ⟨fun g => by
  obtain ⟨c, s⟩ := g
  revert s
  decide⟩

theorem quiescent_reference9Ideal : Cert.quiescent_Reference9Ideal := fun m ρ _ =>
  (θ_run Cert.Reference9Ideal.defs _ _).mono (fun _ h => ⟨fun c => (h c).2, funext fun g => no_sem9.elim g⟩) (Cert.BranchIn.Ref.run m ρ)

theorem equal9 : Cert.algebraic_Kernel9Ideal_Reference9Ideal := fun m g m' g' _ hargs =>
  ⟨fun c => (Cert.Kernel9Ideal.Gen.dats m 0 c).arrAt 2 Cert.Kernel9Ideal.cfg0.N,
    Cert.Kernel9Ideal.Value.run_blocks m g,
    (θ_run Cert.Reference9Ideal.defs _ _).mono (fun _ h c => by
      refine ⟨(h c).1.trans ?_, (h c).2⟩
      show _ = (Cert.Kernel9Ideal.Gen.dats m 0 c).arrAt 2 Cert.Kernel9Ideal.cfg0.N
      rw [Cert.BranchIn.product_eq]
      unfold Cert.BranchIn.Ref.hOf Cert.BranchIn.Ref.wOf
      rw [(hargs c).1, (hargs c).2]) (Cert.BranchIn.Ref.run m' g')⟩

/-! ## A mixer's output projection -/

theorem quiescent_kernel10 : Cert.quiescent_Kernel10 := fun m ρ _ => Cert.Kernel10.Gen.frame m ρ

theorem quiescent_kernel10Ideal : Cert.quiescent_Kernel10Ideal := fun m ρ _ => Cert.Kernel10Ideal.Gen.frame m ρ

theorem no_sem10 : IsEmpty (GSem Cert.Reference10Ideal.nD Cert.Reference10Ideal.τ Cert.Reference10Ideal.sig) := ⟨fun g => by
  obtain ⟨c, s⟩ := g
  revert s
  decide⟩

theorem quiescent_reference10Ideal : Cert.quiescent_Reference10Ideal := fun m ρ _ =>
  (θ_run Cert.Reference10Ideal.defs _ _).mono (fun _ h => ⟨fun c => (h c).2, funext fun g => no_sem10.elim g⟩) (Cert.MixerOut.Ref.run m ρ)

theorem equal10 : Cert.algebraic_Kernel10Ideal_Reference10Ideal := fun m g m' g' _ hargs =>
  ⟨fun c => (Cert.Kernel10Ideal.Gen.dats m 0 c).arrAt 2 Cert.Kernel10Ideal.cfg0.N,
    Cert.Kernel10Ideal.Value.run_blocks m g,
    (θ_run Cert.Reference10Ideal.defs _ _).mono (fun _ h c => by
      refine ⟨(h c).1.trans ?_, (h c).2⟩
      show _ = (Cert.Kernel10Ideal.Gen.dats m 0 c).arrAt 2 Cert.Kernel10Ideal.cfg0.N
      rw [Cert.MixerOut.product_eq]
      unfold Cert.MixerOut.Ref.yOf Cert.MixerOut.Ref.wOf
      rw [(hargs c).1, (hargs c).2]) (Cert.MixerOut.Ref.run m' g')⟩

/-! ## The feed-forward layer's first product -/

theorem quiescent_kernel11 : Cert.quiescent_Kernel11 := fun m ρ _ => Cert.Kernel11.Gen.frame m ρ

theorem quiescent_kernel11Ideal : Cert.quiescent_Kernel11Ideal := fun m ρ _ => Cert.Kernel11Ideal.Gen.frame m ρ

theorem no_sem11 : IsEmpty (GSem Cert.Reference11Ideal.nD Cert.Reference11Ideal.τ Cert.Reference11Ideal.sig) := ⟨fun g => by
  obtain ⟨c, s⟩ := g
  revert s
  decide⟩

theorem quiescent_reference11Ideal : Cert.quiescent_Reference11Ideal := fun m ρ _ =>
  (θ_run Cert.Reference11Ideal.defs _ _).mono (fun _ h => ⟨fun c => (h c).2, funext fun g => no_sem11.elim g⟩) (Cert.Up.Ref.run m ρ)

theorem equal11 : Cert.algebraic_Kernel11Ideal_Reference11Ideal := fun m g m' g' _ hargs =>
  ⟨fun c => (Cert.Kernel11Ideal.Gen.dat1 (Cert.Kernel11Ideal.Gen.V2 m g) c).arrAt 2 Cert.Kernel11Ideal.cfg1.N,
    Cert.Up.run m g,
    (θ_run Cert.Reference11Ideal.defs _ _).mono (fun _ h c => by
      refine ⟨(h c).1.trans ?_, (h c).2⟩
      show _ = (Cert.Kernel11Ideal.Gen.dat1 (Cert.Kernel11Ideal.Gen.V2 m g) c).arrAt 2 Cert.Kernel11Ideal.cfg1.N
      rw [Cert.Up.hidden_eq]
      unfold Cert.Up.Ref.hOf Cert.Up.Ref.w1Of
      rw [(hargs c).1, (hargs c).2]) (Cert.Up.Ref.run m' g')⟩

/-! ## The optimiser's step on the feed-forward layers' first weights -/

theorem quiescent_kernel12 : Cert.quiescent_Kernel12 := fun m ρ _ => Cert.Kernel12.Gen.frame m ρ

theorem quiescent_kernel12Ideal : Cert.quiescent_Kernel12Ideal := fun m ρ _ => Cert.Kernel12Ideal.Gen.frame m ρ

theorem no_sem12 : IsEmpty (GSem Cert.Reference12Ideal.nD Cert.Reference12Ideal.τ Cert.Reference12Ideal.sig) := ⟨fun g => by
  obtain ⟨c, s⟩ := g
  revert s
  decide⟩

theorem quiescent_reference12Ideal : Cert.quiescent_Reference12Ideal := fun m ρ _ =>
  (θ_run Cert.Reference12Ideal.defs _ _).mono (fun _ h => ⟨fun c => (h c).2.2.2.2, funext fun g => no_sem12.elim g⟩) (Cert.UpdateFirst.Ref.run m ρ)

theorem equal12 : Cert.algebraic_Kernel12Ideal_Reference12Ideal := fun m g m' g' _ hargs =>
  ⟨fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N, fun c => (Cert.Kernel12Ideal.Gen.dats m 0 c).arrAt 8 Cert.Kernel12Ideal.cfg0.N,
    Cert.Kernel12Ideal.Value.run_blocks m g,
    (θ_run Cert.Reference12Ideal.defs _ _).mono (fun _ h c => by
      refine ⟨(h c).1.trans ?_, (h c).2.1.trans ?_, (h c).2.2.1.trans ?_, (h c).2.2.2.1.trans ?_, (h c).2.2.2.2⟩
      · show _ = (Cert.Kernel12Ideal.Gen.dats m 0 c).arrAt 5 Cert.Kernel12Ideal.cfg0.N
        rw [Cert.UpdateFirst.grad_eq]
        unfold Cert.UpdateFirst.Ref.c₀Of Cert.UpdateFirst.Ref.c₁Of
        rw [(hargs c).2.2.2.1, (hargs c).2.2.2.2]
      · show _ = (Cert.Kernel12Ideal.Gen.dats m 0 c).arrAt 6 Cert.Kernel12Ideal.cfg0.N
        rw [Cert.UpdateFirst.delta_eq]
        unfold Cert.UpdateFirst.Ref.wOf Cert.UpdateFirst.Ref.mOf Cert.UpdateFirst.Ref.vOf Cert.UpdateFirst.Ref.c₀Of Cert.UpdateFirst.Ref.c₁Of
        rw [(hargs c).1, (hargs c).2.1, (hargs c).2.2.1, (hargs c).2.2.2.1, (hargs c).2.2.2.2]
      · show _ = (Cert.Kernel12Ideal.Gen.dats m 0 c).arrAt 7 Cert.Kernel12Ideal.cfg0.N
        rw [Cert.UpdateFirst.first_eq]
        unfold Cert.UpdateFirst.Ref.mOf Cert.UpdateFirst.Ref.c₀Of Cert.UpdateFirst.Ref.c₁Of
        rw [(hargs c).2.1, (hargs c).2.2.2.1, (hargs c).2.2.2.2]
      · show _ = (Cert.Kernel12Ideal.Gen.dats m 0 c).arrAt 8 Cert.Kernel12Ideal.cfg0.N
        rw [Cert.UpdateFirst.second_eq]
        unfold Cert.UpdateFirst.Ref.vOf Cert.UpdateFirst.Ref.c₀Of Cert.UpdateFirst.Ref.c₁Of
        rw [(hargs c).2.2.1, (hargs c).2.2.2.1, (hargs c).2.2.2.2]) (Cert.UpdateFirst.Ref.run m' g')⟩

/-! ## The optimiser's step on the feed-forward layers' second weights -/

theorem quiescent_kernel13 : Cert.quiescent_Kernel13 := fun m ρ _ => Cert.Kernel13.Gen.frame m ρ

theorem quiescent_kernel13Ideal : Cert.quiescent_Kernel13Ideal := fun m ρ _ => Cert.Kernel13Ideal.Gen.frame m ρ

theorem no_sem13 : IsEmpty (GSem Cert.Reference13Ideal.nD Cert.Reference13Ideal.τ Cert.Reference13Ideal.sig) := ⟨fun g => by
  obtain ⟨c, s⟩ := g
  revert s
  decide⟩

theorem quiescent_reference13Ideal : Cert.quiescent_Reference13Ideal := fun m ρ _ =>
  (θ_run Cert.Reference13Ideal.defs _ _).mono (fun _ h => ⟨fun c => (h c).2.2.2.2, funext fun g => no_sem13.elim g⟩) (Cert.UpdateSecond.Ref.run m ρ)

theorem equal13 : Cert.algebraic_Kernel13Ideal_Reference13Ideal := fun m g m' g' _ hargs =>
  ⟨fun c => (Cert.Kernel13Ideal.Gen.dats m 0 c).arrAt 5 Cert.Kernel13Ideal.cfg0.N, fun c => (Cert.Kernel13Ideal.Gen.dats m 0 c).arrAt 6 Cert.Kernel13Ideal.cfg0.N, fun c => (Cert.Kernel13Ideal.Gen.dats m 0 c).arrAt 7 Cert.Kernel13Ideal.cfg0.N, fun c => (Cert.Kernel13Ideal.Gen.dats m 0 c).arrAt 8 Cert.Kernel13Ideal.cfg0.N,
    Cert.Kernel13Ideal.Value.run_blocks m g,
    (θ_run Cert.Reference13Ideal.defs _ _).mono (fun _ h c => by
      refine ⟨(h c).1.trans ?_, (h c).2.1.trans ?_, (h c).2.2.1.trans ?_, (h c).2.2.2.1.trans ?_, (h c).2.2.2.2⟩
      · show _ = (Cert.Kernel13Ideal.Gen.dats m 0 c).arrAt 5 Cert.Kernel13Ideal.cfg0.N
        rw [Cert.UpdateSecond.grad_eq]
        unfold Cert.UpdateSecond.Ref.c₀Of Cert.UpdateSecond.Ref.c₁Of
        rw [(hargs c).2.2.2.1, (hargs c).2.2.2.2]
      · show _ = (Cert.Kernel13Ideal.Gen.dats m 0 c).arrAt 6 Cert.Kernel13Ideal.cfg0.N
        rw [Cert.UpdateSecond.delta_eq]
        unfold Cert.UpdateSecond.Ref.wOf Cert.UpdateSecond.Ref.mOf Cert.UpdateSecond.Ref.vOf Cert.UpdateSecond.Ref.c₀Of Cert.UpdateSecond.Ref.c₁Of
        rw [(hargs c).1, (hargs c).2.1, (hargs c).2.2.1, (hargs c).2.2.2.1, (hargs c).2.2.2.2]
      · show _ = (Cert.Kernel13Ideal.Gen.dats m 0 c).arrAt 7 Cert.Kernel13Ideal.cfg0.N
        rw [Cert.UpdateSecond.first_eq]
        unfold Cert.UpdateSecond.Ref.mOf Cert.UpdateSecond.Ref.c₀Of Cert.UpdateSecond.Ref.c₁Of
        rw [(hargs c).2.1, (hargs c).2.2.2.1, (hargs c).2.2.2.2]
      · show _ = (Cert.Kernel13Ideal.Gen.dats m 0 c).arrAt 8 Cert.Kernel13Ideal.cfg0.N
        rw [Cert.UpdateSecond.second_eq]
        unfold Cert.UpdateSecond.Ref.vOf Cert.UpdateSecond.Ref.c₀Of Cert.UpdateSecond.Ref.c₁Of
        rw [(hargs c).2.2.1, (hargs c).2.2.2.1, (hargs c).2.2.2.2]) (Cert.UpdateSecond.Ref.run m' g')⟩

/-! ## The optimiser's step on the short convolution's input projection -/

theorem quiescent_kernel14 : Cert.quiescent_Kernel14 := fun m ρ _ => Cert.Kernel14.Gen.frame m ρ

theorem quiescent_kernel14Ideal : Cert.quiescent_Kernel14Ideal := fun m ρ _ => Cert.Kernel14Ideal.Gen.frame m ρ

theorem no_sem14 : IsEmpty (GSem Cert.Reference14Ideal.nD Cert.Reference14Ideal.τ Cert.Reference14Ideal.sig) := ⟨fun g => by
  obtain ⟨c, s⟩ := g
  revert s
  decide⟩

theorem quiescent_reference14Ideal : Cert.quiescent_Reference14Ideal := fun m ρ _ =>
  (θ_run Cert.Reference14Ideal.defs _ _).mono (fun _ h => ⟨fun c => (h c).2.2.2.2, funext fun g => no_sem14.elim g⟩) (Cert.UpdateShortIn.Ref.run m ρ)

theorem equal14 : Cert.algebraic_Kernel14Ideal_Reference14Ideal := fun m g m' g' _ hargs =>
  ⟨fun c => (Cert.Kernel14Ideal.Gen.dats m 0 c).arrAt 4 Cert.Kernel14Ideal.cfg0.N, fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N,
    Cert.Kernel14Ideal.Value.run_blocks m g,
    (θ_run Cert.Reference14Ideal.defs _ _).mono (fun _ h c => by
      refine ⟨(h c).1.trans ?_, (h c).2.1.trans ?_, (h c).2.2.1.trans ?_, (h c).2.2.2.1.trans ?_, (h c).2.2.2.2⟩
      · show _ = (Cert.Kernel14Ideal.Gen.dats m 0 c).arrAt 4 Cert.Kernel14Ideal.cfg0.N
        rw [Cert.UpdateShortIn.grad_eq]
        unfold Cert.UpdateShortIn.Ref.cOf
        rw [(hargs c).2.2.2]
      · show _ = (Cert.Kernel14Ideal.Gen.dats m 0 c).arrAt 5 Cert.Kernel14Ideal.cfg0.N
        rw [Cert.UpdateShortIn.delta_eq]
        unfold Cert.UpdateShortIn.Ref.wOf Cert.UpdateShortIn.Ref.mOf Cert.UpdateShortIn.Ref.vOf Cert.UpdateShortIn.Ref.cOf
        rw [(hargs c).1, (hargs c).2.1, (hargs c).2.2.1, (hargs c).2.2.2]
      · show _ = (Cert.Kernel14Ideal.Gen.dats m 0 c).arrAt 6 Cert.Kernel14Ideal.cfg0.N
        rw [Cert.UpdateShortIn.first_eq]
        unfold Cert.UpdateShortIn.Ref.mOf Cert.UpdateShortIn.Ref.cOf
        rw [(hargs c).2.1, (hargs c).2.2.2]
      · show _ = (Cert.Kernel14Ideal.Gen.dats m 0 c).arrAt 7 Cert.Kernel14Ideal.cfg0.N
        rw [Cert.UpdateShortIn.second_eq]
        unfold Cert.UpdateShortIn.Ref.vOf Cert.UpdateShortIn.Ref.cOf
        rw [(hargs c).2.2.1, (hargs c).2.2.2]) (Cert.UpdateShortIn.Ref.run m' g')⟩

/-! ## The optimiser's step on the two branches' input projection -/

theorem quiescent_kernel15 : Cert.quiescent_Kernel15 := fun m ρ _ => Cert.Kernel15.Gen.frame m ρ

theorem quiescent_kernel15Ideal : Cert.quiescent_Kernel15Ideal := fun m ρ _ => Cert.Kernel15Ideal.Gen.frame m ρ

theorem no_sem15 : IsEmpty (GSem Cert.Reference15Ideal.nD Cert.Reference15Ideal.τ Cert.Reference15Ideal.sig) := ⟨fun g => by
  obtain ⟨c, s⟩ := g
  revert s
  decide⟩

theorem quiescent_reference15Ideal : Cert.quiescent_Reference15Ideal := fun m ρ _ =>
  (θ_run Cert.Reference15Ideal.defs _ _).mono (fun _ h => ⟨fun c => (h c).2.2.2.2, funext fun g => no_sem15.elim g⟩) (Cert.UpdateBranchIn.Ref.run m ρ)

theorem equal15 : Cert.algebraic_Kernel15Ideal_Reference15Ideal := fun m g m' g' _ hargs =>
  ⟨fun c => (Cert.Kernel15Ideal.Gen.dats m 0 c).arrAt 4 Cert.Kernel15Ideal.cfg0.N, fun c => (Cert.Kernel15Ideal.Gen.dats m 0 c).arrAt 5 Cert.Kernel15Ideal.cfg0.N, fun c => (Cert.Kernel15Ideal.Gen.dats m 0 c).arrAt 6 Cert.Kernel15Ideal.cfg0.N, fun c => (Cert.Kernel15Ideal.Gen.dats m 0 c).arrAt 7 Cert.Kernel15Ideal.cfg0.N,
    Cert.Kernel15Ideal.Value.run_blocks m g,
    (θ_run Cert.Reference15Ideal.defs _ _).mono (fun _ h c => by
      refine ⟨(h c).1.trans ?_, (h c).2.1.trans ?_, (h c).2.2.1.trans ?_, (h c).2.2.2.1.trans ?_, (h c).2.2.2.2⟩
      · show _ = (Cert.Kernel15Ideal.Gen.dats m 0 c).arrAt 4 Cert.Kernel15Ideal.cfg0.N
        rw [Cert.UpdateBranchIn.grad_eq]
        unfold Cert.UpdateBranchIn.Ref.cOf
        rw [(hargs c).2.2.2]
      · show _ = (Cert.Kernel15Ideal.Gen.dats m 0 c).arrAt 5 Cert.Kernel15Ideal.cfg0.N
        rw [Cert.UpdateBranchIn.delta_eq]
        unfold Cert.UpdateBranchIn.Ref.wOf Cert.UpdateBranchIn.Ref.mOf Cert.UpdateBranchIn.Ref.vOf Cert.UpdateBranchIn.Ref.cOf
        rw [(hargs c).1, (hargs c).2.1, (hargs c).2.2.1, (hargs c).2.2.2]
      · show _ = (Cert.Kernel15Ideal.Gen.dats m 0 c).arrAt 6 Cert.Kernel15Ideal.cfg0.N
        rw [Cert.UpdateBranchIn.first_eq]
        unfold Cert.UpdateBranchIn.Ref.mOf Cert.UpdateBranchIn.Ref.cOf
        rw [(hargs c).2.1, (hargs c).2.2.2]
      · show _ = (Cert.Kernel15Ideal.Gen.dats m 0 c).arrAt 7 Cert.Kernel15Ideal.cfg0.N
        rw [Cert.UpdateBranchIn.second_eq]
        unfold Cert.UpdateBranchIn.Ref.vOf Cert.UpdateBranchIn.Ref.cOf
        rw [(hargs c).2.2.1, (hargs c).2.2.2]) (Cert.UpdateBranchIn.Ref.run m' g')⟩

/-! ## The optimiser's step on a mixer's output projection -/

theorem quiescent_kernel16 : Cert.quiescent_Kernel16 := fun m ρ _ => Cert.Kernel16.Gen.frame m ρ

theorem quiescent_kernel16Ideal : Cert.quiescent_Kernel16Ideal := fun m ρ _ => Cert.Kernel16Ideal.Gen.frame m ρ

theorem no_sem16 : IsEmpty (GSem Cert.Reference16Ideal.nD Cert.Reference16Ideal.τ Cert.Reference16Ideal.sig) := ⟨fun g => by
  obtain ⟨c, s⟩ := g
  revert s
  decide⟩

theorem quiescent_reference16Ideal : Cert.quiescent_Reference16Ideal := fun m ρ _ =>
  (θ_run Cert.Reference16Ideal.defs _ _).mono (fun _ h => ⟨fun c => (h c).2.2.2.2, funext fun g => no_sem16.elim g⟩) (Cert.UpdateMixerOut.Ref.run m ρ)

theorem equal16 : Cert.algebraic_Kernel16Ideal_Reference16Ideal := fun m g m' g' _ hargs =>
  ⟨fun c => (Cert.Kernel16Ideal.Gen.dats m 0 c).arrAt 4 Cert.Kernel16Ideal.cfg0.N, fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N,
    Cert.Kernel16Ideal.Value.run_blocks m g,
    (θ_run Cert.Reference16Ideal.defs _ _).mono (fun _ h c => by
      refine ⟨(h c).1.trans ?_, (h c).2.1.trans ?_, (h c).2.2.1.trans ?_, (h c).2.2.2.1.trans ?_, (h c).2.2.2.2⟩
      · show _ = (Cert.Kernel16Ideal.Gen.dats m 0 c).arrAt 4 Cert.Kernel16Ideal.cfg0.N
        rw [Cert.UpdateMixerOut.grad_eq]
        unfold Cert.UpdateMixerOut.Ref.cOf
        rw [(hargs c).2.2.2]
      · show _ = (Cert.Kernel16Ideal.Gen.dats m 0 c).arrAt 5 Cert.Kernel16Ideal.cfg0.N
        rw [Cert.UpdateMixerOut.delta_eq]
        unfold Cert.UpdateMixerOut.Ref.wOf Cert.UpdateMixerOut.Ref.mOf Cert.UpdateMixerOut.Ref.vOf Cert.UpdateMixerOut.Ref.cOf
        rw [(hargs c).1, (hargs c).2.1, (hargs c).2.2.1, (hargs c).2.2.2]
      · show _ = (Cert.Kernel16Ideal.Gen.dats m 0 c).arrAt 6 Cert.Kernel16Ideal.cfg0.N
        rw [Cert.UpdateMixerOut.first_eq]
        unfold Cert.UpdateMixerOut.Ref.mOf Cert.UpdateMixerOut.Ref.cOf
        rw [(hargs c).2.1, (hargs c).2.2.2]
      · show _ = (Cert.Kernel16Ideal.Gen.dats m 0 c).arrAt 7 Cert.Kernel16Ideal.cfg0.N
        rw [Cert.UpdateMixerOut.second_eq]
        unfold Cert.UpdateMixerOut.Ref.vOf Cert.UpdateMixerOut.Ref.cOf
        rw [(hargs c).2.2.1, (hargs c).2.2.2]) (Cert.UpdateMixerOut.Ref.run m' g')⟩

/-! ## The optimiser's step on the small weights -/

theorem quiescent_kernel17 : Cert.quiescent_Kernel17 := fun m ρ _ => Cert.Kernel17.Gen.frame m ρ

theorem quiescent_kernel17Ideal : Cert.quiescent_Kernel17Ideal := fun m ρ _ => Cert.Kernel17Ideal.Gen.frame m ρ

theorem no_sem17 : IsEmpty (GSem Cert.Reference17Ideal.nD Cert.Reference17Ideal.τ Cert.Reference17Ideal.sig) := ⟨fun g => by
  obtain ⟨c, s⟩ := g
  revert s
  decide⟩

theorem quiescent_reference17Ideal : Cert.quiescent_Reference17Ideal := fun m ρ _ =>
  (θ_run Cert.Reference17Ideal.defs _ _).mono (fun _ h => ⟨fun c => (h c).2.2.2.2, funext fun g => no_sem17.elim g⟩) (Cert.UpdateSmall.Ref.run m ρ)

theorem equal17 : Cert.algebraic_Kernel17Ideal_Reference17Ideal := fun m g m' g' _ hargs =>
  ⟨fun c => (Cert.Kernel17Ideal.Gen.dats m 0 c).arrAt 4 Cert.Kernel17Ideal.cfg0.N, fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N,
    Cert.Kernel17Ideal.Value.run_blocks m g,
    (θ_run Cert.Reference17Ideal.defs _ _).mono (fun _ h c => by
      refine ⟨(h c).1.trans ?_, (h c).2.1.trans ?_, (h c).2.2.1.trans ?_, (h c).2.2.2.1.trans ?_, (h c).2.2.2.2⟩
      · show _ = (Cert.Kernel17Ideal.Gen.dats m 0 c).arrAt 4 Cert.Kernel17Ideal.cfg0.N
        rw [Cert.UpdateSmall.grad_eq]
        unfold Cert.UpdateSmall.Ref.cOf
        rw [(hargs c).2.2.2]
      · show _ = (Cert.Kernel17Ideal.Gen.dats m 0 c).arrAt 5 Cert.Kernel17Ideal.cfg0.N
        rw [Cert.UpdateSmall.delta_eq]
        unfold Cert.UpdateSmall.Ref.wOf Cert.UpdateSmall.Ref.mOf Cert.UpdateSmall.Ref.vOf Cert.UpdateSmall.Ref.cOf
        rw [(hargs c).1, (hargs c).2.1, (hargs c).2.2.1, (hargs c).2.2.2]
      · show _ = (Cert.Kernel17Ideal.Gen.dats m 0 c).arrAt 6 Cert.Kernel17Ideal.cfg0.N
        rw [Cert.UpdateSmall.first_eq]
        unfold Cert.UpdateSmall.Ref.mOf Cert.UpdateSmall.Ref.cOf
        rw [(hargs c).2.1, (hargs c).2.2.2]
      · show _ = (Cert.Kernel17Ideal.Gen.dats m 0 c).arrAt 7 Cert.Kernel17Ideal.cfg0.N
        rw [Cert.UpdateSmall.second_eq]
        unfold Cert.UpdateSmall.Ref.vOf Cert.UpdateSmall.Ref.cOf
        rw [(hargs c).2.2.1, (hargs c).2.2.2]) (Cert.UpdateSmall.Ref.run m' g')⟩

/-! ## The gradient through the first norm -/

theorem quiescent_kernel19 : Cert.quiescent_Kernel19 := fun m ρ _ => Cert.Kernel19.Gen.frame m ρ

theorem quiescent_kernel19Ideal : Cert.quiescent_Kernel19Ideal := fun m ρ _ => Cert.Kernel19Ideal.Gen.frame m ρ

theorem no_sem19 : IsEmpty (GSem Cert.Reference19Ideal.nD Cert.Reference19Ideal.τ Cert.Reference19Ideal.sig) := ⟨fun g => by
  obtain ⟨c, s⟩ := g
  revert s
  decide⟩

theorem quiescent_reference19Ideal : Cert.quiescent_Reference19Ideal := fun m ρ _ =>
  (θ_run Cert.Reference19Ideal.defs _ _).mono (fun _ h => ⟨fun c => (h c).2.2, funext fun g => no_sem19.elim g⟩) (Cert.FirstNorm.Ref.run m ρ)

theorem equal19 : Cert.algebraic_Kernel19Ideal_Reference19Ideal := fun m g m' g' _ hargs =>
  ⟨fun c => (Cert.Kernel19Ideal.Gen.dats m 0 c).arrAt 4 Cert.Kernel19Ideal.cfg0.N, fun c => (Cert.Kernel19Ideal.Gen.dats m 0 c).arrAt 5 Cert.Kernel19Ideal.cfg0.N,
    Cert.Kernel19Ideal.Value.run_blocks m g,
    (θ_run Cert.Reference19Ideal.defs _ _).mono (fun _ h c => by
      refine ⟨(h c).1.trans ?_, (h c).2.1.trans ?_, (h c).2.2⟩
      · refine Eq.trans ?_ (Cert.FirstNorm.gradient_eq m c).symm
        unfold Cert.FirstNorm.Ref.dxR Cert.FirstNorm.Ref.xR Cert.FirstNorm.Ref.gR Cert.FirstNorm.Ref.dhR
        rw [(hargs c).1, (hargs c).2.1, (hargs c).2.2.1, (hargs c).2.2.2]
      · refine Eq.trans ?_ (Cert.FirstNorm.gain_eq m c).symm
        unfold Cert.FirstNorm.Ref.xR Cert.FirstNorm.Ref.dhR
        rw [(hargs c).2.1, (hargs c).2.2.2]) (Cert.FirstNorm.Ref.run m' g')⟩

/-! ## The first norm -/

theorem quiescent_kernel20 : Cert.quiescent_Kernel20 := fun m ρ _ => Cert.Kernel20.Gen.frame m ρ

theorem quiescent_kernel20Ideal : Cert.quiescent_Kernel20Ideal := fun m ρ _ => Cert.Kernel20Ideal.Gen.frame m ρ

theorem no_sem20 : IsEmpty (GSem Cert.Reference20Ideal.nD Cert.Reference20Ideal.τ Cert.Reference20Ideal.sig) := ⟨fun g => by
  obtain ⟨c, s⟩ := g
  revert s
  decide⟩

theorem quiescent_reference20Ideal : Cert.quiescent_Reference20Ideal := fun m ρ _ =>
  (θ_run Cert.Reference20Ideal.defs _ _).mono (fun _ h => ⟨fun c => (h c).2, funext fun g => no_sem20.elim g⟩) (Cert.Norm.Ref.run m ρ)

theorem equal20 : Cert.algebraic_Kernel20Ideal_Reference20Ideal := fun m g m' g' _ hargs =>
  ⟨fun c => (Cert.Kernel20Ideal.Gen.dats m 0 c).arrAt 2 Cert.Kernel20Ideal.cfg0.N,
    Cert.Kernel20Ideal.Value.run_blocks m g,
    (θ_run Cert.Reference20Ideal.defs _ _).mono (fun _ h c => by
      refine ⟨(h c).1.trans ?_, (h c).2⟩
      · refine Eq.trans ?_ (Cert.Norm.norm_eq m c).symm
        unfold Cert.Norm.Ref.xR Cert.Norm.Ref.gR
        rw [(hargs c).1, (hargs c).2]) (Cert.Norm.Ref.run m' g')⟩

/-! ## A norm and the norm of the sum -/

theorem quiescent_kernel21 : Cert.quiescent_Kernel21 := fun m ρ _ => Cert.Kernel21.Gen.frame m ρ

theorem quiescent_kernel21Ideal : Cert.quiescent_Kernel21Ideal := fun m ρ _ => Cert.Kernel21Ideal.Gen.frame m ρ

theorem no_sem21 : IsEmpty (GSem Cert.Reference21Ideal.nD Cert.Reference21Ideal.τ Cert.Reference21Ideal.sig) := ⟨fun g => by
  obtain ⟨c, s⟩ := g
  revert s
  decide⟩

theorem quiescent_reference21Ideal : Cert.quiescent_Reference21Ideal := fun m ρ _ =>
  (θ_run Cert.Reference21Ideal.defs _ _).mono (fun _ h => ⟨fun c => (h c).2.2, funext fun g => no_sem21.elim g⟩) (Cert.TwoNorms.Ref.run m ρ)

theorem equal21 : Cert.algebraic_Kernel21Ideal_Reference21Ideal := fun m g m' g' _ hargs =>
  ⟨fun c => (Cert.Kernel21Ideal.Gen.dats m 0 c).arrAt 4 Cert.Kernel21Ideal.cfg0.N, fun c => (Cert.Kernel21Ideal.Gen.dats m 0 c).arrAt 5 Cert.Kernel21Ideal.cfg0.N,
    Cert.Kernel21Ideal.Value.run_blocks m g,
    (θ_run Cert.Reference21Ideal.defs _ _).mono (fun _ h c => by
      refine ⟨(h c).1.trans ?_, (h c).2.1.trans ?_, (h c).2.2⟩
      · refine Eq.trans ?_ (Cert.TwoNorms.sum_eq m c).symm
        unfold Cert.TwoNorms.Ref.xR Cert.TwoNorms.Ref.mixR Cert.TwoNorms.Ref.gR
        rw [(hargs c).1, (hargs c).2.1, (hargs c).2.2.1]
      · refine Eq.trans ?_ (Cert.TwoNorms.norm_eq m c).symm
        unfold Cert.TwoNorms.Ref.xR Cert.TwoNorms.Ref.mixR Cert.TwoNorms.Ref.gR Cert.TwoNorms.Ref.hR
        rw [(hargs c).1, (hargs c).2.1, (hargs c).2.2.1, (hargs c).2.2.2]) (Cert.TwoNorms.Ref.run m' g')⟩

/-! ## The last norm and the squared errors -/

theorem quiescent_kernel22 : Cert.quiescent_Kernel22 := fun m ρ _ => Cert.Kernel22.Gen.frame m ρ

theorem quiescent_kernel22Ideal : Cert.quiescent_Kernel22Ideal := fun m ρ _ => Cert.Kernel22Ideal.Gen.frame m ρ

theorem no_sem22 : IsEmpty (GSem Cert.Reference22Ideal.nD Cert.Reference22Ideal.τ Cert.Reference22Ideal.sig) := ⟨fun g => by
  obtain ⟨c, s⟩ := g
  revert s
  decide⟩

theorem quiescent_reference22Ideal : Cert.quiescent_Reference22Ideal := fun m ρ _ =>
  (θ_run Cert.Reference22Ideal.defs _ _).mono (fun _ h => ⟨fun c => (h c).2.2.2.2, funext fun g => no_sem22.elim g⟩) (Cert.LastNorm.Ref.run m ρ)

theorem equal22 : Cert.algebraic_Kernel22Ideal_Reference22Ideal := fun m g m' g' _ hargs =>
  ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N, fun c => (Cert.Kernel22Ideal.Gen.dats m 0 c).arrAt 7 Cert.Kernel22Ideal.cfg0.N,
    Cert.Kernel22Ideal.Value.run_blocks m g,
    (θ_run Cert.Reference22Ideal.defs _ _).mono (fun _ h c => by
      refine ⟨(h c).1.trans ?_, (h c).2.1.trans ?_, (h c).2.2.1.trans ?_, (h c).2.2.2.1.trans ?_, (h c).2.2.2.2⟩
      · refine Eq.trans ?_ (Cert.LastNorm.first_eq m c).symm
        unfold Cert.LastNorm.Ref.xR Cert.LastNorm.Ref.fR Cert.LastNorm.Ref.gR Cert.LastNorm.Ref.yR
        rw [(hargs c).1, (hargs c).2.1, (hargs c).2.2.1, (hargs c).2.2.2]
      · refine Eq.trans ?_ (Cert.LastNorm.second_eq m c).symm
        unfold Cert.LastNorm.Ref.xR Cert.LastNorm.Ref.fR Cert.LastNorm.Ref.gR Cert.LastNorm.Ref.yR
        rw [(hargs c).1, (hargs c).2.1, (hargs c).2.2.1, (hargs c).2.2.2]
      · refine Eq.trans ?_ (Cert.LastNorm.squares_eq m c).symm
        unfold Cert.LastNorm.Ref.xR Cert.LastNorm.Ref.fR Cert.LastNorm.Ref.gR Cert.LastNorm.Ref.yR
        rw [(hargs c).1, (hargs c).2.1, (hargs c).2.2.1, (hargs c).2.2.2]
      · refine Eq.trans ?_ (Cert.LastNorm.gain_eq m c).symm
        unfold Cert.LastNorm.Ref.xR Cert.LastNorm.Ref.fR Cert.LastNorm.Ref.gR Cert.LastNorm.Ref.yR
        rw [(hargs c).1, (hargs c).2.1, (hargs c).2.2.1, (hargs c).2.2.2]) (Cert.LastNorm.Ref.run m' g')⟩

/-! ## The gradient through two norms -/

theorem quiescent_kernel23 : Cert.quiescent_Kernel23 := fun m ρ _ => Cert.Kernel23.Gen.frame m ρ

theorem quiescent_kernel23Ideal : Cert.quiescent_Kernel23Ideal := fun m ρ _ => Cert.Kernel23Ideal.Gen.frame m ρ

theorem no_sem23 : IsEmpty (GSem Cert.Reference23Ideal.nD Cert.Reference23Ideal.τ Cert.Reference23Ideal.sig) := ⟨fun g => by
  obtain ⟨c, s⟩ := g
  revert s
  decide⟩

theorem quiescent_reference23Ideal : Cert.quiescent_Reference23Ideal := fun m ρ _ =>
  (θ_run Cert.Reference23Ideal.defs _ _).mono (fun _ h => ⟨fun c => (h c).2.2.2.2, funext fun g => no_sem23.elim g⟩) (Cert.TwoNormsBack.Ref.run m ρ)

theorem equal23 : Cert.algebraic_Kernel23Ideal_Reference23Ideal := fun m g m' g' _ hargs =>
  ⟨fun c => (Cert.Kernel23Ideal.Gen.dats m 0 c).arrAt 6 Cert.Kernel23Ideal.cfg0.N, fun c => (Cert.Kernel23Ideal.Gen.dats m 0 c).arrAt 7 Cert.Kernel23Ideal.cfg0.N, fun c => (Cert.Kernel23Ideal.Gen.dats m 0 c).arrAt 8 Cert.Kernel23Ideal.cfg0.N, fun c => (Cert.Kernel23Ideal.Gen.dats m 0 c).arrAt 9 Cert.Kernel23Ideal.cfg0.N,
    Cert.Kernel23Ideal.Value.run_blocks m g,
    (θ_run Cert.Reference23Ideal.defs _ _).mono (fun _ h c => by
      refine ⟨(h c).1.trans ?_, (h c).2.1.trans ?_, (h c).2.2.1.trans ?_, (h c).2.2.2.1.trans ?_, (h c).2.2.2.2⟩
      · refine Eq.trans ?_ (Cert.TwoNormsBack.first_eq m c).symm
        unfold Cert.TwoNormsBack.Ref.dxR Cert.TwoNormsBack.Ref.xR Cert.TwoNormsBack.Ref.gR Cert.TwoNormsBack.Ref.dhR
        rw [(hargs c).1, (hargs c).2.1, (hargs c).2.2.1, (hargs c).2.2.2.1]
      · refine Eq.trans ?_ (Cert.TwoNormsBack.second_eq m c).symm
        unfold Cert.TwoNormsBack.Ref.dxR Cert.TwoNormsBack.Ref.xR Cert.TwoNormsBack.Ref.gR Cert.TwoNormsBack.Ref.dhR Cert.TwoNormsBack.Ref.fR Cert.TwoNormsBack.Ref.postR
        rw [(hargs c).1, (hargs c).2.1, (hargs c).2.2.1, (hargs c).2.2.2.1, (hargs c).2.2.2.2.1, (hargs c).2.2.2.2.2]
      · refine Eq.trans ?_ (Cert.TwoNormsBack.gain8 m c).symm
        unfold Cert.TwoNormsBack.Ref.xR Cert.TwoNormsBack.Ref.dhR
        rw [(hargs c).2.1, (hargs c).2.2.2.1]
      · refine Eq.trans ?_ (Cert.TwoNormsBack.gain9 m c).symm
        unfold Cert.TwoNormsBack.Ref.dxR Cert.TwoNormsBack.Ref.xR Cert.TwoNormsBack.Ref.gR Cert.TwoNormsBack.Ref.dhR Cert.TwoNormsBack.Ref.fR
        rw [(hargs c).1, (hargs c).2.1, (hargs c).2.2.1, (hargs c).2.2.2.1, (hargs c).2.2.2.2.1]) (Cert.TwoNormsBack.Ref.run m' g')⟩

/-! ## All of them -/

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  quiescent_kernel, quiescent_kernelIdeal, quiescent_referenceIdeal, quiescent_kernel2, quiescent_kernel2Ideal,
  quiescent_reference2Ideal, quiescent_kernel3, quiescent_kernel3Ideal, quiescent_reference3Ideal, quiescent_kernel4,
  quiescent_kernel4Ideal, quiescent_reference4Ideal, quiescent_kernel5, quiescent_kernel5Ideal, quiescent_reference5Ideal,
  quiescent_kernel6, quiescent_kernel6Ideal, quiescent_reference6Ideal, quiescent_kernel7, quiescent_kernel7Ideal,
  quiescent_reference7Ideal, quiescent_kernel8, quiescent_kernel8Ideal, quiescent_reference8Ideal, quiescent_kernel9,
  quiescent_kernel9Ideal, quiescent_reference9Ideal, quiescent_kernel10, quiescent_kernel10Ideal, quiescent_reference10Ideal,
  quiescent_kernel11, quiescent_kernel11Ideal, quiescent_reference11Ideal, quiescent_kernel12, quiescent_kernel12Ideal,
  quiescent_reference12Ideal, quiescent_kernel13, quiescent_kernel13Ideal, quiescent_reference13Ideal, quiescent_kernel14,
  quiescent_kernel14Ideal, quiescent_reference14Ideal, quiescent_kernel15, quiescent_kernel15Ideal,
  quiescent_reference15Ideal, quiescent_kernel16, quiescent_kernel16Ideal, quiescent_reference16Ideal, quiescent_kernel17,
  quiescent_kernel17Ideal, quiescent_reference17Ideal,
  quiescent_kernel18, quiescent_kernel18Ideal, quiescent_reference18Ideal,
  quiescent_kernel19, quiescent_kernel19Ideal, quiescent_reference19Ideal,
  quiescent_kernel20, quiescent_kernel20Ideal, quiescent_reference20Ideal,
  quiescent_kernel21, quiescent_kernel21Ideal, quiescent_reference21Ideal,
  quiescent_kernel22, quiescent_kernel22Ideal, quiescent_reference22Ideal,
  quiescent_kernel23, quiescent_kernel23Ideal, quiescent_reference23Ideal,
  trivial, equal, trivial, equal2, trivial, equal3, trivial, equal4, trivial, equal5, trivial, equal6, trivial, equal7,
  trivial, equal8, trivial, equal9, trivial, equal10, trivial, equal11, trivial, equal12, trivial, equal13, trivial, equal14,
  trivial, equal15, trivial, equal16, trivial, equal17, trivial, equal18, trivial, equal19,
  trivial, equal20, trivial, equal21, trivial, equal22, trivial, equal23⟩

end Cert.Proof

end
